-- ==== Defs.lean ====
def Pre_Dw13 (m : (ℓ : Loc Cert.Dw13.nD Cert.Dw13.τ Cert.Dw13.sig) → Buf (Elt Bits) ℓ) : Prop :=
  True

def Pre_Dw13Ideal (m : (ℓ : Loc Cert.Dw13Ideal.nD Cert.Dw13Ideal.τ Cert.Dw13Ideal.sig) → Buf (Elt Ideal) ℓ) : Prop :=
  True

def Pre_Dw13RefIdeal (m : (ℓ : Loc Cert.Dw13RefIdeal.nD Cert.Dw13RefIdeal.τ Cert.Dw13RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dwqkv (m : (ℓ : Loc Cert.Dwqkv.nD Cert.Dwqkv.τ Cert.Dwqkv.sig) → Buf (Elt Bits) ℓ) : Prop :=
  True

def Pre_DwqkvIdeal (m : (ℓ : Loc Cert.DwqkvIdeal.nD Cert.DwqkvIdeal.τ Cert.DwqkvIdeal.sig) → Buf (Elt Ideal) ℓ) : Prop :=
  True

def Pre_DwqkvRefIdeal (m : (ℓ : Loc Cert.DwqkvRefIdeal.nD Cert.DwqkvRefIdeal.τ Cert.DwqkvRefIdeal.sig) → Buf (Elt Ideal) ℓ) : Prop :=
  True

def Pre_Dxn2 (m : (ℓ : Loc Cert.Dxn2.nD Cert.Dxn2.τ Cert.Dxn2.sig) → Buf (Elt Bits) ℓ) : Prop :=
  True

def Pre_Dxn2Ideal (m : (ℓ : Loc Cert.Dxn2Ideal.nD Cert.Dxn2Ideal.τ Cert.Dxn2Ideal.sig) → Buf (Elt Ideal) ℓ) : Prop :=
  True

def Pre_Dxn2RefIdeal (m : (ℓ : Loc Cert.Dxn2RefIdeal.nD Cert.Dxn2RefIdeal.τ Cert.Dxn2RefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def quiescent_Dw13 [hDw13 : Cert.Dw13.Facts] : Prop :=
  ∀ (m : (ℓ : Loc Cert.Dw13.nD Cert.Dw13.τ Cert.Dw13.sig) → Buf (Elt Bits) ℓ) (g : Dev Cert.Dw13.nD → PrngReg), Pre_Dw13 m →
    θ_run (Cert.Dw13.defs (F := Bits)) (onTc (τ := Cert.Dw13.τ) (Cert.Dw13.main (F := Bits))) ⟨m, fun _ => 0, g⟩ (fun r => (∀ c : Dev Cert.Dw13.nD,
      r.2.mem ((c.tc : Thread Cert.Dw13.nD Cert.Dw13.τ).loc Cert.Dw13.main_arg0) = m ((c.tc : Thread Cert.Dw13.nD Cert.Dw13.τ).loc Cert.Dw13.main_arg0)
      ∧ r.2.mem ((c.tc : Thread Cert.Dw13.nD Cert.Dw13.τ).loc Cert.Dw13.main_arg1) = m ((c.tc : Thread Cert.Dw13.nD Cert.Dw13.τ).loc Cert.Dw13.main_arg1))
      ∧ r.2.sem = fun _ => 0)

def quiescent_Dw13Ideal [hDw13Ideal : Cert.Dw13Ideal.Facts] : Prop :=
  ∀ (m : (ℓ : Loc Cert.Dw13Ideal.nD Cert.Dw13Ideal.τ Cert.Dw13Ideal.sig) → Buf (Elt Ideal) ℓ) (g : Dev Cert.Dw13Ideal.nD → PrngReg), Pre_Dw13Ideal m →
    θ_run (Cert.Dw13Ideal.defs (F := Ideal)) (onTc (τ := Cert.Dw13Ideal.τ) (Cert.Dw13Ideal.main (F := Ideal))) ⟨m, fun _ => 0, g⟩ (fun r => (∀ c : Dev Cert.Dw13Ideal.nD,
      r.2.mem ((c.tc : Thread Cert.Dw13Ideal.nD Cert.Dw13Ideal.τ).loc Cert.Dw13Ideal.main_arg0) = m ((c.tc : Thread Cert.Dw13Ideal.nD Cert.Dw13Ideal.τ).loc Cert.Dw13Ideal.main_arg0)
      ∧ r.2.mem ((c.tc : Thread Cert.Dw13Ideal.nD Cert.Dw13Ideal.τ).loc Cert.Dw13Ideal.main_arg1) = m ((c.tc : Thread Cert.Dw13Ideal.nD Cert.Dw13Ideal.τ).loc Cert.Dw13Ideal.main_arg1))
      ∧ r.2.sem = fun _ => 0)

def quiescent_Dw13RefIdeal [hDw13RefIdeal : Cert.Dw13RefIdeal.Facts] : Prop :=
  ∀ (m : (ℓ : Loc Cert.Dw13RefIdeal.nD Cert.Dw13RefIdeal.τ Cert.Dw13RefIdeal.sig) → Buf (Elt Ideal) ℓ) (g : Dev Cert.Dw13RefIdeal.nD → PrngReg), Pre_Dw13RefIdeal m →
    θ_run (Cert.Dw13RefIdeal.defs (F := Ideal)) (onTc (τ := Cert.Dw13RefIdeal.τ) (Cert.Dw13RefIdeal.main (F := Ideal))) ⟨m, fun _ => 0, g⟩ (fun r => (∀ c : Dev Cert.Dw13RefIdeal.nD,
      r.2.mem ((c.tc : Thread Cert.Dw13RefIdeal.nD Cert.Dw13RefIdeal.τ).loc Cert.Dw13RefIdeal.main_arg0) = m ((c.tc : Thread Cert.Dw13RefIdeal.nD Cert.Dw13RefIdeal.τ).loc Cert.Dw13RefIdeal.main_arg0)
      ∧ r.2.mem ((c.tc : Thread Cert.Dw13RefIdeal.nD Cert.Dw13RefIdeal.τ).loc Cert.Dw13RefIdeal.main_arg1) = m ((c.tc : Thread Cert.Dw13RefIdeal.nD Cert.Dw13RefIdeal.τ).loc Cert.Dw13RefIdeal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Dwqkv [hDwqkv : Cert.Dwqkv.Facts] : Prop :=
  ∀ (m : (ℓ : Loc Cert.Dwqkv.nD Cert.Dwqkv.τ Cert.Dwqkv.sig) → Buf (Elt Bits) ℓ) (g : Dev Cert.Dwqkv.nD → PrngReg), Pre_Dwqkv m →
    θ_run (Cert.Dwqkv.defs (F := Bits)) (onTc (τ := Cert.Dwqkv.τ) (Cert.Dwqkv.main (F := Bits))) ⟨m, fun _ => 0, g⟩ (fun r => (∀ c : Dev Cert.Dwqkv.nD,
      r.2.mem ((c.tc : Thread Cert.Dwqkv.nD Cert.Dwqkv.τ).loc Cert.Dwqkv.main_arg0) = m ((c.tc : Thread Cert.Dwqkv.nD Cert.Dwqkv.τ).loc Cert.Dwqkv.main_arg0)
      ∧ r.2.mem ((c.tc : Thread Cert.Dwqkv.nD Cert.Dwqkv.τ).loc Cert.Dwqkv.main_arg1) = m ((c.tc : Thread Cert.Dwqkv.nD Cert.Dwqkv.τ).loc Cert.Dwqkv.main_arg1))
      ∧ r.2.sem = fun _ => 0)

def quiescent_DwqkvIdeal [hDwqkvIdeal : Cert.DwqkvIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg), Pre_DwqkvIdeal m →
    θ_run (Cert.DwqkvIdeal.defs (F := Ideal)) (onTc (τ := Cert.DwqkvIdeal.τ) (Cert.DwqkvIdeal.main (F := Ideal))) ⟨m, fun _ => 0, g⟩ (fun r => (∀ c : Dev Cert.DwqkvIdeal.nD,
      r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
      ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ r.2.sem = fun _ => 0)

def quiescent_DwqkvRefIdeal [hDwqkvRefIdeal : Cert.DwqkvRefIdeal.Facts] : Prop :=
  ∀ (m : (ℓ : Loc Cert.DwqkvRefIdeal.nD Cert.DwqkvRefIdeal.τ Cert.DwqkvRefIdeal.sig) → Buf (Elt Ideal) ℓ) (g : Dev Cert.DwqkvRefIdeal.nD → PrngReg), Pre_DwqkvRefIdeal m →
    θ_run (Cert.DwqkvRefIdeal.defs (F := Ideal)) (onTc (τ := Cert.DwqkvRefIdeal.τ) (Cert.DwqkvRefIdeal.main (F := Ideal))) ⟨m, fun _ => 0, g⟩ (fun r => (∀ c : Dev Cert.DwqkvRefIdeal.nD,
      r.2.mem ((c.tc : Thread Cert.DwqkvRefIdeal.nD Cert.DwqkvRefIdeal.τ).loc Cert.DwqkvRefIdeal.main_arg0) = m ((c.tc : Thread Cert.DwqkvRefIdeal.nD Cert.DwqkvRefIdeal.τ).loc Cert.DwqkvRefIdeal.main_arg0)
      ∧ r.2.mem ((c.tc : Thread Cert.DwqkvRefIdeal.nD Cert.DwqkvRefIdeal.τ).loc Cert.DwqkvRefIdeal.main_arg1) = m ((c.tc : Thread Cert.DwqkvRefIdeal.nD Cert.DwqkvRefIdeal.τ).loc Cert.DwqkvRefIdeal.main_arg1))
      ∧ r.2.sem = fun _ => 0)

def quiescent_Dxn2 [hDxn2 : Cert.Dxn2.Facts] : Prop :=
  ∀ (m : (ℓ : Loc Cert.Dxn2.nD Cert.Dxn2.τ Cert.Dxn2.sig) → Buf (Elt Bits) ℓ) (g : Dev Cert.Dxn2.nD → PrngReg), Pre_Dxn2 m →
    θ_run (Cert.Dxn2.defs (F := Bits)) (onTc (τ := Cert.Dxn2.τ) (Cert.Dxn2.main (F := Bits))) ⟨m, fun _ => 0, g⟩ (fun r => (∀ c : Dev Cert.Dxn2.nD,
      r.2.mem ((c.tc : Thread Cert.Dxn2.nD Cert.Dxn2.τ).loc Cert.Dxn2.main_arg0) = m ((c.tc : Thread Cert.Dxn2.nD Cert.Dxn2.τ).loc Cert.Dxn2.main_arg0)
      ∧ r.2.mem ((c.tc : Thread Cert.Dxn2.nD Cert.Dxn2.τ).loc Cert.Dxn2.main_arg1) = m ((c.tc : Thread Cert.Dxn2.nD Cert.Dxn2.τ).loc Cert.Dxn2.main_arg1)
      ∧ r.2.mem ((c.tc : Thread Cert.Dxn2.nD Cert.Dxn2.τ).loc Cert.Dxn2.main_arg2) = m ((c.tc : Thread Cert.Dxn2.nD Cert.Dxn2.τ).loc Cert.Dxn2.main_arg2))
      ∧ r.2.sem = fun _ => 0)

def quiescent_Dxn2Ideal [hDxn2Ideal : Cert.Dxn2Ideal.Facts] : Prop :=
  ∀ (m : (ℓ : Loc Cert.Dxn2Ideal.nD Cert.Dxn2Ideal.τ Cert.Dxn2Ideal.sig) → Buf (Elt Ideal) ℓ) (g : Dev Cert.Dxn2Ideal.nD → PrngReg), Pre_Dxn2Ideal m →
    θ_run (Cert.Dxn2Ideal.defs (F := Ideal)) (onTc (τ := Cert.Dxn2Ideal.τ) (Cert.Dxn2Ideal.main (F := Ideal))) ⟨m, fun _ => 0, g⟩ (fun r => (∀ c : Dev Cert.Dxn2Ideal.nD,
      r.2.mem ((c.tc : Thread Cert.Dxn2Ideal.nD Cert.Dxn2Ideal.τ).loc Cert.Dxn2Ideal.main_arg0) = m ((c.tc : Thread Cert.Dxn2Ideal.nD Cert.Dxn2Ideal.τ).loc Cert.Dxn2Ideal.main_arg0)
      ∧ r.2.mem ((c.tc : Thread Cert.Dxn2Ideal.nD Cert.Dxn2Ideal.τ).loc Cert.Dxn2Ideal.main_arg1) = m ((c.tc : Thread Cert.Dxn2Ideal.nD Cert.Dxn2Ideal.τ).loc Cert.Dxn2Ideal.main_arg1)
      ∧ r.2.mem ((c.tc : Thread Cert.Dxn2Ideal.nD Cert.Dxn2Ideal.τ).loc Cert.Dxn2Ideal.main_arg2) = m ((c.tc : Thread Cert.Dxn2Ideal.nD Cert.Dxn2Ideal.τ).loc Cert.Dxn2Ideal.main_arg2))
      ∧ r.2.sem = fun _ => 0)

def quiescent_Dxn2RefIdeal [hDxn2RefIdeal : Cert.Dxn2RefIdeal.Facts] : Prop :=
  ∀ (m : (ℓ : Loc Cert.Dxn2RefIdeal.nD Cert.Dxn2RefIdeal.τ Cert.Dxn2RefIdeal.sig) → Buf (Elt Ideal) ℓ) (g : Dev Cert.Dxn2RefIdeal.nD → PrngReg), Pre_Dxn2RefIdeal m →
    θ_run (Cert.Dxn2RefIdeal.defs (F := Ideal)) (onTc (τ := Cert.Dxn2RefIdeal.τ) (Cert.Dxn2RefIdeal.main (F := Ideal))) ⟨m, fun _ => 0, g⟩ (fun r => (∀ c : Dev Cert.Dxn2RefIdeal.nD,
      r.2.mem ((c.tc : Thread Cert.Dxn2RefIdeal.nD Cert.Dxn2RefIdeal.τ).loc Cert.Dxn2RefIdeal.main_arg0) = m ((c.tc : Thread Cert.Dxn2RefIdeal.nD Cert.Dxn2RefIdeal.τ).loc Cert.Dxn2RefIdeal.main_arg0)
      ∧ r.2.mem ((c.tc : Thread Cert.Dxn2RefIdeal.nD Cert.Dxn2RefIdeal.τ).loc Cert.Dxn2RefIdeal.main_arg1) = m ((c.tc : Thread Cert.Dxn2RefIdeal.nD Cert.Dxn2RefIdeal.τ).loc Cert.Dxn2RefIdeal.main_arg1)
      ∧ r.2.mem ((c.tc : Thread Cert.Dxn2RefIdeal.nD Cert.Dxn2RefIdeal.τ).loc Cert.Dxn2RefIdeal.main_arg2) = m ((c.tc : Thread Cert.Dxn2RefIdeal.nD Cert.Dxn2RefIdeal.τ).loc Cert.Dxn2RefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5)
      ∧ r.2.mem ((c.tc : Thread Cert.Norm1.nD Cert.Norm1.τ).loc Cert.Norm1.main_arg6) = m ((c.tc : Thread Cert.Norm1.nD Cert.Norm1.τ).loc Cert.Norm1.main_arg6))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
      ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5)
      ∧ r.2.mem ((c.tc : Thread Cert.Norm1RefIdeal.nD Cert.Norm1RefIdeal.τ).loc Cert.Norm1RefIdeal.main_arg6) = m ((c.tc : Thread Cert.Norm1RefIdeal.nD Cert.Norm1RefIdeal.τ).loc Cert.Norm1RefIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def preserves_Dw13_Dw13Ideal : Prop :=
  True

def algebraic_Dw13Ideal_Dw13RefIdeal [hDw13Ideal : Cert.Dw13Ideal.Facts] [hDw13RefIdeal : Cert.Dw13RefIdeal.Facts] : Prop :=
  ∀ (m : (ℓ : Loc Cert.Dw13Ideal.nD Cert.Dw13Ideal.τ Cert.Dw13Ideal.sig) → Buf (Elt Ideal) ℓ) (g : Dev Cert.Dw13Ideal.nD → PrngReg)
    (m' : (ℓ : Loc Cert.Dw13RefIdeal.nD Cert.Dw13RefIdeal.τ Cert.Dw13RefIdeal.sig) → Buf (Elt Ideal) ℓ) (g' : Dev Cert.Dw13RefIdeal.nD → PrngReg), Pre_Dw13Ideal m →
    (∀ c : Dev Cert.Dw13Ideal.nD,
      m' ((c.tc : Thread Cert.Dw13RefIdeal.nD Cert.Dw13RefIdeal.τ).loc Cert.Dw13RefIdeal.main_arg0) = m ((c.tc : Thread Cert.Dw13Ideal.nD Cert.Dw13Ideal.τ).loc Cert.Dw13Ideal.main_arg0)
      ∧ m' ((c.tc : Thread Cert.Dw13RefIdeal.nD Cert.Dw13RefIdeal.τ).loc Cert.Dw13RefIdeal.main_arg1) = m ((c.tc : Thread Cert.Dw13Ideal.nD Cert.Dw13Ideal.τ).loc Cert.Dw13Ideal.main_arg1)) →
    ∃ (v0 : (c : Dev Cert.Dw13Ideal.nD) → Buf (Elt Ideal) ((c.tc : Thread Cert.Dw13Ideal.nD Cert.Dw13Ideal.τ).loc Cert.Dw13Ideal.main_v0)),
      θ_run (Cert.Dw13Ideal.defs (F := Ideal)) (onTc (τ := Cert.Dw13Ideal.τ) (Cert.Dw13Ideal.main (F := Ideal))) ⟨m, fun _ => 0, g⟩ (fun r => ∀ c : Dev Cert.Dw13Ideal.nD,
          r.2.mem ((c.tc : Thread Cert.Dw13Ideal.nD Cert.Dw13Ideal.τ).loc Cert.Dw13Ideal.main_v0) = v0 c
          ∧ r.2.mem ((c.tc : Thread Cert.Dw13Ideal.nD Cert.Dw13Ideal.τ).loc Cert.Dw13Ideal.main_arg0) = m ((c.tc : Thread Cert.Dw13Ideal.nD Cert.Dw13Ideal.τ).loc Cert.Dw13Ideal.main_arg0)
          ∧ r.2.mem ((c.tc : Thread Cert.Dw13Ideal.nD Cert.Dw13Ideal.τ).loc Cert.Dw13Ideal.main_arg1) = m ((c.tc : Thread Cert.Dw13Ideal.nD Cert.Dw13Ideal.τ).loc Cert.Dw13Ideal.main_arg1))
      ∧ θ_run (Cert.Dw13RefIdeal.defs (F := Ideal)) (onTc (τ := Cert.Dw13RefIdeal.τ) (Cert.Dw13RefIdeal.main (F := Ideal))) ⟨m', fun _ => 0, g'⟩ (fun r => ∀ c : Dev Cert.Dw13RefIdeal.nD,
          r.2.mem ((c.tc : Thread Cert.Dw13RefIdeal.nD Cert.Dw13RefIdeal.τ).loc Cert.Dw13RefIdeal.main_v6) = v0 c
          ∧ r.2.mem ((c.tc : Thread Cert.Dw13RefIdeal.nD Cert.Dw13RefIdeal.τ).loc Cert.Dw13RefIdeal.main_arg0) = m' ((c.tc : Thread Cert.Dw13RefIdeal.nD Cert.Dw13RefIdeal.τ).loc Cert.Dw13RefIdeal.main_arg0)
          ∧ r.2.mem ((c.tc : Thread Cert.Dw13RefIdeal.nD Cert.Dw13RefIdeal.τ).loc Cert.Dw13RefIdeal.main_arg1) = m' ((c.tc : Thread Cert.Dw13RefIdeal.nD Cert.Dw13RefIdeal.τ).loc Cert.Dw13RefIdeal.main_arg1))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v1)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v1) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v2) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v2) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Dwqkv_DwqkvIdeal : Prop :=
  True

def algebraic_DwqkvIdeal_DwqkvRefIdeal [hDwqkvIdeal : Cert.DwqkvIdeal.Facts] [hDwqkvRefIdeal : Cert.DwqkvRefIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg)
    (m' : (ℓ : Loc Cert.DwqkvRefIdeal.nD Cert.DwqkvRefIdeal.τ Cert.DwqkvRefIdeal.sig) → Buf (Elt Ideal) ℓ) (g' : Dev Cert.DwqkvRefIdeal.nD → PrngReg), Pre_DwqkvIdeal m →
    (∀ c : Dev Cert.DwqkvIdeal.nD,
      m' ((c.tc : Thread Cert.DwqkvRefIdeal.nD Cert.DwqkvRefIdeal.τ).loc Cert.DwqkvRefIdeal.main_arg0) = m ((c.tc : Thread Cert.DwqkvIdeal.nD Cert.DwqkvIdeal.τ).loc Cert.DwqkvIdeal.main_arg0)
      ∧ m' ((c.tc : Thread Cert.DwqkvRefIdeal.nD Cert.DwqkvRefIdeal.τ).loc Cert.DwqkvRefIdeal.main_arg1) = m ((c.tc : Thread Cert.DwqkvIdeal.nD Cert.DwqkvIdeal.τ).loc Cert.DwqkvIdeal.main_arg1)) →
    ∃ (v0 : (c : Dev Cert.DwqkvIdeal.nD) → Buf (Elt Ideal) ((c.tc : Thread Cert.DwqkvIdeal.nD Cert.DwqkvIdeal.τ).loc Cert.DwqkvIdeal.main_v0)),
      θ_run (Cert.DwqkvIdeal.defs (F := Ideal)) (onTc (τ := Cert.DwqkvIdeal.τ) (Cert.DwqkvIdeal.main (F := Ideal))) ⟨m, fun _ => 0, g⟩ (fun r => ∀ c : Dev Cert.DwqkvIdeal.nD,
          r.2.mem ((c.tc : Thread Cert.DwqkvIdeal.nD Cert.DwqkvIdeal.τ).loc Cert.DwqkvIdeal.main_v0) = v0 c
          ∧ r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
          ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1))
      ∧ θ_run (Cert.DwqkvRefIdeal.defs (F := Ideal)) (onTc (τ := Cert.DwqkvRefIdeal.τ) (Cert.DwqkvRefIdeal.main (F := Ideal))) ⟨m', fun _ => 0, g'⟩ (fun r => ∀ c : Dev Cert.DwqkvRefIdeal.nD,
          r.2.mem ((c.tc : Thread Cert.DwqkvRefIdeal.nD Cert.DwqkvRefIdeal.τ).loc Cert.DwqkvRefIdeal.main_v1) = v0 c
          ∧ r.2.mem ((c.tc : Thread Cert.DwqkvRefIdeal.nD Cert.DwqkvRefIdeal.τ).loc Cert.DwqkvRefIdeal.main_arg0) = m' ((c.tc : Thread Cert.DwqkvRefIdeal.nD Cert.DwqkvRefIdeal.τ).loc Cert.DwqkvRefIdeal.main_arg0)
          ∧ r.2.mem ((c.tc : Thread Cert.DwqkvRefIdeal.nD Cert.DwqkvRefIdeal.τ).loc Cert.DwqkvRefIdeal.main_arg1) = m' ((c.tc : Thread Cert.DwqkvRefIdeal.nD Cert.DwqkvRefIdeal.τ).loc Cert.DwqkvRefIdeal.main_arg1))

def preserves_Dxn2_Dxn2Ideal : Prop :=
  True

def algebraic_Dxn2Ideal_Dxn2RefIdeal [hDxn2Ideal : Cert.Dxn2Ideal.Facts] [hDxn2RefIdeal : Cert.Dxn2RefIdeal.Facts] : Prop :=
  ∀ (m : (ℓ : Loc Cert.Dxn2Ideal.nD Cert.Dxn2Ideal.τ Cert.Dxn2Ideal.sig) → Buf (Elt Ideal) ℓ) (g : Dev Cert.Dxn2Ideal.nD → PrngReg)
    (m' : (ℓ : Loc Cert.Dxn2RefIdeal.nD Cert.Dxn2RefIdeal.τ Cert.Dxn2RefIdeal.sig) → Buf (Elt Ideal) ℓ) (g' : Dev Cert.Dxn2RefIdeal.nD → PrngReg), Pre_Dxn2Ideal m →
    (∀ c : Dev Cert.Dxn2Ideal.nD,
      m' ((c.tc : Thread Cert.Dxn2RefIdeal.nD Cert.Dxn2RefIdeal.τ).loc Cert.Dxn2RefIdeal.main_arg0) = m ((c.tc : Thread Cert.Dxn2Ideal.nD Cert.Dxn2Ideal.τ).loc Cert.Dxn2Ideal.main_arg0)
      ∧ m' ((c.tc : Thread Cert.Dxn2RefIdeal.nD Cert.Dxn2RefIdeal.τ).loc Cert.Dxn2RefIdeal.main_arg1) = m ((c.tc : Thread Cert.Dxn2Ideal.nD Cert.Dxn2Ideal.τ).loc Cert.Dxn2Ideal.main_arg1)
      ∧ m' ((c.tc : Thread Cert.Dxn2RefIdeal.nD Cert.Dxn2RefIdeal.τ).loc Cert.Dxn2RefIdeal.main_arg2) = m ((c.tc : Thread Cert.Dxn2Ideal.nD Cert.Dxn2Ideal.τ).loc Cert.Dxn2Ideal.main_arg2)) →
    ∃ (v0 : (c : Dev Cert.Dxn2Ideal.nD) → Buf (Elt Ideal) ((c.tc : Thread Cert.Dxn2Ideal.nD Cert.Dxn2Ideal.τ).loc Cert.Dxn2Ideal.main_v2)),
      θ_run (Cert.Dxn2Ideal.defs (F := Ideal)) (onTc (τ := Cert.Dxn2Ideal.τ) (Cert.Dxn2Ideal.main (F := Ideal))) ⟨m, fun _ => 0, g⟩ (fun r => ∀ c : Dev Cert.Dxn2Ideal.nD,
          r.2.mem ((c.tc : Thread Cert.Dxn2Ideal.nD Cert.Dxn2Ideal.τ).loc Cert.Dxn2Ideal.main_v2) = v0 c
          ∧ r.2.mem ((c.tc : Thread Cert.Dxn2Ideal.nD Cert.Dxn2Ideal.τ).loc Cert.Dxn2Ideal.main_arg0) = m ((c.tc : Thread Cert.Dxn2Ideal.nD Cert.Dxn2Ideal.τ).loc Cert.Dxn2Ideal.main_arg0)
          ∧ r.2.mem ((c.tc : Thread Cert.Dxn2Ideal.nD Cert.Dxn2Ideal.τ).loc Cert.Dxn2Ideal.main_arg1) = m ((c.tc : Thread Cert.Dxn2Ideal.nD Cert.Dxn2Ideal.τ).loc Cert.Dxn2Ideal.main_arg1)
          ∧ r.2.mem ((c.tc : Thread Cert.Dxn2Ideal.nD Cert.Dxn2Ideal.τ).loc Cert.Dxn2Ideal.main_arg2) = m ((c.tc : Thread Cert.Dxn2Ideal.nD Cert.Dxn2Ideal.τ).loc Cert.Dxn2Ideal.main_arg2))
      ∧ θ_run (Cert.Dxn2RefIdeal.defs (F := Ideal)) (onTc (τ := Cert.Dxn2RefIdeal.τ) (Cert.Dxn2RefIdeal.main (F := Ideal))) ⟨m', fun _ => 0, g'⟩ (fun r => ∀ c : Dev Cert.Dxn2RefIdeal.nD,
          r.2.mem ((c.tc : Thread Cert.Dxn2RefIdeal.nD Cert.Dxn2RefIdeal.τ).loc Cert.Dxn2RefIdeal.main_v1) = v0 c
          ∧ r.2.mem ((c.tc : Thread Cert.Dxn2RefIdeal.nD Cert.Dxn2RefIdeal.τ).loc Cert.Dxn2RefIdeal.main_arg0) = m' ((c.tc : Thread Cert.Dxn2RefIdeal.nD Cert.Dxn2RefIdeal.τ).loc Cert.Dxn2RefIdeal.main_arg0)
          ∧ r.2.mem ((c.tc : Thread Cert.Dxn2RefIdeal.nD Cert.Dxn2RefIdeal.τ).loc Cert.Dxn2RefIdeal.main_arg1) = m' ((c.tc : Thread Cert.Dxn2RefIdeal.nD Cert.Dxn2RefIdeal.τ).loc Cert.Dxn2RefIdeal.main_arg1)
          ∧ r.2.mem ((c.tc : Thread Cert.Dxn2RefIdeal.nD Cert.Dxn2RefIdeal.τ).loc Cert.Dxn2RefIdeal.main_arg2) = m' ((c.tc : Thread Cert.Dxn2RefIdeal.nD Cert.Dxn2RefIdeal.τ).loc Cert.Dxn2RefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v8)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)
      ∧ m' ((c.tc : Thread Cert.Norm1RefIdeal.nD Cert.Norm1RefIdeal.τ).loc Cert.Norm1RefIdeal.main_arg5) = m ((c.tc : Thread Cert.Norm1Ideal.nD Cert.Norm1Ideal.τ).loc Cert.Norm1Ideal.main_arg5)
      ∧ m' ((c.tc : Thread Cert.Norm1RefIdeal.nD Cert.Norm1RefIdeal.τ).loc Cert.Norm1RefIdeal.main_arg6) = m ((c.tc : Thread Cert.Norm1Ideal.nD Cert.Norm1Ideal.τ).loc Cert.Norm1Ideal.main_arg6)) →
    ∃ (v0 : (c : Dev Cert.Norm1Ideal.nD) → Buf (Elt Ideal) ((c.tc : Thread Cert.Norm1Ideal.nD Cert.Norm1Ideal.τ).loc Cert.Norm1Ideal.main_v5_0)) (v1 : (c : Dev Cert.Norm1Ideal.nD) → Buf (Elt Ideal) ((c.tc : Thread Cert.Norm1Ideal.nD Cert.Norm1Ideal.τ).loc Cert.Norm1Ideal.main_v5_1)) (v2 : (c : Dev Cert.Norm1Ideal.nD) → Buf (Elt Ideal) ((c.tc : Thread Cert.Norm1Ideal.nD Cert.Norm1Ideal.τ).loc Cert.Norm1Ideal.main_v5_2)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v5_0) = v0 c
          ∧ r.2.mem ((c.tc : Thread Cert.Norm1Ideal.nD Cert.Norm1Ideal.τ).loc Cert.Norm1Ideal.main_v5_1) = v1 c
          ∧ r.2.mem ((c.tc : Thread Cert.Norm1Ideal.nD Cert.Norm1Ideal.τ).loc Cert.Norm1Ideal.main_v5_2) = v2 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5)
          ∧ r.2.mem ((c.tc : Thread Cert.Norm1Ideal.nD Cert.Norm1Ideal.τ).loc Cert.Norm1Ideal.main_arg6) = m ((c.tc : Thread Cert.Norm1Ideal.nD Cert.Norm1Ideal.τ).loc Cert.Norm1Ideal.main_arg6))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v3_0) = v0 c
          ∧ r.2.mem ((c.tc : Thread Cert.Norm1RefIdeal.nD Cert.Norm1RefIdeal.τ).loc Cert.Norm1RefIdeal.main_v3_1) = v1 c
          ∧ r.2.mem ((c.tc : Thread Cert.Norm1RefIdeal.nD Cert.Norm1RefIdeal.τ).loc Cert.Norm1RefIdeal.main_v3_2) = v2 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4)
          ∧ r.2.mem ((c.tc : Thread Cert.Norm1RefIdeal.nD Cert.Norm1RefIdeal.τ).loc Cert.Norm1RefIdeal.main_arg5) = m' ((c.tc : Thread Cert.Norm1RefIdeal.nD Cert.Norm1RefIdeal.τ).loc Cert.Norm1RefIdeal.main_arg5)
          ∧ r.2.mem ((c.tc : Thread Cert.Norm1RefIdeal.nD Cert.Norm1RefIdeal.τ).loc Cert.Norm1RefIdeal.main_arg6) = m' ((c.tc : Thread Cert.Norm1RefIdeal.nD Cert.Norm1RefIdeal.τ).loc Cert.Norm1RefIdeal.main_arg6))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)) (v3 : (c : Dev Cert.OprojIdeal.nD) → Buf (Elt Ideal) ((c.tc : Thread Cert.OprojIdeal.nD Cert.OprojIdeal.τ).loc Cert.OprojIdeal.main_v4_3)) (v4 : (c : Dev Cert.OprojIdeal.nD) → Buf (Elt Ideal) ((c.tc : Thread Cert.OprojIdeal.nD Cert.OprojIdeal.τ).loc Cert.OprojIdeal.main_v4_4)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_v4_3) = v3 c
          ∧ r.2.mem ((c.tc : Thread Cert.OprojIdeal.nD Cert.OprojIdeal.τ).loc Cert.OprojIdeal.main_v4_4) = v4 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v3_0) = v0 c
          ∧ r.2.mem ((c.tc : Thread Cert.OprojRefIdeal.nD Cert.OprojRefIdeal.τ).loc Cert.OprojRefIdeal.main_v3_1) = v1 c
          ∧ r.2.mem ((c.tc : Thread Cert.OprojRefIdeal.nD Cert.OprojRefIdeal.τ).loc Cert.OprojRefIdeal.main_v3_2) = v2 c
          ∧ r.2.mem ((c.tc : Thread Cert.OprojRefIdeal.nD Cert.OprojRefIdeal.τ).loc Cert.OprojRefIdeal.main_v3_3) = v3 c
          ∧ r.2.mem ((c.tc : Thread Cert.OprojRefIdeal.nD Cert.OprojRefIdeal.τ).loc Cert.OprojRefIdeal.main_v3_4) = v4 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def Claim : Prop :=
  ∃ (hDw13 : Cert.Dw13.Facts) (hDw13Ideal : Cert.Dw13Ideal.Facts) (hDw13RefIdeal : Cert.Dw13RefIdeal.Facts) (hDw2 : Cert.Dw2.Facts) (hDw2Ideal : Cert.Dw2Ideal.Facts) (hDw2RefIdeal : Cert.Dw2RefIdeal.Facts) (hDwo : Cert.Dwo.Facts) (hDwoIdeal : Cert.DwoIdeal.Facts) (hDwoRefIdeal : Cert.DwoRefIdeal.Facts) (hDwqkv : Cert.Dwqkv.Facts) (hDwqkvIdeal : Cert.DwqkvIdeal.Facts) (hDwqkvRefIdeal : Cert.DwqkvRefIdeal.Facts) (hDxn2 : Cert.Dxn2.Facts) (hDxn2Ideal : Cert.Dxn2Ideal.Facts) (hDxn2RefIdeal : Cert.Dxn2RefIdeal.Facts) (hQkv : Cert.Qkv.Facts) (hQkvIdeal : Cert.QkvIdeal.Facts) (hQkvRefIdeal : Cert.QkvRefIdeal.Facts) (hNorm1 : Cert.Norm1.Facts) (hNorm1Ideal : Cert.Norm1Ideal.Facts) (hNorm1RefIdeal : Cert.Norm1RefIdeal.Facts) (hOproj : Cert.Oproj.Facts) (hOprojIdeal : Cert.OprojIdeal.Facts) (hOprojRefIdeal : Cert.OprojRefIdeal.Facts),
    quiescent_Dw13 (hDw13 := hDw13)
    ∧ quiescent_Dw13Ideal (hDw13Ideal := hDw13Ideal)
    ∧ quiescent_Dw13RefIdeal (hDw13RefIdeal := hDw13RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dwo (hDwo := hDwo)
    ∧ quiescent_DwoIdeal (hDwoIdeal := hDwoIdeal)
    ∧ quiescent_DwoRefIdeal (hDwoRefIdeal := hDwoRefIdeal)
    ∧ quiescent_Dwqkv (hDwqkv := hDwqkv)
    ∧ quiescent_DwqkvIdeal (hDwqkvIdeal := hDwqkvIdeal)
    ∧ quiescent_DwqkvRefIdeal (hDwqkvRefIdeal := hDwqkvRefIdeal)
    ∧ quiescent_Dxn2 (hDxn2 := hDxn2)
    ∧ quiescent_Dxn2Ideal (hDxn2Ideal := hDxn2Ideal)
    ∧ quiescent_Dxn2RefIdeal (hDxn2RefIdeal := hDxn2RefIdeal)
    ∧ quiescent_Qkv (hQkv := hQkv)
    ∧ quiescent_QkvIdeal (hQkvIdeal := hQkvIdeal)
    ∧ quiescent_QkvRefIdeal (hQkvRefIdeal := hQkvRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Oproj (hOproj := hOproj)
    ∧ quiescent_OprojIdeal (hOprojIdeal := hOprojIdeal)
    ∧ quiescent_OprojRefIdeal (hOprojRefIdeal := hOprojRefIdeal)
    ∧ preserves_Dw13_Dw13Ideal
    ∧ algebraic_Dw13Ideal_Dw13RefIdeal (hDw13Ideal := hDw13Ideal) (hDw13RefIdeal := hDw13RefIdeal)
    ∧ preserves_Dw2_Dw2Ideal
    ∧ algebraic_Dw2Ideal_Dw2RefIdeal (hDw2Ideal := hDw2Ideal) (hDw2RefIdeal := hDw2RefIdeal)
    ∧ preserves_Dwo_DwoIdeal
    ∧ algebraic_DwoIdeal_DwoRefIdeal (hDwoIdeal := hDwoIdeal) (hDwoRefIdeal := hDwoRefIdeal)
    ∧ preserves_Dwqkv_DwqkvIdeal
    ∧ algebraic_DwqkvIdeal_DwqkvRefIdeal (hDwqkvIdeal := hDwqkvIdeal) (hDwqkvRefIdeal := hDwqkvRefIdeal)
    ∧ preserves_Dxn2_Dxn2Ideal
    ∧ algebraic_Dxn2Ideal_Dxn2RefIdeal (hDxn2Ideal := hDxn2Ideal) (hDxn2RefIdeal := hDxn2RefIdeal)
    ∧ preserves_Qkv_QkvIdeal
    ∧ algebraic_QkvIdeal_QkvRefIdeal (hQkvIdeal := hQkvIdeal) (hQkvRefIdeal := hQkvRefIdeal)
    ∧ preserves_Norm1_Norm1Ideal
    ∧ algebraic_Norm1Ideal_Norm1RefIdeal (hNorm1Ideal := hNorm1Ideal) (hNorm1RefIdeal := hNorm1RefIdeal)
    ∧ preserves_Oproj_OprojIdeal
    ∧ algebraic_OprojIdeal_OprojRefIdeal (hOprojIdeal := hOprojIdeal) (hOprojRefIdeal := hOprojRefIdeal)
-- ==== Dw13.lean ====
abbrev S1920x8192 : Shape := ⟨2, ![1920, 8192]⟩
abbrev S2x1920x7168 : Shape := ⟨3, ![2, 1920, 7168]⟩
abbrev S8192x14336 : Shape := ⟨2, ![8192, 14336]⟩
abbrev S1920x1024 : Shape := ⟨2, ![1920, 1024]⟩
abbrev S1x1920x1024 : Shape := ⟨3, ![1, 1920, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1920x8192, .bf16⟩
  | .hbm, ⟨1, _⟩ => ⟨S2x1920x7168, .bf16⟩
  | .hbm, ⟨2, _⟩ => ⟨S8192x14336, .bf16⟩
  | .local _ .vmem, ⟨0, _⟩ => ⟨S1920x1024, .bf16⟩
  | .local _ .vmem, ⟨1, _⟩ => ⟨S1920x1024, .bf16⟩
  | .local _ .vmem, ⟨2, _⟩ => ⟨S1x1920x1024, .bf16⟩
  | .local _ .vmem, ⟨3, _⟩ => ⟨S1x1920x1024, .bf16⟩
  | .local _ .vmem, ⟨4, _⟩ => ⟨S1024x1024, .bf16⟩
  | .local _ .vmem, ⟨5, _⟩ => ⟨S1024x1024, .bf16⟩
  | _, _ => ⟨S1920x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1920x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw13RefIdeal.lean ====
abbrev S1920x8192 : Shape := ⟨2, ![1920, 8192]⟩
abbrev S2x1920x7168 : Shape := ⟨3, ![2, 1920, 7168]⟩
abbrev S1x1920x7168 : Shape := ⟨3, ![1, 1920, 7168]⟩
abbrev S1920x7168 : Shape := ⟨2, ![1920, 7168]⟩
abbrev S1920x14336 : Shape := ⟨2, ![1920, 14336]⟩
abbrev S8192x14336 : Shape := ⟨2, ![8192, 14336]⟩

abbrev nBuf : Space → Nat
  | .hbm => 9
  | .vmem => 0
  | .smem => 0
  | _ => 0

abbrev bufTy : (tb : Table) → Fin (tcTables nBuf tb) → BufTy
  | .hbm, ⟨0, _⟩ => ⟨S1920x8192, .bf16⟩
  | .hbm, ⟨1, _⟩ => ⟨S2x1920x7168, .bf16⟩
  | .hbm, ⟨2, _⟩ => ⟨S1x1920x7168, .bf16⟩
  | .hbm, ⟨3, _⟩ => ⟨S1920x7168, .bf16⟩
  | .hbm, ⟨4, _⟩ => ⟨S1x1920x7168, .bf16⟩
  | .hbm, ⟨5, _⟩ => ⟨S1920x7168, .bf16⟩
  | .hbm, ⟨6, _⟩ => ⟨S1920x14336, .bf16⟩
  | .hbm, ⟨7, _⟩ => ⟨S8192x14336, .f32⟩
  | .hbm, ⟨8, _⟩ => ⟨S8192x14336, .bf16⟩
  | _, _ => ⟨S1920x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Dw2.lean ====
abbrev S1920x7168 : Shape := ⟨2, ![1920, 7168]⟩
abbrev S3x640x8192 : Shape := ⟨3, ![3, 640, 8192]⟩
abbrev S1920x8192 : Shape := ⟨2, ![1920, 8192]⟩
abbrev S7168x8192 : Shape := ⟨2, ![7168, 8192]⟩
abbrev S1920x1024 : Shape := ⟨2, ![1920, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1920x7168, .bf16⟩
  | .hbm, ⟨1, _⟩ => ⟨S3x640x8192, .bf16⟩
  | .hbm, ⟨2, _⟩ => ⟨S1920x8192, .bf16⟩
  | .hbm, ⟨3, _⟩ => ⟨S7168x8192, .bf16⟩
  | .local _ .vmem, ⟨0, _⟩ => ⟨S1920x1024, .bf16⟩
  | .local _ .vmem, ⟨1, _⟩ => ⟨S1920x1024, .bf16⟩
  | .local _ .vmem, ⟨2, _⟩ => ⟨S1920x1024, .bf16⟩
  | .local _ .vmem, ⟨3, _⟩ => ⟨S1920x1024, .bf16⟩
  | .local _ .vmem, ⟨4, _⟩ => ⟨S1024x1024, .bf16⟩
  | .local _ .vmem, ⟨5, _⟩ => ⟨S1024x1024, .bf16⟩
  | _, _ => ⟨S1920x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1920x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dw2RefIdeal.lean ====
abbrev S1920x7168 : Shape := ⟨2, ![1920, 7168]⟩
abbrev S3x640x8192 : Shape := ⟨3, ![3, 640, 8192]⟩
abbrev S1920x8192 : Shape := ⟨2, ![1920, 8192]⟩
abbrev S7168x8192 : Shape := ⟨2, ![7168, 8192]⟩

abbrev nBuf : Space → Nat
  | .hbm => 5
  | .vmem => 0
  | .smem => 0
  | _ => 0

abbrev bufTy : (tb : Table) → Fin (tcTables nBuf tb) → BufTy
  | .hbm, ⟨0, _⟩ => ⟨S1920x7168, .bf16⟩
  | .hbm, ⟨1, _⟩ => ⟨S3x640x8192, .bf16⟩
  | .hbm, ⟨2, _⟩ => ⟨S1920x8192, .bf16⟩
  | .hbm, ⟨3, _⟩ => ⟨S7168x8192, .f32⟩
  | .hbm, ⟨4, _⟩ => ⟨S7168x8192, .bf16⟩
  | _, _ => ⟨S1920x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dwo.lean ====
abbrev S1920x2048 : Shape := ⟨2, ![1920, 2048]⟩
abbrev S1920x8192 : Shape := ⟨2, ![1920, 8192]⟩
abbrev S2048x8192 : Shape := ⟨2, ![2048, 8192]⟩
abbrev S1920x1024 : Shape := ⟨2, ![1920, 1024]⟩
abbrev S1920x512 : Shape := ⟨2, ![1920, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1920x2048, .bf16⟩
  | .hbm, ⟨1, _⟩ => ⟨S1920x8192, .f32⟩
  | .hbm, ⟨2, _⟩ => ⟨S2048x8192, .bf16⟩
  | .local _ .vmem, ⟨0, _⟩ => ⟨S1920x1024, .bf16⟩
  | .local _ .vmem, ⟨1, _⟩ => ⟨S1920x1024, .bf16⟩
  | .local _ .vmem, ⟨2, _⟩ => ⟨S1920x512, .f32⟩
  | .local _ .vmem, ⟨3, _⟩ => ⟨S1920x512, .f32⟩
  | .local _ .vmem, ⟨4, _⟩ => ⟨S1024x512, .bf16⟩
  | .local _ .vmem, ⟨5, _⟩ => ⟨S1024x512, .bf16⟩
  | _, _ => ⟨S1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1920x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1920x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwoRefIdeal.lean ====
abbrev S1920x2048 : Shape := ⟨2, ![1920, 2048]⟩
abbrev S1920x8192 : Shape := ⟨2, ![1920, 8192]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S1920x2048, .bf16⟩
  | .hbm, ⟨1, _⟩ => ⟨S1920x8192, .f32⟩
  | .hbm, ⟨2, _⟩ => ⟨S1920x8192, .bf16⟩
  | .hbm, ⟨3, _⟩ => ⟨S2048x8192, .f32⟩
  | .hbm, ⟨4, _⟩ => ⟨S2048x8192, .bf16⟩
  | _, _ => ⟨S1920x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dwqkv.lean ====
abbrev S1920x8192 : Shape := ⟨2, ![1920, 8192]⟩
abbrev S1920x2560 : Shape := ⟨2, ![1920, 2560]⟩
abbrev S8192x2560 : Shape := ⟨2, ![8192, 2560]⟩
abbrev S1920x1024 : Shape := ⟨2, ![1920, 1024]⟩
abbrev S1920x512 : Shape := ⟨2, ![1920, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1920x8192, .bf16⟩
  | .hbm, ⟨1, _⟩ => ⟨S1920x2560, .bf16⟩
  | .hbm, ⟨2, _⟩ => ⟨S8192x2560, .bf16⟩
  | .local _ .vmem, ⟨0, _⟩ => ⟨S1920x1024, .bf16⟩
  | .local _ .vmem, ⟨1, _⟩ => ⟨S1920x1024, .bf16⟩
  | .local _ .vmem, ⟨2, _⟩ => ⟨S1920x512, .bf16⟩
  | .local _ .vmem, ⟨3, _⟩ => ⟨S1920x512, .bf16⟩
  | .local _ .vmem, ⟨4, _⟩ => ⟨S1024x512, .bf16⟩
  | .local _ .vmem, ⟨5, _⟩ => ⟨S1024x512, .bf16⟩
  | _, _ => ⟨S1920x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1920x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1920x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwqkvRefIdeal.lean ====
abbrev S1920x8192 : Shape := ⟨2, ![1920, 8192]⟩
abbrev S1920x2560 : Shape := ⟨2, ![1920, 2560]⟩
abbrev S8192x2560 : Shape := ⟨2, ![8192, 2560]⟩

abbrev nBuf : Space → Nat
  | .hbm => 4
  | .vmem => 0
  | .smem => 0
  | _ => 0

abbrev bufTy : (tb : Table) → Fin (tcTables nBuf tb) → BufTy
  | .hbm, ⟨0, _⟩ => ⟨S1920x8192, .bf16⟩
  | .hbm, ⟨1, _⟩ => ⟨S1920x2560, .bf16⟩
  | .hbm, ⟨2, _⟩ => ⟨S8192x2560, .f32⟩
  | .hbm, ⟨3, _⟩ => ⟨S8192x2560, .bf16⟩
  | _, _ => ⟨S1920x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dxn2.lean ====
abbrev S1920x14336 : Shape := ⟨2, ![1920, 14336]⟩
abbrev S3x640 : Shape := ⟨2, ![3, 640]⟩
abbrev S8192x14336 : Shape := ⟨2, ![8192, 14336]⟩
abbrev S1920x1 : Shape := ⟨2, ![1920, 1]⟩
abbrev S1920x128 : Shape := ⟨2, ![1920, 128]⟩
abbrev S1920x8192 : Shape := ⟨2, ![1920, 8192]⟩
abbrev S256x14336 : Shape := ⟨2, ![256, 14336]⟩
abbrev S1920x256 : Shape := ⟨2, ![1920, 256]⟩
abbrev S320x14336 : Shape := ⟨2, ![320, 14336]⟩
abbrev S320x256 : Shape := ⟨2, ![320, 256]⟩
abbrev S320x128 : Shape := ⟨2, ![320, 128]⟩

abbrev nBuf : Space → Nat
  | .hbm => 6
  | .vmem => 6
  | .smem => 0
  | _ => 0

abbrev bufTy : (tb : Table) → Fin (tcTables nBuf tb) → BufTy
  | .hbm, ⟨0, _⟩ => ⟨S1920x14336, .fp8e5m2⟩
  | .hbm, ⟨1, _⟩ => ⟨S3x640, .f32⟩
  | .hbm, ⟨2, _⟩ => ⟨S8192x14336, .fp8e4m3⟩
  | .hbm, ⟨3, _⟩ => ⟨S1920x1, .f32⟩
  | .hbm, ⟨4, _⟩ => ⟨S1920x128, .f32⟩
  | .hbm, ⟨5, _⟩ => ⟨S1920x8192, .f32⟩
  | .local _ .vmem, ⟨0, _⟩ => ⟨S1920x14336, .fp8e5m2⟩
  | .local _ .vmem, ⟨1, _⟩ => ⟨S1920x128, .f32⟩
  | .local _ .vmem, ⟨2, _⟩ => ⟨S256x14336, .fp8e4m3⟩
  | .local _ .vmem, ⟨3, _⟩ => ⟨S256x14336, .fp8e4m3⟩
  | .local _ .vmem, ⟨4, _⟩ => ⟨S1920x256, .f32⟩
  | .local _ .vmem, ⟨5, _⟩ => ⟨S1920x256, .f32⟩
  | _, _ => ⟨S1920x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x14336 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x14336 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Dxn2RefIdeal.lean ====
abbrev S1920x14336 : Shape := ⟨2, ![1920, 14336]⟩
abbrev S3x640 : Shape := ⟨2, ![3, 640]⟩
abbrev S8192x14336 : Shape := ⟨2, ![8192, 14336]⟩
abbrev S1920x1 : Shape := ⟨2, ![1920, 1]⟩
abbrev S1920x8192 : Shape := ⟨2, ![1920, 8192]⟩

abbrev nBuf : Space → Nat
  | .hbm => 5
  | .vmem => 4
  | .smem => 0
  | _ => 0

abbrev bufTy : (tb : Table) → Fin (tcTables nBuf tb) → BufTy
  | .hbm, ⟨0, _⟩ => ⟨S1920x14336, .fp8e5m2⟩
  | .hbm, ⟨1, _⟩ => ⟨S3x640, .f32⟩
  | .hbm, ⟨2, _⟩ => ⟨S8192x14336, .fp8e4m3⟩
  | .hbm, ⟨3, _⟩ => ⟨S1920x1, .f32⟩
  | .hbm, ⟨4, _⟩ => ⟨S1920x8192, .f32⟩
  | .local _ .vmem, ⟨0, _⟩ => ⟨S1920x14336, .fp8e5m2⟩
  | .local _ .vmem, ⟨1, _⟩ => ⟨S1920x1, .f32⟩
  | .local _ .vmem, ⟨2, _⟩ => ⟨S8192x14336, .fp8e4m3⟩
  | .local _ .vmem, ⟨3, _⟩ => ⟨S1920x8192, .f32⟩
  | _, _ => ⟨S1920x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1920x14336 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S1920x8192 : Shape := ⟨2, ![1920, 8192]⟩
abbrev S3x640 : Shape := ⟨2, ![3, 640]⟩
abbrev S8192x2560 : Shape := ⟨2, ![8192, 2560]⟩
abbrev S2560 : Shape := ⟨1, ![2560]⟩
abbrev S3x640x64 : Shape := ⟨3, ![3, 640, 64]⟩
abbrev S3x640x128 : Shape := ⟨3, ![3, 640, 128]⟩
abbrev S1920x128 : Shape := ⟨2, ![1920, 128]⟩
abbrev S1920x1 : Shape := ⟨2, ![1920, 1]⟩
abbrev S1x2560 : Shape := ⟨2, ![1, 2560]⟩
abbrev S1920x2560 : Shape := ⟨2, ![1920, 2560]⟩
abbrev S8192x256 : Shape := ⟨2, ![8192, 256]⟩
abbrev S1x256 : Shape := ⟨2, ![1, 256]⟩
abbrev S1920x256 : Shape := ⟨2, ![1920, 256]⟩

abbrev nBuf : Space → Nat
  | .hbm => 15
  | .vmem => 10
  | .smem => 0
  | _ => 0

abbrev bufTy : (tb : Table) → Fin (tcTables nBuf tb) → BufTy
  | .hbm, ⟨0, _⟩ => ⟨S1920x8192, .fp8e4m3⟩
  | .hbm, ⟨1, _⟩ => ⟨S3x640, .f32⟩
  | .hbm, ⟨2, _⟩ => ⟨S8192x2560, .fp8e4m3⟩
  | .hbm, ⟨3, _⟩ => ⟨S2560, .f32⟩
  | .hbm, ⟨4, _⟩ => ⟨S3x640x64, .f32⟩
  | .hbm, ⟨5, _⟩ => ⟨S3x640x64, .f32⟩
  | .hbm, ⟨6, _⟩ => ⟨S3x640x128, .f32⟩
  | .hbm, ⟨7, _⟩ => ⟨S1920x128, .f32⟩
  | .hbm, ⟨8, _⟩ => ⟨S3x640x64, .f32⟩
  | .hbm, ⟨9, _⟩ => ⟨S3x640x128, .f32⟩
  | .hbm, ⟨10, _⟩ => ⟨S1920x128, .f32⟩
  | .hbm, ⟨11, _⟩ => ⟨S1920x1, .f32⟩
  | .hbm, ⟨12, _⟩ => ⟨S1920x128, .f32⟩
  | .hbm, ⟨13, _⟩ => ⟨S1x2560, .f32⟩
  | .hbm, ⟨14, _⟩ => ⟨S1920x2560, .bf16⟩
  | .local _ .vmem, ⟨0, _⟩ => ⟨S1920x8192, .fp8e4m3⟩
  | .local _ .vmem, ⟨1, _⟩ => ⟨S1920x128, .f32⟩
  | .local _ .vmem, ⟨2, _⟩ => ⟨S8192x256, .fp8e4m3⟩
  | .local _ .vmem, ⟨3, _⟩ => ⟨S8192x256, .fp8e4m3⟩
  | .local _ .vmem, ⟨4, _⟩ => ⟨S1x256, .f32⟩
  | .local _ .vmem, ⟨5, _⟩ => ⟨S1x256, .f32⟩
  | .local _ .vmem, ⟨6, _⟩ => ⟨S1920x128, .f32⟩
  | .local _ .vmem, ⟨7, _⟩ => ⟨S1920x128, .f32⟩
  | .local _ .vmem, ⟨8, _⟩ => ⟨S1920x256, .bf16⟩
  | .local _ .vmem, ⟨9, _⟩ => ⟨S1920x256, .bf16⟩
  | _, _ => ⟨S1920x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1920x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1920x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S1920x8192 : Shape := ⟨2, ![1920, 8192]⟩
abbrev S3x640 : Shape := ⟨2, ![3, 640]⟩
abbrev S8192x2560 : Shape := ⟨2, ![8192, 2560]⟩
abbrev S2560 : Shape := ⟨1, ![2560]⟩
abbrev S3x640x64 : Shape := ⟨3, ![3, 640, 64]⟩
abbrev S1920x1 : Shape := ⟨2, ![1920, 1]⟩
abbrev S1x2560 : Shape := ⟨2, ![1, 2560]⟩
abbrev S1920x64 : Shape := ⟨2, ![1920, 64]⟩
abbrev S1920x2560 : Shape := ⟨2, ![1920, 2560]⟩
abbrev S1920x20x128 : Shape := ⟨3, ![1920, 20, 128]⟩
abbrev S1920x18x128 : Shape := ⟨3, ![1920, 18, 128]⟩
abbrev S1920x1x64 : Shape := ⟨3, ![1920, 1, 64]⟩
abbrev S1920x18x64 : Shape := ⟨3, ![1920, 18, 64]⟩
abbrev S1920x2x128 : Shape := ⟨3, ![1920, 2, 128]⟩

abbrev nBuf : Space → Nat
  | .hbm => 11
  | .vmem => 7
  | .smem => 0
  | _ => 0

abbrev bufTy : (tb : Table) → Fin (tcTables nBuf tb) → BufTy
  | .hbm, ⟨0, _⟩ => ⟨S1920x8192, .fp8e4m3⟩
  | .hbm, ⟨1, _⟩ => ⟨S3x640, .f32⟩
  | .hbm, ⟨2, _⟩ => ⟨S8192x2560, .fp8e4m3⟩
  | .hbm, ⟨3, _⟩ => ⟨S2560, .f32⟩
  | .hbm, ⟨4, _⟩ => ⟨S3x640x64, .f32⟩
  | .hbm, ⟨5, _⟩ => ⟨S3x640x64, .f32⟩
  | .hbm, ⟨6, _⟩ => ⟨S1920x1, .f32⟩
  | .hbm, ⟨7, _⟩ => ⟨S1x2560, .f32⟩
  | .hbm, ⟨8, _⟩ => ⟨S1920x64, .f32⟩
  | .hbm, ⟨9, _⟩ => ⟨S1920x64, .f32⟩
  | .hbm, ⟨10, _⟩ => ⟨S1920x2560, .bf16⟩
  | .local _ .vmem, ⟨0, _⟩ => ⟨S1920x8192, .fp8e4m3⟩
  | .local _ .vmem, ⟨1, _⟩ => ⟨S1920x1, .f32⟩
  | .local _ .vmem, ⟨2, _⟩ => ⟨S8192x2560, .fp8e4m3⟩
  | .local _ .vmem, ⟨3, _⟩ => ⟨S1x2560, .f32⟩
  | .local _ .vmem, ⟨4, _⟩ => ⟨S1920x64, .f32⟩
  | .local _ .vmem, ⟨5, _⟩ => ⟨S1920x64, .f32⟩
  | .local _ .vmem, ⟨6, _⟩ => ⟨S1920x2560, .bf16⟩
  | _, _ => ⟨S1920x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1920x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Norm1.lean ====
abbrev S1920x2560 : Shape := ⟨2, ![1920, 2560]⟩
abbrev S3x640 : Shape := ⟨2, ![3, 640]⟩
abbrev S8192x2560 : Shape := ⟨2, ![8192, 2560]⟩
abbrev S1920x8192 : Shape := ⟨2, ![1920, 8192]⟩
abbrev S8192 : Shape := ⟨1, ![8192]⟩
abbrev S1920x1 : Shape := ⟨2, ![1920, 1]⟩
abbrev S1920x128 : Shape := ⟨2, ![1920, 128]⟩
abbrev S1x8192 : Shape := ⟨2, ![1, 8192]⟩
abbrev S128x2560 : Shape := ⟨2, ![128, 2560]⟩
abbrev S128x128 : Shape := ⟨2, ![128, 128]⟩
abbrev S128x8192 : Shape := ⟨2, ![128, 8192]⟩
abbrev S128x256 : Shape := ⟨2, ![128, 256]⟩
abbrev S256x2560 : Shape := ⟨2, ![256, 2560]⟩
abbrev S1x256 : Shape := ⟨2, ![1, 256]⟩
abbrev S256 : Shape := ⟨1, ![256]⟩
abbrev S128 : Shape := ⟨1, ![128]⟩
abbrev S128x1 : Shape := ⟨2, ![128, 1]⟩

abbrev nBuf : Space → Nat
  | .hbm => 15
  | .vmem => 18
  | .smem => 0
  | _ => 0

abbrev bufTy : (tb : Table) → Fin (tcTables nBuf tb) → BufTy
  | .hbm, ⟨0, _⟩ => ⟨S1920x2560, .fp8e5m2⟩
  | .hbm, ⟨1, _⟩ => ⟨S3x640, .f32⟩
  | .hbm, ⟨2, _⟩ => ⟨S8192x2560, .fp8e4m3⟩
  | .hbm, ⟨3, _⟩ => ⟨S1920x8192, .bf16⟩
  | .hbm, ⟨4, _⟩ => ⟨S3x640, .f32⟩
  | .hbm, ⟨5, _⟩ => ⟨S8192, .f32⟩
  | .hbm, ⟨6, _⟩ => ⟨S1920x8192, .f32⟩
  | .hbm, ⟨7, _⟩ => ⟨S1920x1, .f32⟩
  | .hbm, ⟨8, _⟩ => ⟨S1920x128, .f32⟩
  | .hbm, ⟨9, _⟩ => ⟨S1920x1, .f32⟩
  | .hbm, ⟨10, _⟩ => ⟨S1920x128, .f32⟩
  | .hbm, ⟨11, _⟩ => ⟨S1x8192, .f32⟩
  | .hbm, ⟨12, _⟩ => ⟨S1920x8192, .bf16⟩
  | .hbm, ⟨13, _⟩ => ⟨S1920x128, .f32⟩
  | .hbm, ⟨14, _⟩ => ⟨S1x8192, .f32⟩
  | .local _ .vmem, ⟨0, _⟩ => ⟨S128x2560, .fp8e5m2⟩
  | .local _ .vmem, ⟨1, _⟩ => ⟨S128x2560, .fp8e5m2⟩
  | .local _ .vmem, ⟨2, _⟩ => ⟨S128x128, .f32⟩
  | .local _ .vmem, ⟨3, _⟩ => ⟨S128x128, .f32⟩
  | .local _ .vmem, ⟨4, _⟩ => ⟨S8192x2560, .fp8e4m3⟩
  | .local _ .vmem, ⟨5, _⟩ => ⟨S128x8192, .bf16⟩
  | .local _ .vmem, ⟨6, _⟩ => ⟨S128x8192, .bf16⟩
  | .local _ .vmem, ⟨7, _⟩ => ⟨S128x128, .f32⟩
  | .local _ .vmem, ⟨8, _⟩ => ⟨S128x128, .f32⟩
  | .local _ .vmem, ⟨9, _⟩ => ⟨S1x8192, .f32⟩
  | .local _ .vmem, ⟨10, _⟩ => ⟨S128x8192, .f32⟩
  | .local _ .vmem, ⟨11, _⟩ => ⟨S128x8192, .f32⟩
  | .local _ .vmem, ⟨12, _⟩ => ⟨S128x8192, .bf16⟩
  | .local _ .vmem, ⟨13, _⟩ => ⟨S128x8192, .bf16⟩
  | .local _ .vmem, ⟨14, _⟩ => ⟨S128x128, .f32⟩
  | .local _ .vmem, ⟨15, _⟩ => ⟨S128x128, .f32⟩
  | .local _ .vmem, ⟨16, _⟩ => ⟨S1x8192, .f32⟩
  | .local _ .vmem, ⟨17, _⟩ => ⟨S128x8192, .f32⟩
  | _, _ => ⟨S1920x2560, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2560 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm1RefIdeal.lean ====
abbrev S1920x2560 : Shape := ⟨2, ![1920, 2560]⟩
abbrev S3x640 : Shape := ⟨2, ![3, 640]⟩
abbrev S8192x2560 : Shape := ⟨2, ![8192, 2560]⟩
abbrev S1920x8192 : Shape := ⟨2, ![1920, 8192]⟩
abbrev S8192 : Shape := ⟨1, ![8192]⟩
abbrev S1920x1 : Shape := ⟨2, ![1920, 1]⟩
abbrev S1x8192 : Shape := ⟨2, ![1, 8192]⟩
abbrev S1920x128 : Shape := ⟨2, ![1920, 128]⟩
abbrev S1920 : Shape := ⟨1, ![1920]⟩

abbrev nBuf : Space → Nat
  | .hbm => 13
  | .vmem => 10
  | .smem => 0
  | _ => 0

abbrev bufTy : (tb : Table) → Fin (tcTables nBuf tb) → BufTy
  | .hbm, ⟨0, _⟩ => ⟨S1920x2560, .fp8e5m2⟩
  | .hbm, ⟨1, _⟩ => ⟨S3x640, .f32⟩
  | .hbm, ⟨2, _⟩ => ⟨S8192x2560, .fp8e4m3⟩
  | .hbm, ⟨3, _⟩ => ⟨S1920x8192, .bf16⟩
  | .hbm, ⟨4, _⟩ => ⟨S3x640, .f32⟩
  | .hbm, ⟨5, _⟩ => ⟨S8192, .f32⟩
  | .hbm, ⟨6, _⟩ => ⟨S1920x8192, .f32⟩
  | .hbm, ⟨7, _⟩ => ⟨S1920x1, .f32⟩
  | .hbm, ⟨8, _⟩ => ⟨S1920x1, .f32⟩
  | .hbm, ⟨9, _⟩ => ⟨S1x8192, .f32⟩
  | .hbm, ⟨10, _⟩ => ⟨S1920x8192, .bf16⟩
  | .hbm, ⟨11, _⟩ => ⟨S1920x128, .f32⟩
  | .hbm, ⟨12, _⟩ => ⟨S1x8192, .f32⟩
  | .local _ .vmem, ⟨0, _⟩ => ⟨S1920x2560, .fp8e5m2⟩
  | .local _ .vmem, ⟨1, _⟩ => ⟨S1920x1, .f32⟩
  | .local _ .vmem, ⟨2, _⟩ => ⟨S8192x2560, .fp8e4m3⟩
  | .local _ .vmem, ⟨3, _⟩ => ⟨S1920x8192, .bf16⟩
  | .local _ .vmem, ⟨4, _⟩ => ⟨S1920x1, .f32⟩
  | .local _ .vmem, ⟨5, _⟩ => ⟨S1x8192, .f32⟩
  | .local _ .vmem, ⟨6, _⟩ => ⟨S1920x8192, .f32⟩
  | .local _ .vmem, ⟨7, _⟩ => ⟨S1920x8192, .bf16⟩
  | .local _ .vmem, ⟨8, _⟩ => ⟨S1920x128, .f32⟩
  | .local _ .vmem, ⟨9, _⟩ => ⟨S1x8192, .f32⟩
  | _, _ => ⟨S1920x2560, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1920x2560 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Oproj.lean ====
abbrev S1920x2048 : Shape := ⟨2, ![1920, 2048]⟩
abbrev S3x640 : Shape := ⟨2, ![3, 640]⟩
abbrev S2048x8192 : Shape := ⟨2, ![2048, 8192]⟩
abbrev S8192 : Shape := ⟨1, ![8192]⟩
abbrev S1920x8192 : Shape := ⟨2, ![1920, 8192]⟩
abbrev S1920x1 : Shape := ⟨2, ![1920, 1]⟩
abbrev S1920x128 : Shape := ⟨2, ![1920, 128]⟩
abbrev S1x8192 : Shape := ⟨2, ![1, 8192]⟩
abbrev S128x2048 : Shape := ⟨2, ![128, 2048]⟩
abbrev S128x128 : Shape := ⟨2, ![128, 128]⟩
abbrev S128x8192 : Shape := ⟨2, ![128, 8192]⟩
abbrev S128x256 : Shape := ⟨2, ![128, 256]⟩
abbrev S2048x256 : Shape := ⟨2, ![2048, 256]⟩
abbrev S1x256 : Shape := ⟨2, ![1, 256]⟩
abbrev S128 : Shape := ⟨1, ![128]⟩
abbrev S128x1 : Shape := ⟨2, ![128, 1]⟩

abbrev nBuf : Space → Nat
  | .hbm => 15
  | .vmem => 19
  | .smem => 0
  | _ => 0

abbrev bufTy : (tb : Table) → Fin (tcTables nBuf tb) → BufTy
  | .hbm, ⟨0, _⟩ => ⟨S1920x2048, .fp8e4m3⟩
  | .hbm, ⟨1, _⟩ => ⟨S3x640, .f32⟩
  | .hbm, ⟨2, _⟩ => ⟨S2048x8192, .fp8e4m3⟩
  | .hbm, ⟨3, _⟩ => ⟨S8192, .f32⟩
  | .hbm, ⟨4, _⟩ => ⟨S1920x8192, .bf16⟩
  | .hbm, ⟨5, _⟩ => ⟨S8192, .f32⟩
  | .hbm, ⟨6, _⟩ => ⟨S1920x1, .f32⟩
  | .hbm, ⟨7, _⟩ => ⟨S1920x128, .f32⟩
  | .hbm, ⟨8, _⟩ => ⟨S1x8192, .f32⟩
  | .hbm, ⟨9, _⟩ => ⟨S1x8192, .f32⟩
  | .hbm, ⟨10, _⟩ => ⟨S1920x8192, .f32⟩
  | .hbm, ⟨11, _⟩ => ⟨S1920x8192, .fp8e4m3⟩
  | .hbm, ⟨12, _⟩ => ⟨S1920x128, .f32⟩
  | .hbm, ⟨13, _⟩ => ⟨S1920x128, .f32⟩
  | .hbm, ⟨14, _⟩ => ⟨S1920x8192, .bf16⟩
  | .local _ .vmem, ⟨0, _⟩ => ⟨S128x2048, .fp8e4m3⟩
  | .local _ .vmem, ⟨1, _⟩ => ⟨S128x2048, .fp8e4m3⟩
  | .local _ .vmem, ⟨2, _⟩ => ⟨S128x128, .f32⟩
  | .local _ .vmem, ⟨3, _⟩ => ⟨S128x128, .f32⟩
  | .local _ .vmem, ⟨4, _⟩ => ⟨S2048x8192, .fp8e4m3⟩
  | .local _ .vmem, ⟨5, _⟩ => ⟨S1x8192, .f32⟩
  | .local _ .vmem, ⟨6, _⟩ => ⟨S128x8192, .bf16⟩
  | .local _ .vmem, ⟨7, _⟩ => ⟨S128x8192, .bf16⟩
  | .local _ .vmem, ⟨8, _⟩ => ⟨S1x8192, .f32⟩
  | .local _ .vmem, ⟨9, _⟩ => ⟨S128x8192, .f32⟩
  | .local _ .vmem, ⟨10, _⟩ => ⟨S128x8192, .f32⟩
  | .local _ .vmem, ⟨11, _⟩ => ⟨S128x8192, .fp8e4m3⟩
  | .local _ .vmem, ⟨12, _⟩ => ⟨S128x8192, .fp8e4m3⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x8192, .bf16⟩
  | .local _ .vmem, ⟨18, _⟩ => ⟨S128x8192, .bf16⟩
  | _, _ => ⟨S1920x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OprojRefIdeal.lean ====
abbrev S1920x2048 : Shape := ⟨2, ![1920, 2048]⟩
abbrev S3x640 : Shape := ⟨2, ![3, 640]⟩
abbrev S2048x8192 : Shape := ⟨2, ![2048, 8192]⟩
abbrev S8192 : Shape := ⟨1, ![8192]⟩
abbrev S1920x8192 : Shape := ⟨2, ![1920, 8192]⟩
abbrev S1920x1 : Shape := ⟨2, ![1920, 1]⟩
abbrev S1x8192 : Shape := ⟨2, ![1, 8192]⟩
abbrev S1920x128 : Shape := ⟨2, ![1920, 128]⟩
abbrev S1920 : Shape := ⟨1, ![1920]⟩
abbrev S1x255 : Shape := ⟨2, ![1, 255]⟩
abbrev S1920x255 : Shape := ⟨2, ![1920, 255]⟩

abbrev nBuf : Space → Nat
  | .hbm => 14
  | .vmem => 11
  | .smem => 0
  | _ => 0

abbrev bufTy : (tb : Table) → Fin (tcTables nBuf tb) → BufTy
  | .hbm, ⟨0, _⟩ => ⟨S1920x2048, .fp8e4m3⟩
  | .hbm, ⟨1, _⟩ => ⟨S3x640, .f32⟩
  | .hbm, ⟨2, _⟩ => ⟨S2048x8192, .fp8e4m3⟩
  | .hbm, ⟨3, _⟩ => ⟨S8192, .f32⟩
  | .hbm, ⟨4, _⟩ => ⟨S1920x8192, .bf16⟩
  | .hbm, ⟨5, _⟩ => ⟨S8192, .f32⟩
  | .hbm, ⟨6, _⟩ => ⟨S1920x1, .f32⟩
  | .hbm, ⟨7, _⟩ => ⟨S1x8192, .f32⟩
  | .hbm, ⟨8, _⟩ => ⟨S1x8192, .f32⟩
  | .hbm, ⟨9, _⟩ => ⟨S1920x8192, .f32⟩
  | .hbm, ⟨10, _⟩ => ⟨S1920x8192, .fp8e4m3⟩
  | .hbm, ⟨11, _⟩ => ⟨S1920x128, .f32⟩
  | .hbm, ⟨12, _⟩ => ⟨S1920x128, .f32⟩
  | .hbm, ⟨13, _⟩ => ⟨S1920x8192, .bf16⟩
  | .local _ .vmem, ⟨0, _⟩ => ⟨S1920x2048, .fp8e4m3⟩
  | .local _ .vmem, ⟨1, _⟩ => ⟨S1920x1, .f32⟩
  | .local _ .vmem, ⟨2, _⟩ => ⟨S2048x8192, .fp8e4m3⟩
  | .local _ .vmem, ⟨3, _⟩ => ⟨S1x8192, .f32⟩
  | .local _ .vmem, ⟨4, _⟩ => ⟨S1920x8192, .bf16⟩
  | .local _ .vmem, ⟨5, _⟩ => ⟨S1x8192, .f32⟩
  | .local _ .vmem, ⟨6, _⟩ => ⟨S1920x8192, .f32⟩
  | .local _ .vmem, ⟨7, _⟩ => ⟨S1920x8192, .fp8e4m3⟩
  | .local _ .vmem, ⟨8, _⟩ => ⟨S1920x128, .f32⟩
  | .local _ .vmem, ⟨9, _⟩ => ⟨S1920x128, .f32⟩
  | .local _ .vmem, ⟨10, _⟩ => ⟨S1920x8192, .bf16⟩
  | _, _ => ⟨S1920x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1920x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Product.lean ====
/-
  The product of a transposed matrix with a matrix, index by index over the extended reals: what each blocked weight
  gradient and its reference are both shown to be.
-/
module

public import Idealize.ShloMosaic.Lib.Pointwise

@[expose] public section

noncomputable section

open Idealize.ShloMosaic

namespace Cert.Hand

/-- `A^T B`, the sum over the shared rows: entry `(i, o)` is `∑ k, A (k, i) * B (k, o)`. -/
def rowsProd {R K N : Nat} (A : (⟨2, ![R, K]⟩ : Shape).Idx → EReal) (B : (⟨2, ![R, N]⟩ : Shape).Idx → EReal) :
    (⟨2, ![K, N]⟩ : Shape).Idx → EReal :=
  fun i => ∑ k : Fin R, A (ix2 k (i 0)) * B (ix2 k (i 1))

/-- `A W^T` with row `r` multiplied by `q r`: entry `(r, o)` is `(∑ k, A (r, k) * W (o, k)) * q r`. -/
def scaledProd {R K N : Nat} (A : (⟨2, ![R, K]⟩ : Shape).Idx → EReal) (W : (⟨2, ![N, K]⟩ : Shape).Idx → EReal)
    (q : Fin R → EReal) : (⟨2, ![R, N]⟩ : Shape).Idx → EReal :=
  fun i => (∑ k : Fin K, A (ix2 (i 0) k) * W (ix2 (i 1) k)) * q (i 0)

theorem hz2 : (![0, 0] : Fin 2 → Nat) = fun _ => 0 := funext fun a => by fin_cases a <;> rfl

theorem hz3 : (![0, 0, 0] : Fin 3 → Nat) = fun _ => 0 := funext fun a => by fin_cases a <;> rfl

end Cert.Hand

end
-- ==== Proof.Dw13Value.lean ====
/-
  The value of `dw13` at the ideal instance: the blocked weight gradient of the gate and up projections is the whole product, and the
  reference's einsum is the same sum.
-/
module

public import proofs.«01_k».proof.Defs
public import proofs.«01_k».proof.Proof.Gen.Dw13Ideal.Value
public import proofs.«01_k».proof.Proof.Gen.Dw13RefIdeal.Run
public import proofs.«01_k».proof.Proof.Gen.Dw13RefIdeal.Read
public import Idealize.ShloMosaic.Lib.Pipeline.Value
public import proofs.«01_k».proof.Proof.Product

@[expose] public section

noncomputable section

open Idealize.ShloMosaic Idealize.ShloMosaic.TcCoe Idealize.SL.Sem
open Idealize.ShloMosaic.Pipeline (Dat)

namespace Cert.Dw13Ideal.Hand

open Cert.Dw13Ideal Cert.Dw13Ideal.Gen Cert.Hand

variable (m : (ℓ : Loc nD τ sig) → Buf (Elt Ideal) ℓ) (ρ : Dev nD → PrngReg)

/-- One block's payload at an index: the sum over the rows of the products of the two loaded blocks. -/
theorem pay_apply (g : Vec Ideal S1x1920x1024 .bf16) (a : Vec Ideal S1920x1024 .bf16) (i o : Fin 1024) :
    k0_pay1 (F := Ideal) g a (ix2 i o) = ∑ k : Fin 1920, a (ix2 k i) * g (ix3 0 k o) := by
  pointwise [k0_pay1, dot_S1920x1024_S1920x1024_S1024x1024_0_0_1_1_n_n]

/-- The first operand's array as the region finds it. -/
abbrev A (c : Dev nD) : S1920x8192.Idx → EReal := V (F := Ideal) m c main_arg0
/-- The second operand's array as the region finds it. -/
abbrev B (c : Dev nD) : S2x1920x7168.Idx → EReal := V (F := Ideal) m c main_arg1

/-- The second operand with its two halves side by side along the columns, read at an index. -/
def B2 (c : Dev nD) : (⟨2, ![1920, 14336]⟩ : Shape).Idx → EReal := fun i =>
  B m c (ix3 ⟨(i 1).val / 7168, by have h : (i 1).val < 14336 := (i 1).isLt; omega⟩ (i 0)
    ⟨(i 1).val % 7168, Nat.mod_lt _ (by omega)⟩)

/-- The whole product: what the result array is shown to hold. -/
def G (c : Dev nD) : Buf (Elt Ideal) ((c : Thread nD τ).loc main_v0) :=
  rowsProd (A m c) (B2 m c)

/-- Where the three windows' blocks lie, at every grid point. -/
theorem idx_facts : ∀ t : Fin cfg0.N, win0_0.index t 0 = 0 ∧ win0_0.index t 1 = win0_2.index t 0
    ∧ win0_1.index t 0 = win0_2.index t 1 / 7 ∧ win0_1.index t 1 = 0 ∧ win0_1.index t 2 = win0_2.index t 1 % 7 :=
  (by decide +kernel : ∀ t : Fin grid0.N, win0_0.index t 0 = 0 ∧ win0_0.index t 1 = win0_2.index t 0
    ∧ win0_1.index t 0 = win0_2.index t 1 / 7 ∧ win0_1.index t 1 = 0 ∧ win0_1.index t 2 = win0_2.index t 1 % 7)

theorem idx_bound : ∀ t : Fin cfg0.N, win0_2.index t 0 < 8 ∧ win0_2.index t 1 < 14 :=
  (by decide +kernel : ∀ t : Fin grid0.N, win0_2.index t 0 < 8 ∧ win0_2.index t 1 < 14)

/-- The first operand's block at point `t`, read at an index of its array. -/
theorem iblk0_apply (c : Dev nD) (t : Fin cfg0.N) (k : Fin 1920) (i : Fin 1024) (i' : Fin 8192)
    (h : i'.val = win0_2.index t 0 * 1024 + i.val) :
    iblk m c 0 t (ix2 k i) = A m c (ix2 k i') := by
  obtain ⟨h0, h1, -, -, -⟩ := idx_facts t
  unfold iblk
  rw [View.read_apply]
  show V m c main_arg0 _ = V m c main_arg0 _
  congr 1
  funext a
  apply Fin.ext
  match a with
  | ⟨0, _⟩ => show win0_0.index t 0 * 1920 + 1 * k.val = k.val; rw [h0]; omega
  | ⟨1, _⟩ => show win0_0.index t 1 * 1024 + 1 * i.val = i'.val; rw [h1]; omega

/-- The second operand's block at point `t`, read at an index of its array. -/
theorem iblk1_apply (c : Dev nD) (t : Fin cfg0.N) (k : Fin 1920) (o : Fin 1024) (o' : Fin 14336)
    (h : o'.val = win0_2.index t 1 * 1024 + o.val) :
    iblk m c 1 t (ix3 0 k o) = B2 m c (ix2 k o') := by
  obtain ⟨-, -, h0, h1, h2⟩ := idx_facts t
  have hb := (idx_bound t).2
  have ho := o.isLt
  unfold iblk B2
  rw [View.read_apply]
  show V m c main_arg1 _ = V m c main_arg1 _
  congr 1
  funext a
  apply Fin.ext
  match a with
  | ⟨0, _⟩ => show win0_1.index t 0 * 1 + 1 * 0 = o'.val / 7168; rw [h0]; omega
  | ⟨1, _⟩ => show win0_1.index t 1 * 1920 + 1 * k.val = k.val; rw [h1]; omega
  | ⟨2, _⟩ => show win0_1.index t 2 * 1024 + 1 * o.val = o'.val % 7168; rw [h2]; omega

/-- What point `t` writes back is its block of the whole product. -/
theorem flushed_eq (c : Dev nD) (t : Fin cfg0.N) :
    (dats m 0 c).flushed 2 t = (win0_2.blk t).view.read (Elt Ideal) (G m c) := by
  refine (Value.flushed2 m c t).trans ?_
  unfold out0_2
  rw [View.canon_unit_zero hz2, View.ld_unit_zero (S := S1x1920x1024) hz3, View.ld_unit_zero (S := S1920x1024) hz2]
  funext y
  rw [View.read_apply]
  obtain ⟨i, o, rfl⟩ : ∃ (i o : Fin 1024), y = ix2 i o := ⟨y 0, y 1, eq_ix2 y⟩
  refine (pay_apply _ _ i o).trans ?_
  have hi : win0_2.index t 0 * 1024 + i.val < 8192 := by
    have := (idx_bound t).1; have := i.isLt; omega
  have ho : win0_2.index t 1 * 1024 + o.val < 14336 := by
    have := (idx_bound t).2; have := o.isLt; omega
  have he : (win0_2.rect t).emb (ix2 i o) = (ix2 ⟨win0_2.index t 0 * 1024 + i.val, hi⟩ ⟨win0_2.index t 1 * 1024 + o.val, ho⟩ : S8192x14336.Idx) := by
    funext a
    apply Fin.ext
    match a with
    | ⟨0, _⟩ => show win0_2.index t 0 * 1024 + 1 * i.val = win0_2.index t 0 * 1024 + i.val; omega
    | ⟨1, _⟩ => show win0_2.index t 1 * 1024 + 1 * o.val = win0_2.index t 1 * 1024 + o.val; omega
  show _ = G m c ((win0_2.rect t).emb (ix2 i o))
  rw [he]
  show (∑ k : Fin 1920, (_ : EReal)) = ∑ k : Fin 1920, (A m c (ix2 k _) * B2 m c (ix2 k _) : EReal)
  exact Finset.sum_congr rfl fun k _ => congrArg₂ (HMul.hMul (α := EReal) (β := EReal)) (iblk0_apply m c t k i _ rfl) (iblk1_apply m c t k o _ rfl)

/-- Every block of the result is some point's. -/
theorem idx_onto : ∀ (i : Fin 8) (o : Fin 14), ∃ t : Fin cfg0.N, win0_2.index t 0 = i.val ∧ win0_2.index t 1 = o.val :=
  (by decide +kernel : ∀ (i : Fin 8) (o : Fin 14), ∃ t : Fin grid0.N, win0_2.index t 0 = i.val ∧ win0_2.index t 1 = o.val)

/-- The result array ends holding the whole product. -/
theorem final (c : Dev nD) : (dats m 0 c).arrAt 2 cfg0.N = G m c :=
  (dats m 0 c).arrAt_eq_of_cover 2 (G m c) (fun t _ => flushed_eq m c t) fun i => by
    have b0 : (i 0 : Nat) < 8192 := (i 0).isLt
    have b1 : (i 1 : Nat) < 14336 := (i 1).isLt
    obtain ⟨t, h0, h1⟩ := idx_onto ⟨(i 0 : Nat) / 1024, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; dsimp only; omega
    | ⟨1, _⟩ => show win0_2.index t 1 * 1024 ≤ (i 1 : Nat) ∧ (i 1 : Nat) < win0_2.index t 1 * 1024 + 1024
                rw [h1]; dsimp only; omega

/-- The run, read: the result array at the whole product, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Dw13Ideal.Hand

namespace Cert.Proof.Dw13Claims

open Cert.Dw13Ideal.Hand

/-- The reference's concatenation of the two halves, read at an index. -/
theorem ref_operand (x : (⟨Cert.Dw13RefIdeal.S2x1920x7168, .bf16⟩ : BufTy).Contents (Elt Ideal)) (k : Fin 1920) (o : Fin 14336) :
    Cert.Dw13RefIdeal.Read.val_main_v4 (F := Ideal) x (ix2 k o)
      = x (ix3 ⟨o.val / 7168, by omega⟩ k ⟨o.val % 7168, Nat.mod_lt _ (by omega)⟩) := by
  have ho := o.isLt
  have hk := k.isLt
  unfold Cert.Dw13RefIdeal.Read.val_main_v4
  rcases Nat.lt_or_ge o.val 7168 with h | h
  · refine (concatenate_pair_apply_left (t := Cert.Dw13RefIdeal.S1920x14336) (s₁ := Cert.Dw13RefIdeal.S1920x7168) (s₂ := Cert.Dw13RefIdeal.S1920x7168) _ _ _ _ _ rfl
        (ix2 k ⟨o.val, h⟩) (fun b => by fin_cases b <;> rfl)).trans ?_
    rw [Cert.Dw13RefIdeal.Read.val_main_v1_apply, Cert.Dw13RefIdeal.Read.val_main_v0_apply]
    congr 1
    funext a
    apply Fin.ext
    match a with
    | ⟨0, _⟩ => show 0 = o.val / 7168; omega
    | ⟨1, _⟩ => show (k.val * 7168 + o.val) / 7168 % 1920 = k.val; omega
    | ⟨2, _⟩ => show (k.val * 7168 + o.val) % 7168 = o.val % 7168; omega
  · obtain ⟨o2, ho2⟩ : ∃ o2 : Fin 7168, o2.val + 7168 = o.val := ⟨⟨o.val - 7168, by omega⟩, by dsimp only; omega⟩
    refine (concatenate_pair_apply_right (t := Cert.Dw13RefIdeal.S1920x14336) (s₁ := Cert.Dw13RefIdeal.S1920x7168) (s₂ := Cert.Dw13RefIdeal.S1920x7168) 1 _ _ _ (ix2 k o) rfl rfl
        (ix2 k o2) (fun b hb => by fin_cases b <;> first | rfl | exact absurd rfl hb) ho2).trans ?_
    rw [Cert.Dw13RefIdeal.Read.val_main_v3_apply, Cert.Dw13RefIdeal.Read.val_main_v2_apply]
    have h2 := o2.isLt
    congr 1
    funext a
    apply Fin.ext
    match a with
    | ⟨0, _⟩ => show 1 + 0 = o.val / 7168; omega
    | ⟨1, _⟩ => show (k.val * 7168 + o2.val) / 7168 % 1920 = k.val; omega
    | ⟨2, _⟩ => show (k.val * 7168 + o2.val) % 7168 = o.val % 7168; omega

/-- `dw13` at the ideal instance computes the reference's einsum. -/
theorem algebraic : Cert.algebraic_Dw13Ideal_Dw13RefIdeal := by
  intro m g m' g' _ hagree
  refine ⟨fun c => G m c, run m g, ?_⟩
  refine (θ_run Cert.Dw13RefIdeal.defs _ _).mono (fun _ h c => ⟨(h c).1.trans ?_, (h c).2⟩)
    (Cert.Dw13RefIdeal.Value.run (F := Ideal) m' g')
  rw [Cert.Dw13RefIdeal.Read.val_main_v6_eq, (hagree c).1, (hagree c).2]
  funext i
  rw [Cert.Dw13RefIdeal.Read.val_main_v6_apply, Cert.Dw13RefIdeal.Read.val_main_v5_apply]
  show (∑ k : Fin 1920, (_ : EReal)) = ∑ k : Fin 1920, A m c (ix2 k (i 0)) * B2 m c (ix2 k (i 1))
  refine Finset.sum_congr rfl fun k _ => ?_
  refine congrArg₂ (HMul.hMul (α := EReal) (β := EReal)) (congrArg (m _) (funext fun a => by fin_cases a <;> rfl)) ?_
  exact (congrArg _ (funext fun a => by fin_cases a <;> rfl)).trans (ref_operand (m ((c.tc : Thread Cert.Dw13Ideal.nD Cert.Dw13Ideal.τ).loc Cert.Dw13Ideal.main_arg1)) k (i 1))

end Cert.Proof.Dw13Claims

end
-- ==== Proof.Dw2Value.lean ====
/-
  The value of `dw2` at the ideal instance: the blocked weight gradient of the down projection is the whole product
  `act^T dy`, and the reference's einsum is the same sum.
-/
module

public import proofs.«01_k».proof.Defs
public import proofs.«01_k».proof.Proof.Gen.Dw2Ideal.Value
public import proofs.«01_k».proof.Proof.Gen.Dw2RefIdeal.Run
public import proofs.«01_k».proof.Proof.Gen.Dw2RefIdeal.Read
public import Idealize.ShloMosaic.Lib.Pipeline.Value
public import proofs.«01_k».proof.Proof.Product

@[expose] public section

noncomputable section

open Idealize.ShloMosaic Idealize.ShloMosaic.TcCoe Idealize.SL.Sem
open Idealize.ShloMosaic.Pipeline (Dat)

namespace Cert.Dw2Ideal.Hand

open Cert.Dw2Ideal Cert.Dw2Ideal.Gen Cert.Hand

variable (m : (ℓ : Loc nD τ sig) → Buf (Elt Ideal) ℓ) (ρ : Dev nD → PrngReg)

/-- One block's payload at an index: the sum over the rows of the products of the two loaded blocks. -/
theorem pay_apply (g a : Vec Ideal S1920x1024 .bf16) (i o : Fin 1024) :
    k0_pay1 (F := Ideal) g a (ix2 i o) = ∑ k : Fin 1920, a (ix2 k i) * g (ix2 k o) := by
  pointwise [k0_pay1, dot_S1920x1024_S1920x1024_S1024x1024_0_0_1_1_n_n]

/-- The first operand's array as the region finds it. -/
abbrev A (c : Dev nD) : S1920x7168.Idx → EReal := V (F := Ideal) m c main_arg0
/-- The second operand's array as the region finds it. -/
abbrev B (c : Dev nD) : S1920x8192.Idx → EReal := V (F := Ideal) m c main_v0

/-- The whole product: what the result array is shown to hold. -/
def G (c : Dev nD) : Buf (Elt Ideal) ((c : Thread nD τ).loc main_v1) :=
  rowsProd (A m c) (B m c)

/-- Where the three windows' blocks lie, at every grid point. -/
theorem idx_facts : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem idx_bound : ∀ t : Fin cfg0.N, win0_2.index t 0 < 7 ∧ win0_2.index t 1 < 8 :=
  (by decide +kernel : ∀ t : Fin grid0.N, win0_2.index t 0 < 7 ∧ win0_2.index t 1 < 8)

/-- The first operand's block at point `t`, read at an index of its array. -/
theorem iblk0_apply (c : Dev nD) (t : Fin cfg0.N) (k : Fin 1920) (i : Fin 1024) (i' : Fin 7168)
    (h : i'.val = win0_2.index t 0 * 1024 + i.val) :
    iblk m c 0 t (ix2 k i) = A m c (ix2 k i') := by
  obtain ⟨h0, h1, -, -⟩ := idx_facts t
  unfold iblk
  rw [View.read_apply]
  show V m c main_arg0 _ = V m c main_arg0 _
  congr 1
  funext a
  apply Fin.ext
  match a with
  | ⟨0, _⟩ => show win0_0.index t 0 * 1920 + 1 * k.val = k.val; rw [h0]; omega
  | ⟨1, _⟩ => show win0_0.index t 1 * 1024 + 1 * i.val = i'.val; rw [h1]; omega

/-- The second operand's block at point `t`, read at an index of its array. -/
theorem iblk1_apply (c : Dev nD) (t : Fin cfg0.N) (k : Fin 1920) (o : Fin 1024) (o' : Fin 8192)
    (h : o'.val = win0_2.index t 1 * 1024 + o.val) :
    iblk m c 1 t (ix2 k o) = B m c (ix2 k o') := by
  obtain ⟨-, -, h0, h1⟩ := idx_facts t
  unfold iblk
  rw [View.read_apply]
  show V m c main_v0 _ = V m c main_v0 _
  congr 1
  funext a
  apply Fin.ext
  match a with
  | ⟨0, _⟩ => show win0_1.index t 0 * 1920 + 1 * k.val = k.val; rw [h0]; omega
  | ⟨1, _⟩ => show win0_1.index t 1 * 1024 + 1 * o.val = o'.val; rw [h1]; omega

/-- What point `t` writes back is its block of the whole product. -/
theorem flushed_eq (c : Dev nD) (t : Fin cfg0.N) :
    (dats m 0 c).flushed 2 t = (win0_2.blk t).view.read (Elt Ideal) (G m c) := by
  refine (Value.flushed2 m c t).trans ?_
  unfold out0_2
  rw [View.canon_unit_zero hz2, View.ld_unit_zero (S := S1920x1024) hz2, View.ld_unit_zero (S := S1920x1024) hz2]
  funext y
  rw [View.read_apply]
  obtain ⟨i, o, rfl⟩ : ∃ (i o : Fin 1024), y = ix2 i o := ⟨y 0, y 1, eq_ix2 y⟩
  refine (pay_apply _ _ i o).trans ?_
  have hi : win0_2.index t 0 * 1024 + i.val < 7168 := by
    have := (idx_bound t).1; have := i.isLt; omega
  have ho : win0_2.index t 1 * 1024 + o.val < 8192 := by
    have := (idx_bound t).2; have := o.isLt; omega
  have he : (win0_2.rect t).emb (ix2 i o) = (ix2 ⟨win0_2.index t 0 * 1024 + i.val, hi⟩ ⟨win0_2.index t 1 * 1024 + o.val, ho⟩ : S7168x8192.Idx) := by
    funext a
    apply Fin.ext
    match a with
    | ⟨0, _⟩ => show win0_2.index t 0 * 1024 + 1 * i.val = win0_2.index t 0 * 1024 + i.val; omega
    | ⟨1, _⟩ => show win0_2.index t 1 * 1024 + 1 * o.val = win0_2.index t 1 * 1024 + o.val; omega
  show _ = G m c ((win0_2.rect t).emb (ix2 i o))
  rw [he]
  show (∑ k : Fin 1920, (_ : EReal)) = ∑ k : Fin 1920, (A m c (ix2 k _) * B m c (ix2 k _) : EReal)
  exact Finset.sum_congr rfl fun k _ => congrArg₂ (HMul.hMul (α := EReal) (β := EReal)) (iblk0_apply m c t k i _ rfl) (iblk1_apply m c t k o _ rfl)

/-- Every block of the result is some point's. -/
theorem idx_onto : ∀ (i : Fin 7) (o : Fin 8), ∃ t : Fin cfg0.N, win0_2.index t 0 = i.val ∧ win0_2.index t 1 = o.val :=
  (by decide +kernel : ∀ (i : Fin 7) (o : Fin 8), ∃ t : Fin grid0.N, win0_2.index t 0 = i.val ∧ win0_2.index t 1 = o.val)

/-- The result array ends holding the whole product. -/
theorem final (c : Dev nD) : (dats m 0 c).arrAt 2 cfg0.N = G m c :=
  (dats m 0 c).arrAt_eq_of_cover 2 (G m c) (fun t _ => flushed_eq m c t) fun i => by
    have b0 : (i 0 : Nat) < 7168 := (i 0).isLt
    have b1 : (i 1 : Nat) < 8192 := (i 1).isLt
    obtain ⟨t, h0, h1⟩ := idx_onto ⟨(i 0 : Nat) / 1024, by omega⟩ ⟨(i 1 : Nat) / 1024, by omega⟩
    refine ⟨t, flush0_2 t, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; dsimp only; omega
    | ⟨1, _⟩ => show win0_2.index t 1 * 1024 ≤ (i 1 : Nat) ∧ (i 1 : Nat) < win0_2.index t 1 * 1024 + 1024
                rw [h1]; dsimp only; omega

/-- The run, read: the result array at the whole product, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The second operand the region finds is the argument's batch and sequence axes flattened. -/
theorem B_eq (c : Dev nD) : B m c = Cert.Dw2RefIdeal.Read.val_main_v0 (F := Ideal) (m ((c : Thread nD τ).loc main_arg1)) := by
  unfold B V hostOps0 Cert.Dw2RefIdeal.Read.val_main_v0
  after_results <;> rfl

end Cert.Dw2Ideal.Hand

namespace Cert.Proof.Dw2Claims

open Cert.Dw2Ideal.Hand

/-- `dw2` at the ideal instance computes the reference's einsum. -/
theorem algebraic : Cert.algebraic_Dw2Ideal_Dw2RefIdeal := by
  intro m g m' g' _ hagree
  refine ⟨fun c => G m c, run m g, ?_⟩
  refine (θ_run Cert.Dw2RefIdeal.defs _ _).mono (fun _ h c => ⟨(h c).1.trans ?_, (h c).2⟩)
    (Cert.Dw2RefIdeal.Value.run (F := Ideal) m' g')
  rw [Cert.Dw2RefIdeal.Read.val_main_v2_eq, (hagree c).1, (hagree c).2]
  funext i
  rw [Cert.Dw2RefIdeal.Read.val_main_v2_apply, Cert.Dw2RefIdeal.Read.val_main_v1_apply]
  show (∑ k : Fin 1920, (_ : EReal)) = ∑ k : Fin 1920, A m c (ix2 k (i 0)) * B m c (ix2 k (i 1))
  refine Finset.sum_congr rfl fun k _ => ?_
  rw [B_eq]
  unfold A
  rw [Cert.Dw2Ideal.Gen.V_main_arg0]
  congr 2 <;> exact funext fun a => by fin_cases a <;> rfl

end Cert.Proof.Dw2Claims

end
-- ==== Proof.DwoValue.lean ====
/-
  The value of `dwo` at the ideal instance: the blocked weight gradient of the output projection is the whole product, and the
  reference's einsum is the same sum.
-/
module

public import proofs.«01_k».proof.Defs
public import proofs.«01_k».proof.Proof.Gen.DwoIdeal.Value
public import proofs.«01_k».proof.Proof.Gen.DwoRefIdeal.Run
public import proofs.«01_k».proof.Proof.Gen.DwoRefIdeal.Read
public import Idealize.ShloMosaic.Lib.Pipeline.Value
public import proofs.«01_k».proof.Proof.Product

@[expose] public section

noncomputable section

open Idealize.ShloMosaic Idealize.ShloMosaic.TcCoe Idealize.SL.Sem
open Idealize.ShloMosaic.Pipeline (Dat)

namespace Cert.DwoIdeal.Hand

open Cert.DwoIdeal Cert.DwoIdeal.Gen Cert.Hand

variable (m : (ℓ : Loc nD τ sig) → Buf (Elt Ideal) ℓ) (ρ : Dev nD → PrngReg)

/-- One block's payload at an index: the sum over the rows of the products of the two loaded blocks. -/
theorem pay_apply (g : Vec Ideal S1920x512 .f32) (a : Vec Ideal S1920x1024 .bf16) (i : Fin 1024) (o : Fin 512) :
    k0_pay1 (F := Ideal) g a (ix2 i o) = ∑ k : Fin 1920, a (ix2 k i) * g (ix2 k o) := by
  pointwise [k0_pay1, dot_S1920x1024_S1920x512_S1024x512_0_0_1_1_n_n]

/-- The first operand's array as the region finds it. -/
abbrev A (c : Dev nD) : S1920x2048.Idx → EReal := V (F := Ideal) m c main_arg0
/-- The second operand's array as the region finds it. -/
abbrev B (c : Dev nD) : S1920x8192.Idx → EReal := V (F := Ideal) m c main_arg1

/-- The whole product: what the result array is shown to hold. -/
def G (c : Dev nD) : Buf (Elt Ideal) ((c : Thread nD τ).loc main_v0) :=
  rowsProd (A m c) (B m c)

/-- Where the three windows' blocks lie, at every grid point. -/
theorem idx_facts : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem idx_bound : ∀ t : Fin cfg0.N, win0_2.index t 0 < 2 ∧ win0_2.index t 1 < 16 :=
  (by decide +kernel : ∀ t : Fin grid0.N, win0_2.index t 0 < 2 ∧ win0_2.index t 1 < 16)

/-- The first operand's block at point `t`, read at an index of its array. -/
theorem iblk0_apply (c : Dev nD) (t : Fin cfg0.N) (k : Fin 1920) (i : Fin 1024) (i' : Fin 2048)
    (h : i'.val = win0_2.index t 0 * 1024 + i.val) :
    iblk m c 0 t (ix2 k i) = A m c (ix2 k i') := by
  obtain ⟨h0, h1, -, -⟩ := idx_facts t
  unfold iblk
  rw [View.read_apply]
  show V m c main_arg0 _ = V m c main_arg0 _
  congr 1
  funext a
  apply Fin.ext
  match a with
  | ⟨0, _⟩ => show win0_0.index t 0 * 1920 + 1 * k.val = k.val; rw [h0]; omega
  | ⟨1, _⟩ => show win0_0.index t 1 * 1024 + 1 * i.val = i'.val; rw [h1]; omega

/-- The second operand's block at point `t`, read at an index of its array. -/
theorem iblk1_apply (c : Dev nD) (t : Fin cfg0.N) (k : Fin 1920) (o : Fin 512) (o' : Fin 8192)
    (h : o'.val = win0_2.index t 1 * 512 + o.val) :
    iblk m c 1 t (ix2 k o) = B m c (ix2 k o') := by
  obtain ⟨-, -, h0, h1⟩ := idx_facts t
  unfold iblk
  rw [View.read_apply]
  show V m c main_arg1 _ = V m c main_arg1 _
  congr 1
  funext a
  apply Fin.ext
  match a with
  | ⟨0, _⟩ => show win0_1.index t 0 * 1920 + 1 * k.val = k.val; rw [h0]; omega
  | ⟨1, _⟩ => show win0_1.index t 1 * 512 + 1 * o.val = o'.val; rw [h1]; omega

/-- What point `t` writes back is its block of the whole product. -/
theorem flushed_eq (c : Dev nD) (t : Fin cfg0.N) :
    (dats m 0 c).flushed 2 t = (win0_2.blk t).view.read (Elt Ideal) (G m c) := by
  refine (Value.flushed2 m c t).trans ?_
  unfold out0_2
  rw [View.canon_unit_zero hz2, View.ld_unit_zero (S := S1920x512) hz2, View.ld_unit_zero (S := S1920x1024) hz2]
  funext y
  rw [View.read_apply]
  obtain ⟨i, o, rfl⟩ : ∃ (i : Fin 1024) (o : Fin 512), y = ix2 i o := ⟨y 0, y 1, eq_ix2 y⟩
  refine (pay_apply _ _ i o).trans ?_
  have hi : win0_2.index t 0 * 1024 + i.val < 2048 := by
    have := (idx_bound t).1; have := i.isLt; omega
  have ho : win0_2.index t 1 * 512 + o.val < 8192 := by
    have := (idx_bound t).2; have := o.isLt; omega
  have he : (win0_2.rect t).emb (ix2 i o) = (ix2 ⟨win0_2.index t 0 * 1024 + i.val, hi⟩ ⟨win0_2.index t 1 * 512 + o.val, ho⟩ : S2048x8192.Idx) := by
    funext a
    apply Fin.ext
    match a with
    | ⟨0, _⟩ => show win0_2.index t 0 * 1024 + 1 * i.val = win0_2.index t 0 * 1024 + i.val; omega
    | ⟨1, _⟩ => show win0_2.index t 1 * 512 + 1 * o.val = win0_2.index t 1 * 512 + o.val; omega
  show _ = G m c ((win0_2.rect t).emb (ix2 i o))
  rw [he]
  show (∑ k : Fin 1920, (_ : EReal)) = ∑ k : Fin 1920, (A m c (ix2 k _) * B m c (ix2 k _) : EReal)
  exact Finset.sum_congr rfl fun k _ => congrArg₂ (HMul.hMul (α := EReal) (β := EReal)) (iblk0_apply m c t k i _ rfl) (iblk1_apply m c t k o _ rfl)

/-- Every block of the result is some point's. -/
theorem idx_onto : ∀ (i : Fin 2) (o : Fin 16), ∃ t : Fin cfg0.N, win0_2.index t 0 = i.val ∧ win0_2.index t 1 = o.val :=
  (by decide +kernel : ∀ (i : Fin 2) (o : Fin 16), ∃ t : Fin grid0.N, win0_2.index t 0 = i.val ∧ win0_2.index t 1 = o.val)

/-- The result array ends holding the whole product. -/
theorem final (c : Dev nD) : (dats m 0 c).arrAt 2 cfg0.N = G m c :=
  (dats m 0 c).arrAt_eq_of_cover 2 (G m c) (fun t _ => flushed_eq m c t) fun i => by
    have b0 : (i 0 : Nat) < 2048 := (i 0).isLt
    have b1 : (i 1 : Nat) < 8192 := (i 1).isLt
    obtain ⟨t, h0, h1⟩ := idx_onto ⟨(i 0 : Nat) / 1024, by omega⟩ ⟨(i 1 : Nat) / 512, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; dsimp only; omega
    | ⟨1, _⟩ => show win0_2.index t 1 * 512 ≤ (i 1 : Nat) ∧ (i 1 : Nat) < win0_2.index t 1 * 512 + 512
                rw [h1]; dsimp only; omega

/-- The run, read: the result array at the whole product, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.DwoIdeal.Hand

namespace Cert.Proof.DwoClaims

open Cert.DwoIdeal.Hand

/-- `dwo` at the ideal instance computes the reference's einsum. -/
theorem algebraic : Cert.algebraic_DwoIdeal_DwoRefIdeal := by
  intro m g m' g' _ hagree
  refine ⟨fun c => G m c, run m g, ?_⟩
  refine (θ_run Cert.DwoRefIdeal.defs _ _).mono (fun _ h c => ⟨(h c).1.trans ?_, (h c).2⟩)
    (Cert.DwoRefIdeal.Value.run (F := Ideal) m' g')
  rw [Cert.DwoRefIdeal.Read.val_main_v2_eq, (hagree c).1, (hagree c).2]
  funext i
  rw [Cert.DwoRefIdeal.Read.val_main_v2_apply, Cert.DwoRefIdeal.Read.val_main_v1_apply]
  show (∑ k : Fin 1920, (_ : EReal)) = ∑ k : Fin 1920, A m c (ix2 k (i 0)) * B m c (ix2 k (i 1))
  refine Finset.sum_congr rfl fun k _ => ?_
  congr 2 <;> exact funext fun a => by fin_cases a <;> rfl

end Cert.Proof.DwoClaims

end
-- ==== Proof.DwqkvValue.lean ====
/-
  The value of `dwqkv` at the ideal instance: the blocked weight gradient of the query, key and value projection is the whole product, and the
  reference's einsum is the same sum.
-/
module

public import proofs.«01_k».proof.Defs
public import proofs.«01_k».proof.Proof.Gen.DwqkvIdeal.Value
public import proofs.«01_k».proof.Proof.Gen.DwqkvRefIdeal.Run
public import proofs.«01_k».proof.Proof.Gen.DwqkvRefIdeal.Read
public import Idealize.ShloMosaic.Lib.Pipeline.Value
public import proofs.«01_k».proof.Proof.Product

@[expose] public section

noncomputable section

open Idealize.ShloMosaic Idealize.ShloMosaic.TcCoe Idealize.SL.Sem
open Idealize.ShloMosaic.Pipeline (Dat)

namespace Cert.DwqkvIdeal.Hand

open Cert.DwqkvIdeal Cert.DwqkvIdeal.Gen Cert.Hand

variable (m : (ℓ : Loc nD τ sig) → Buf (Elt Ideal) ℓ) (ρ : Dev nD → PrngReg)

/-- One block's payload at an index: the sum over the rows of the products of the two loaded blocks. -/
theorem pay_apply (g : Vec Ideal S1920x512 .bf16) (a : Vec Ideal S1920x1024 .bf16) (i : Fin 1024) (o : Fin 512) :
    k0_pay1 (F := Ideal) g a (ix2 i o) = ∑ k : Fin 1920, a (ix2 k i) * g (ix2 k o) := by
  pointwise [k0_pay1, dot_S1920x1024_S1920x512_S1024x512_0_0_1_1_n_n]

/-- The first operand's array as the region finds it. -/
abbrev A (c : Dev nD) : S1920x8192.Idx → EReal := V (F := Ideal) m c main_arg0
/-- The second operand's array as the region finds it. -/
abbrev B (c : Dev nD) : S1920x2560.Idx → EReal := V (F := Ideal) m c main_arg1

/-- The whole product: what the result array is shown to hold. -/
def G (c : Dev nD) : Buf (Elt Ideal) ((c : Thread nD τ).loc main_v0) :=
  rowsProd (A m c) (B m c)

/-- Where the three windows' blocks lie, at every grid point. -/
theorem idx_facts : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, win0_0.index t 0 = 0 ∧ win0_0.index t 1 = win0_2.index t 0
    ∧ win0_1.index t 0 = 0 ∧ win0_1.index t 1 = win0_2.index t 1)

theorem idx_bound : ∀ t : Fin cfg0.N, win0_2.index t 0 < 8 ∧ win0_2.index t 1 < 5 :=
  (by decide +kernel : ∀ t : Fin grid0.N, win0_2.index t 0 < 8 ∧ win0_2.index t 1 < 5)

/-- The first operand's block at point `t`, read at an index of its array. -/
theorem iblk0_apply (c : Dev nD) (t : Fin cfg0.N) (k : Fin 1920) (i : Fin 1024) (i' : Fin 8192)
    (h : i'.val = win0_2.index t 0 * 1024 + i.val) :
    iblk m c 0 t (ix2 k i) = A m c (ix2 k i') := by
  obtain ⟨h0, h1, -, -⟩ := idx_facts t
  unfold iblk
  rw [View.read_apply]
  show V m c main_arg0 _ = V m c main_arg0 _
  congr 1
  funext a
  apply Fin.ext
  match a with
  | ⟨0, _⟩ => show win0_0.index t 0 * 1920 + 1 * k.val = k.val; rw [h0]; omega
  | ⟨1, _⟩ => show win0_0.index t 1 * 1024 + 1 * i.val = i'.val; rw [h1]; omega

/-- The second operand's block at point `t`, read at an index of its array. -/
theorem iblk1_apply (c : Dev nD) (t : Fin cfg0.N) (k : Fin 1920) (o : Fin 512) (o' : Fin 2560)
    (h : o'.val = win0_2.index t 1 * 512 + o.val) :
    iblk m c 1 t (ix2 k o) = B m c (ix2 k o') := by
  obtain ⟨-, -, h0, h1⟩ := idx_facts t
  unfold iblk
  rw [View.read_apply]
  show V m c main_arg1 _ = V m c main_arg1 _
  congr 1
  funext a
  apply Fin.ext
  match a with
  | ⟨0, _⟩ => show win0_1.index t 0 * 1920 + 1 * k.val = k.val; rw [h0]; omega
  | ⟨1, _⟩ => show win0_1.index t 1 * 512 + 1 * o.val = o'.val; rw [h1]; omega

/-- What point `t` writes back is its block of the whole product. -/
theorem flushed_eq (c : Dev nD) (t : Fin cfg0.N) :
    (dats m 0 c).flushed 2 t = (win0_2.blk t).view.read (Elt Ideal) (G m c) := by
  refine (Value.flushed2 m c t).trans ?_
  unfold out0_2
  rw [View.canon_unit_zero hz2, View.ld_unit_zero (S := S1920x512) hz2, View.ld_unit_zero (S := S1920x1024) hz2]
  funext y
  rw [View.read_apply]
  obtain ⟨i, o, rfl⟩ : ∃ (i : Fin 1024) (o : Fin 512), y = ix2 i o := ⟨y 0, y 1, eq_ix2 y⟩
  refine (pay_apply _ _ i o).trans ?_
  have hi : win0_2.index t 0 * 1024 + i.val < 8192 := by
    have := (idx_bound t).1; have := i.isLt; omega
  have ho : win0_2.index t 1 * 512 + o.val < 2560 := by
    have := (idx_bound t).2; have := o.isLt; omega
  have he : (win0_2.rect t).emb (ix2 i o) = (ix2 ⟨win0_2.index t 0 * 1024 + i.val, hi⟩ ⟨win0_2.index t 1 * 512 + o.val, ho⟩ : S8192x2560.Idx) := by
    funext a
    apply Fin.ext
    match a with
    | ⟨0, _⟩ => show win0_2.index t 0 * 1024 + 1 * i.val = win0_2.index t 0 * 1024 + i.val; omega
    | ⟨1, _⟩ => show win0_2.index t 1 * 512 + 1 * o.val = win0_2.index t 1 * 512 + o.val; omega
  show _ = G m c ((win0_2.rect t).emb (ix2 i o))
  rw [he]
  show (∑ k : Fin 1920, (_ : EReal)) = ∑ k : Fin 1920, (A m c (ix2 k _) * B m c (ix2 k _) : EReal)
  exact Finset.sum_congr rfl fun k _ => congrArg₂ (HMul.hMul (α := EReal) (β := EReal)) (iblk0_apply m c t k i _ rfl) (iblk1_apply m c t k o _ rfl)

/-- Every block of the result is some point's. -/
theorem idx_onto : ∀ (i : Fin 8) (o : Fin 5), ∃ t : Fin cfg0.N, win0_2.index t 0 = i.val ∧ win0_2.index t 1 = o.val :=
  (by decide +kernel : ∀ (i : Fin 8) (o : Fin 5), ∃ t : Fin grid0.N, win0_2.index t 0 = i.val ∧ win0_2.index t 1 = o.val)

/-- The result array ends holding the whole product. -/
theorem final (c : Dev nD) : (dats m 0 c).arrAt 2 cfg0.N = G m c :=
  (dats m 0 c).arrAt_eq_of_cover 2 (G m c) (fun t _ => flushed_eq m c t) fun i => by
    have b0 : (i 0 : Nat) < 8192 := (i 0).isLt
    have b1 : (i 1 : Nat) < 2560 := (i 1).isLt
    obtain ⟨t, h0, h1⟩ := idx_onto ⟨(i 0 : Nat) / 1024, by omega⟩ ⟨(i 1 : Nat) / 512, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h0]; dsimp only; omega
    | ⟨1, _⟩ => show win0_2.index t 1 * 512 ≤ (i 1 : Nat) ∧ (i 1 : Nat) < win0_2.index t 1 * 512 + 512
                rw [h1]; dsimp only; omega

/-- The run, read: the result array at the whole product, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.DwqkvIdeal.Hand

namespace Cert.Proof.DwqkvClaims

open Cert.DwqkvIdeal.Hand

/-- `dwqkv` at the ideal instance computes the reference's einsum. -/
theorem algebraic : Cert.algebraic_DwqkvIdeal_DwqkvRefIdeal := by
  intro m g m' g' _ hagree
  refine ⟨fun c => G m c, run m g, ?_⟩
  refine (θ_run Cert.DwqkvRefIdeal.defs _ _).mono (fun _ h c => ⟨(h c).1.trans ?_, (h c).2⟩)
    (Cert.DwqkvRefIdeal.Value.run (F := Ideal) m' g')
  rw [Cert.DwqkvRefIdeal.Read.val_main_v1_eq, (hagree c).1, (hagree c).2]
  funext i
  rw [Cert.DwqkvRefIdeal.Read.val_main_v1_apply, Cert.DwqkvRefIdeal.Read.val_main_v0_apply]
  show (∑ k : Fin 1920, (_ : EReal)) = ∑ k : Fin 1920, A m c (ix2 k (i 0)) * B m c (ix2 k (i 1))
  refine Finset.sum_congr rfl fun k _ => ?_
  congr 2 <;> exact funext fun a => by fin_cases a <;> rfl

end Cert.Proof.DwqkvClaims

end
-- ==== Proof.Dxn2Value.lean ====
/-
  The value of `dxn2` at the ideal instance: the blocked input gradient of the gate and up projections is the whole
  product of the gradient codes with the weight codes, each row multiplied by its scale.
-/
module

public import proofs.«01_k».proof.Defs
public import proofs.«01_k».proof.Proof.Gen.Dxn2Ideal.Value
public import proofs.«01_k».proof.Proof.Product
public import Idealize.ShloMosaic.Lib.Pipeline.Value

@[expose] public section

noncomputable section

open Idealize.ShloMosaic Idealize.ShloMosaic.TcCoe Idealize.SL.Sem
open Idealize.ShloMosaic.Pipeline (Dat)

namespace Cert.Dxn2Ideal.Hand

open Cert.Dxn2Ideal Cert.Dxn2Ideal.Gen Cert.Hand

variable (m : (ℓ : Loc nD τ sig) → Buf (Elt Ideal) ℓ) (ρ : Dev nD → PrngReg)

/-- One row chunk's payload at an index, when every lane of a row's scale register holds `q r`. -/
theorem pay_apply (a : Vec Ideal S320x14336 .fp8e5m2) (w : Vec Ideal S256x14336 .fp8e4m3) (s : Vec Ideal S320x128 .f32)
    (q : Fin 320 → EReal) (hs : ∀ r l, s (ix2 r l) = q r) (r : Fin 320) (o : Fin 256) :
    k0_pay1 (F := Ideal) a w s (ix2 r o) = (∑ k : Fin 14336, a (ix2 r k) * w (ix2 o k)) * q r := by
  pointwise [k0_pay1, dot_S320x14336_S256x14336_S320x256_1_1_0_0_n_n, hs]
  simp only [dite_eq_ite, ite_self]

/-- The gradient codes, the replicated scales and the weight codes as the region finds them. -/
abbrev A (c : Dev nD) : S1920x14336.Idx → EReal := V (F := Ideal) m c main_arg0
abbrev S (c : Dev nD) : S1920x128.Idx → EReal := V (F := Ideal) m c main_v1
abbrev W (c : Dev nD) : S8192x14336.Idx → EReal := V (F := Ideal) m c main_arg2

/-- The row scale as one vector over the flattened rows. -/
def q (c : Dev nD) (r : Fin 1920) : EReal :=
  (m ((c : Thread nD τ).loc main_arg1) : S3x640.Idx → EReal) (ix2 ⟨r.val / 640, by omega⟩ ⟨r.val % 640, by omega⟩)

/-- Every lane of row `r` of the replicated scales is the row's scale. -/
theorem S_apply (c : Dev nD) (r : Fin 1920) (l : Fin 128) : S m c (ix2 r l) = q m c r := by
  have h : S m c = broadcastInDim S1920x128 ![0, 1] bcast_S1920x1_S1920x128_0_1
      (shapeCast S1920x1 (m ((c : Thread nD τ).loc main_arg1) : S3x640.Idx → EReal) shapeCasts_S3x640_S1920x1) := by
    unfold S V hostOps0
    after_results <;> rfl
  rw [h]
  unfold q
  have hr := r.isLt
  rw [broadcastInDim_apply _ _ _ _ (ix2 r 0 : S1920x1.Idx) (fun a => by fin_cases a <;> rfl)]
  exact shapeCast_apply (s := S3x640) (t := S1920x1) _ _ _ _ (by
    rw [Shape.rowMajor_val_two, Shape.rowMajor_val_two]
    show r.val / 640 * 640 + r.val % 640 = r.val * 1 + 0
    omega)

/-- Where the four windows' blocks lie, at every grid point. -/
theorem idx_facts : ∀ t : Fin cfg0.N, win0_0.index t 0 = 0 ∧ win0_0.index t 1 = 0 ∧ win0_1.index t 0 = 0 ∧ win0_1.index t 1 = 0
    ∧ win0_2.index t 0 = win0_3.index t 1 ∧ win0_2.index t 1 = 0 ∧ win0_3.index t 0 = 0 ∧ win0_3.index t 1 < 32 :=
  (by decide +kernel : ∀ t : Fin grid0.N, win0_0.index t 0 = 0 ∧ win0_0.index t 1 = 0 ∧ win0_1.index t 0 = 0 ∧ win0_1.index t 1 = 0
    ∧ win0_2.index t 0 = win0_3.index t 1 ∧ win0_2.index t 1 = 0 ∧ win0_3.index t 0 = 0 ∧ win0_3.index t 1 < 32)

/-- The gradient codes' block is the whole array, at every point. -/
theorem iblk0_apply (c : Dev nD) (t : Fin cfg0.N) (r : Fin 1920) (k : Fin 14336) :
    iblk m c 0 t (ix2 r k) = A m c (ix2 r k) := by
  obtain ⟨h0, h1, -⟩ := idx_facts t
  unfold iblk
  rw [View.read_apply]
  show V m c main_arg0 _ = V m c main_arg0 _
  congr 1
  funext a
  apply Fin.ext
  match a with
  | ⟨0, _⟩ => show win0_0.index t 0 * 1920 + 1 * r.val = r.val; rw [h0]; omega
  | ⟨1, _⟩ => show win0_0.index t 1 * 14336 + 1 * k.val = k.val; rw [h1]; omega

/-- So is the scales' block. -/
theorem iblk1_apply (c : Dev nD) (t : Fin cfg0.N) (r : Fin 1920) (l : Fin 128) :
    iblk m c 1 t (ix2 r l) = q m c r := by
  obtain ⟨-, -, h0, h1, -⟩ := idx_facts t
  refine Eq.trans ?_ (S_apply m c r l)
  unfold iblk
  rw [View.read_apply]
  show V m c main_v1 _ = V m c main_v1 _
  congr 1
  funext a
  apply Fin.ext
  match a with
  | ⟨0, _⟩ => show win0_1.index t 0 * 1920 + 1 * r.val = r.val; rw [h0]; omega
  | ⟨1, _⟩ => show win0_1.index t 1 * 128 + 1 * l.val = l.val; rw [h1]; omega

/-- The weight codes' block at point `t`, read at an index of its array. -/
theorem iblk2_apply (c : Dev nD) (t : Fin cfg0.N) (o : Fin 256) (k : Fin 14336) (o' : Fin 8192)
    (h : o'.val = win0_3.index t 1 * 256 + o.val) :
    iblk m c 2 t (ix2 o k) = W m c (ix2 o' k) := by
  obtain ⟨-, -, -, -, h0, h1, -⟩ := idx_facts t
  unfold iblk
  rw [View.read_apply]
  show V m c main_arg2 _ = V m c main_arg2 _
  congr 1
  funext a
  apply Fin.ext
  match a with
  | ⟨0, _⟩ => show win0_2.index t 0 * 256 + 1 * o.val = o'.val; rw [h0]; omega
  | ⟨1, _⟩ => show win0_2.index t 1 * 14336 + 1 * k.val = k.val; rw [h1]; omega

/-- The six row chunks of one block, put together: the product of the loaded blocks with each row scaled. -/
theorem out_apply (x0 : Vec Ideal S1920x14336 .fp8e5m2) (x1 : Vec Ideal S1920x128 .f32) (x2 : Vec Ideal S256x14336 .fp8e4m3)
    (q : Fin 1920 → EReal) (hs : ∀ r l, x1 (ix2 r l) = q r) (r : Fin 1920) (o : Fin 256) :
    out0_3 (F := Ideal) x0 x1 x2 (ix2 r o) = (∑ k : Fin 14336, x0 (ix2 r k) * x2 (ix2 o k)) * q r := by
  unfold out0_3
  have key : ∀ (b : Nat) (hb : b + 320 ≤ 1920) (i0 : ∀ a, (![b, 0] : Fin 2 → Nat) a + S320x14336.size a ≤ S1920x14336.size a)
      (i1 : ∀ a, (![b, 0] : Fin 2 → Nat) a + S320x128.size a ≤ S1920x128.size a)
      (i3 : ∀ a, (![b, 0] : Fin 2 → Nat) a + S320x256.size a ≤ S1920x256.size a) (x : S320x256.Idx),
      k0_pay1 (F := Ideal) (View.ld x0 (Rect.unit (s := S1920x14336) ![b, 0] S320x14336.size i0)) (View.ld x2 r0_1)
        (View.ld x1 (Rect.unit (s := S1920x128) ![b, 0] S320x128.size i1)) x
      = scaledProd x0 x2 q ((Rect.unit (s := S1920x256) ![b, 0] S320x256.size i3).emb x) := by
    intro b hb i0 i1 i3 x
    obtain ⟨r, o, rfl⟩ : ∃ (r : Fin 320) (o : Fin 256), x = ix2 r o := ⟨x 0, x 1, eq_ix2 x⟩
    have hr := r.isLt
    have e : (Rect.unit (s := S1920x256) ![b, 0] S320x256.size i3).emb (ix2 r o)
        = (ix2 ⟨b + r.val, by omega⟩ o : S1920x256.Idx) := by
      funext a
      apply Fin.ext
      match a with
      | ⟨0, _⟩ => show b + 1 * r.val = b + r.val; omega
      | ⟨1, _⟩ => show 0 + 1 * o.val = o.val; omega
    rw [e]
    refine (pay_apply _ _ _ (fun r => q ⟨b + r.val, by omega⟩) (fun r l => ?_) r o).trans ?_
    · refine Eq.trans (congrArg x1 ?_) (hs ⟨b + r.val, by omega⟩ l)
      funext a
      apply Fin.ext
      match a with
      | ⟨0, _⟩ => show b + 1 * r.val = b + r.val; omega
      | ⟨1, _⟩ => show 0 + 1 * l.val = l.val; omega
    · rw [View.ld_unit_zero (S := S256x14336) hz2]
      refine congrArg (fun z : EReal => z * q ⟨b + r.val, by omega⟩) (Finset.sum_congr rfl fun k _ => ?_)
      refine congrArg (fun z : EReal => z * x2 (ix2 o k)) (congrArg x0 ?_)
      funext a
      apply Fin.ext
      match a with
      | ⟨0, _⟩ => show b + 1 * r.val = b + r.val; omega
      | ⟨1, _⟩ => show 0 + 1 * k.val = k.val; omega
  refine View.canon_apply_of_pieces (Val := Elt Ideal) (S := S1920x256) (e := .f32) (scaledProd x0 x2 q) _ ?_ (ix2 r o)
    (cover0_3 _ _ _ _ _ _ _)
  intro p hp
  simp only [List.mem_cons, List.not_mem_nil, or_false] at hp
  rcases hp with rfl | rfl | rfl | rfl | rfl | rfl
  · exact key 1600 (by omega) inb_S1920x14336_S320x14336_1600_0 inb_S1920x128_S320x128_1600_0 inb_S1920x256_S320x256_1600_0
  · exact key 1280 (by omega) inb_S1920x14336_S320x14336_1280_0 inb_S1920x128_S320x128_1280_0 inb_S1920x256_S320x256_1280_0
  · exact key 960 (by omega) inb_S1920x14336_S320x14336_960_0 inb_S1920x128_S320x128_960_0 inb_S1920x256_S320x256_960_0
  · exact key 640 (by omega) inb_S1920x14336_S320x14336_640_0 inb_S1920x128_S320x128_640_0 inb_S1920x256_S320x256_640_0
  · exact key 320 (by omega) inb_S1920x14336_S320x14336_320_0 inb_S1920x128_S320x128_320_0 inb_S1920x256_S320x256_320_0
  · exact key 0 (by omega) inb_S1920x14336_S320x14336_0_0 inb_S1920x128_S320x128_0_0 inb_S1920x256_S320x256_0_0

/-- The whole scaled product: what the result array is shown to hold. -/
def G (c : Dev nD) : Buf (Elt Ideal) ((c : Thread nD τ).loc main_v2) :=
  scaledProd (A m c) (W m c) (q m c)

/-- What point `t` writes back is its block of the whole scaled product. -/
theorem flushed_eq (c : Dev nD) (t : Fin cfg0.N) :
    (dats m 0 c).flushed 3 t = (win0_3.blk t).view.read (Elt Ideal) (G m c) := by
  refine (Value.flushed3 m c t).trans ?_
  funext y
  rw [View.read_apply]
  obtain ⟨r, o, rfl⟩ : ∃ (r : Fin 1920) (o : Fin 256), y = ix2 r o := ⟨y 0, y 1, eq_ix2 y⟩
  refine (out_apply _ _ _ (q m c) (iblk1_apply m c t) r o).trans ?_
  obtain ⟨-, -, -, -, -, -, h0, h1⟩ := idx_facts t
  have ho : win0_3.index t 1 * 256 + o.val < 8192 := by have := o.isLt; omega
  have he : (win0_3.rect t).emb (ix2 r o) = (ix2 r ⟨win0_3.index t 1 * 256 + o.val, ho⟩ : S1920x8192.Idx) := by
    funext a
    apply Fin.ext
    match a with
    | ⟨0, _⟩ => show win0_3.index t 0 * 1920 + 1 * r.val = r.val; rw [h0]; omega
    | ⟨1, _⟩ => show win0_3.index t 1 * 256 + 1 * o.val = win0_3.index t 1 * 256 + o.val; omega
  show _ = G m c ((win0_3.rect t).emb (ix2 r o))
  rw [he]
  refine congrArg (fun z : EReal => z * q m c r) ?_
  exact Finset.sum_congr rfl fun k _ => congrArg₂ (HMul.hMul (α := EReal) (β := EReal)) (iblk0_apply m c t r k) (iblk2_apply m c t o k _ rfl)

/-- Every block of the result is some point's. -/
theorem idx_onto : ∀ o : Fin 32, ∃ t : Fin cfg0.N, win0_3.index t 0 = 0 ∧ win0_3.index t 1 = o.val :=
  (by decide +kernel : ∀ o : Fin 32, ∃ t : Fin grid0.N, win0_3.index t 0 = 0 ∧ win0_3.index t 1 = o.val)

/-- The result array ends holding the whole scaled product. -/
theorem final (c : Dev nD) : (dats m 0 c).arrAt 3 cfg0.N = G m c :=
  (dats m 0 c).arrAt_eq_of_cover 3 (G m c) (fun t _ => flushed_eq m c t) fun i => by
    have b0 : (i 0 : Nat) < 1920 := (i 0).isLt
    have b1 : (i 1 : Nat) < 8192 := (i 1).isLt
    obtain ⟨t, h0, h1⟩ := idx_onto ⟨(i 1 : Nat) / 256, by omega⟩
    refine ⟨t, flush0_3 t, ?_⟩
    show i ∈ ((View.whole main_v2).slice (win0_3.rect t)).set
    rw [View.set_slice_whole, Rect.mem_set_unit]
    intro a
    match a with
    | ⟨0, _⟩ => show win0_3.index t 0 * 1920 ≤ (i 0 : Nat) ∧ (i 0 : Nat) < win0_3.index t 0 * 1920 + 1920
                rw [h0]; omega
    | ⟨1, _⟩ => show win0_3.index t 1 * 256 ≤ (i 1 : Nat) ∧ (i 1 : Nat) < win0_3.index t 1 * 256 + 256
                rw [h1]; dsimp only; omega

/-- The run, read: the result array at the whole scaled product, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Dxn2Ideal.Hand

end
-- ==== Proof.Dxn2Ref.lean ====
/-
  The value of `dxn2`'s reference at the ideal instance, and the claim: kernel and reference are the same scaled product.
-/
module

public import proofs.«01_k».proof.Defs
public import proofs.«01_k».proof.Proof.Gen.Dxn2RefIdeal.Value
public import proofs.«01_k».proof.Proof.Dxn2Value
public import proofs.«01_k».proof.Proof.Product
public import Idealize.ShloMosaic.Lib.Pipeline.Value

@[expose] public section

noncomputable section

open Idealize.ShloMosaic Idealize.ShloMosaic.TcCoe Idealize.SL.Sem
open Idealize.ShloMosaic.Pipeline (Dat)

namespace Cert.Dxn2RefIdeal.Hand

open Cert.Dxn2RefIdeal Cert.Dxn2RefIdeal.Gen Cert.Hand

variable (m : (ℓ : Loc nD τ sig) → Buf (Elt Ideal) ℓ) (ρ : Dev nD → PrngReg)

/-- The reference body's result at an index. -/
theorem pay_apply (a : Vec Ideal S1920x14336 .fp8e5m2) (w : Vec Ideal S8192x14336 .fp8e4m3) (s : Vec Ideal S1920x1 .f32)
    (r : Fin 1920) (o : Fin 8192) :
    k0_pay1 (F := Ideal) a w s (ix2 r o) = (∑ k : Fin 14336, a (ix2 r k) * w (ix2 o k)) * s (ix2 r 0) := by
  pointwise [k0_pay1, dot_S1920x14336_S8192x14336_S1920x8192_1_1_0_0_n_n]

/-- The gradient codes, the scale column and the weight codes as the region finds them. -/
abbrev A (c : Dev nD) : S1920x14336.Idx → EReal := V (F := Ideal) m c main_arg0
abbrev S (c : Dev nD) : S1920x1.Idx → EReal := V (F := Ideal) m c main_v0
abbrev W (c : Dev nD) : S8192x14336.Idx → EReal := V (F := Ideal) m c main_arg2

/-- The row scale as one vector over the flattened rows. -/
def q (c : Dev nD) (r : Fin 1920) : EReal :=
  (m ((c : Thread nD τ).loc main_arg1) : S3x640.Idx → EReal) (ix2 ⟨r.val / 640, by omega⟩ ⟨r.val % 640, by omega⟩)

theorem S_apply (c : Dev nD) (r : Fin 1920) : S m c (ix2 r 0) = q m c r := by
  have h : S m c = shapeCast S1920x1 (m ((c : Thread nD τ).loc main_arg1) : S3x640.Idx → EReal) shapeCasts_S3x640_S1920x1 := by
    unfold S V hostOps0
    after_results <;> rfl
  rw [h]
  unfold q
  have hr := r.isLt
  exact shapeCast_apply (s := S3x640) (t := S1920x1) _ _ _ _ (by
    rw [Shape.rowMajor_val_two, Shape.rowMajor_val_two]
    show r.val / 640 * 640 + r.val % 640 = r.val * 1 + 0
    omega)

theorem iblk0_eq (c : Dev nD) (t : Fin cfg0.N) : iblk m c 0 t = A m c := by
  unfold iblk
  funext y
  rw [View.read_apply]
  show V m c main_arg0 _ = V m c main_arg0 _
  congr 1
  funext a
  apply Fin.ext
  match a with
  | ⟨0, _⟩ => show 0 * 1920 + 1 * (y 0).val = (y 0).val; omega
  | ⟨1, _⟩ => show 0 * 14336 + 1 * (y 1).val = (y 1).val; omega

theorem iblk1_eq (c : Dev nD) (t : Fin cfg0.N) : iblk m c 1 t = S m c := by
  unfold iblk
  funext y
  rw [View.read_apply]
  show V m c main_v0 _ = V m c main_v0 _
  congr 1
  funext a
  apply Fin.ext
  match a with
  | ⟨0, _⟩ => show 0 * 1920 + 1 * (y 0).val = (y 0).val; omega
  | ⟨1, _⟩ => show 0 * 1 + 1 * (y 1).val = (y 1).val; omega

theorem iblk2_eq (c : Dev nD) (t : Fin cfg0.N) : iblk m c 2 t = W m c := by
  unfold iblk
  funext y
  rw [View.read_apply]
  show V m c main_arg2 _ = V m c main_arg2 _
  congr 1
  funext a
  apply Fin.ext
  match a with
  | ⟨0, _⟩ => show 0 * 8192 + 1 * (y 0).val = (y 0).val; omega
  | ⟨1, _⟩ => show 0 * 14336 + 1 * (y 1).val = (y 1).val; omega

/-- The scaled product of the arguments: what the reference's result array is shown to hold. -/
def G (c : Dev nD) : Buf (Elt Ideal) ((c : Thread nD τ).loc main_v1) :=
  scaledProd (A m c) (W m c) (q m c)

/-- The one point writes back the whole array. -/
theorem flushed_eq (c : Dev nD) (t : Fin cfg0.N) :
    (dats m 0 c).flushed 3 t = (win0_3.blk t).view.read (Elt Ideal) (G m c) := by
  refine (Value.flushed3 m c t).trans ?_
  unfold out0_3
  rw [View.canon_unit_zero hz2, View.ld_unit_zero (S := S1920x14336) hz2, View.ld_unit_zero (S := S8192x14336) hz2,
    View.ld_unit_zero (S := S1920x1) hz2, iblk0_eq, iblk1_eq, iblk2_eq]
  funext y
  rw [View.read_apply]
  obtain ⟨r, o, rfl⟩ : ∃ (r : Fin 1920) (o : Fin 8192), y = ix2 r o := ⟨y 0, y 1, eq_ix2 y⟩
  refine (pay_apply _ _ _ r o).trans ?_
  rw [S_apply]
  have he : (win0_3.rect t).emb (ix2 r o) = (ix2 r o : S1920x8192.Idx) := by
    funext a
    apply Fin.ext
    match a with
    | ⟨0, _⟩ => show 0 * 1920 + 1 * r.val = r.val; omega
    | ⟨1, _⟩ => show 0 * 8192 + 1 * o.val = o.val; omega
  show _ = G m c ((win0_3.rect t).emb (ix2 r o))
  rw [he]
  rfl

/-- The result array ends holding the whole scaled product. -/
theorem final (c : Dev nD) : (dats m 0 c).arrAt 3 cfg0.N = G m c :=
  (dats m 0 c).arrAt_eq_of_cover 3 (G m c) (fun t _ => flushed_eq m c t) fun i => by
    have b0 : (i 0 : Nat) < 1920 := (i 0).isLt
    have b1 : (i 1 : Nat) < 8192 := (i 1).isLt
    have hN : cfg0.N = 1 := N_0
    obtain ⟨t⟩ : Nonempty (Fin cfg0.N) := ⟨⟨0, by omega⟩⟩
    refine ⟨t, flush0_3 t, ?_⟩
    show i ∈ ((View.whole main_v1).slice (win0_3.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 8192 ≤ (i 1 : Nat) ∧ (i 1 : Nat) < 0 * 8192 + 8192; omega

/-- The reference's run, read. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Dxn2RefIdeal.Hand

namespace Cert.Proof.Dxn2Claims

/-- `dxn2` at the ideal instance computes the reference's scaled product. -/
theorem algebraic : Cert.algebraic_Dxn2Ideal_Dxn2RefIdeal := by
  intro m g m' g' _ hagree
  refine ⟨fun c => Cert.Dxn2Ideal.Hand.G m c, Cert.Dxn2Ideal.Hand.run m g, ?_⟩
  refine (θ_run Cert.Dxn2RefIdeal.defs _ _).mono (fun _ h c => ⟨(h c).1.trans ?_, (h c).2⟩)
    (Cert.Dxn2RefIdeal.Hand.run m' g')
  have hA : Cert.Dxn2RefIdeal.Hand.A m' c = Cert.Dxn2Ideal.Hand.A m c :=
    (Cert.Dxn2RefIdeal.Gen.V_main_arg0 m' c).trans ((hagree c).1.trans (Cert.Dxn2Ideal.Gen.V_main_arg0 m c).symm)
  have hW : Cert.Dxn2RefIdeal.Hand.W m' c = Cert.Dxn2Ideal.Hand.W m c :=
    (Cert.Dxn2RefIdeal.Gen.V_main_arg2 m' c).trans ((hagree c).2.2.trans (Cert.Dxn2Ideal.Gen.V_main_arg2 m c).symm)
  have hq : Cert.Dxn2RefIdeal.Hand.q m' c = Cert.Dxn2Ideal.Hand.q m c := by
    funext r
    exact congrFun (hagree c).2.1 _
  unfold Cert.Dxn2RefIdeal.Hand.G
  rw [hA, hW, hq]
  rfl

end Cert.Proof.Dxn2Claims

end
-- ==== Proof.Linear.lean ====
/-
  The fp8 linear layer and the rotary embedding over the extended reals: what the blocked projection and its reference are
  both shown to be.
-/
module

public import Idealize.ShloMosaic.Lib.Pointwise

@[expose] public section

noncomputable section

open Idealize.ShloMosaic

namespace Cert.Hand

/-- `A W` with row `r` multiplied by `q r` and column `o` by `g o`. -/
def linear {R K N : Nat} (A : (⟨2, ![R, K]⟩ : Shape).Idx → EReal) (q : Fin R → EReal)
    (W : (⟨2, ![K, N]⟩ : Shape).Idx → EReal) (g : Fin N → EReal) (r : Fin R) (o : Fin N) : EReal :=
  (∑ k : Fin K, A (ix2 r k) * W (ix2 k o)) * q r * g o

/-- The rotary embedding of the first 18 heads of 128 columns: the first half of a head turned against the second;
    the last two heads (the values) as they are. -/
def turned {R : Nat} (y : Fin R → Fin 2560 → EReal) (C S : Fin R → Fin 64 → EReal) (r : Fin R) (o : Fin 2560) : EReal :=
  if h : o.val < 2304 then
    if h2 : o.val % 128 < 64 then
      y r o * C r ⟨o.val % 128, h2⟩ - y r ⟨o.val + 64, by omega⟩ * S r ⟨o.val % 128, h2⟩
    else
      y r o * C r ⟨o.val % 128 - 64, by omega⟩ + y r ⟨o.val - 64, by omega⟩ * S r ⟨o.val % 128 - 64, by omega⟩
  else y r o

/-- Row `r` of the flattened batch, as batch and position. -/
def bs (r : Fin 1920) : (⟨2, ![3, 640]⟩ : Shape).Idx := ix2 ⟨r.val / 640, by omega⟩ ⟨r.val % 640, by omega⟩

end Cert.Hand

end
-- ==== Proof.QkvValue.lean ====
/-
  The value of `qkv` at the ideal instance: each block of 256 columns is the scaled product of the activation codes with
  the weight codes, its query and key heads turned by the rotary embedding.
-/
module

public import proofs.«01_k».proof.Defs
public import proofs.«01_k».proof.Proof.Gen.QkvIdeal.Value
public import proofs.«01_k».proof.Proof.Product
public import proofs.«01_k».proof.Proof.Linear
public import Idealize.ShloMosaic.Lib.Pipeline.Value

@[expose] public section

noncomputable section

open Idealize.ShloMosaic Idealize.ShloMosaic.TcCoe Idealize.SL.Sem
open Idealize.ShloMosaic.Pipeline (Dat)

namespace Cert.QkvIdeal.Hand

open Cert.QkvIdeal Cert.QkvIdeal.Gen Cert.Hand

variable (m : (ℓ : Loc nD τ sig) → Buf (Elt Ideal) ℓ) (ρ : Dev nD → PrngReg)

/-- One block's scaled product at an index, when every lane of a row's scale register holds `q r`. -/
theorem pay1_apply (a : Vec Ideal S1920x8192 .fp8e4m3) (w : Vec Ideal S8192x256 .fp8e4m3) (s : Vec Ideal S1920x128 .f32)
    (g : Vec Ideal S1x256 .f32) (q : Fin 1920 → EReal) (hs : ∀ r l, s (ix2 r l) = q r) (r : Fin 1920) (o : Fin 256) :
    k0_pay1 (F := Ideal) a w s g (ix2 r o) = linear a q w (fun o => g (ix2 0 o)) r o := by
  unfold linear
  pointwise [k0_pay1, dot_S1920x8192_S8192x256_S1920x256_1_0_0_1_n_n, hs]
  simp only [dite_eq_ite, ite_self]

/-- The comparison of the grid coordinate with the number of turned blocks. -/
theorem slt9 : ∀ n : Fin 10, Scalar.cmpi .slt (BitVec.ofNat 32 n.val) 9#32 = if n.val < 9 then 1#1 else 0#1 := by
  decide

/-- The head at column offset `b` of a block. -/
theorem head_apply (b : Nat) (hb : b + 128 ≤ 256) (y : FVec Ideal S1920x256 .f32)
    (h : S1920x256.Slices ![0, b] S1920x128) (r : Fin 1920) (l : Fin 128) :
    extractStridedSlice S1920x128 ![0, b] y h (ix2 r l) = y (ix2 r ⟨b + l.val, by omega⟩) :=
  extractStridedSlice_apply (s := S1920x256) (t := S1920x128) _ y h (ix2 r l) _ (fun a => by
    match a with
    | ⟨0, _⟩ => show r.val = 0 + r.val; omega
    | ⟨1, _⟩ => rfl)

/-- What a head's store holds: the turned head in the first nine blocks, the head itself in the last. -/
def headVal (n : Nat) (y : Fin 128 → EReal) (c s : Fin 128 → EReal) (l : Fin 128) : EReal :=
  if n < 9 then y l * c l + y ⟨(l.val + 128 - 64) % 128, by omega⟩ * s l else y l

theorem select_slt {α : Type} (n : Fin 10) (x y : α) :
    Scalar.select (Scalar.cmpi .slt (BitVec.ofNat 32 n.val) 9#32) x y = if n.val < 9 then x else y := by
  rw [slt9]
  by_cases h : n.val < 9
  · rw [if_pos h, if_pos h]; rfl
  · rw [if_neg h, if_neg h]; rfl

theorem pay2_apply (i : grid0.Coords) (v0 : Vec Ideal S1920x8192 .fp8e4m3) (v1 : Vec Ideal S8192x256 .fp8e4m3)
    (v3 : Vec Ideal S1920x128 .f32) (v7 : Vec Ideal S1x256 .f32) (c s : Vec Ideal S1920x128 .f32) (r : Fin 1920) (l : Fin 128) :
    k0_pay2 (F := Ideal) i v0 v1 v3 v7 c s (ix2 r l)
      = headVal (i 0).val (fun l => k0_pay1 (F := Ideal) v0 v1 v3 v7 (ix2 r ⟨0 + l.val, by omega⟩)) (fun l => c (ix2 r l))
          (fun l => s (ix2 r l)) l := by
  unfold k0_pay2 headVal
  dsimp only
  rw [select_slt (i 0)]
  generalize k0_pay1 (F := Ideal) v0 v1 v3 v7 = y
  split
  · pointwise [head_apply 0 (by omega)]
  · pointwise [head_apply 0 (by omega)]

theorem pay3_apply (i : grid0.Coords) (v0 : Vec Ideal S1920x8192 .fp8e4m3) (v1 : Vec Ideal S8192x256 .fp8e4m3)
    (v3 : Vec Ideal S1920x128 .f32) (v7 : Vec Ideal S1x256 .f32) (c s : Vec Ideal S1920x128 .f32) (r : Fin 1920) (l : Fin 128) :
    k0_pay3 (F := Ideal) i v0 v1 v3 v7 c s (ix2 r l)
      = headVal (i 0).val (fun l => k0_pay1 (F := Ideal) v0 v1 v3 v7 (ix2 r ⟨128 + l.val, by omega⟩)) (fun l => c (ix2 r l))
          (fun l => s (ix2 r l)) l := by
  unfold k0_pay3 headVal
  dsimp only
  rw [select_slt (i 0)]
  generalize k0_pay1 (F := Ideal) v0 v1 v3 v7 = y
  split
  · pointwise [head_apply 128 (by omega)]
  · pointwise [head_apply 128 (by omega)]

/-- The activation codes, the replicated row scales, the weight codes, the column scales and the rotary tables as the
    region finds them. -/
abbrev A (c : Dev nD) : S1920x8192.Idx → EReal := V (F := Ideal) m c main_arg0
abbrev S (c : Dev nD) : S1920x128.Idx → EReal := V (F := Ideal) m c main_v6
abbrev W (c : Dev nD) : S8192x2560.Idx → EReal := V (F := Ideal) m c main_arg2
abbrev WS (c : Dev nD) : S1x2560.Idx → EReal := V (F := Ideal) m c main_v7
abbrev C2 (c : Dev nD) : S1920x128.Idx → EReal := V (F := Ideal) m c main_v1
abbrev S2 (c : Dev nD) : S1920x128.Idx → EReal := V (F := Ideal) m c main_v4

/-- The row scale, the column scale, the cosines and the sines over the flattened rows. -/
def q (c : Dev nD) (r : Fin 1920) : EReal := (m ((c : Thread nD τ).loc main_arg1) : S3x640.Idx → EReal) (bs r)
def g (c : Dev nD) (o : Fin 2560) : EReal := (m ((c : Thread nD τ).loc main_arg3) : S2560.Idx → EReal) (ix1 o)
def co (c : Dev nD) (r : Fin 1920) (l : Fin 64) : EReal :=
  (m ((c : Thread nD τ).loc main_arg4) : S3x640x64.Idx → EReal) (ix3 ⟨r.val / 640, by omega⟩ ⟨r.val % 640, by omega⟩ l)
def si (c : Dev nD) (r : Fin 1920) (l : Fin 64) : EReal :=
  (m ((c : Thread nD τ).loc main_arg5) : S3x640x64.Idx → EReal) (ix3 ⟨r.val / 640, by omega⟩ ⟨r.val % 640, by omega⟩ l)

theorem S_apply (c : Dev nD) (r : Fin 1920) (l : Fin 128) : S m c (ix2 r l) = q m c r := by
  have h : S m c = broadcastInDim S1920x128 ![0, 1] bcast_S1920x1_S1920x128_0_1
      (shapeCast S1920x1 (m ((c : Thread nD τ).loc main_arg1) : S3x640.Idx → EReal) shapeCasts_S3x640_S1920x1) := by
    unfold S V hostOps0
    after_results <;> rfl
  rw [h]
  unfold q bs
  have hr := r.isLt
  rw [broadcastInDim_apply _ _ _ _ (ix2 r 0 : S1920x1.Idx) (fun a => by fin_cases a <;> rfl)]
  exact shapeCast_apply (s := S3x640) (t := S1920x1) _ _ _ _ (by
    rw [Shape.rowMajor_val_two, Shape.rowMajor_val_two]
    show r.val / 640 * 640 + r.val % 640 = r.val * 1 + 0
    omega)

theorem WS_apply (c : Dev nD) (o : Fin 2560) : WS m c (ix2 0 o) = g m c o := by
  have h : WS m c = shapeCast S1x2560 (m ((c : Thread nD τ).loc main_arg3) : S2560.Idx → EReal) shapeCasts_S2560_S1x2560 := by
    unfold WS V hostOps0
    after_results <;> rfl
  rw [h]
  unfold g
  exact shapeCast_apply (s := S2560) (t := S1x2560) _ _ _ _ (by
    rw [Shape.rowMajor_val_one, Shape.rowMajor_val_two]
    show o.val = 0 * 2560 + o.val
    omega)

/-- A table of 128 lanes made of two tables of 64, at a lane. -/
theorem table_apply (x y : S3x640x64.Idx → EReal) (r : Fin 1920) (l : Fin 128) :
    shapeCast S1920x128 (concatenate S3x640x128 2 [⟨S3x640x64, x⟩, ⟨S3x640x64, y⟩] concatenates_S3x640x64_S3x640x64_S3x640x128_d2)
        shapeCasts_S3x640x128_S1920x128 (ix2 r l)
      = if h : l.val < 64 then x (ix3 ⟨r.val / 640, by omega⟩ ⟨r.val % 640, by omega⟩ ⟨l.val, h⟩)
        else y (ix3 ⟨r.val / 640, by omega⟩ ⟨r.val % 640, by omega⟩ ⟨l.val - 64, by omega⟩) := by
  have hr := r.isLt
  refine (shapeCast_apply (s := S3x640x128) (t := S1920x128) _ _ _
    (ix3 ⟨r.val / 640, by omega⟩ ⟨r.val % 640, by omega⟩ l) (by
      rw [Shape.rowMajor_val_three, Shape.rowMajor_val_two]
      show (r.val / 640 * 640 + r.val % 640) * 128 + l.val = r.val * 128 + l.val
      omega)).trans ?_
  by_cases h : l.val < 64
  · rw [dif_pos h]
    exact concatenate_pair_apply_left (t := S3x640x128) (s₁ := S3x640x64) (s₂ := S3x640x64) 2 x y _ _ rfl
      (ix3 ⟨r.val / 640, by omega⟩ ⟨r.val % 640, by omega⟩ ⟨l.val, h⟩) (fun b => by fin_cases b <;> rfl)
  · rw [dif_neg h]
    exact concatenate_pair_apply_right (t := S3x640x128) (s₁ := S3x640x64) (s₂ := S3x640x64) 2 x y _ _ rfl rfl
      (ix3 ⟨r.val / 640, by omega⟩ ⟨r.val % 640, by omega⟩ ⟨l.val - 64, by omega⟩)
      (fun b hb => by fin_cases b <;> first | rfl | exact absurd rfl hb) (by show l.val - 64 + 64 = l.val; omega)

theorem C2_apply (c : Dev nD) (r : Fin 1920) (l : Fin 128) :
    C2 m c (ix2 r l) = if h : l.val < 64 then co m c r ⟨l.val, h⟩ else co m c r ⟨l.val - 64, by omega⟩ := by
  have h : C2 m c = shapeCast S1920x128 (concatenate S3x640x128 2 [⟨S3x640x64, (m ((c : Thread nD τ).loc main_arg4) : S3x640x64.Idx → EReal)⟩, ⟨S3x640x64, (m ((c : Thread nD τ).loc main_arg4) : S3x640x64.Idx → EReal)⟩] concatenates_S3x640x64_S3x640x64_S3x640x128_d2)
        shapeCasts_S3x640x128_S1920x128 := by
    unfold C2 V hostOps0
    after_results <;> rfl
  rw [h, table_apply]
  rfl

theorem S2_apply (c : Dev nD) (r : Fin 1920) (l : Fin 128) :
    S2 m c (ix2 r l) = if h : l.val < 64 then - si m c r ⟨l.val, h⟩ else si m c r ⟨l.val - 64, by omega⟩ := by
  have h : S2 m c = shapeCast S1920x128 (concatenate S3x640x128 2 [⟨S3x640x64, (fun i => - (show EReal from (m ((c : Thread nD τ).loc main_arg5) : S3x640x64.Idx → EReal) i) : S3x640x64.Idx → EReal)⟩, ⟨S3x640x64, (m ((c : Thread nD τ).loc main_arg5) : S3x640x64.Idx → EReal)⟩] concatenates_S3x640x64_S3x640x64_S3x640x128_d2)
        shapeCasts_S3x640x128_S1920x128 := by
    unfold S2 V hostOps0
    after_results <;> rfl
  rw [h, table_apply]
  rfl

/-- Where the blocks lie, at every grid point. -/
theorem idx_facts : ∀ t : Fin cfg0.N, win0_0.index t 0 = 0 ∧ win0_0.index t 1 = 0 ∧ win0_1.index t 0 = 0 ∧ win0_1.index t 1 = 0
    ∧ win0_2.index t 0 = 0 ∧ win0_2.index t 1 = win0_6.index t 1 ∧ win0_3.index t 0 = 0 ∧ win0_3.index t 1 = win0_6.index t 1
    ∧ win0_4.index t 0 = 0 ∧ win0_4.index t 1 = 0 ∧ win0_5.index t 0 = 0 ∧ win0_5.index t 1 = 0
    ∧ win0_6.index t 0 = 0 ∧ win0_6.index t 1 < 10 ∧ (grid0.coords t 0).val = win0_6.index t 1 :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = win0_6.index t 1 ∧ win0_3.index t 0 = 0 ∧ win0_3.index t 1 = win0_6.index t 1
    ∧ win0_4.index t 0 = 0 ∧ win0_4.index t 1 = 0 ∧ win0_5.index t 0 = 0 ∧ win0_5.index t 1 = 0
    ∧ win0_6.index t 0 = 0 ∧ win0_6.index t 1 < 10 ∧ (grid0.coords t 0).val = win0_6.index t 1)

theorem iblk0_apply (c : Dev nD) (t : Fin cfg0.N) (r : Fin 1920) (k : Fin 8192) :
    iblk m c 0 t (ix2 r k) = A m c (ix2 r k) := by
  obtain ⟨h0, h1, -⟩ := idx_facts t
  unfold iblk
  rw [View.read_apply]
  show V m c main_arg0 _ = V m c main_arg0 _
  congr 1
  funext a
  apply Fin.ext
  match a with
  | ⟨0, _⟩ => show win0_0.index t 0 * 1920 + 1 * r.val = r.val; rw [h0]; omega
  | ⟨1, _⟩ => show win0_0.index t 1 * 8192 + 1 * k.val = k.val; rw [h1]; omega

theorem iblk1_apply (c : Dev nD) (t : Fin cfg0.N) (r : Fin 1920) (l : Fin 128) :
    iblk m c 1 t (ix2 r l) = q m c r := by
  obtain ⟨-, -, h0, h1, -⟩ := idx_facts t
  refine Eq.trans ?_ (S_apply m c r l)
  unfold iblk
  rw [View.read_apply]
  show V m c main_v6 _ = V m c main_v6 _
  congr 1
  funext a
  apply Fin.ext
  match a with
  | ⟨0, _⟩ => show win0_1.index t 0 * 1920 + 1 * r.val = r.val; rw [h0]; omega
  | ⟨1, _⟩ => show win0_1.index t 1 * 128 + 1 * l.val = l.val; rw [h1]; omega

theorem iblk2_apply (c : Dev nD) (t : Fin cfg0.N) (k : Fin 8192) (o : Fin 256) (o' : Fin 2560)
    (h : o'.val = win0_6.index t 1 * 256 + o.val) : iblk m c 2 t (ix2 k o) = W m c (ix2 k o') := by
  obtain ⟨-, -, -, -, h0, h1, -⟩ := idx_facts t
  unfold iblk
  rw [View.read_apply]
  show V m c main_arg2 _ = V m c main_arg2 _
  congr 1
  funext a
  apply Fin.ext
  match a with
  | ⟨0, _⟩ => show win0_2.index t 0 * 8192 + 1 * k.val = k.val; rw [h0]; omega
  | ⟨1, _⟩ => show win0_2.index t 1 * 256 + 1 * o.val = o'.val; rw [h1]; omega

theorem iblk3_apply (c : Dev nD) (t : Fin cfg0.N) (o : Fin 256) (o' : Fin 2560)
    (h : o'.val = win0_6.index t 1 * 256 + o.val) : iblk m c 3 t (ix2 0 o) = g m c o' := by
  obtain ⟨-, -, -, -, -, -, h0, h1, -⟩ := idx_facts t
  refine Eq.trans ?_ (WS_apply m c o')
  unfold iblk
  rw [View.read_apply]
  show V m c main_v7 _ = V m c main_v7 _
  congr 1
  funext a
  apply Fin.ext
  match a with
  | ⟨0, _⟩ => show win0_3.index t 0 * 1 + 1 * 0 = 0; rw [h0]
  | ⟨1, _⟩ => show win0_3.index t 1 * 256 + 1 * o.val = o'.val; rw [h1]; omega

theorem iblk4_apply (c : Dev nD) (t : Fin cfg0.N) (r : Fin 1920) (l : Fin 128) :
    iblk m c 4 t (ix2 r l) = C2 m c (ix2 r l) := by
  obtain ⟨-, -, -, -, -, -, -, -, h0, h1, -⟩ := idx_facts t
  unfold iblk
  rw [View.read_apply]
  show V m c main_v1 _ = V m c main_v1 _
  congr 1
  funext a
  apply Fin.ext
  match a with
  | ⟨0, _⟩ => show win0_4.index t 0 * 1920 + 1 * r.val = r.val; rw [h0]; omega
  | ⟨1, _⟩ => show win0_4.index t 1 * 128 + 1 * l.val = l.val; rw [h1]; omega

theorem iblk5_apply (c : Dev nD) (t : Fin cfg0.N) (r : Fin 1920) (l : Fin 128) :
    iblk m c 5 t (ix2 r l) = S2 m c (ix2 r l) := by
  obtain ⟨-, -, -, -, -, -, -, -, -, -, h0, h1, -⟩ := idx_facts t
  unfold iblk
  rw [View.read_apply]
  show V m c main_v4 _ = V m c main_v4 _
  congr 1
  funext a
  apply Fin.ext
  match a with
  | ⟨0, _⟩ => show win0_5.index t 0 * 1920 + 1 * r.val = r.val; rw [h0]; omega
  | ⟨1, _⟩ => show win0_5.index t 1 * 128 + 1 * l.val = l.val; rw [h1]; omega

/-- The projection before the rotary embedding, and the whole result. -/
def y (c : Dev nD) : Fin 1920 → Fin 2560 → EReal := linear (A m c) (q m c) (W m c) (g m c)

def G (c : Dev nD) : Buf (Elt Ideal) ((c : Thread nD τ).loc main_v8) :=
  (fun i => turned (y m c) (co m c) (si m c) (i 0) (i 1) : S1920x2560.Idx → EReal)

/-- A head of block `t`, at column `b + l` of the block: the same column of the whole result. -/
theorem headVal_eq (c : Dev nD) (n b : Nat) (hn : n < 10) (hb : b = 0 ∨ b = 128) (r : Fin 1920) (l : Fin 128) (o : Fin 2560)
    (ho : o.val = n * 256 + b + l.val) (Y : Fin 128 → EReal)
    (hY : ∀ (l' : Fin 128) (o' : Fin 2560), o'.val = n * 256 + b + l'.val → Y l' = y m c r o') :
    headVal n Y (fun l => C2 m c (ix2 r l)) (fun l => S2 m c (ix2 r l)) l = turned (y m c) (co m c) (si m c) r o := by
  have hl := l.isLt
  unfold headVal turned
  dsimp only
  rw [hY l o ho]
  by_cases h9 : n < 9
  · rw [if_pos h9, dif_pos (show o.val < 2304 by omega), C2_apply, S2_apply]
    have hmod : o.val % 128 = l.val := by omega
    by_cases h : l.val < 64
    · rw [dif_pos h, dif_pos h, dif_pos (show o.val % 128 < 64 by omega),
        hY ⟨(l.val + 128 - 64) % 128, by omega⟩ ⟨o.val + 64, by omega⟩ (by dsimp only; omega), mul_neg, sub_eq_add_neg]
      simp only [hmod]
    · rw [dif_neg h, dif_neg h, dif_neg (show ¬ o.val % 128 < 64 by omega),
        hY ⟨(l.val + 128 - 64) % 128, by omega⟩ ⟨o.val - 64, by omega⟩ (by dsimp only; omega)]
      simp only [hmod]
  · rw [if_neg h9, dif_neg (show ¬ o.val < 2304 by omega)]

/-- What point `t` writes back is its block of the whole result. -/
theorem flushed_eq (c : Dev nD) (t : Fin cfg0.N) :
    (dats m 0 c).flushed 6 t = (win0_6.blk t).view.read (Elt Ideal) (G m c) := by
  refine (Value.flushed6 m c t).trans ?_
  obtain ⟨-, -, -, -, -, -, -, -, -, -, -, -, h0, h1, hco⟩ := idx_facts t
  have key : ∀ (b : Nat) (hb : b = 0 ∨ b = 128) (r : Fin 1920) (l : Fin 128) (o : Fin 256), o.val = b + l.val →
      headVal (grid0.coords t 0).val
        (fun l => k0_pay1 (F := Ideal) (iblk m c 0 t) (iblk m c 2 t) (iblk m c 1 t) (iblk m c 3 t)
          (ix2 r ⟨b + l.val, by omega⟩)) (fun l => iblk m c 4 t (ix2 r l)) (fun l => iblk m c 5 t (ix2 r l)) l
      = (win0_6.blk t).view.read (Elt Ideal) (G m c) (ix2 r o) := by
    intro b hb r l o ho
    have hl := l.isLt
    have ho' : win0_6.index t 1 * 256 + o.val < 2560 := by have := o.isLt; omega
    have he : (win0_6.rect t).emb (ix2 r o) = (ix2 r ⟨win0_6.index t 1 * 256 + o.val, ho'⟩ : S1920x2560.Idx) := by
      funext a
      apply Fin.ext
      match a with
      | ⟨0, _⟩ => show win0_6.index t 0 * 1920 + 1 * r.val = r.val; rw [h0]; omega
      | ⟨1, _⟩ => show win0_6.index t 1 * 256 + 1 * o.val = win0_6.index t 1 * 256 + o.val; omega
    rw [View.read_apply]
    show _ = G m c ((win0_6.rect t).emb (ix2 r o))
    rw [he, hco]
    have h4 : (fun l : Fin 128 => iblk m c 4 t (ix2 r l)) = fun l => C2 m c (ix2 r l) := funext fun l => iblk4_apply m c t r l
    have h5 : (fun l : Fin 128 => iblk m c 5 t (ix2 r l)) = fun l => S2 m c (ix2 r l) := funext fun l => iblk5_apply m c t r l
    rw [h4, h5]
    refine headVal_eq m c _ b h1 hb r l ⟨win0_6.index t 1 * 256 + o.val, ho'⟩ (by dsimp only; omega) _ fun l' o' h' => ?_
    refine (pay1_apply _ _ _ _ (q m c) (iblk1_apply m c t) r ⟨b + l'.val, by omega⟩).trans ?_
    unfold y linear
    refine congrArg₂ (HMul.hMul (α := EReal) (β := EReal)) (congrArg (fun z : EReal => z * q m c r) ?_)
      (iblk3_apply m c t _ _ (by dsimp only; omega))
    exact Finset.sum_congr rfl fun k _ => congrArg₂ (HMul.hMul (α := EReal) (β := EReal)) (iblk0_apply m c t r k)
      (iblk2_apply m c t k _ _ (by dsimp only; omega))
  show out0_6 (F := Ideal) _ _ _ _ _ _ _ = _
  funext x
  unfold out0_6
  rw [View.ld_unit_zero (S := S1920x8192) hz2, View.ld_unit_zero (S := S8192x256) hz2, View.ld_unit_zero (S := S1920x128) hz2,
    View.ld_unit_zero (S := S1x256) hz2, View.ld_unit_zero (S := S1920x128) hz2, View.ld_unit_zero (S := S1920x128) hz2]
  refine View.canon_apply_of_pieces (Val := Elt Ideal) (S := S1920x256) (e := .bf16)
    ((win0_6.blk t).view.read (Elt Ideal) (G m c)) _ ?_ x (cover0_6 _ _ _)
  intro p hp
  simp only [List.mem_cons, List.not_mem_nil, or_false] at hp
  rcases hp with rfl | rfl
  · intro x
    obtain ⟨r, l, rfl⟩ : ∃ (r : Fin 1920) (l : Fin 128), x = ix2 r l := ⟨x 0, x 1, eq_ix2 x⟩
    have hl := l.isLt
    have e : r0_5.emb (ix2 r l) = (ix2 r ⟨128 + l.val, by omega⟩ : S1920x256.Idx) := by
      funext a
      apply Fin.ext
      match a with
      | ⟨0, _⟩ => show 0 + 1 * r.val = r.val; omega
      | ⟨1, _⟩ => show 128 + 1 * l.val = 128 + l.val; omega
    exact ((pay3_apply _ _ _ _ _ _ _ r l).trans (key 128 (.inr rfl) r l ⟨128 + l.val, by omega⟩ rfl)).trans
      (congrArg ((win0_6.blk t).view.read (Elt Ideal) (G m c)) e.symm)
  · intro x
    obtain ⟨r, l, rfl⟩ : ∃ (r : Fin 1920) (l : Fin 128), x = ix2 r l := ⟨x 0, x 1, eq_ix2 x⟩
    have hl := l.isLt
    have e : r0_4.emb (ix2 r l) = (ix2 r ⟨0 + l.val, by omega⟩ : S1920x256.Idx) := by
      funext a
      apply Fin.ext
      match a with
      | ⟨0, _⟩ => show 0 + 1 * r.val = r.val; omega
      | ⟨1, _⟩ => show 0 + 1 * l.val = 0 + l.val; omega
    exact ((pay2_apply _ _ _ _ _ _ _ r l).trans (key 0 (.inl rfl) r l ⟨0 + l.val, by omega⟩ rfl)).trans
      (congrArg ((win0_6.blk t).view.read (Elt Ideal) (G m c)) e.symm)

/-- Every block of the result is some point's. -/
theorem idx_onto : ∀ o : Fin 10, ∃ t : Fin cfg0.N, win0_6.index t 0 = 0 ∧ win0_6.index t 1 = o.val :=
  (by decide +kernel : ∀ o : Fin 10, ∃ t : Fin grid0.N, win0_6.index t 0 = 0 ∧ win0_6.index t 1 = o.val)

/-- The result array ends holding the whole projection. -/
theorem final (c : Dev nD) : (dats m 0 c).arrAt 6 cfg0.N = G m c :=
  (dats m 0 c).arrAt_eq_of_cover 6 (G m c) (fun t _ => flushed_eq m c t) fun i => by
    have b0 : (i 0 : Nat) < 1920 := (i 0).isLt
    have b1 : (i 1 : Nat) < 2560 := (i 1).isLt
    obtain ⟨t, h0, h1⟩ := idx_onto ⟨(i 1 : Nat) / 256, by omega⟩
    refine ⟨t, flush0_6 t, ?_⟩
    show i ∈ ((View.whole main_v8).slice (win0_6.rect t)).set
    rw [View.set_slice_whole, Rect.mem_set_unit]
    intro a
    match a with
    | ⟨0, _⟩ => show win0_6.index t 0 * 1920 ≤ (i 0 : Nat) ∧ (i 0 : Nat) < win0_6.index t 0 * 1920 + 1920
                rw [h0]; omega
    | ⟨1, _⟩ => show win0_6.index t 1 * 256 ≤ (i 1 : Nat) ∧ (i 1 : Nat) < win0_6.index t 1 * 256 + 256
                rw [h1]; dsimp only; omega

/-- The run, read: the result array at the whole projection, the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.QkvIdeal.Hand

end
-- ==== Proof.QkvRef.lean ====
/-
  The value of `qkv`'s reference at the ideal instance, and the claim: kernel and reference are the same projection.
-/
module

public import proofs.«01_k».proof.Defs
public import proofs.«01_k».proof.Proof.Gen.QkvRefIdeal.Value
public import proofs.«01_k».proof.Proof.QkvValue
public import proofs.«01_k».proof.Proof.Product
public import proofs.«01_k».proof.Proof.Linear
public import Idealize.ShloMosaic.Lib.Pipeline.Value

@[expose] public section

noncomputable section

open Idealize.ShloMosaic Idealize.ShloMosaic.TcCoe Idealize.SL.Sem
open Idealize.ShloMosaic.Pipeline (Dat)

namespace Cert.QkvRefIdeal.Hand

open Cert.QkvRefIdeal Cert.QkvRefIdeal.Gen Cert.Hand

variable (m : (ℓ : Loc nD τ sig) → Buf (Elt Ideal) ℓ) (ρ : Dev nD → PrngReg)

/-- The scaled product, before heads are named. -/
def prod (a : Vec Ideal S1920x8192 .fp8e4m3) (s : Vec Ideal S1920x1 .f32) (w : Vec Ideal S8192x2560 .fp8e4m3)
    (g : Vec Ideal S1x2560 .f32) : FVec Ideal S1920x2560 .f32 :=
  mulf (mulf (matmul (φ₁ := .fp8e4m3) (φ₂ := .fp8e4m3) dot_S1920x8192_S8192x2560_S1920x2560_1_0_0_1_n_n none a w (constant S1920x2560 .f32 0x00000000#32))
    (broadcastTo S1920x2560 (shapeCast S1920x1 s shapeCasts_S1920x1_S1920x1) broadcasts_S1920x1_S1920x2560))
    (broadcastTo S1920x2560 (shapeCast S1x2560 g shapeCasts_S1x2560_S1x2560) broadcasts_S1x2560_S1920x2560)

theorem prod_apply (a : Vec Ideal S1920x8192 .fp8e4m3) (s : Vec Ideal S1920x1 .f32) (w : Vec Ideal S8192x2560 .fp8e4m3)
    (g : Vec Ideal S1x2560 .f32) (r : Fin 1920) (o : Fin 2560) :
    prod a s w g (ix2 r o) = linear a (fun r => s (ix2 r 0)) w (fun o => g (ix2 0 o)) r o := by
  unfold linear
  pointwise [prod, dot_S1920x8192_S8192x2560_S1920x2560_1_0_0_1_n_n]

/-- The heads of a product: column `l` of head `h` is column `128 h + l`. -/
theorem heads_apply (y : FVec Ideal S1920x2560 .f32) (r : Fin 1920) (h : Fin 20) (l : Fin 128) (o : Fin 2560)
    (ho : o.val = h.val * 128 + l.val) :
    shapeCast S1920x20x128 y shapeCasts_S1920x2560_S1920x20x128 (ix3 r h l) = y (ix2 r o) :=
  shapeCast_apply (s := S1920x2560) (t := S1920x20x128) _ _ _ _ (by
    rw [Shape.rowMajor_val_two, Shape.rowMajor_val_three]
    show r.val * 2560 + o.val = (r.val * 20 + h.val) * 128 + l.val
    omega)

/-- The first 18 heads turned, at an index. -/
def turn (x : FVec Ideal S1920x18x128 .f32) (c s : Vec Ideal S1920x64 .f32) : FVec Ideal S1920x18x128 .f32 :=
  have v15 : FVec Ideal S1920x1x64 .f32 := shapeCast S1920x1x64 (shapeCast S1920x64 c shapeCasts_S1920x64_S1920x64) shapeCasts_S1920x64_S1920x1x64
  have v18 : FVec Ideal S1920x1x64 .f32 := shapeCast S1920x1x64 (shapeCast S1920x64 s shapeCasts_S1920x64_S1920x64) shapeCasts_S1920x64_S1920x1x64
  have v19 : FVec Ideal S1920x18x64 .f32 := extractStridedSlice S1920x18x64 ![0, 0, 0] x slices_S1920x18x128_o0_0_0_S1920x18x64
  have v20 : FVec Ideal S1920x18x64 .f32 := extractStridedSlice S1920x18x64 ![0, 0, 64] x slices_S1920x18x128_o0_0_64_S1920x18x64
  have v25 : FVec Ideal S1920x18x64 .f32 := subf (mulf v19 (broadcastTo S1920x18x64 v15 broadcasts_S1920x1x64_S1920x18x64))
    (mulf v20 (broadcastTo S1920x18x64 v18 broadcasts_S1920x1x64_S1920x18x64))
  have v30 : FVec Ideal S1920x18x64 .f32 := addf (mulf v20 (broadcastTo S1920x18x64 v15 broadcasts_S1920x1x64_S1920x18x64))
    (mulf v19 (broadcastTo S1920x18x64 v18 broadcasts_S1920x1x64_S1920x18x64))
  concatenate S1920x18x128 2 [⟨S1920x18x64, v25⟩, ⟨S1920x18x64, v30⟩] concatenates_S1920x18x64_S1920x18x64_S1920x18x128_d2

/-- A rotary table spread over the heads. -/
theorem table_apply (c : Vec Ideal S1920x64 .f32) (r : Fin 1920) (h : Fin 18) (l : Fin 64) :
    broadcastTo S1920x18x64 (shapeCast S1920x1x64 (shapeCast S1920x64 c shapeCasts_S1920x64_S1920x64) shapeCasts_S1920x64_S1920x1x64)
      broadcasts_S1920x1x64_S1920x18x64 (ix3 r h l) = c (ix2 r l) := by
  pointwise

theorem low_apply (x : FVec Ideal S1920x18x128 .f32) (r : Fin 1920) (h : Fin 18) (l : Fin 64) :
    extractStridedSlice S1920x18x64 ![0, 0, 0] x slices_S1920x18x128_o0_0_0_S1920x18x64 (ix3 r h l)
      = x (ix3 r h ⟨l.val, by omega⟩) :=
  extractStridedSlice_apply (s := S1920x18x128) (t := S1920x18x64) _ x _ _ _ (fun a => by
    match a with
    | ⟨0, _⟩ => show r.val = 0 + r.val; omega
    | ⟨1, _⟩ => show h.val = 0 + h.val; omega
    | ⟨2, _⟩ => show l.val = 0 + l.val; omega)

theorem high_apply (x : FVec Ideal S1920x18x128 .f32) (r : Fin 1920) (h : Fin 18) (l : Fin 64) :
    extractStridedSlice S1920x18x64 ![0, 0, 64] x slices_S1920x18x128_o0_0_64_S1920x18x64 (ix3 r h l)
      = x (ix3 r h ⟨64 + l.val, by omega⟩) :=
  extractStridedSlice_apply (s := S1920x18x128) (t := S1920x18x64) _ x _ _ _ (fun a => by
    match a with
    | ⟨0, _⟩ => show r.val = 0 + r.val; omega
    | ⟨1, _⟩ => show h.val = 0 + h.val; omega
    | ⟨2, _⟩ => rfl)

theorem turn_apply (x : FVec Ideal S1920x18x128 .f32) (c s : Vec Ideal S1920x64 .f32) (r : Fin 1920) (h : Fin 18) (l : Fin 128) :
    turn x c s (ix3 r h l) = if h2 : l.val < 64 then
      (x (ix3 r h l) : EReal) * c (ix2 r ⟨l.val, h2⟩) - x (ix3 r h ⟨64 + l.val, by omega⟩) * s (ix2 r ⟨l.val, h2⟩)
      else (x (ix3 r h l) : EReal) * c (ix2 r ⟨l.val - 64, by omega⟩)
        + x (ix3 r h ⟨l.val - 64, by omega⟩) * s (ix2 r ⟨l.val - 64, by omega⟩) := by
  unfold turn
  by_cases h2 : l.val < 64
  · rw [dif_pos h2]
    refine (concatenate_pair_apply_left (t := S1920x18x128) (s₁ := S1920x18x64) (s₂ := S1920x18x64) 2 _ _ _ (ix3 r h l) rfl
      (ix3 r h ⟨l.val, h2⟩) (fun b => by fin_cases b <;> rfl)).trans ?_
    rw [subf_apply, mulf_apply, mulf_apply, table_apply, table_apply, low_apply, high_apply]
    rfl
  · rw [dif_neg h2]
    refine (concatenate_pair_apply_right (t := S1920x18x128) (s₁ := S1920x18x64) (s₂ := S1920x18x64) 2 _ _ _ (ix3 r h l) rfl rfl
      (ix3 r h ⟨l.val - 64, by omega⟩) (fun b hb => by fin_cases b <;> first | rfl | exact absurd rfl hb)
      (by show l.val - 64 + 64 = l.val; omega)).trans ?_
    rw [addf_apply, mulf_apply, mulf_apply, table_apply, table_apply, low_apply, high_apply]
    have e : (⟨64 + (l.val - 64), by omega⟩ : Fin 128) = l := Fin.ext (by dsimp only; omega)
    rw [e]
    rfl

/-- The reference body's result at an index. -/
theorem pay_apply (a : Vec Ideal S1920x8192 .fp8e4m3) (s : Vec Ideal S1920x1 .f32) (w : Vec Ideal S8192x2560 .fp8e4m3)
    (g : Vec Ideal S1x2560 .f32) (c si : Vec Ideal S1920x64 .f32) (r : Fin 1920) (o : Fin 2560) :
    k0_pay1 (F := Ideal) a s w g c si (ix2 r o)
      = turned (linear a (fun r => s (ix2 r 0)) w (fun o => g (ix2 0 o))) (fun r l => c (ix2 r l)) (fun r l => si (ix2 r l)) r o := by
  have e : k0_pay1 (F := Ideal) a s w g c si = truncf .bf16 (shapeCast S1920x2560 (concatenate S1920x20x128 1
      [⟨S1920x18x128, turn (extractStridedSlice S1920x18x128 ![0, 0, 0] (shapeCast S1920x20x128 (prod a s w g) shapeCasts_S1920x2560_S1920x20x128) slices_S1920x20x128_o0_0_0_S1920x18x128) c si⟩,
       ⟨S1920x2x128, extractStridedSlice S1920x2x128 ![0, 18, 0] (shapeCast S1920x20x128 (prod a s w g) shapeCasts_S1920x2560_S1920x20x128) slices_S1920x20x128_o0_18_0_S1920x2x128⟩]
      concatenates_S1920x18x128_S1920x2x128_S1920x20x128_d1) shapeCasts_S1920x20x128_S1920x2560) bitsLt_bf16_f32 := rfl
  rw [e]
  have ho := o.isLt
  have hY := prod_apply a s w g r
  revert hY
  generalize prod a s w g = Y
  generalize linear a (fun r => s (ix2 r 0)) w (fun o => g (ix2 0 o)) = y
  intro hY
  rw [truncf_apply]
  refine (shapeCast_apply (s := S1920x20x128) (t := S1920x2560) _ _ _
    (ix3 r ⟨o.val / 128, by omega⟩ ⟨o.val % 128, by omega⟩) (by
      rw [Shape.rowMajor_val_two, Shape.rowMajor_val_three]
      show (r.val * 20 + o.val / 128) * 128 + o.val % 128 = r.val * 2560 + o.val
      omega)).trans ?_
  have first : ∀ (h : Fin 18) (l : Fin 128) (o' : Fin 2560), o'.val = h.val * 128 + l.val →
      extractStridedSlice S1920x18x128 ![0, 0, 0] (shapeCast S1920x20x128 (Y) shapeCasts_S1920x2560_S1920x20x128)
        slices_S1920x20x128_o0_0_0_S1920x18x128 (ix3 r h l)
      = y r o' := by
    intro h l o' ho'
    refine (extractStridedSlice_apply (s := S1920x20x128) (t := S1920x18x128) _ _ _ _ (ix3 r ⟨h.val, by omega⟩ l) (fun a => by
      match a with
      | ⟨0, _⟩ => show r.val = 0 + r.val; omega
      | ⟨1, _⟩ => show h.val = 0 + h.val; omega
      | ⟨2, _⟩ => show l.val = 0 + l.val; omega)).trans ?_
    exact (heads_apply Y r ⟨h.val, by omega⟩ l o' ho').trans (hY o')
  unfold turned
  by_cases h : o.val < 2304
  · rw [dif_pos h]
    refine (concatenate_pair_apply_left (t := S1920x20x128) (s₁ := S1920x18x128) (s₂ := S1920x2x128) 1 _ _ _ _ rfl
      (ix3 r ⟨o.val / 128, by omega⟩ ⟨o.val % 128, by omega⟩) (fun b => by fin_cases b <;> rfl)).trans ?_
    rw [turn_apply]
    by_cases h2 : o.val % 128 < 64
    · rw [dif_pos h2, dif_pos h2, first _ _ o (by dsimp only; omega), first _ _ ⟨o.val + 64, by omega⟩ (by dsimp only; omega)]
    · rw [dif_neg h2, dif_neg h2, first _ _ o (by dsimp only; omega), first _ _ ⟨o.val - 64, by omega⟩ (by dsimp only; omega)]
  · rw [dif_neg h]
    refine (concatenate_pair_apply_right (t := S1920x20x128) (s₁ := S1920x18x128) (s₂ := S1920x2x128) 1 _ _ _ _ rfl rfl
      (ix3 r ⟨o.val / 128 - 18, by omega⟩ ⟨o.val % 128, by omega⟩)
      (fun b hb => by fin_cases b <;> first | rfl | exact absurd rfl hb) (by show o.val / 128 - 18 + 18 = o.val / 128; omega)).trans ?_
    refine (extractStridedSlice_apply (s := S1920x20x128) (t := S1920x2x128) _ _ _ _
      (ix3 r ⟨o.val / 128, by omega⟩ ⟨o.val % 128, by omega⟩) (fun a => by
      match a with
      | ⟨0, _⟩ => show r.val = 0 + r.val; omega
      | ⟨1, _⟩ => show o.val / 128 = 18 + (o.val / 128 - 18); omega
      | ⟨2, _⟩ => show o.val % 128 = 0 + o.val % 128; omega)).trans ?_
    exact (heads_apply Y r ⟨o.val / 128, by omega⟩ ⟨o.val % 128, by omega⟩ o (by dsimp only; omega)).trans (hY o)

/-- The arguments as the region finds them. -/
abbrev A (c : Dev nD) : S1920x8192.Idx → EReal := V (F := Ideal) m c main_arg0
abbrev S (c : Dev nD) : S1920x1.Idx → EReal := V (F := Ideal) m c main_v0
abbrev W (c : Dev nD) : S8192x2560.Idx → EReal := V (F := Ideal) m c main_arg2
abbrev WS (c : Dev nD) : S1x2560.Idx → EReal := V (F := Ideal) m c main_v1
abbrev C1 (c : Dev nD) : S1920x64.Idx → EReal := V (F := Ideal) m c main_v2
abbrev S1 (c : Dev nD) : S1920x64.Idx → EReal := V (F := Ideal) m c main_v3

/-- The row scale, the column scale, the cosines and the sines over the flattened rows. -/
def q (c : Dev nD) (r : Fin 1920) : EReal := (m ((c : Thread nD τ).loc main_arg1) : S3x640.Idx → EReal) (bs r)
def g (c : Dev nD) (o : Fin 2560) : EReal := (m ((c : Thread nD τ).loc main_arg3) : S2560.Idx → EReal) (ix1 o)
def co (c : Dev nD) (r : Fin 1920) (l : Fin 64) : EReal :=
  (m ((c : Thread nD τ).loc main_arg4) : S3x640x64.Idx → EReal) (ix3 ⟨r.val / 640, by omega⟩ ⟨r.val % 640, by omega⟩ l)
def si (c : Dev nD) (r : Fin 1920) (l : Fin 64) : EReal :=
  (m ((c : Thread nD τ).loc main_arg5) : S3x640x64.Idx → EReal) (ix3 ⟨r.val / 640, by omega⟩ ⟨r.val % 640, by omega⟩ l)

theorem S_apply (c : Dev nD) (r : Fin 1920) : S m c (ix2 r 0) = q m c r := by
  have h : S m c = shapeCast S1920x1 (m ((c : Thread nD τ).loc main_arg1) : S3x640.Idx → EReal) shapeCasts_S3x640_S1920x1 := by
    unfold S V hostOps0
    after_results <;> rfl
  rw [h]
  unfold q bs
  have hr := r.isLt
  exact shapeCast_apply (s := S3x640) (t := S1920x1) _ _ _ _ (by
    rw [Shape.rowMajor_val_two, Shape.rowMajor_val_two]
    show r.val / 640 * 640 + r.val % 640 = r.val * 1 + 0
    omega)

theorem WS_apply (c : Dev nD) (o : Fin 2560) : WS m c (ix2 0 o) = g m c o := by
  have h : WS m c = shapeCast S1x2560 (m ((c : Thread nD τ).loc main_arg3) : S2560.Idx → EReal) shapeCasts_S2560_S1x2560 := by
    unfold WS V hostOps0
    after_results <;> rfl
  rw [h]
  unfold g
  exact shapeCast_apply (s := S2560) (t := S1x2560) _ _ _ _ (by
    rw [Shape.rowMajor_val_one, Shape.rowMajor_val_two]
    show o.val = 0 * 2560 + o.val
    omega)

theorem C1_apply (c : Dev nD) (r : Fin 1920) (l : Fin 64) : C1 m c (ix2 r l) = co m c r l := by
  have h : C1 m c = shapeCast S1920x64 (m ((c : Thread nD τ).loc main_arg4) : S3x640x64.Idx → EReal) shapeCasts_S3x640x64_S1920x64 := by
    unfold C1 V hostOps0
    after_results <;> rfl
  rw [h]
  unfold co
  have hr := r.isLt
  exact shapeCast_apply (s := S3x640x64) (t := S1920x64) _ _ _ _ (by
    rw [Shape.rowMajor_val_three, Shape.rowMajor_val_two]
    show (r.val / 640 * 640 + r.val % 640) * 64 + l.val = r.val * 64 + l.val
    omega)

theorem S1_apply (c : Dev nD) (r : Fin 1920) (l : Fin 64) : S1 m c (ix2 r l) = si m c r l := by
  have h : S1 m c = shapeCast S1920x64 (m ((c : Thread nD τ).loc main_arg5) : S3x640x64.Idx → EReal) shapeCasts_S3x640x64_S1920x64 := by
    unfold S1 V hostOps0
    after_results <;> rfl
  rw [h]
  unfold si
  have hr := r.isLt
  exact shapeCast_apply (s := S3x640x64) (t := S1920x64) _ _ _ _ (by
    rw [Shape.rowMajor_val_three, Shape.rowMajor_val_two]
    show (r.val / 640 * 640 + r.val % 640) * 64 + l.val = r.val * 64 + l.val
    omega)

theorem iblk0_eq (c : Dev nD) (t : Fin cfg0.N) : iblk m c 0 t = A m c := by
  unfold iblk
  funext y
  rw [View.read_apply]
  show V m c main_arg0 _ = V m c main_arg0 _
  congr 1
  funext a
  apply Fin.ext
  match a with
  | ⟨0, _⟩ => show 0 * 1920 + 1 * (y 0).val = (y 0).val; omega
  | ⟨1, _⟩ => show 0 * 8192 + 1 * (y 1).val = (y 1).val; omega

theorem iblk1_eq (c : Dev nD) (t : Fin cfg0.N) : iblk m c 1 t = S m c := by
  unfold iblk
  funext y
  rw [View.read_apply]
  show V m c main_v0 _ = V m c main_v0 _
  congr 1
  funext a
  apply Fin.ext
  match a with
  | ⟨0, _⟩ => show 0 * 1920 + 1 * (y 0).val = (y 0).val; omega
  | ⟨1, _⟩ => show 0 * 1 + 1 * (y 1).val = (y 1).val; omega

theorem iblk2_eq (c : Dev nD) (t : Fin cfg0.N) : iblk m c 2 t = W m c := by
  unfold iblk
  funext y
  rw [View.read_apply]
  show V m c main_arg2 _ = V m c main_arg2 _
  congr 1
  funext a
  apply Fin.ext
  match a with
  | ⟨0, _⟩ => show 0 * 8192 + 1 * (y 0).val = (y 0).val; omega
  | ⟨1, _⟩ => show 0 * 2560 + 1 * (y 1).val = (y 1).val; omega

theorem iblk3_eq (c : Dev nD) (t : Fin cfg0.N) : iblk m c 3 t = WS m c := by
  unfold iblk
  funext y
  rw [View.read_apply]
  show V m c main_v1 _ = V m c main_v1 _
  congr 1
  funext a
  apply Fin.ext
  match a with
  | ⟨0, _⟩ => show 0 * 1 + 1 * (y 0).val = (y 0).val; omega
  | ⟨1, _⟩ => show 0 * 2560 + 1 * (y 1).val = (y 1).val; omega

theorem iblk4_eq (c : Dev nD) (t : Fin cfg0.N) : iblk m c 4 t = C1 m c := by
  unfold iblk
  funext y
  rw [View.read_apply]
  show V m c main_v2 _ = V m c main_v2 _
  congr 1
  funext a
  apply Fin.ext
  match a with
  | ⟨0, _⟩ => show 0 * 1920 + 1 * (y 0).val = (y 0).val; omega
  | ⟨1, _⟩ => show 0 * 64 + 1 * (y 1).val = (y 1).val; omega

theorem iblk5_eq (c : Dev nD) (t : Fin cfg0.N) : iblk m c 5 t = S1 m c := by
  unfold iblk
  funext y
  rw [View.read_apply]
  show V m c main_v3 _ = V m c main_v3 _
  congr 1
  funext a
  apply Fin.ext
  match a with
  | ⟨0, _⟩ => show 0 * 1920 + 1 * (y 0).val = (y 0).val; omega
  | ⟨1, _⟩ => show 0 * 64 + 1 * (y 1).val = (y 1).val; omega

/-- The whole projection: what the reference's result array is shown to hold. -/
def G (c : Dev nD) : Buf (Elt Ideal) ((c : Thread nD τ).loc main_v4) :=
  (fun i => turned (linear (A m c) (q m c) (W m c) (g m c)) (co m c) (si m c) (i 0) (i 1) : S1920x2560.Idx → EReal)

/-- The one point writes back the whole array. -/
theorem flushed_eq (c : Dev nD) (t : Fin cfg0.N) :
    (dats m 0 c).flushed 6 t = (win0_6.blk t).view.read (Elt Ideal) (G m c) := by
  refine (Value.flushed6 m c t).trans ?_
  unfold out0_6
  rw [View.canon_unit_zero hz2, View.ld_unit_zero (S := S1920x8192) hz2, View.ld_unit_zero (S := S1920x1) hz2,
    View.ld_unit_zero (S := S8192x2560) hz2, View.ld_unit_zero (S := S1x2560) hz2, View.ld_unit_zero (S := S1920x64) hz2,
    View.ld_unit_zero (S := S1920x64) hz2, iblk0_eq, iblk1_eq, iblk2_eq, iblk3_eq, iblk4_eq, iblk5_eq]
  funext y
  rw [View.read_apply]
  obtain ⟨r, o, rfl⟩ : ∃ (r : Fin 1920) (o : Fin 2560), y = ix2 r o := ⟨y 0, y 1, eq_ix2 y⟩
  refine (pay_apply _ _ _ _ _ _ r o).trans ?_
  have h1 : (fun r => S m c (ix2 r 0)) = q m c := funext (S_apply m c)
  have h3 : (fun o => WS m c (ix2 0 o)) = g m c := funext (WS_apply m c)
  have h4 : (fun r l => C1 m c (ix2 r l)) = co m c := funext fun r => funext (C1_apply m c r)
  have h5 : (fun r l => S1 m c (ix2 r l)) = si m c := funext fun r => funext (S1_apply m c r)
  rw [h1, h3, h4, h5]
  have he : (win0_6.rect t).emb (ix2 r o) = (ix2 r o : S1920x2560.Idx) := by
    funext a
    apply Fin.ext
    match a with
    | ⟨0, _⟩ => show 0 * 1920 + 1 * r.val = r.val; omega
    | ⟨1, _⟩ => show 0 * 2560 + 1 * o.val = o.val; omega
  show _ = G m c ((win0_6.rect t).emb (ix2 r o))
  rw [he]
  rfl

/-- The result array ends holding the whole projection. -/
theorem final (c : Dev nD) : (dats m 0 c).arrAt 6 cfg0.N = G m c :=
  (dats m 0 c).arrAt_eq_of_cover 6 (G m c) (fun t _ => flushed_eq m c t) fun i => by
    have b0 : (i 0 : Nat) < 1920 := (i 0).isLt
    have b1 : (i 1 : Nat) < 2560 := (i 1).isLt
    have hN : cfg0.N = 1 := N_0
    obtain ⟨t⟩ : Nonempty (Fin cfg0.N) := ⟨⟨0, by omega⟩⟩
    refine ⟨t, flush0_6 t, ?_⟩
    show i ∈ ((View.whole main_v4).slice (win0_6.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 2560 ≤ (i 1 : Nat) ∧ (i 1 : Nat) < 0 * 2560 + 2560; omega

/-- The reference's run, read. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.QkvRefIdeal.Hand

namespace Cert.Proof.QkvClaims

/-- `qkv` at the ideal instance computes the reference's projection. -/
theorem algebraic : Cert.algebraic_QkvIdeal_QkvRefIdeal := by
  intro m g m' g' _ hagree
  refine ⟨fun c => Cert.QkvIdeal.Hand.G m c, Cert.QkvIdeal.Hand.run m g, ?_⟩
  refine (θ_run Cert.QkvRefIdeal.defs _ _).mono (fun _ h c => ⟨(h c).1.trans ?_, (h c).2⟩)
    (Cert.QkvRefIdeal.Hand.run m' g')
  obtain ⟨a0, a1, a2, a3, a4, a5⟩ := hagree c
  have hA : Cert.QkvRefIdeal.Hand.A m' c = Cert.QkvIdeal.Hand.A m c :=
    (Cert.QkvRefIdeal.Gen.V_main_arg0 m' c).trans (a0.trans (Cert.QkvIdeal.Gen.V_main_arg0 m c).symm)
  have hW : Cert.QkvRefIdeal.Hand.W m' c = Cert.QkvIdeal.Hand.W m c :=
    (Cert.QkvRefIdeal.Gen.V_main_arg2 m' c).trans (a2.trans (Cert.QkvIdeal.Gen.V_main_arg2 m c).symm)
  have hq : Cert.QkvRefIdeal.Hand.q m' c = Cert.QkvIdeal.Hand.q m c := funext fun _ => congrFun a1 _
  have hg : Cert.QkvRefIdeal.Hand.g m' c = Cert.QkvIdeal.Hand.g m c := funext fun _ => congrFun a3 _
  have hc : Cert.QkvRefIdeal.Hand.co m' c = Cert.QkvIdeal.Hand.co m c := funext fun _ => funext fun _ => congrFun a4 _
  have hs : Cert.QkvRefIdeal.Hand.si m' c = Cert.QkvIdeal.Hand.si m c := funext fun _ => funext fun _ => congrFun a5 _
  unfold Cert.QkvRefIdeal.Hand.G
  rw [hA, hW, hq, hg, hc, hs]
  rfl

end Cert.Proof.QkvClaims

end
-- ==== Proof.Norm1Block.lean ====
/-
  What one block of 256 columns of `norm1` computes at the ideal instance: the input gradient of the projection, its
  part of the row sum, its part of the gain's gradient, and the block of the result.
-/
module

public import proofs.«01_k».proof.Proof.Gen.Norm1Ideal.Frame.Runs
public import proofs.«01_k».proof.Proof.Product
public import Idealize.ShloMosaic.Lib.Pointwise

@[expose] public section

noncomputable section

open Idealize.ShloMosaic Idealize.ShloMosaic.TcCoe

namespace Cert.Norm1Ideal.Hand

open Cert.Norm1Ideal Cert.Norm1Ideal.Gen

/-- A register of 128 lanes laid twice side by side. -/
def wideV (v : FVec Ideal S128x128 .f32) : FVec Ideal S128x256 .f32 :=
  concatenate S128x256 1 [⟨S128x128, v⟩, ⟨S128x128, v⟩] concatenates_S128x128_S128x128_S128x256_d1

/-- A block of the input gradient: the product with 256 rows of the weight, scaled by row. -/
def dnV (s : FVec Ideal S128x256 .f32) (gc : Vec Ideal S128x2560 .fp8e5m2) (w : Vec Ideal S256x2560 .fp8e4m3) :
    FVec Ideal S128x256 .f32 :=
  mulf (matmul (φ₁ := .fp8e5m2) (φ₂ := .fp8e4m3) dot_S128x2560_S256x2560_S128x256_1_1_0_0_n_n none gc w
    (constant S128x256 .f32 0x00000000#32)) s

/-- The block's terms of the row sum. -/
def prodV (s : FVec Ideal S128x256 .f32) (gc : Vec Ideal S128x2560 .fp8e5m2) (w : Vec Ideal S256x2560 .fp8e4m3)
    (x : Vec Ideal S128x256 .bf16) (g : Vec Ideal S1x256 .f32) : FVec Ideal S128x256 .f32 :=
  mulf (mulf (broadcastTo S128x256 (shapeCast S1x256 g shapeCasts_S1x256_S1x256) broadcasts_S1x256_S128x256) (dnV s gc w))
    (extf .f32 (φ := .bf16) x bitsLt_bf16_f32)

/-- The row sum over 128 lanes with one more block folded in. -/
def accV (s : FVec Ideal S128x256 .f32) (acc : FVec Ideal S128x128 .f32) (gc : Vec Ideal S128x2560 .fp8e5m2)
    (w : Vec Ideal S256x2560 .fp8e4m3) (x : Vec Ideal S128x256 .bf16) (g : Vec Ideal S1x256 .f32) : FVec Ideal S128x128 .f32 :=
  addf acc (addf (extractStridedSlice S128x128 ![0, 0] (prodV s gc w x g) slices_S128x256_o0_0_S128x128)
    (extractStridedSlice S128x128 ![0, 128] (prodV s gc w x g) slices_S128x256_o0_128_S128x128))

/-- The gain's gradient with the block's rows added. -/
def dgV (s r : FVec Ideal S128x256 .f32) (gc : Vec Ideal S128x2560 .fp8e5m2) (w : Vec Ideal S256x2560 .fp8e4m3)
    (x : Vec Ideal S128x256 .bf16) (v : Vec Ideal S1x256 .f32) : FVec Ideal S1x256 .f32 :=
  addf (shapeCast S1x256 v shapeCasts_S1x256_S1x256) (shapeCast S1x256 (multiReduction .add [0] S256
    (mulf (mulf (dnV s gc w) (extf .f32 (φ := .bf16) x bitsLt_bf16_f32)) r) 0x00000000#32 reduces_S128x256_S256 (.inl rfl) rfl)
    shapeCasts_S256_S1x256)

/-- The mean's coefficient, in every lane. -/
def coefV (acc : FVec Ideal S128x128 .f32) (r : Vec Ideal S128x128 .f32) : FVec Ideal S128x128 .f32 :=
  mulf (shapeCast S128x128 r shapeCasts_S128x128_S128x128) (mulf (broadcastTo S128x128 (shapeCast S128x1 (shapeCast S128x1
    (multiReduction .add [1] S128 acc 0x00000000#32 reduces_S128x128_S128 (.inl rfl) rfl) shapeCasts_S128_S128x1)
    shapeCasts_S128x1_S128x1) broadcasts_S128x1_S128x128) (broadcast S128x128 (Scalar.ofBits .f32 0x39000000#32)))

/-- A block of the result. -/
def outV (r rr c : FVec Ideal S128x256 .f32) (dh : Vec Ideal S128x256 .f32) (g : Vec Ideal S1x256 .f32)
    (d : Vec Ideal S128x256 .f32) (x : Vec Ideal S128x256 .bf16) : FVec Ideal S128x256 .bf16 :=
  truncf .bf16 (subf (addf dh (mulf r (mulf (broadcastTo S128x256 (shapeCast S1x256 g shapeCasts_S1x256_S1x256)
    broadcasts_S1x256_S128x256) d))) (mulf (mulf (extf .f32 (φ := .bf16) x bitsLt_bf16_f32) rr) c)) bitsLt_bf16_f32

/-- A register whose lanes all hold `q r` in row `r`, laid twice. -/
theorem wideV_apply (v : FVec Ideal S128x128 .f32) (q : Fin 128 → EReal) (h : ∀ r l, v (ix2 r l) = q r) (r : Fin 128)
    (o : Fin 256) : wideV v (ix2 r o) = q r := by
  unfold wideV
  pointwise [h]
  simp only [dite_eq_ite, ite_self]

theorem dnV_apply (s : FVec Ideal S128x256 .f32) (gc : Vec Ideal S128x2560 .fp8e5m2) (w : Vec Ideal S256x2560 .fp8e4m3)
    (q : Fin 128 → EReal) (hs : ∀ r o, s (ix2 r o) = q r) (r : Fin 128) (o : Fin 256) :
    dnV s gc w (ix2 r o) = (∑ k : Fin 2560, gc (ix2 r k) * w (ix2 o k)) * q r := by
  unfold dnV
  pointwise [dot_S128x2560_S256x2560_S128x256_1_1_0_0_n_n, hs]

theorem accV_apply (s : FVec Ideal S128x256 .f32) (acc : FVec Ideal S128x128 .f32) (gc : Vec Ideal S128x2560 .fp8e5m2)
    (w : Vec Ideal S256x2560 .fp8e4m3) (x : Vec Ideal S128x256 .bf16) (g : Vec Ideal S1x256 .f32) (r : Fin 128) (l : Fin 128) :
    accV s acc gc w x g (ix2 r l) = acc (ix2 r l)
      + (g (ix2 0 ⟨l.val, by omega⟩) * dnV s gc w (ix2 r ⟨l.val, by omega⟩) * x (ix2 r ⟨l.val, by omega⟩)
        + g (ix2 0 ⟨128 + l.val, by omega⟩) * dnV s gc w (ix2 r ⟨128 + l.val, by omega⟩) * x (ix2 r ⟨128 + l.val, by omega⟩)) := by
  unfold accV prodV
  generalize dnV s gc w = d
  pointwise []

theorem dgV_apply (s r : FVec Ideal S128x256 .f32) (gc : Vec Ideal S128x2560 .fp8e5m2) (w : Vec Ideal S256x2560 .fp8e4m3)
    (x : Vec Ideal S128x256 .bf16) (v : Vec Ideal S1x256 .f32) (o : Fin 256) :
    dgV s r gc w x v (ix2 0 o)
      = v (ix2 0 o) + ∑ i : Fin 128, dnV s gc w (ix2 i o) * x (ix2 i o) * r (ix2 i o) := by
  unfold dgV
  generalize dnV s gc w = d
  pointwise []

theorem coefV_apply (acc : FVec Ideal S128x128 .f32) (r : Vec Ideal S128x128 .f32) (i l : Fin 128) :
    coefV acc r (ix2 i l) = r (ix2 i l) * ((∑ k : Fin 128, acc (ix2 i k)) * Ideal.ofBits .f32 0x39000000#32) := by
  unfold coefV
  pointwise []

theorem outV_apply (r rr c : FVec Ideal S128x256 .f32) (dh : Vec Ideal S128x256 .f32) (g : Vec Ideal S1x256 .f32)
    (d : Vec Ideal S128x256 .f32) (x : Vec Ideal S128x256 .bf16) (i : Fin 128) (o : Fin 256) :
    outV r rr c dh g d x (ix2 i o) = dh (ix2 i o) + r (ix2 i o) * (g (ix2 0 o) * d (ix2 i o))
      - x (ix2 i o) * rr (ix2 i o) * c (ix2 i o) := by
  unfold outV
  pointwise []

end Cert.Norm1Ideal.Hand

end
-- ==== Proof.Pieces.lean ====
/-
  Stores into one buffer, read back: a list of pieces each holding its part of one function, and a row of 8192 columns
  summed block by block.
-/
module

public import Idealize.ShloMosaic.Lib.Pointwise
public import Idealize.ShloMosaic.Lib.Pipeline.Value

@[expose] public section

noncomputable section

open Idealize.ShloMosaic Idealize.ShloMosaic.TcCoe

namespace Cert.Hand

/-- Every piece of the list holds its part of `G`. -/
def Parts {s : Shape} {e : EltTy} (G : s.Idx → Elt Ideal e) (L : List (View.Piece (Elt Ideal) s e)) : Prop :=
  ∀ p ∈ L, ∀ y : p.1.shape.Idx, p.2 y = G (p.1.emb y)

theorem Parts.nil {s : Shape} {e : EltTy} {G : s.Idx → Elt Ideal e} : Parts G [] := fun _ h => absurd h List.not_mem_nil

theorem Parts.cons {s : Shape} {e : EltTy} {G : s.Idx → Elt Ideal e} (r : Rect s) (w : r.shape.Idx → Elt Ideal e)
    (L : List (View.Piece (Elt Ideal) s e)) (h : ∀ y, w y = G (r.emb y)) (hL : Parts G L) : Parts G (⟨r, w⟩ :: L) := by
  intro p hp
  rcases List.mem_cons.mp hp with rfl | hp
  · exact h
  · exact hL p hp

/-- A buffer that pieces of `G` cover reads `G`. -/
theorem Parts.read {sig : RefSig} {κ : Kind} {sp : Space} {s : Shape} {e : EltTy} (v : View sig κ sp s e)
    (f : v.ty.Idx → Elt Ideal v.ty.elt) (G : s.Idx → Elt Ideal e) (L : List (View.Piece (Elt Ideal) s e)) (hL : Parts G L)
    (y : s.Idx) (hc : ∃ p ∈ L, y ∈ p.1.set) : v.read (Elt Ideal) (v.writes (Elt Ideal) f L) y = G y :=
  View.read_writes_apply_of_pieces v f G L hL y hc

/-- A load from a whole buffer holding `X`. -/
theorem load_apply {sig : RefSig} {κ : Kind} {sp : Space} {s : Shape} {e : EltTy} {m : Memref sig κ sp s e} (h : m.IsWhole)
    (X : s.Idx → Elt Ideal e) (r : Rect s) (y : r.shape.Idx) :
    View.readAt (Elt Ideal) m.view r.toLoadRect (h.unread X) y = X (r.emb y) := by
  rw [View.readAt_apply, h.read_unread]
  rfl

/-- A load from a buffer that pieces of `G` cover. -/
theorem back_apply {sig : RefSig} {κ : Kind} {sp : Space} {s : Shape} {e : EltTy} (v : View sig κ sp s e)
    (G : s.Idx → Elt Ideal e) (L : List (View.Piece (Elt Ideal) s e)) (hL : Parts G L)
    (hc : ∀ y : s.Idx, ∃ p ∈ L, y ∈ p.1.set) (r : Rect s) (y : r.shape.Idx) :
    v.readCov L r.toLoadRect y = G (r.emb y) := by
  rw [View.readCov_eq_canon_ld v L r hc]
  exact View.canon_apply_of_pieces G L hL _ (hc _)

/-- After the first `n` columns the stores cover the buffer, which holds `G` on those columns and `Z` on the others. -/
def Upto {s : Shape} {e : EltTy} (a : Fin s.rank) (n : Nat) (G Z : s.Idx → Elt Ideal e)
    (L : List (View.Piece (Elt Ideal) s e)) : Prop :=
  (∀ y : s.Idx, ∃ p ∈ L, y ∈ p.1.set) ∧ ∀ y : s.Idx, View.canon L y = if (y a).val < n then G y else Z y

/-- A sum over columns, block by block. -/
theorem sum_blocks (f : Nat → EReal) (w : Nat) : ∀ n : Nat,
    ∑ b ∈ Finset.range n, ∑ l ∈ Finset.range w, f (w * b + l) = ∑ j ∈ Finset.range (w * n), f j
  | 0 => by simp
  | n + 1 => by
    rw [Finset.sum_range_succ, sum_blocks f w n, Nat.mul_succ, Finset.sum_range_add]

/-- Folding 256 columns into 128 lanes, block after block, and then summing the lanes, sums the columns. -/
theorem sum_lanes (f : Nat → EReal) (n : Nat) :
    ∑ l ∈ Finset.range 128, ∑ b ∈ Finset.range n, (f (256 * b + l) + f (256 * b + (128 + l)))
      = ∑ j ∈ Finset.range (256 * n), f j := by
  rw [Finset.sum_comm, ← sum_blocks f 256 n]
  refine Finset.sum_congr rfl fun b _ => ?_
  rw [Finset.sum_add_distrib]
  exact (Finset.sum_range_add (fun l => f (256 * b + l)) 128 128).symm

end Cert.Hand

end
-- ==== Proof.Norm1Point.lean ====
/-
  What one grid point of `norm1` computes, as functions of the blocks its buffers hold: the loads by block, the row sum
  folded over the blocks, and one stored block of each result.
-/
module

public import proofs.«01_k».proof.Proof.Norm1Block
public import proofs.«01_k».proof.Proof.Pieces
public import Idealize.ShloMosaic.Lib.VecWindow

@[expose] public section

noncomputable section

open Idealize.ShloMosaic Idealize.ShloMosaic.TcCoe

namespace Cert.Norm1Ideal.Hand

open Cert.Norm1Ideal Cert.Norm1Ideal.Gen Cert.Hand

/-- The block of 256 columns, and the block of 256 rows of the weight. -/
theorem inbC {R : Nat} (n : Nat) (h : n < 32) : ∀ a, (![0, 256 * n] : Fin 2 → Nat) a + (![R, 256] : Fin 2 → Nat) a
    ≤ (![R, 8192] : Fin 2 → Nat) a := by
  intro a
  match a with
  | ⟨0, _⟩ => show 0 + R ≤ R; omega
  | ⟨1, _⟩ => show 256 * n + 256 ≤ 8192; omega

theorem inbW (n : Nat) (h : n < 32) : ∀ a, (![256 * n, 0] : Fin 2 → Nat) a + S256x2560.size a ≤ S8192x2560.size a := by
  intro a
  match a with
  | ⟨0, _⟩ => show 256 * n + 256 ≤ 8192; omega
  | ⟨1, _⟩ => show 0 + 2560 ≤ 2560; omega

def rA (n : Nat) (h : n < 32) : Rect S128x8192 := Rect.unit ![0, 256 * n] S128x256.size (inbC n h)
def rG (n : Nat) (h : n < 32) : Rect S1x8192 := Rect.unit ![0, 256 * n] S1x256.size (inbC n h)
def rW (n : Nat) (h : n < 32) : Rect S8192x2560 := Rect.unit ![256 * n, 0] S256x2560.size (inbW n h)

theorem rA_emb (n : Nat) (h : n < 32) (r : Fin 128) (o : Fin 256) :
    (rA n h).emb (ix2 r o) = (ix2 r ⟨256 * n + o.val, by omega⟩ : S128x8192.Idx) := by
  funext a
  apply Fin.ext
  match a with
  | ⟨0, _⟩ => show 0 + 1 * r.val = r.val; omega
  | ⟨1, _⟩ => show 256 * n + 1 * o.val = 256 * n + o.val; omega

theorem rG_emb (n : Nat) (h : n < 32) (o : Fin 256) :
    (rG n h).emb (ix2 0 o) = (ix2 0 ⟨256 * n + o.val, by omega⟩ : S1x8192.Idx) := by
  funext a
  apply Fin.ext
  match a with
  | ⟨0, _⟩ => show 0 + 1 * 0 = 0; omega
  | ⟨1, _⟩ => show 256 * n + 1 * o.val = 256 * n + o.val; omega

theorem rW_emb (n : Nat) (h : n < 32) (o : Fin 256) (k : Fin 2560) :
    (rW n h).emb (ix2 o k) = (ix2 ⟨256 * n + o.val, by omega⟩ k : S8192x2560.Idx) := by
  funext a
  apply Fin.ext
  match a with
  | ⟨0, _⟩ => show 256 * n + 1 * o.val = 256 * n + o.val; omega
  | ⟨1, _⟩ => show 0 + 1 * k.val = k.val; omega

/-- The point's mathematics: the scaled product, the row sum, the coefficient, the result, the gain's gradient. -/
def dn (x0 : S128x2560.Idx → EReal) (q : Fin 128 → EReal) (x2 : S8192x2560.Idx → EReal) (r : Fin 128) (j : Fin 8192) : EReal :=
  (∑ k : Fin 2560, x0 (ix2 r k) * x2 (ix2 j k)) * q r

def rowSum (x0 : S128x2560.Idx → EReal) (q : Fin 128 → EReal) (x2 : S8192x2560.Idx → EReal) (x3 : S128x8192.Idx → EReal)
    (x5 : S1x8192.Idx → EReal) (r : Fin 128) : EReal :=
  ∑ j : Fin 8192, x5 (ix2 0 j) * dn x0 q x2 r j * x3 (ix2 r j)

def co (x0 : S128x2560.Idx → EReal) (q : Fin 128 → EReal) (x2 : S8192x2560.Idx → EReal) (x3 : S128x8192.Idx → EReal)
    (p : Fin 128 → EReal) (x5 : S1x8192.Idx → EReal) (r : Fin 128) : EReal :=
  p r * (rowSum x0 q x2 x3 x5 r * Ideal.ofBits .f32 0x39000000#32)

def dx (x0 : S128x2560.Idx → EReal) (q : Fin 128 → EReal) (x2 : S8192x2560.Idx → EReal) (x3 : S128x8192.Idx → EReal)
    (p : Fin 128 → EReal) (x5 : S1x8192.Idx → EReal) (x6 : S128x8192.Idx → EReal) (y : S128x8192.Idx) : EReal :=
  x6 (ix2 (y 0) (y 1)) + p (y 0) * (x5 (ix2 0 (y 1)) * dn x0 q x2 (y 0) (y 1))
    - x3 (ix2 (y 0) (y 1)) * (p (y 0) * p (y 0)) * co x0 q x2 x3 p x5 (y 0)

def dg (x0 : S128x2560.Idx → EReal) (q : Fin 128 → EReal) (x2 : S8192x2560.Idx → EReal) (x3 : S128x8192.Idx → EReal)
    (p : Fin 128 → EReal) (Z : S1x8192.Idx → EReal) (y : S1x8192.Idx) : EReal :=
  Z y + ∑ i : Fin 128, dn x0 q x2 i (y 1) * x3 (ix2 i (y 1)) * p i

section Loads

variable (arg1 : Memref sig .tc .vmem S128x2560 .fp8e5m2) (harg1 : arg1.IsWhole) (arg2 : Memref sig .tc .vmem S128x128 .f32) (harg2 : arg2.IsWhole) (arg3 : Memref sig .tc .vmem S8192x2560 .fp8e4m3) (harg3 : arg3.IsWhole) (arg4 : Memref sig .tc .vmem S128x8192 .bf16) (harg4 : arg4.IsWhole) (arg5 : Memref sig .tc .vmem S128x128 .f32) (harg5 : arg5.IsWhole) (arg6 : Memref sig .tc .vmem S1x8192 .f32) (harg6 : arg6.IsWhole) (arg7 : Memref sig .tc .vmem S128x8192 .f32) (harg7 : arg7.IsWhole)
  (x0 : Vec Ideal S128x2560 .fp8e5m2) (x1 : Vec Ideal S128x128 .f32) (x2 : Vec Ideal S8192x2560 .fp8e4m3) (x3 : Vec Ideal S128x8192 .bf16) (x4 : Vec Ideal S128x128 .f32) (x5 : Vec Ideal S1x8192 .f32) (x6 : Vec Ideal S128x8192 .f32)

/-- The whole of a buffer of scales or codes, loaded. -/
def ldC : Vec Ideal S128x2560 .fp8e5m2 :=
  View.readAt (Elt Ideal) arg1.view (Rect.unit ![0, 0] S128x2560.size inb_S128x2560_S128x2560_0_0).toLoadRect (harg1.unread x0)
def ldS (x : Vec Ideal S128x128 .f32) : Vec Ideal S128x128 .f32 :=
  View.readAt (Elt Ideal) arg2.view (Rect.unit ![0, 0] S128x128.size inb_S128x128_S128x128_0_0).toLoadRect (harg2.unread x)
/-- The blocks, loaded. -/
def ldW (n : Nat) (h : n < 32) : Vec Ideal S256x2560 .fp8e4m3 :=
  View.readAt (Elt Ideal) arg3.view (rW n h).toLoadRect (harg3.unread x2)
def ldX (n : Nat) (h : n < 32) : Vec Ideal S128x256 .bf16 :=
  View.readAt (Elt Ideal) arg4.view (rA n h).toLoadRect (harg4.unread x3)
def ldG (n : Nat) (h : n < 32) : Vec Ideal S1x256 .f32 :=
  View.readAt (Elt Ideal) arg6.view (rG n h).toLoadRect (harg6.unread x5)
def ldH (n : Nat) (h : n < 32) : Vec Ideal S128x256 .f32 :=
  View.readAt (Elt Ideal) arg7.view (rA n h).toLoadRect (harg7.unread x6)

theorem ldC_apply (y : S128x2560.Idx) : ldC arg1 harg1 x0 y = x0 y :=
  (load_apply harg1 x0 (Rect.unit ![0, 0] S128x2560.size inb_S128x2560_S128x2560_0_0) y).trans
    (congrArg x0 (Rect.emb_unit_full (s := S128x2560) inb_S128x2560_S128x2560_0_0 y))

theorem ldS_apply (y : S128x128.Idx) : ldS arg2 harg2 x1 y = x1 y :=
  (load_apply harg2 x1 (Rect.unit ![0, 0] S128x128.size inb_S128x128_S128x128_0_0) y).trans
    (congrArg x1 (Rect.emb_unit_full (s := S128x128) inb_S128x128_S128x128_0_0 y))

theorem ldW_apply (n : Nat) (h : n < 32) (o : Fin 256) (k : Fin 2560) :
    ldW arg3 harg3 x2 n h (ix2 o k) = x2 (ix2 ⟨256 * n + o.val, by omega⟩ k) :=
  (load_apply harg3 x2 _ _).trans (congrArg x2 (rW_emb n h o k))

theorem ldX_apply (n : Nat) (h : n < 32) (r : Fin 128) (o : Fin 256) :
    ldX arg4 harg4 x3 n h (ix2 r o) = x3 (ix2 r ⟨256 * n + o.val, by omega⟩) :=
  (load_apply harg4 x3 _ _).trans (congrArg x3 (rA_emb n h r o))

theorem ldG_apply (n : Nat) (h : n < 32) (o : Fin 256) :
    ldG arg6 harg6 x5 n h (ix2 0 o) = x5 (ix2 0 ⟨256 * n + o.val, by omega⟩) :=
  (load_apply harg6 x5 _ _).trans (congrArg x5 (rG_emb n h o))

theorem ldH_apply (n : Nat) (h : n < 32) (r : Fin 128) (o : Fin 256) :
    ldH arg7 harg7 x6 n h (ix2 r o) = x6 (ix2 r ⟨256 * n + o.val, by omega⟩) :=
  (load_apply harg7 x6 _ _).trans (congrArg x6 (rA_emb n h r o))

/-- The row scale and the reciprocal root, laid twice. -/
def sv : FVec Ideal S128x256 .f32 := wideV (shapeCast S128x128 (ldS arg2 harg2 x1) shapeCasts_S128x128_S128x128)
def rrv : FVec Ideal S128x256 .f32 := wideV (mulf (shapeCast S128x128 (ldS arg5 harg5 x4) shapeCasts_S128x128_S128x128)
  (shapeCast S128x128 (ldS arg5 harg5 x4) shapeCasts_S128x128_S128x128))

theorem sv_apply (q : Fin 128 → EReal) (hq : ∀ r l, x1 (ix2 r l) = q r) (r : Fin 128) (o : Fin 256) :
    sv arg2 harg2 x1 (ix2 r o) = q r := by
  refine wideV_apply _ q (fun r l => ?_) r o
  pointwise [ldS_apply, hq]

theorem rrv_apply (p : Fin 128 → EReal) (hp : ∀ r l, x4 (ix2 r l) = p r) (r : Fin 128) (o : Fin 256) :
    rrv arg5 harg5 x4 (ix2 r o) = p r * p r := by
  refine wideV_apply _ (fun r => p r * p r) (fun r l => ?_) r o
  pointwise [ldS_apply, hp]

/-- A block of the scaled product. -/
theorem dnBlock (q : Fin 128 → EReal) (hq : ∀ r l, x1 (ix2 r l) = q r) (n : Nat) (h : n < 32) (r : Fin 128) (o : Fin 256) :
    dnV (sv arg2 harg2 x1) (ldC arg1 harg1 x0) (ldW arg3 harg3 x2 n h) (ix2 r o)
      = dn x0 q x2 r ⟨256 * n + o.val, by omega⟩ := by
  rw [dnV_apply _ _ _ q (sv_apply arg2 harg2 x1 q hq)]
  unfold dn
  refine congrArg (fun z : EReal => z * q r) (Finset.sum_congr rfl fun k _ => ?_)
  exact congrArg₂ (HMul.hMul (α := EReal) (β := EReal)) (ldC_apply arg1 harg1 x0 _) (ldW_apply arg3 harg3 x2 n h o k)

/-- The lanes of the row sum after `n` blocks. -/
def accSeq : (n : Nat) → n ≤ 32 → FVec Ideal S128x128 .f32
  | 0, _ => broadcast S128x128 (Scalar.ofBits .f32 0)
  | n + 1, h => accV (sv arg2 harg2 x1) (accSeq n (Nat.le_of_succ_le h)) (ldC arg1 harg1 x0) (ldW arg3 harg3 x2 n h)
      (ldX arg4 harg4 x3 n h) (ldG arg6 harg6 x5 n h)

/-- A column's term of the row sum, nothing past the last column. -/
def term (q : Fin 128 → EReal) (r : Fin 128) (j : Nat) : EReal :=
  if h : j < 8192 then x5 (ix2 0 ⟨j, h⟩) * dn x0 q x2 r ⟨j, h⟩ * x3 (ix2 r ⟨j, h⟩) else 0

theorem accSeq_apply (q : Fin 128 → EReal) (hq : ∀ r l, x1 (ix2 r l) = q r) (r l : Fin 128) : ∀ (n : Nat) (h : n ≤ 32),
    accSeq arg1 harg1 arg2 harg2 arg3 harg3 arg4 harg4 arg6 harg6 x0 x1 x2 x3 x5 n h (ix2 r l)
      = ∑ b ∈ Finset.range n, (term x0 x2 x3 x5 q r (256 * b + l.val) + term x0 x2 x3 x5 q r (256 * b + (128 + l.val)))
  | 0, _ => by
    show Ideal.ofBits .f32 0 = _
    rw [Finset.range_zero, Finset.sum_empty]
    exact Ideal.ofBits_zero_f32
  | n + 1, h => by
    have hl := l.isLt
    have t1 : term x0 x2 x3 x5 q r (256 * n + l.val) = x5 (ix2 0 ⟨256 * n + l.val, by omega⟩)
        * dn x0 q x2 r ⟨256 * n + l.val, by omega⟩ * x3 (ix2 r ⟨256 * n + l.val, by omega⟩) := dif_pos (by omega)
    have t2 : term x0 x2 x3 x5 q r (256 * n + (128 + l.val)) = x5 (ix2 0 ⟨256 * n + (128 + l.val), by omega⟩)
        * dn x0 q x2 r ⟨256 * n + (128 + l.val), by omega⟩ * x3 (ix2 r ⟨256 * n + (128 + l.val), by omega⟩) := dif_pos (by omega)
    rw [Finset.sum_range_succ, ← accSeq_apply q hq r l n (Nat.le_of_succ_le h), t1, t2]
    show accV _ _ _ _ _ _ _ = _
    rw [accV_apply, dnBlock _ _ _ _ _ _ _ _ _ q hq, dnBlock _ _ _ _ _ _ _ _ _ q hq, ldX_apply, ldX_apply, ldG_apply, ldG_apply]

/-- The coefficient register. -/
def cv : FVec Ideal S128x128 .f32 :=
  coefV (accSeq arg1 harg1 arg2 harg2 arg3 harg3 arg4 harg4 arg6 harg6 x0 x1 x2 x3 x5 32 (Nat.le_refl _)) (ldS arg5 harg5 x4)

theorem cv_apply (q p : Fin 128 → EReal) (hq : ∀ r l, x1 (ix2 r l) = q r) (hp : ∀ r l, x4 (ix2 r l) = p r) (r l : Fin 128) :
    cv arg1 harg1 arg2 harg2 arg3 harg3 arg4 harg4 arg5 harg5 arg6 harg6 x0 x1 x2 x3 x4 x5 (ix2 r l) = co x0 q x2 x3 p x5 r := by
  unfold cv co rowSum
  rw [coefV_apply, ldS_apply, hp]
  refine congrArg (fun z : EReal => p r * (z * Ideal.ofBits .f32 0x39000000#32)) ?_
  have e : (fun k : Fin 128 => accSeq arg1 harg1 arg2 harg2 arg3 harg3 arg4 harg4 arg6 harg6 x0 x1 x2 x3 x5 32 (Nat.le_refl _) (ix2 r k))
      = fun k : Fin 128 => ∑ b ∈ Finset.range 32, (term x0 x2 x3 x5 q r (256 * b + k.val) + term x0 x2 x3 x5 q r (256 * b + (128 + k.val))) :=
    funext fun k => accSeq_apply arg1 harg1 arg2 harg2 arg3 harg3 arg4 harg4 arg6 harg6 x0 x1 x2 x3 x5 q hq r k 32 _
  show ∑ k : Fin 128, (fun k : Fin 128 => accSeq arg1 harg1 arg2 harg2 arg3 harg3 arg4 harg4 arg6 harg6 x0 x1 x2 x3 x5 32 (Nat.le_refl _) (ix2 r k)) k = _
  rw [e]
  refine (Finset.sum_range (fun l => ∑ b ∈ Finset.range 32, (term x0 x2 x3 x5 q r (256 * b + l) + term x0 x2 x3 x5 q r (256 * b + (128 + l))))).symm.trans ?_
  rw [sum_lanes, Finset.sum_range]
  exact Finset.sum_congr rfl fun j _ => dif_pos j.isLt

/-- One stored block of the scratch. -/
theorem dn_piece (q : Fin 128 → EReal) (hq : ∀ r l, x1 (ix2 r l) = q r) (n : Nat) (h : n < 32) (P : FVec Ideal S128x256 .f32)
    (hP : P = shapeCast S128x256 (dnV (sv arg2 harg2 x1) (ldC arg1 harg1 x0) (ldW arg3 harg3 x2 n h)) shapeCasts_S128x256_S128x256)
    (y : S128x256.Idx) : P y = (fun y : S128x8192.Idx => dn x0 q x2 (y 0) (y 1)) ((rA n h).emb y) := by
  obtain ⟨r, o, rfl⟩ : ∃ (r : Fin 128) (o : Fin 256), y = ix2 r o := ⟨y 0, y 1, eq_ix2 y⟩
  rw [hP, rA_emb, shapeCast_self]
  exact dnBlock arg1 harg1 arg2 harg2 arg3 harg3 x0 x1 x2 q hq n h r o

/-- One stored block of the gain's gradient, over what the block held. -/
theorem dg_piece (q p : Fin 128 → EReal) (hq : ∀ r l, x1 (ix2 r l) = q r) (hp : ∀ r l, x4 (ix2 r l) = p r) (n : Nat) (h : n < 32)
    (V P : FVec Ideal S1x256 .f32) (Z : S1x8192.Idx → EReal) (hV : ∀ y, V y = Z ((rG n h).emb y))
    (hP : P = dgV (sv arg2 harg2 x1) (sv arg5 harg5 x4) (ldC arg1 harg1 x0) (ldW arg3 harg3 x2 n h) (ldX arg4 harg4 x3 n h) V)
    (y : S1x256.Idx) : P y = dg x0 q x2 x3 p Z ((rG n h).emb y) := by
  obtain ⟨o, rfl⟩ : ∃ o : Fin 256, y = ix2 0 o := ⟨y 1, by rw [eq_ix2 y]; congr 1; exact Subsingleton.elim (α := Fin 1) _ _⟩
  rw [hP, dgV_apply, hV, rG_emb]
  unfold dg
  refine congrArg (fun z : EReal => _ + z) (Finset.sum_congr rfl fun i _ => ?_)
  rw [dnBlock _ _ _ _ _ _ _ _ _ q hq, ldX_apply, sv_apply arg5 harg5 x4 p hp]
  rfl

/-- One stored block of the result. -/
theorem dx_piece (q p : Fin 128 → EReal) (hq : ∀ r l, x1 (ix2 r l) = q r) (hp : ∀ r l, x4 (ix2 r l) = p r) (n : Nat) (h : n < 32)
    (P : FVec Ideal S128x256 .bf16) (D : Vec Ideal S128x256 .f32)
    (hD : ∀ y, D y = (fun y : S128x8192.Idx => dn x0 q x2 (y 0) (y 1)) ((rA n h).emb y))
    (hP : P = outV (sv arg5 harg5 x4) (rrv arg5 harg5 x4)
      (wideV (cv arg1 harg1 arg2 harg2 arg3 harg3 arg4 harg4 arg5 harg5 arg6 harg6 x0 x1 x2 x3 x4 x5))
      (ldH arg7 harg7 x6 n h) (ldG arg6 harg6 x5 n h) D (ldX arg4 harg4 x3 n h))
    (y : S128x256.Idx) : P y = dx x0 q x2 x3 p x5 x6 ((rA n h).emb y) := by
  obtain ⟨r, o, rfl⟩ : ∃ (r : Fin 128) (o : Fin 256), y = ix2 r o := ⟨y 0, y 1, eq_ix2 y⟩
  rw [hP, outV_apply, hD, rA_emb, ldX_apply, ldG_apply, ldH_apply, sv_apply arg5 harg5 x4 p hp, rrv_apply arg5 harg5 x4 p hp,
    wideV_apply _ (co x0 q x2 x3 p x5) (cv_apply arg1 harg1 arg2 harg2 arg3 harg3 arg4 harg4 arg5 harg5 arg6 harg6 x0 x1 x2 x3 x4 x5 q p hq hp)]
  rfl

end Loads

/-- A chain of stores of the gain's gradient after one more block. -/
theorem upto_step (G Z : S1x8192.Idx → EReal) (n : Nat) (h : n < 32) (L : List (View.Piece (Elt Ideal) S1x8192 .f32))
    (hL : Upto 1 (256 * n) G Z L) (P : FVec Ideal S1x256 .f32) (hP : ∀ y, P y = G ((rG n h).emb y)) :
    Upto 1 (256 * (n + 1)) G Z (⟨rG n h, P⟩ :: L) := by
  refine ⟨fun y => (hL.1 y).imp fun p hp => ⟨List.mem_cons_of_mem _ hp.1, hp.2⟩, fun y => ?_⟩
  by_cases hh : 256 * n ≤ (y 1).val ∧ (y 1).val < 256 * n + 256
  · have e : (rG n h).emb (ix2 0 ⟨(y 1).val - 256 * n, by omega⟩) = y := by
      rw [rG_emb]
      funext a
      apply Fin.ext
      match a with
      | ⟨0, _⟩ => show 0 = (y 0).val; have h0 : (y 0).val < 1 := (y 0).isLt; omega
      | ⟨1, _⟩ => show 256 * n + ((y 1).val - 256 * n) = (y 1).val; omega
    rw [if_pos (by omega)]
    exact ((congrArg (View.canon _) e.symm).trans (View.canon_cons_emb (rG n h) P L _)).trans ((hP _).trans (congrArg G e))
  · have hy : y ∉ (rG n h).set := fun hy => hh ((Rect.mem_set_unit.mp hy) 1)
    rw [View.canon_cons_of_not_mem ⟨rG n h, P⟩ L hy, hL.2 y]
    by_cases h1 : (y 1).val < 256 * n
    · rw [if_pos h1, if_pos (by omega)]
    · rw [if_neg h1, if_neg (by omega)]

/-- The next block of the chain, loaded, still holds what was there before. -/
theorem upto_back (v : View sig .tc .vmem S1x8192 .f32) (G Z : S1x8192.Idx → EReal) (n : Nat) (h : n < 32)
    (L : List (View.Piece (Elt Ideal) S1x8192 .f32)) (hL : Upto 1 (256 * n) G Z L) (y : S1x256.Idx) :
    v.readCov L (rG n h).toLoadRect y = Z ((rG n h).emb y) := by
  rw [View.readCov_eq_canon_ld v L (rG n h) hL.1]
  show View.canon L ((rG n h).emb y) = _
  rw [hL.2, if_neg]
  obtain ⟨o, rfl⟩ : ∃ o : Fin 256, y = ix2 0 o := ⟨y 1, by rw [eq_ix2 y]; congr 1; exact Subsingleton.elim (α := Fin 1) _ _⟩
  rw [rG_emb]
  show ¬ 256 * n + o.val < 256 * n
  omega

/-- The buffer just filled with zeros. -/
def rZ : Rect S1x8192 := Rect.unit ![0, 0] S1x8192.size inb_S1x8192_S1x8192_0_0

theorem upto_zero (G : S1x8192.Idx → EReal) (P : rZ.shape.Idx → Elt Ideal .f32) (hP : ∀ y, P y = 0) :
    Upto (e := .f32) 1 (256 * 0) G (fun _ => 0) [⟨rZ, P⟩] := by
  have hz : (![0, 0] : Fin 2 → Nat) = fun _ => 0 := by funext a; match a with | ⟨0, _⟩ => rfl | ⟨1, _⟩ => rfl
  refine ⟨fun y => ⟨_, List.mem_singleton.mpr rfl, View.mem_set_unit_zero (S := S1x8192) hz inb_S1x8192_S1x8192_0_0 y⟩, fun y => ?_⟩
  rw [if_neg (Nat.not_lt_zero _)]
  exact ((congrArg (View.canon _) (Rect.emb_unit_full (s := S1x8192) inb_S1x8192_S1x8192_0_0 y).symm).trans
    (View.canon_cons_emb rZ P [] y)).trans (hP y)

end Cert.Norm1Ideal.Hand

end
-- ==== Proof.Norm1RunA.lean ====
/-
  What the first grid point of `norm1` stores: the result, the coefficient, and the gain's gradient
  from zero.
-/
module

public import proofs.«01_k».proof.Proof.Norm1Point
public import proofs.«01_k».proof.Proof.Gen.Norm1Ideal.Frame

@[expose] public section

noncomputable section

open Idealize.ShloMosaic Idealize.ShloMosaic.TcCoe

namespace Cert.Norm1Ideal.Hand

open Cert.Norm1Ideal Cert.Norm1Ideal.Gen Cert.Hand

namespace CaseA

variable (c : Dev nD) (i : grid0.Coords)

  (arg1 : Memref sig .tc .vmem S128x2560 .fp8e5m2) (harg1 : arg1.IsWhole)
  (arg2 : Memref sig .tc .vmem S128x128 .f32) (harg2 : arg2.IsWhole)
  (arg3 : Memref sig .tc .vmem S8192x2560 .fp8e4m3) (harg3 : arg3.IsWhole)
  (arg4 : Memref sig .tc .vmem S128x8192 .bf16) (harg4 : arg4.IsWhole)
  (arg5 : Memref sig .tc .vmem S128x128 .f32) (harg5 : arg5.IsWhole)
  (arg6 : Memref sig .tc .vmem S1x8192 .f32) (harg6 : arg6.IsWhole)
  (arg7 : Memref sig .tc .vmem S128x8192 .f32) (harg7 : arg7.IsWhole)
  (arg8 : Memref sig .tc .vmem S128x8192 .bf16) (harg8 : arg8.IsWhole)
  (arg9 : Memref sig .tc .vmem S128x128 .f32) (harg9 : arg9.IsWhole)
  (arg10 : Memref sig .tc .vmem S1x8192 .f32) (harg10 : arg10.IsWhole)
  (arg11 : Memref sig .tc .vmem S128x8192 .f32) (harg11 : arg11.IsWhole)
  (hc0 : cond0_0 i)
  (x0 : Vec Ideal S128x2560 .fp8e5m2)
  (x1 : Vec Ideal S128x128 .f32)
  (x2 : Vec Ideal S8192x2560 .fp8e4m3)
  (x3 : Vec Ideal S128x8192 .bf16)
  (x4 : Vec Ideal S128x128 .f32)
  (x5 : Vec Ideal S1x8192 .f32)
  (x6 : Vec Ideal S128x8192 .f32)
  (q p : Fin 128 → EReal) (hq : ∀ r l, x1 (ix2 r l) = q r) (hp : ∀ r l, x4 (ix2 r l) = p r)

include hq in
/-- The scratch holds the scaled product. -/
theorem scratch : Parts (fun y : S128x8192.Idx => dn x0 q x2 (y 0) (y 1)) (kernelRun0_A.sl.HS0_32 (F := Ideal) c arg1 harg1 arg2 harg2 arg3 harg3 x0 x1 x2) := by
  refine Parts.cons (rA 31 (by decide)) _ _ (dn_piece arg1 harg1 arg2 harg2 arg3 harg3 x0 x1 x2 q hq 31 (by decide) _ rfl) ?_
  refine Parts.cons (rA 30 (by decide)) _ _ (dn_piece arg1 harg1 arg2 harg2 arg3 harg3 x0 x1 x2 q hq 30 (by decide) _ rfl) ?_
  refine Parts.cons (rA 29 (by decide)) _ _ (dn_piece arg1 harg1 arg2 harg2 arg3 harg3 x0 x1 x2 q hq 29 (by decide) _ rfl) ?_
  refine Parts.cons (rA 28 (by decide)) _ _ (dn_piece arg1 harg1 arg2 harg2 arg3 harg3 x0 x1 x2 q hq 28 (by decide) _ rfl) ?_
  refine Parts.cons (rA 27 (by decide)) _ _ (dn_piece arg1 harg1 arg2 harg2 arg3 harg3 x0 x1 x2 q hq 27 (by decide) _ rfl) ?_
  refine Parts.cons (rA 26 (by decide)) _ _ (dn_piece arg1 harg1 arg2 harg2 arg3 harg3 x0 x1 x2 q hq 26 (by decide) _ rfl) ?_
  refine Parts.cons (rA 25 (by decide)) _ _ (dn_piece arg1 harg1 arg2 harg2 arg3 harg3 x0 x1 x2 q hq 25 (by decide) _ rfl) ?_
  refine Parts.cons (rA 24 (by decide)) _ _ (dn_piece arg1 harg1 arg2 harg2 arg3 harg3 x0 x1 x2 q hq 24 (by decide) _ rfl) ?_
  refine Parts.cons (rA 23 (by decide)) _ _ (dn_piece arg1 harg1 arg2 harg2 arg3 harg3 x0 x1 x2 q hq 23 (by decide) _ rfl) ?_
  refine Parts.cons (rA 22 (by decide)) _ _ (dn_piece arg1 harg1 arg2 harg2 arg3 harg3 x0 x1 x2 q hq 22 (by decide) _ rfl) ?_
  refine Parts.cons (rA 21 (by decide)) _ _ (dn_piece arg1 harg1 arg2 harg2 arg3 harg3 x0 x1 x2 q hq 21 (by decide) _ rfl) ?_
  refine Parts.cons (rA 20 (by decide)) _ _ (dn_piece arg1 harg1 arg2 harg2 arg3 harg3 x0 x1 x2 q hq 20 (by decide) _ rfl) ?_
  refine Parts.cons (rA 19 (by decide)) _ _ (dn_piece arg1 harg1 arg2 harg2 arg3 harg3 x0 x1 x2 q hq 19 (by decide) _ rfl) ?_
  refine Parts.cons (rA 18 (by decide)) _ _ (dn_piece arg1 harg1 arg2 harg2 arg3 harg3 x0 x1 x2 q hq 18 (by decide) _ rfl) ?_
  refine Parts.cons (rA 17 (by decide)) _ _ (dn_piece arg1 harg1 arg2 harg2 arg3 harg3 x0 x1 x2 q hq 17 (by decide) _ rfl) ?_
  refine Parts.cons (rA 16 (by decide)) _ _ (dn_piece arg1 harg1 arg2 harg2 arg3 harg3 x0 x1 x2 q hq 16 (by decide) _ rfl) ?_
  refine Parts.cons (rA 15 (by decide)) _ _ (dn_piece arg1 harg1 arg2 harg2 arg3 harg3 x0 x1 x2 q hq 15 (by decide) _ rfl) ?_
  refine Parts.cons (rA 14 (by decide)) _ _ (dn_piece arg1 harg1 arg2 harg2 arg3 harg3 x0 x1 x2 q hq 14 (by decide) _ rfl) ?_
  refine Parts.cons (rA 13 (by decide)) _ _ (dn_piece arg1 harg1 arg2 harg2 arg3 harg3 x0 x1 x2 q hq 13 (by decide) _ rfl) ?_
  refine Parts.cons (rA 12 (by decide)) _ _ (dn_piece arg1 harg1 arg2 harg2 arg3 harg3 x0 x1 x2 q hq 12 (by decide) _ rfl) ?_
  refine Parts.cons (rA 11 (by decide)) _ _ (dn_piece arg1 harg1 arg2 harg2 arg3 harg3 x0 x1 x2 q hq 11 (by decide) _ rfl) ?_
  refine Parts.cons (rA 10 (by decide)) _ _ (dn_piece arg1 harg1 arg2 harg2 arg3 harg3 x0 x1 x2 q hq 10 (by decide) _ rfl) ?_
  refine Parts.cons (rA 9 (by decide)) _ _ (dn_piece arg1 harg1 arg2 harg2 arg3 harg3 x0 x1 x2 q hq 9 (by decide) _ rfl) ?_
  refine Parts.cons (rA 8 (by decide)) _ _ (dn_piece arg1 harg1 arg2 harg2 arg3 harg3 x0 x1 x2 q hq 8 (by decide) _ rfl) ?_
  refine Parts.cons (rA 7 (by decide)) _ _ (dn_piece arg1 harg1 arg2 harg2 arg3 harg3 x0 x1 x2 q hq 7 (by decide) _ rfl) ?_
  refine Parts.cons (rA 6 (by decide)) _ _ (dn_piece arg1 harg1 arg2 harg2 arg3 harg3 x0 x1 x2 q hq 6 (by decide) _ rfl) ?_
  refine Parts.cons (rA 5 (by decide)) _ _ (dn_piece arg1 harg1 arg2 harg2 arg3 harg3 x0 x1 x2 q hq 5 (by decide) _ rfl) ?_
  refine Parts.cons (rA 4 (by decide)) _ _ (dn_piece arg1 harg1 arg2 harg2 arg3 harg3 x0 x1 x2 q hq 4 (by decide) _ rfl) ?_
  refine Parts.cons (rA 3 (by decide)) _ _ (dn_piece arg1 harg1 arg2 harg2 arg3 harg3 x0 x1 x2 q hq 3 (by decide) _ rfl) ?_
  refine Parts.cons (rA 2 (by decide)) _ _ (dn_piece arg1 harg1 arg2 harg2 arg3 harg3 x0 x1 x2 q hq 2 (by decide) _ rfl) ?_
  refine Parts.cons (rA 1 (by decide)) _ _ (dn_piece arg1 harg1 arg2 harg2 arg3 harg3 x0 x1 x2 q hq 1 (by decide) _ rfl) ?_
  refine Parts.cons (rA 0 (by decide)) _ _ (dn_piece arg1 harg1 arg2 harg2 arg3 harg3 x0 x1 x2 q hq 0 (by decide) _ rfl) ?_
  exact Parts.nil

include hq in
theorem back (n : Nat) (h : n < 32) (y : S128x256.Idx) :
    arg11.view.readCov (kernelRun0_A.sl.HS0_32 (F := Ideal) c arg1 harg1 arg2 harg2 arg3 harg3 x0 x1 x2) (rA n h).toLoadRect y = (fun y : S128x8192.Idx => dn x0 q x2 (y 0) (y 1)) ((rA n h).emb y) :=
  back_apply arg11.view _ _ (scratch c arg1 harg1 arg2 harg2 arg3 harg3 x0 x1 x2 q hq) (fun y => View.cover_of_tiledL (kernelRun0_A.sl.HS0_32 (F := Ideal) c arg1 harg1 arg2 harg2 arg3 harg3 x0 x1 x2) S128x256.size (by sl_kernel_rfl) y) (rA n h) y

/-- The coefficient register is the folded row sum's. -/
theorem coef_eq : (kernelRun0_A.sl.r_59 (F := Ideal) c arg1 harg1 arg2 harg2 arg3 harg3 arg4 harg4 arg5 harg5 arg6 harg6 x0 x1 x2 x3 x4 x5)
    = (cv arg1 harg1 arg2 harg2 arg3 harg3 arg4 harg4 arg5 harg5 arg6 harg6 x0 x1 x2 x3 x4 x5) := rfl

include hq hp in
theorem parts7 : Parts (dx x0 q x2 x3 p x5 x6) (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).1 := by
  refine Parts.cons (rA 31 (by decide)) _ _ (dx_piece arg1 harg1 arg2 harg2 arg3 harg3 arg4 harg4 arg5 harg5 arg6 harg6 arg7 harg7
    x0 x1 x2 x3 x4 x5 x6 q p hq hp 31 (by decide) _ (arg11.view.readCov (kernelRun0_A.sl.HS0_32 (F := Ideal) c arg1 harg1 arg2 harg2 arg3 harg3 x0 x1 x2) (rA 31 (by decide)).toLoadRect)
    (back c arg1 harg1 arg2 harg2 arg3 harg3 arg11 x0 x1 x2 q hq 31 (by decide)) rfl) ?_
  refine Parts.cons (rA 30 (by decide)) _ _ (dx_piece arg1 harg1 arg2 harg2 arg3 harg3 arg4 harg4 arg5 harg5 arg6 harg6 arg7 harg7
    x0 x1 x2 x3 x4 x5 x6 q p hq hp 30 (by decide) _ (arg11.view.readCov (kernelRun0_A.sl.HS0_32 (F := Ideal) c arg1 harg1 arg2 harg2 arg3 harg3 x0 x1 x2) (rA 30 (by decide)).toLoadRect)
    (back c arg1 harg1 arg2 harg2 arg3 harg3 arg11 x0 x1 x2 q hq 30 (by decide)) rfl) ?_
  refine Parts.cons (rA 29 (by decide)) _ _ (dx_piece arg1 harg1 arg2 harg2 arg3 harg3 arg4 harg4 arg5 harg5 arg6 harg6 arg7 harg7
    x0 x1 x2 x3 x4 x5 x6 q p hq hp 29 (by decide) _ (arg11.view.readCov (kernelRun0_A.sl.HS0_32 (F := Ideal) c arg1 harg1 arg2 harg2 arg3 harg3 x0 x1 x2) (rA 29 (by decide)).toLoadRect)
    (back c arg1 harg1 arg2 harg2 arg3 harg3 arg11 x0 x1 x2 q hq 29 (by decide)) rfl) ?_
  refine Parts.cons (rA 28 (by decide)) _ _ (dx_piece arg1 harg1 arg2 harg2 arg3 harg3 arg4 harg4 arg5 harg5 arg6 harg6 arg7 harg7
    x0 x1 x2 x3 x4 x5 x6 q p hq hp 28 (by decide) _ (arg11.view.readCov (kernelRun0_A.sl.HS0_32 (F := Ideal) c arg1 harg1 arg2 harg2 arg3 harg3 x0 x1 x2) (rA 28 (by decide)).toLoadRect)
    (back c arg1 harg1 arg2 harg2 arg3 harg3 arg11 x0 x1 x2 q hq 28 (by decide)) rfl) ?_
  refine Parts.cons (rA 27 (by decide)) _ _ (dx_piece arg1 harg1 arg2 harg2 arg3 harg3 arg4 harg4 arg5 harg5 arg6 harg6 arg7 harg7
    x0 x1 x2 x3 x4 x5 x6 q p hq hp 27 (by decide) _ (arg11.view.readCov (kernelRun0_A.sl.HS0_32 (F := Ideal) c arg1 harg1 arg2 harg2 arg3 harg3 x0 x1 x2) (rA 27 (by decide)).toLoadRect)
    (back c arg1 harg1 arg2 harg2 arg3 harg3 arg11 x0 x1 x2 q hq 27 (by decide)) rfl) ?_
  refine Parts.cons (rA 26 (by decide)) _ _ (dx_piece arg1 harg1 arg2 harg2 arg3 harg3 arg4 harg4 arg5 harg5 arg6 harg6 arg7 harg7
    x0 x1 x2 x3 x4 x5 x6 q p hq hp 26 (by decide) _ (arg11.view.readCov (kernelRun0_A.sl.HS0_32 (F := Ideal) c arg1 harg1 arg2 harg2 arg3 harg3 x0 x1 x2) (rA 26 (by decide)).toLoadRect)
    (back c arg1 harg1 arg2 harg2 arg3 harg3 arg11 x0 x1 x2 q hq 26 (by decide)) rfl) ?_
  refine Parts.cons (rA 25 (by decide)) _ _ (dx_piece arg1 harg1 arg2 harg2 arg3 harg3 arg4 harg4 arg5 harg5 arg6 harg6 arg7 harg7
    x0 x1 x2 x3 x4 x5 x6 q p hq hp 25 (by decide) _ (arg11.view.readCov (kernelRun0_A.sl.HS0_32 (F := Ideal) c arg1 harg1 arg2 harg2 arg3 harg3 x0 x1 x2) (rA 25 (by decide)).toLoadRect)
    (back c arg1 harg1 arg2 harg2 arg3 harg3 arg11 x0 x1 x2 q hq 25 (by decide)) rfl) ?_
  refine Parts.cons (rA 24 (by decide)) _ _ (dx_piece arg1 harg1 arg2 harg2 arg3 harg3 arg4 harg4 arg5 harg5 arg6 harg6 arg7 harg7
    x0 x1 x2 x3 x4 x5 x6 q p hq hp 24 (by decide) _ (arg11.view.readCov (kernelRun0_A.sl.HS0_32 (F := Ideal) c arg1 harg1 arg2 harg2 arg3 harg3 x0 x1 x2) (rA 24 (by decide)).toLoadRect)
    (back c arg1 harg1 arg2 harg2 arg3 harg3 arg11 x0 x1 x2 q hq 24 (by decide)) rfl) ?_
  refine Parts.cons (rA 23 (by decide)) _ _ (dx_piece arg1 harg1 arg2 harg2 arg3 harg3 arg4 harg4 arg5 harg5 arg6 harg6 arg7 harg7
    x0 x1 x2 x3 x4 x5 x6 q p hq hp 23 (by decide) _ (arg11.view.readCov (kernelRun0_A.sl.HS0_32 (F := Ideal) c arg1 harg1 arg2 harg2 arg3 harg3 x0 x1 x2) (rA 23 (by decide)).toLoadRect)
    (back c arg1 harg1 arg2 harg2 arg3 harg3 arg11 x0 x1 x2 q hq 23 (by decide)) rfl) ?_
  refine Parts.cons (rA 22 (by decide)) _ _ (dx_piece arg1 harg1 arg2 harg2 arg3 harg3 arg4 harg4 arg5 harg5 arg6 harg6 arg7 harg7
    x0 x1 x2 x3 x4 x5 x6 q p hq hp 22 (by decide) _ (arg11.view.readCov (kernelRun0_A.sl.HS0_32 (F := Ideal) c arg1 harg1 arg2 harg2 arg3 harg3 x0 x1 x2) (rA 22 (by decide)).toLoadRect)
    (back c arg1 harg1 arg2 harg2 arg3 harg3 arg11 x0 x1 x2 q hq 22 (by decide)) rfl) ?_
  refine Parts.cons (rA 21 (by decide)) _ _ (dx_piece arg1 harg1 arg2 harg2 arg3 harg3 arg4 harg4 arg5 harg5 arg6 harg6 arg7 harg7
    x0 x1 x2 x3 x4 x5 x6 q p hq hp 21 (by decide) _ (arg11.view.readCov (kernelRun0_A.sl.HS0_32 (F := Ideal) c arg1 harg1 arg2 harg2 arg3 harg3 x0 x1 x2) (rA 21 (by decide)).toLoadRect)
    (back c arg1 harg1 arg2 harg2 arg3 harg3 arg11 x0 x1 x2 q hq 21 (by decide)) rfl) ?_
  refine Parts.cons (rA 20 (by decide)) _ _ (dx_piece arg1 harg1 arg2 harg2 arg3 harg3 arg4 harg4 arg5 harg5 arg6 harg6 arg7 harg7
    x0 x1 x2 x3 x4 x5 x6 q p hq hp 20 (by decide) _ (arg11.view.readCov (kernelRun0_A.sl.HS0_32 (F := Ideal) c arg1 harg1 arg2 harg2 arg3 harg3 x0 x1 x2) (rA 20 (by decide)).toLoadRect)
    (back c arg1 harg1 arg2 harg2 arg3 harg3 arg11 x0 x1 x2 q hq 20 (by decide)) rfl) ?_
  refine Parts.cons (rA 19 (by decide)) _ _ (dx_piece arg1 harg1 arg2 harg2 arg3 harg3 arg4 harg4 arg5 harg5 arg6 harg6 arg7 harg7
    x0 x1 x2 x3 x4 x5 x6 q p hq hp 19 (by decide) _ (arg11.view.readCov (kernelRun0_A.sl.HS0_32 (F := Ideal) c arg1 harg1 arg2 harg2 arg3 harg3 x0 x1 x2) (rA 19 (by decide)).toLoadRect)
    (back c arg1 harg1 arg2 harg2 arg3 harg3 arg11 x0 x1 x2 q hq 19 (by decide)) rfl) ?_
  refine Parts.cons (rA 18 (by decide)) _ _ (dx_piece arg1 harg1 arg2 harg2 arg3 harg3 arg4 harg4 arg5 harg5 arg6 harg6 arg7 harg7
    x0 x1 x2 x3 x4 x5 x6 q p hq hp 18 (by decide) _ (arg11.view.readCov (kernelRun0_A.sl.HS0_32 (F := Ideal) c arg1 harg1 arg2 harg2 arg3 harg3 x0 x1 x2) (rA 18 (by decide)).toLoadRect)
    (back c arg1 harg1 arg2 harg2 arg3 harg3 arg11 x0 x1 x2 q hq 18 (by decide)) rfl) ?_
  refine Parts.cons (rA 17 (by decide)) _ _ (dx_piece arg1 harg1 arg2 harg2 arg3 harg3 arg4 harg4 arg5 harg5 arg6 harg6 arg7 harg7
    x0 x1 x2 x3 x4 x5 x6 q p hq hp 17 (by decide) _ (arg11.view.readCov (kernelRun0_A.sl.HS0_32 (F := Ideal) c arg1 harg1 arg2 harg2 arg3 harg3 x0 x1 x2) (rA 17 (by decide)).toLoadRect)
    (back c arg1 harg1 arg2 harg2 arg3 harg3 arg11 x0 x1 x2 q hq 17 (by decide)) rfl) ?_
  refine Parts.cons (rA 16 (by decide)) _ _ (dx_piece arg1 harg1 arg2 harg2 arg3 harg3 arg4 harg4 arg5 harg5 arg6 harg6 arg7 harg7
    x0 x1 x2 x3 x4 x5 x6 q p hq hp 16 (by decide) _ (arg11.view.readCov (kernelRun0_A.sl.HS0_32 (F := Ideal) c arg1 harg1 arg2 harg2 arg3 harg3 x0 x1 x2) (rA 16 (by decide)).toLoadRect)
    (back c arg1 harg1 arg2 harg2 arg3 harg3 arg11 x0 x1 x2 q hq 16 (by decide)) rfl) ?_
  refine Parts.cons (rA 15 (by decide)) _ _ (dx_piece arg1 harg1 arg2 harg2 arg3 harg3 arg4 harg4 arg5 harg5 arg6 harg6 arg7 harg7
    x0 x1 x2 x3 x4 x5 x6 q p hq hp 15 (by decide) _ (arg11.view.readCov (kernelRun0_A.sl.HS0_32 (F := Ideal) c arg1 harg1 arg2 harg2 arg3 harg3 x0 x1 x2) (rA 15 (by decide)).toLoadRect)
    (back c arg1 harg1 arg2 harg2 arg3 harg3 arg11 x0 x1 x2 q hq 15 (by decide)) rfl) ?_
  refine Parts.cons (rA 14 (by decide)) _ _ (dx_piece arg1 harg1 arg2 harg2 arg3 harg3 arg4 harg4 arg5 harg5 arg6 harg6 arg7 harg7
    x0 x1 x2 x3 x4 x5 x6 q p hq hp 14 (by decide) _ (arg11.view.readCov (kernelRun0_A.sl.HS0_32 (F := Ideal) c arg1 harg1 arg2 harg2 arg3 harg3 x0 x1 x2) (rA 14 (by decide)).toLoadRect)
    (back c arg1 harg1 arg2 harg2 arg3 harg3 arg11 x0 x1 x2 q hq 14 (by decide)) rfl) ?_
  refine Parts.cons (rA 13 (by decide)) _ _ (dx_piece arg1 harg1 arg2 harg2 arg3 harg3 arg4 harg4 arg5 harg5 arg6 harg6 arg7 harg7
    x0 x1 x2 x3 x4 x5 x6 q p hq hp 13 (by decide) _ (arg11.view.readCov (kernelRun0_A.sl.HS0_32 (F := Ideal) c arg1 harg1 arg2 harg2 arg3 harg3 x0 x1 x2) (rA 13 (by decide)).toLoadRect)
    (back c arg1 harg1 arg2 harg2 arg3 harg3 arg11 x0 x1 x2 q hq 13 (by decide)) rfl) ?_
  refine Parts.cons (rA 12 (by decide)) _ _ (dx_piece arg1 harg1 arg2 harg2 arg3 harg3 arg4 harg4 arg5 harg5 arg6 harg6 arg7 harg7
    x0 x1 x2 x3 x4 x5 x6 q p hq hp 12 (by decide) _ (arg11.view.readCov (kernelRun0_A.sl.HS0_32 (F := Ideal) c arg1 harg1 arg2 harg2 arg3 harg3 x0 x1 x2) (rA 12 (by decide)).toLoadRect)
    (back c arg1 harg1 arg2 harg2 arg3 harg3 arg11 x0 x1 x2 q hq 12 (by decide)) rfl) ?_
  refine Parts.cons (rA 11 (by decide)) _ _ (dx_piece arg1 harg1 arg2 harg2 arg3 harg3 arg4 harg4 arg5 harg5 arg6 harg6 arg7 harg7
    x0 x1 x2 x3 x4 x5 x6 q p hq hp 11 (by decide) _ (arg11.view.readCov (kernelRun0_A.sl.HS0_32 (F := Ideal) c arg1 harg1 arg2 harg2 arg3 harg3 x0 x1 x2) (rA 11 (by decide)).toLoadRect)
    (back c arg1 harg1 arg2 harg2 arg3 harg3 arg11 x0 x1 x2 q hq 11 (by decide)) rfl) ?_
  refine Parts.cons (rA 10 (by decide)) _ _ (dx_piece arg1 harg1 arg2 harg2 arg3 harg3 arg4 harg4 arg5 harg5 arg6 harg6 arg7 harg7
    x0 x1 x2 x3 x4 x5 x6 q p hq hp 10 (by decide) _ (arg11.view.readCov (kernelRun0_A.sl.HS0_32 (F := Ideal) c arg1 harg1 arg2 harg2 arg3 harg3 x0 x1 x2) (rA 10 (by decide)).toLoadRect)
    (back c arg1 harg1 arg2 harg2 arg3 harg3 arg11 x0 x1 x2 q hq 10 (by decide)) rfl) ?_
  refine Parts.cons (rA 9 (by decide)) _ _ (dx_piece arg1 harg1 arg2 harg2 arg3 harg3 arg4 harg4 arg5 harg5 arg6 harg6 arg7 harg7
    x0 x1 x2 x3 x4 x5 x6 q p hq hp 9 (by decide) _ (arg11.view.readCov (kernelRun0_A.sl.HS0_32 (F := Ideal) c arg1 harg1 arg2 harg2 arg3 harg3 x0 x1 x2) (rA 9 (by decide)).toLoadRect)
    (back c arg1 harg1 arg2 harg2 arg3 harg3 arg11 x0 x1 x2 q hq 9 (by decide)) rfl) ?_
  refine Parts.cons (rA 8 (by decide)) _ _ (dx_piece arg1 harg1 arg2 harg2 arg3 harg3 arg4 harg4 arg5 harg5 arg6 harg6 arg7 harg7
    x0 x1 x2 x3 x4 x5 x6 q p hq hp 8 (by decide) _ (arg11.view.readCov (kernelRun0_A.sl.HS0_32 (F := Ideal) c arg1 harg1 arg2 harg2 arg3 harg3 x0 x1 x2) (rA 8 (by decide)).toLoadRect)
    (back c arg1 harg1 arg2 harg2 arg3 harg3 arg11 x0 x1 x2 q hq 8 (by decide)) rfl) ?_
  refine Parts.cons (rA 7 (by decide)) _ _ (dx_piece arg1 harg1 arg2 harg2 arg3 harg3 arg4 harg4 arg5 harg5 arg6 harg6 arg7 harg7
    x0 x1 x2 x3 x4 x5 x6 q p hq hp 7 (by decide) _ (arg11.view.readCov (kernelRun0_A.sl.HS0_32 (F := Ideal) c arg1 harg1 arg2 harg2 arg3 harg3 x0 x1 x2) (rA 7 (by decide)).toLoadRect)
    (back c arg1 harg1 arg2 harg2 arg3 harg3 arg11 x0 x1 x2 q hq 7 (by decide)) rfl) ?_
  refine Parts.cons (rA 6 (by decide)) _ _ (dx_piece arg1 harg1 arg2 harg2 arg3 harg3 arg4 harg4 arg5 harg5 arg6 harg6 arg7 harg7
    x0 x1 x2 x3 x4 x5 x6 q p hq hp 6 (by decide) _ (arg11.view.readCov (kernelRun0_A.sl.HS0_32 (F := Ideal) c arg1 harg1 arg2 harg2 arg3 harg3 x0 x1 x2) (rA 6 (by decide)).toLoadRect)
    (back c arg1 harg1 arg2 harg2 arg3 harg3 arg11 x0 x1 x2 q hq 6 (by decide)) rfl) ?_
  refine Parts.cons (rA 5 (by decide)) _ _ (dx_piece arg1 harg1 arg2 harg2 arg3 harg3 arg4 harg4 arg5 harg5 arg6 harg6 arg7 harg7
    x0 x1 x2 x3 x4 x5 x6 q p hq hp 5 (by decide) _ (arg11.view.readCov (kernelRun0_A.sl.HS0_32 (F := Ideal) c arg1 harg1 arg2 harg2 arg3 harg3 x0 x1 x2) (rA 5 (by decide)).toLoadRect)
    (back c arg1 harg1 arg2 harg2 arg3 harg3 arg11 x0 x1 x2 q hq 5 (by decide)) rfl) ?_
  refine Parts.cons (rA 4 (by decide)) _ _ (dx_piece arg1 harg1 arg2 harg2 arg3 harg3 arg4 harg4 arg5 harg5 arg6 harg6 arg7 harg7
    x0 x1 x2 x3 x4 x5 x6 q p hq hp 4 (by decide) _ (arg11.view.readCov (kernelRun0_A.sl.HS0_32 (F := Ideal) c arg1 harg1 arg2 harg2 arg3 harg3 x0 x1 x2) (rA 4 (by decide)).toLoadRect)
    (back c arg1 harg1 arg2 harg2 arg3 harg3 arg11 x0 x1 x2 q hq 4 (by decide)) rfl) ?_
  refine Parts.cons (rA 3 (by decide)) _ _ (dx_piece arg1 harg1 arg2 harg2 arg3 harg3 arg4 harg4 arg5 harg5 arg6 harg6 arg7 harg7
    x0 x1 x2 x3 x4 x5 x6 q p hq hp 3 (by decide) _ (arg11.view.readCov (kernelRun0_A.sl.HS0_32 (F := Ideal) c arg1 harg1 arg2 harg2 arg3 harg3 x0 x1 x2) (rA 3 (by decide)).toLoadRect)
    (back c arg1 harg1 arg2 harg2 arg3 harg3 arg11 x0 x1 x2 q hq 3 (by decide)) rfl) ?_
  refine Parts.cons (rA 2 (by decide)) _ _ (dx_piece arg1 harg1 arg2 harg2 arg3 harg3 arg4 harg4 arg5 harg5 arg6 harg6 arg7 harg7
    x0 x1 x2 x3 x4 x5 x6 q p hq hp 2 (by decide) _ (arg11.view.readCov (kernelRun0_A.sl.HS0_32 (F := Ideal) c arg1 harg1 arg2 harg2 arg3 harg3 x0 x1 x2) (rA 2 (by decide)).toLoadRect)
    (back c arg1 harg1 arg2 harg2 arg3 harg3 arg11 x0 x1 x2 q hq 2 (by decide)) rfl) ?_
  refine Parts.cons (rA 1 (by decide)) _ _ (dx_piece arg1 harg1 arg2 harg2 arg3 harg3 arg4 harg4 arg5 harg5 arg6 harg6 arg7 harg7
    x0 x1 x2 x3 x4 x5 x6 q p hq hp 1 (by decide) _ (arg11.view.readCov (kernelRun0_A.sl.HS0_32 (F := Ideal) c arg1 harg1 arg2 harg2 arg3 harg3 x0 x1 x2) (rA 1 (by decide)).toLoadRect)
    (back c arg1 harg1 arg2 harg2 arg3 harg3 arg11 x0 x1 x2 q hq 1 (by decide)) rfl) ?_
  refine Parts.cons (rA 0 (by decide)) _ _ (dx_piece arg1 harg1 arg2 harg2 arg3 harg3 arg4 harg4 arg5 harg5 arg6 harg6 arg7 harg7
    x0 x1 x2 x3 x4 x5 x6 q p hq hp 0 (by decide) _ (arg11.view.readCov (kernelRun0_A.sl.HS0_32 (F := Ideal) c arg1 harg1 arg2 harg2 arg3 harg3 x0 x1 x2) (rA 0 (by decide)).toLoadRect)
    (back c arg1 harg1 arg2 harg2 arg3 harg3 arg11 x0 x1 x2 q hq 0 (by decide)) rfl) ?_
  exact Parts.nil

include hq hp in
theorem parts8 : Parts (e := .f32) (fun y : S128x128.Idx => co x0 q x2 x3 p x5 (y 0)) (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).2.1 := by
  refine Parts.cons (Rect.unit ![0, 0] S128x128.size inb_S128x128_S128x128_0_0) _ _ (fun y => ?_) Parts.nil
  rw [Rect.emb_unit_full (s := S128x128) inb_S128x128_S128x128_0_0 y, eq_ix2 y]
  exact cv_apply arg1 harg1 arg2 harg2 arg3 harg3 arg4 harg4 arg5 harg5 arg6 harg6 x0 x1 x2 x3 x4 x5 q p hq hp (y 0) (y 1)

theorem chain0 (G : S1x8192.Idx → EReal) : Upto 1 (256 * 0) G (fun _ => 0) (kernelRun0_A.sl.H9_1 (F := Ideal)) :=
  upto_zero G _ fun y => by
    pointwise [k0_pay4]

include hq hp in
theorem chain1 : Upto 1 (256 * 1) (dg x0 q x2 x3 p (fun _ => 0)) (fun _ => 0) (kernelRun0_A.sl.H9_2 (F := Ideal) c arg1 harg1 arg2 harg2 arg3 harg3 arg4 harg4 arg5 harg5 arg10 x0 x1 x2 x3 x4) :=
  upto_step (dg x0 q x2 x3 p (fun _ => 0)) _ 0 (by decide) (kernelRun0_A.sl.H9_1 (F := Ideal)) (chain0 (dg x0 q x2 x3 p (fun _ => 0))) _
    (dg_piece arg1 harg1 arg2 harg2 arg3 harg3 arg4 harg4 arg5 harg5 x0 x1 x2 x3 x4 q p hq hp 0 (by decide) (arg10.view.readCov (kernelRun0_A.sl.H9_1 (F := Ideal)) (rG 0 (by decide)).toLoadRect) _ _
      (upto_back arg10.view _ _ 0 (by decide) _ (chain0 (dg x0 q x2 x3 p (fun _ => 0)))) rfl)

include hq hp in
theorem chain2 : Upto 1 (256 * 2) (dg x0 q x2 x3 p (fun _ => 0)) (fun _ => 0) (kernelRun0_A.sl.H9_3 (F := Ideal) c arg1 harg1 arg2 harg2 arg3 harg3 arg4 harg4 arg5 harg5 arg10 x0 x1 x2 x3 x4) :=
  upto_step (dg x0 q x2 x3 p (fun _ => 0)) _ 1 (by decide) (kernelRun0_A.sl.H9_2 (F := Ideal) c arg1 harg1 arg2 harg2 arg3 harg3 arg4 harg4 arg5 harg5 arg10 x0 x1 x2 x3 x4) (chain1 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 1 (by decide) (arg10.view.readCov (kernelRun0_A.sl.H9_2 (F := Ideal) c arg1 harg1 arg2 harg2 arg3 harg3 arg4 harg4 arg5 harg5 arg10 x0 x1 x2 x3 x4) (rG 1 (by decide)).toLoadRect) _ _
      (upto_back arg10.view _ _ 1 (by decide) _ (chain1 c arg1 harg1 arg2 harg2 arg3 harg3 arg4 harg4 arg5 harg5 arg10 x0 x1 x2 x3 x4 q p hq hp)) rfl)

include hq hp in
theorem chain3 : Upto 1 (256 * 3) (dg x0 q x2 x3 p (fun _ => 0)) (fun _ => 0) (kernelRun0_A.sl.H9_4 (F := Ideal) c arg1 harg1 arg2 harg2 arg3 harg3 arg4 harg4 arg5 harg5 arg10 x0 x1 x2 x3 x4) :=
  upto_step (dg x0 q x2 x3 p (fun _ => 0)) _ 2 (by decide) (kernelRun0_A.sl.H9_3 (F := Ideal) c arg1 harg1 arg2 harg2 arg3 harg3 arg4 harg4 arg5 harg5 arg10 x0 x1 x2 x3 x4) (chain2 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 2 (by decide) (arg10.view.readCov (kernelRun0_A.sl.H9_3 (F := Ideal) c arg1 harg1 arg2 harg2 arg3 harg3 arg4 harg4 arg5 harg5 arg10 x0 x1 x2 x3 x4) (rG 2 (by decide)).toLoadRect) _ _
      (upto_back arg10.view _ _ 2 (by decide) _ (chain2 c arg1 harg1 arg2 harg2 arg3 harg3 arg4 harg4 arg5 harg5 arg10 x0 x1 x2 x3 x4 q p hq hp)) rfl)

include hq hp in
theorem chain4 : Upto 1 (256 * 4) (dg x0 q x2 x3 p (fun _ => 0)) (fun _ => 0) (kernelRun0_A.sl.H9_5 (F := Ideal) c arg1 harg1 arg2 harg2 arg3 harg3 arg4 harg4 arg5 harg5 arg10 x0 x1 x2 x3 x4) :=
  upto_step (dg x0 q x2 x3 p (fun _ => 0)) _ 3 (by decide) (kernelRun0_A.sl.H9_4 (F := Ideal) c arg1 harg1 arg2 harg2 arg3 harg3 arg4 harg4 arg5 harg5 arg10 x0 x1 x2 x3 x4) (chain3 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 3 (by decide) (arg10.view.readCov (kernelRun0_A.sl.H9_4 (F := Ideal) c arg1 harg1 arg2 harg2 arg3 harg3 arg4 harg4 arg5 harg5 arg10 x0 x1 x2 x3 x4) (rG 3 (by decide)).toLoadRect) _ _
      (upto_back arg10.view _ _ 3 (by decide) _ (chain3 c arg1 harg1 arg2 harg2 arg3 harg3 arg4 harg4 arg5 harg5 arg10 x0 x1 x2 x3 x4 q p hq hp)) rfl)

include hq hp in
theorem chain5 : Upto 1 (256 * 5) (dg x0 q x2 x3 p (fun _ => 0)) (fun _ => 0) (kernelRun0_A.sl.H9_6 (F := Ideal) c arg1 harg1 arg2 harg2 arg3 harg3 arg4 harg4 arg5 harg5 arg10 x0 x1 x2 x3 x4) :=
  upto_step (dg x0 q x2 x3 p (fun _ => 0)) _ 4 (by decide) (kernelRun0_A.sl.H9_5 (F := Ideal) c arg1 harg1 arg2 harg2 arg3 harg3 arg4 harg4 arg5 harg5 arg10 x0 x1 x2 x3 x4) (chain4 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 4 (by decide) (arg10.view.readCov (kernelRun0_A.sl.H9_5 (F := Ideal) c arg1 harg1 arg2 harg2 arg3 harg3 arg4 harg4 arg5 harg5 arg10 x0 x1 x2 x3 x4) (rG 4 (by decide)).toLoadRect) _ _
      (upto_back arg10.view _ _ 4 (by decide) _ (chain4 c arg1 harg1 arg2 harg2 arg3 harg3 arg4 harg4 arg5 harg5 arg10 x0 x1 x2 x3 x4 q p hq hp)) rfl)

include hq hp in
theorem chain6 : Upto 1 (256 * 6) (dg x0 q x2 x3 p (fun _ => 0)) (fun _ => 0) (kernelRun0_A.sl.H9_7 (F := Ideal) c arg1 harg1 arg2 harg2 arg3 harg3 arg4 harg4 arg5 harg5 arg10 x0 x1 x2 x3 x4) :=
  upto_step (dg x0 q x2 x3 p (fun _ => 0)) _ 5 (by decide) (kernelRun0_A.sl.H9_6 (F := Ideal) c arg1 harg1 arg2 harg2 arg3 harg3 arg4 harg4 arg5 harg5 arg10 x0 x1 x2 x3 x4) (chain5 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 5 (by decide) (arg10.view.readCov (kernelRun0_A.sl.H9_6 (F := Ideal) c arg1 harg1 arg2 harg2 arg3 harg3 arg4 harg4 arg5 harg5 arg10 x0 x1 x2 x3 x4) (rG 5 (by decide)).toLoadRect) _ _
      (upto_back arg10.view _ _ 5 (by decide) _ (chain5 c arg1 harg1 arg2 harg2 arg3 harg3 arg4 harg4 arg5 harg5 arg10 x0 x1 x2 x3 x4 q p hq hp)) rfl)

include hq hp in
theorem chain7 : Upto 1 (256 * 7) (dg x0 q x2 x3 p (fun _ => 0)) (fun _ => 0) (kernelRun0_A.sl.H9_8 (F := Ideal) c arg1 harg1 arg2 harg2 arg3 harg3 arg4 harg4 arg5 harg5 arg10 x0 x1 x2 x3 x4) :=
  upto_step (dg x0 q x2 x3 p (fun _ => 0)) _ 6 (by decide) (kernelRun0_A.sl.H9_7 (F := Ideal) c arg1 harg1 arg2 harg2 arg3 harg3 arg4 harg4 arg5 harg5 arg10 x0 x1 x2 x3 x4) (chain6 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 6 (by decide) (arg10.view.readCov (kernelRun0_A.sl.H9_7 (F := Ideal) c arg1 harg1 arg2 harg2 arg3 harg3 arg4 harg4 arg5 harg5 arg10 x0 x1 x2 x3 x4) (rG 6 (by decide)).toLoadRect) _ _
      (upto_back arg10.view _ _ 6 (by decide) _ (chain6 c arg1 harg1 arg2 harg2 arg3 harg3 arg4 harg4 arg5 harg5 arg10 x0 x1 x2 x3 x4 q p hq hp)) rfl)

include hq hp in
theorem chain8 : Upto 1 (256 * 8) (dg x0 q x2 x3 p (fun _ => 0)) (fun _ => 0) (kernelRun0_A.sl.H9_9 (F := Ideal) c arg1 harg1 arg2 harg2 arg3 harg3 arg4 harg4 arg5 harg5 arg10 x0 x1 x2 x3 x4) :=
  upto_step (dg x0 q x2 x3 p (fun _ => 0)) _ 7 (by decide) (kernelRun0_A.sl.H9_8 (F := Ideal) c arg1 harg1 arg2 harg2 arg3 harg3 arg4 harg4 arg5 harg5 arg10 x0 x1 x2 x3 x4) (chain7 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 7 (by decide) (arg10.view.readCov (kernelRun0_A.sl.H9_8 (F := Ideal) c arg1 harg1 arg2 harg2 arg3 harg3 arg4 harg4 arg5 harg5 arg10 x0 x1 x2 x3 x4) (rG 7 (by decide)).toLoadRect) _ _
      (upto_back arg10.view _ _ 7 (by decide) _ (chain7 c arg1 harg1 arg2 harg2 arg3 harg3 arg4 harg4 arg5 harg5 arg10 x0 x1 x2 x3 x4 q p hq hp)) rfl)

include hq hp in
theorem chain9 : Upto 1 (256 * 9) (dg x0 q x2 x3 p (fun _ => 0)) (fun _ => 0) (kernelRun0_A.sl.H9_10 (F := Ideal) c arg1 harg1 arg2 harg2 arg3 harg3 arg4 harg4 arg5 harg5 arg10 x0 x1 x2 x3 x4) :=
  upto_step (dg x0 q x2 x3 p (fun _ => 0)) _ 8 (by decide) (kernelRun0_A.sl.H9_9 (F := Ideal) c arg1 harg1 arg2 harg2 arg3 harg3 arg4 harg4 arg5 harg5 arg10 x0 x1 x2 x3 x4) (chain8 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 8 (by decide) (arg10.view.readCov (kernelRun0_A.sl.H9_9 (F := Ideal) c arg1 harg1 arg2 harg2 arg3 harg3 arg4 harg4 arg5 harg5 arg10 x0 x1 x2 x3 x4) (rG 8 (by decide)).toLoadRect) _ _
      (upto_back arg10.view _ _ 8 (by decide) _ (chain8 c arg1 harg1 arg2 harg2 arg3 harg3 arg4 harg4 arg5 harg5 arg10 x0 x1 x2 x3 x4 q p hq hp)) rfl)

include hq hp in
theorem chain10 : Upto 1 (256 * 10) (dg x0 q x2 x3 p (fun _ => 0)) (fun _ => 0) (kernelRun0_A.sl.H9_11 (F := Ideal) c arg1 harg1 arg2 harg2 arg3 harg3 arg4 harg4 arg5 harg5 arg10 x0 x1 x2 x3 x4) :=
  upto_step (dg x0 q x2 x3 p (fun _ => 0)) _ 9 (by decide) (kernelRun0_A.sl.H9_10 (F := Ideal) c arg1 harg1 arg2 harg2 arg3 harg3 arg4 harg4 arg5 harg5 arg10 x0 x1 x2 x3 x4) (chain9 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 9 (by decide) (arg10.view.readCov (kernelRun0_A.sl.H9_10 (F := Ideal) c arg1 harg1 arg2 harg2 arg3 harg3 arg4 harg4 arg5 harg5 arg10 x0 x1 x2 x3 x4) (rG 9 (by decide)).toLoadRect) _ _
      (upto_back arg10.view _ _ 9 (by decide) _ (chain9 c arg1 harg1 arg2 harg2 arg3 harg3 arg4 harg4 arg5 harg5 arg10 x0 x1 x2 x3 x4 q p hq hp)) rfl)

include hq hp in
theorem chain11 : Upto 1 (256 * 11) (dg x0 q x2 x3 p (fun _ => 0)) (fun _ => 0) (kernelRun0_A.sl.H9_12 (F := Ideal) c arg1 harg1 arg2 harg2 arg3 harg3 arg4 harg4 arg5 harg5 arg10 x0 x1 x2 x3 x4) :=
  upto_step (dg x0 q x2 x3 p (fun _ => 0)) _ 10 (by decide) (kernelRun0_A.sl.H9_11 (F := Ideal) c arg1 harg1 arg2 harg2 arg3 harg3 arg4 harg4 arg5 harg5 arg10 x0 x1 x2 x3 x4) (chain10 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 10 (by decide) (arg10.view.readCov (kernelRun0_A.sl.H9_11 (F := Ideal) c arg1 harg1 arg2 harg2 arg3 harg3 arg4 harg4 arg5 harg5 arg10 x0 x1 x2 x3 x4) (rG 10 (by decide)).toLoadRect) _ _
      (upto_back arg10.view _ _ 10 (by decide) _ (chain10 c arg1 harg1 arg2 harg2 arg3 harg3 arg4 harg4 arg5 harg5 arg10 x0 x1 x2 x3 x4 q p hq hp)) rfl)

include hq hp in
theorem chain12 : Upto 1 (256 * 12) (dg x0 q x2 x3 p (fun _ => 0)) (fun _ => 0) (kernelRun0_A.sl.H9_13 (F := Ideal) c arg1 harg1 arg2 harg2 arg3 harg3 arg4 harg4 arg5 harg5 arg10 x0 x1 x2 x3 x4) :=
  upto_step (dg x0 q x2 x3 p (fun _ => 0)) _ 11 (by decide) (kernelRun0_A.sl.H9_12 (F := Ideal) c arg1 harg1 arg2 harg2 arg3 harg3 arg4 harg4 arg5 harg5 arg10 x0 x1 x2 x3 x4) (chain11 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 11 (by decide) (arg10.view.readCov (kernelRun0_A.sl.H9_12 (F := Ideal) c arg1 harg1 arg2 harg2 arg3 harg3 arg4 harg4 arg5 harg5 arg10 x0 x1 x2 x3 x4) (rG 11 (by decide)).toLoadRect) _ _
      (upto_back arg10.view _ _ 11 (by decide) _ (chain11 c arg1 harg1 arg2 harg2 arg3 harg3 arg4 harg4 arg5 harg5 arg10 x0 x1 x2 x3 x4 q p hq hp)) rfl)

include hq hp in
theorem chain13 : Upto 1 (256 * 13) (dg x0 q x2 x3 p (fun _ => 0)) (fun _ => 0) (kernelRun0_A.sl.H9_14 (F := Ideal) c arg1 harg1 arg2 harg2 arg3 harg3 arg4 harg4 arg5 harg5 arg10 x0 x1 x2 x3 x4) :=
  upto_step (dg x0 q x2 x3 p (fun _ => 0)) _ 12 (by decide) (kernelRun0_A.sl.H9_13 (F := Ideal) c arg1 harg1 arg2 harg2 arg3 harg3 arg4 harg4 arg5 harg5 arg10 x0 x1 x2 x3 x4) (chain12 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 12 (by decide) (arg10.view.readCov (kernelRun0_A.sl.H9_13 (F := Ideal) c arg1 harg1 arg2 harg2 arg3 harg3 arg4 harg4 arg5 harg5 arg10 x0 x1 x2 x3 x4) (rG 12 (by decide)).toLoadRect) _ _
      (upto_back arg10.view _ _ 12 (by decide) _ (chain12 c arg1 harg1 arg2 harg2 arg3 harg3 arg4 harg4 arg5 harg5 arg10 x0 x1 x2 x3 x4 q p hq hp)) rfl)

include hq hp in
theorem chain14 : Upto 1 (256 * 14) (dg x0 q x2 x3 p (fun _ => 0)) (fun _ => 0) (kernelRun0_A.sl.H9_15 (F := Ideal) c arg1 harg1 arg2 harg2 arg3 harg3 arg4 harg4 arg5 harg5 arg10 x0 x1 x2 x3 x4) :=
  upto_step (dg x0 q x2 x3 p (fun _ => 0)) _ 13 (by decide) (kernelRun0_A.sl.H9_14 (F := Ideal) c arg1 harg1 arg2 harg2 arg3 harg3 arg4 harg4 arg5 harg5 arg10 x0 x1 x2 x3 x4) (chain13 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 13 (by decide) (arg10.view.readCov (kernelRun0_A.sl.H9_14 (F := Ideal) c arg1 harg1 arg2 harg2 arg3 harg3 arg4 harg4 arg5 harg5 arg10 x0 x1 x2 x3 x4) (rG 13 (by decide)).toLoadRect) _ _
      (upto_back arg10.view _ _ 13 (by decide) _ (chain13 c arg1 harg1 arg2 harg2 arg3 harg3 arg4 harg4 arg5 harg5 arg10 x0 x1 x2 x3 x4 q p hq hp)) rfl)

include hq hp in
theorem chain15 : Upto 1 (256 * 15) (dg x0 q x2 x3 p (fun _ => 0)) (fun _ => 0) (kernelRun0_A.sl.H9_16 (F := Ideal) c arg1 harg1 arg2 harg2 arg3 harg3 arg4 harg4 arg5 harg5 arg10 x0 x1 x2 x3 x4) :=
  upto_step (dg x0 q x2 x3 p (fun _ => 0)) _ 14 (by decide) (kernelRun0_A.sl.H9_15 (F := Ideal) c arg1 harg1 arg2 harg2 arg3 harg3 arg4 harg4 arg5 harg5 arg10 x0 x1 x2 x3 x4) (chain14 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 14 (by decide) (arg10.view.readCov (kernelRun0_A.sl.H9_15 (F := Ideal) c arg1 harg1 arg2 harg2 arg3 harg3 arg4 harg4 arg5 harg5 arg10 x0 x1 x2 x3 x4) (rG 14 (by decide)).toLoadRect) _ _
      (upto_back arg10.view _ _ 14 (by decide) _ (chain14 c arg1 harg1 arg2 harg2 arg3 harg3 arg4 harg4 arg5 harg5 arg10 x0 x1 x2 x3 x4 q p hq hp)) rfl)

include hq hp in
theorem chain16 : Upto 1 (256 * 16) (dg x0 q x2 x3 p (fun _ => 0)) (fun _ => 0) (kernelRun0_A.sl.H9_17 (F := Ideal) c arg1 harg1 arg2 harg2 arg3 harg3 arg4 harg4 arg5 harg5 arg10 x0 x1 x2 x3 x4) :=
  upto_step (dg x0 q x2 x3 p (fun _ => 0)) _ 15 (by decide) (kernelRun0_A.sl.H9_16 (F := Ideal) c arg1 harg1 arg2 harg2 arg3 harg3 arg4 harg4 arg5 harg5 arg10 x0 x1 x2 x3 x4) (chain15 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 15 (by decide) (arg10.view.readCov (kernelRun0_A.sl.H9_16 (F := Ideal) c arg1 harg1 arg2 harg2 arg3 harg3 arg4 harg4 arg5 harg5 arg10 x0 x1 x2 x3 x4) (rG 15 (by decide)).toLoadRect) _ _
      (upto_back arg10.view _ _ 15 (by decide) _ (chain15 c arg1 harg1 arg2 harg2 arg3 harg3 arg4 harg4 arg5 harg5 arg10 x0 x1 x2 x3 x4 q p hq hp)) rfl)

include hq hp in
theorem chain17 : Upto 1 (256 * 17) (dg x0 q x2 x3 p (fun _ => 0)) (fun _ => 0) (kernelRun0_A.sl.H9_18 (F := Ideal) c arg1 harg1 arg2 harg2 arg3 harg3 arg4 harg4 arg5 harg5 arg10 x0 x1 x2 x3 x4) :=
  upto_step (dg x0 q x2 x3 p (fun _ => 0)) _ 16 (by decide) (kernelRun0_A.sl.H9_17 (F := Ideal) c arg1 harg1 arg2 harg2 arg3 harg3 arg4 harg4 arg5 harg5 arg10 x0 x1 x2 x3 x4) (chain16 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 16 (by decide) (arg10.view.readCov (kernelRun0_A.sl.H9_17 (F := Ideal) c arg1 harg1 arg2 harg2 arg3 harg3 arg4 harg4 arg5 harg5 arg10 x0 x1 x2 x3 x4) (rG 16 (by decide)).toLoadRect) _ _
      (upto_back arg10.view _ _ 16 (by decide) _ (chain16 c arg1 harg1 arg2 harg2 arg3 harg3 arg4 harg4 arg5 harg5 arg10 x0 x1 x2 x3 x4 q p hq hp)) rfl)

include hq hp in
theorem chain18 : Upto 1 (256 * 18) (dg x0 q x2 x3 p (fun _ => 0)) (fun _ => 0) (kernelRun0_A.sl.H9_19 (F := Ideal) c arg1 harg1 arg2 harg2 arg3 harg3 arg4 harg4 arg5 harg5 arg10 x0 x1 x2 x3 x4) :=
  upto_step (dg x0 q x2 x3 p (fun _ => 0)) _ 17 (by decide) (kernelRun0_A.sl.H9_18 (F := Ideal) c arg1 harg1 arg2 harg2 arg3 harg3 arg4 harg4 arg5 harg5 arg10 x0 x1 x2 x3 x4) (chain17 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 17 (by decide) (arg10.view.readCov (kernelRun0_A.sl.H9_18 (F := Ideal) c arg1 harg1 arg2 harg2 arg3 harg3 arg4 harg4 arg5 harg5 arg10 x0 x1 x2 x3 x4) (rG 17 (by decide)).toLoadRect) _ _
      (upto_back arg10.view _ _ 17 (by decide) _ (chain17 c arg1 harg1 arg2 harg2 arg3 harg3 arg4 harg4 arg5 harg5 arg10 x0 x1 x2 x3 x4 q p hq hp)) rfl)

include hq hp in
theorem chain19 : Upto 1 (256 * 19) (dg x0 q x2 x3 p (fun _ => 0)) (fun _ => 0) (kernelRun0_A.sl.H9_20 (F := Ideal) c arg1 harg1 arg2 harg2 arg3 harg3 arg4 harg4 arg5 harg5 arg10 x0 x1 x2 x3 x4) :=
  upto_step (dg x0 q x2 x3 p (fun _ => 0)) _ 18 (by decide) (kernelRun0_A.sl.H9_19 (F := Ideal) c arg1 harg1 arg2 harg2 arg3 harg3 arg4 harg4 arg5 harg5 arg10 x0 x1 x2 x3 x4) (chain18 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 18 (by decide) (arg10.view.readCov (kernelRun0_A.sl.H9_19 (F := Ideal) c arg1 harg1 arg2 harg2 arg3 harg3 arg4 harg4 arg5 harg5 arg10 x0 x1 x2 x3 x4) (rG 18 (by decide)).toLoadRect) _ _
      (upto_back arg10.view _ _ 18 (by decide) _ (chain18 c arg1 harg1 arg2 harg2 arg3 harg3 arg4 harg4 arg5 harg5 arg10 x0 x1 x2 x3 x4 q p hq hp)) rfl)

include hq hp in
theorem chain20 : Upto 1 (256 * 20) (dg x0 q x2 x3 p (fun _ => 0)) (fun _ => 0) (kernelRun0_A.sl.H9_21 (F := Ideal) c arg1 harg1 arg2 harg2 arg3 harg3 arg4 harg4 arg5 harg5 arg10 x0 x1 x2 x3 x4) :=
  upto_step (dg x0 q x2 x3 p (fun _ => 0)) _ 19 (by decide) (kernelRun0_A.sl.H9_20 (F := Ideal) c arg1 harg1 arg2 harg2 arg3 harg3 arg4 harg4 arg5 harg5 arg10 x0 x1 x2 x3 x4) (chain19 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 19 (by decide) (arg10.view.readCov (kernelRun0_A.sl.H9_20 (F := Ideal) c arg1 harg1 arg2 harg2 arg3 harg3 arg4 harg4 arg5 harg5 arg10 x0 x1 x2 x3 x4) (rG 19 (by decide)).toLoadRect) _ _
      (upto_back arg10.view _ _ 19 (by decide) _ (chain19 c arg1 harg1 arg2 harg2 arg3 harg3 arg4 harg4 arg5 harg5 arg10 x0 x1 x2 x3 x4 q p hq hp)) rfl)

include hq hp in
theorem chain21 : Upto 1 (256 * 21) (dg x0 q x2 x3 p (fun _ => 0)) (fun _ => 0) (kernelRun0_A.sl.H9_22 (F := Ideal) c arg1 harg1 arg2 harg2 arg3 harg3 arg4 harg4 arg5 harg5 arg10 x0 x1 x2 x3 x4) :=
  upto_step (dg x0 q x2 x3 p (fun _ => 0)) _ 20 (by decide) (kernelRun0_A.sl.H9_21 (F := Ideal) c arg1 harg1 arg2 harg2 arg3 harg3 arg4 harg4 arg5 harg5 arg10 x0 x1 x2 x3 x4) (chain20 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 20 (by decide) (arg10.view.readCov (kernelRun0_A.sl.H9_21 (F := Ideal) c arg1 harg1 arg2 harg2 arg3 harg3 arg4 harg4 arg5 harg5 arg10 x0 x1 x2 x3 x4) (rG 20 (by decide)).toLoadRect) _ _
      (upto_back arg10.view _ _ 20 (by decide) _ (chain20 c arg1 harg1 arg2 harg2 arg3 harg3 arg4 harg4 arg5 harg5 arg10 x0 x1 x2 x3 x4 q p hq hp)) rfl)

include hq hp in
theorem chain22 : Upto 1 (256 * 22) (dg x0 q x2 x3 p (fun _ => 0)) (fun _ => 0) (kernelRun0_A.sl.H9_23 (F := Ideal) c arg1 harg1 arg2 harg2 arg3 harg3 arg4 harg4 arg5 harg5 arg10 x0 x1 x2 x3 x4) :=
  upto_step (dg x0 q x2 x3 p (fun _ => 0)) _ 21 (by decide) (kernelRun0_A.sl.H9_22 (F := Ideal) c arg1 harg1 arg2 harg2 arg3 harg3 arg4 harg4 arg5 harg5 arg10 x0 x1 x2 x3 x4) (chain21 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 21 (by decide) (arg10.view.readCov (kernelRun0_A.sl.H9_22 (F := Ideal) c arg1 harg1 arg2 harg2 arg3 harg3 arg4 harg4 arg5 harg5 arg10 x0 x1 x2 x3 x4) (rG 21 (by decide)).toLoadRect) _ _
      (upto_back arg10.view _ _ 21 (by decide) _ (chain21 c arg1 harg1 arg2 harg2 arg3 harg3 arg4 harg4 arg5 harg5 arg10 x0 x1 x2 x3 x4 q p hq hp)) rfl)

include hq hp in
theorem chain23 : Upto 1 (256 * 23) (dg x0 q x2 x3 p (fun _ => 0)) (fun _ => 0) (kernelRun0_A.sl.H9_24 (F := Ideal) c arg1 harg1 arg2 harg2 arg3 harg3 arg4 harg4 arg5 harg5 arg10 x0 x1 x2 x3 x4) :=
  upto_step (dg x0 q x2 x3 p (fun _ => 0)) _ 22 (by decide) (kernelRun0_A.sl.H9_23 (F := Ideal) c arg1 harg1 arg2 harg2 arg3 harg3 arg4 harg4 arg5 harg5 arg10 x0 x1 x2 x3 x4) (chain22 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 22 (by decide) (arg10.view.readCov (kernelRun0_A.sl.H9_23 (F := Ideal) c arg1 harg1 arg2 harg2 arg3 harg3 arg4 harg4 arg5 harg5 arg10 x0 x1 x2 x3 x4) (rG 22 (by decide)).toLoadRect) _ _
      (upto_back arg10.view _ _ 22 (by decide) _ (chain22 c arg1 harg1 arg2 harg2 arg3 harg3 arg4 harg4 arg5 harg5 arg10 x0 x1 x2 x3 x4 q p hq hp)) rfl)

include hq hp in
theorem chain24 : Upto 1 (256 * 24) (dg x0 q x2 x3 p (fun _ => 0)) (fun _ => 0) (kernelRun0_A.sl.H9_25 (F := Ideal) c arg1 harg1 arg2 harg2 arg3 harg3 arg4 harg4 arg5 harg5 arg10 x0 x1 x2 x3 x4) :=
  upto_step (dg x0 q x2 x3 p (fun _ => 0)) _ 23 (by decide) (kernelRun0_A.sl.H9_24 (F := Ideal) c arg1 harg1 arg2 harg2 arg3 harg3 arg4 harg4 arg5 harg5 arg10 x0 x1 x2 x3 x4) (chain23 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 23 (by decide) (arg10.view.readCov (kernelRun0_A.sl.H9_24 (F := Ideal) c arg1 harg1 arg2 harg2 arg3 harg3 arg4 harg4 arg5 harg5 arg10 x0 x1 x2 x3 x4) (rG 23 (by decide)).toLoadRect) _ _
      (upto_back arg10.view _ _ 23 (by decide) _ (chain23 c arg1 harg1 arg2 harg2 arg3 harg3 arg4 harg4 arg5 harg5 arg10 x0 x1 x2 x3 x4 q p hq hp)) rfl)

include hq hp in
theorem chain25 : Upto 1 (256 * 25) (dg x0 q x2 x3 p (fun _ => 0)) (fun _ => 0) (kernelRun0_A.sl.H9_26 (F := Ideal) c arg1 harg1 arg2 harg2 arg3 harg3 arg4 harg4 arg5 harg5 arg10 x0 x1 x2 x3 x4) :=
  upto_step (dg x0 q x2 x3 p (fun _ => 0)) _ 24 (by decide) (kernelRun0_A.sl.H9_25 (F := Ideal) c arg1 harg1 arg2 harg2 arg3 harg3 arg4 harg4 arg5 harg5 arg10 x0 x1 x2 x3 x4) (chain24 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 24 (by decide) (arg10.view.readCov (kernelRun0_A.sl.H9_25 (F := Ideal) c arg1 harg1 arg2 harg2 arg3 harg3 arg4 harg4 arg5 harg5 arg10 x0 x1 x2 x3 x4) (rG 24 (by decide)).toLoadRect) _ _
      (upto_back arg10.view _ _ 24 (by decide) _ (chain24 c arg1 harg1 arg2 harg2 arg3 harg3 arg4 harg4 arg5 harg5 arg10 x0 x1 x2 x3 x4 q p hq hp)) rfl)

include hq hp in
theorem chain26 : Upto 1 (256 * 26) (dg x0 q x2 x3 p (fun _ => 0)) (fun _ => 0) (kernelRun0_A.sl.H9_27 (F := Ideal) c arg1 harg1 arg2 harg2 arg3 harg3 arg4 harg4 arg5 harg5 arg10 x0 x1 x2 x3 x4) :=
  upto_step (dg x0 q x2 x3 p (fun _ => 0)) _ 25 (by decide) (kernelRun0_A.sl.H9_26 (F := Ideal) c arg1 harg1 arg2 harg2 arg3 harg3 arg4 harg4 arg5 harg5 arg10 x0 x1 x2 x3 x4) (chain25 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 25 (by decide) (arg10.view.readCov (kernelRun0_A.sl.H9_26 (F := Ideal) c arg1 harg1 arg2 harg2 arg3 harg3 arg4 harg4 arg5 harg5 arg10 x0 x1 x2 x3 x4) (rG 25 (by decide)).toLoadRect) _ _
      (upto_back arg10.view _ _ 25 (by decide) _ (chain25 c arg1 harg1 arg2 harg2 arg3 harg3 arg4 harg4 arg5 harg5 arg10 x0 x1 x2 x3 x4 q p hq hp)) rfl)

include hq hp in
theorem chain27 : Upto 1 (256 * 27) (dg x0 q x2 x3 p (fun _ => 0)) (fun _ => 0) (kernelRun0_A.sl.H9_28 (F := Ideal) c arg1 harg1 arg2 harg2 arg3 harg3 arg4 harg4 arg5 harg5 arg10 x0 x1 x2 x3 x4) :=
  upto_step (dg x0 q x2 x3 p (fun _ => 0)) _ 26 (by decide) (kernelRun0_A.sl.H9_27 (F := Ideal) c arg1 harg1 arg2 harg2 arg3 harg3 arg4 harg4 arg5 harg5 arg10 x0 x1 x2 x3 x4) (chain26 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 26 (by decide) (arg10.view.readCov (kernelRun0_A.sl.H9_27 (F := Ideal) c arg1 harg1 arg2 harg2 arg3 harg3 arg4 harg4 arg5 harg5 arg10 x0 x1 x2 x3 x4) (rG 26 (by decide)).toLoadRect) _ _
      (upto_back arg10.view _ _ 26 (by decide) _ (chain26 c arg1 harg1 arg2 harg2 arg3 harg3 arg4 harg4 arg5 harg5 arg10 x0 x1 x2 x3 x4 q p hq hp)) rfl)

include hq hp in
theorem chain28 : Upto 1 (256 * 28) (dg x0 q x2 x3 p (fun _ => 0)) (fun _ => 0) (kernelRun0_A.sl.H9_29 (F := Ideal) c arg1 harg1 arg2 harg2 arg3 harg3 arg4 harg4 arg5 harg5 arg10 x0 x1 x2 x3 x4) :=
  upto_step (dg x0 q x2 x3 p (fun _ => 0)) _ 27 (by decide) (kernelRun0_A.sl.H9_28 (F := Ideal) c arg1 harg1 arg2 harg2 arg3 harg3 arg4 harg4 arg5 harg5 arg10 x0 x1 x2 x3 x4) (chain27 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 27 (by decide) (arg10.view.readCov (kernelRun0_A.sl.H9_28 (F := Ideal) c arg1 harg1 arg2 harg2 arg3 harg3 arg4 harg4 arg5 harg5 arg10 x0 x1 x2 x3 x4) (rG 27 (by decide)).toLoadRect) _ _
      (upto_back arg10.view _ _ 27 (by decide) _ (chain27 c arg1 harg1 arg2 harg2 arg3 harg3 arg4 harg4 arg5 harg5 arg10 x0 x1 x2 x3 x4 q p hq hp)) rfl)

include hq hp in
theorem chain29 : Upto 1 (256 * 29) (dg x0 q x2 x3 p (fun _ => 0)) (fun _ => 0) (kernelRun0_A.sl.H9_30 (F := Ideal) c arg1 harg1 arg2 harg2 arg3 harg3 arg4 harg4 arg5 harg5 arg10 x0 x1 x2 x3 x4) :=
  upto_step (dg x0 q x2 x3 p (fun _ => 0)) _ 28 (by decide) (kernelRun0_A.sl.H9_29 (F := Ideal) c arg1 harg1 arg2 harg2 arg3 harg3 arg4 harg4 arg5 harg5 arg10 x0 x1 x2 x3 x4) (chain28 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 28 (by decide) (arg10.view.readCov (kernelRun0_A.sl.H9_29 (F := Ideal) c arg1 harg1 arg2 harg2 arg3 harg3 arg4 harg4 arg5 harg5 arg10 x0 x1 x2 x3 x4) (rG 28 (by decide)).toLoadRect) _ _
      (upto_back arg10.view _ _ 28 (by decide) _ (chain28 c arg1 harg1 arg2 harg2 arg3 harg3 arg4 harg4 arg5 harg5 arg10 x0 x1 x2 x3 x4 q p hq hp)) rfl)

include hq hp in
theorem chain30 : Upto 1 (256 * 30) (dg x0 q x2 x3 p (fun _ => 0)) (fun _ => 0) (kernelRun0_A.sl.H9_31 (F := Ideal) c arg1 harg1 arg2 harg2 arg3 harg3 arg4 harg4 arg5 harg5 arg10 x0 x1 x2 x3 x4) :=
  upto_step (dg x0 q x2 x3 p (fun _ => 0)) _ 29 (by decide) (kernelRun0_A.sl.H9_30 (F := Ideal) c arg1 harg1 arg2 harg2 arg3 harg3 arg4 harg4 arg5 harg5 arg10 x0 x1 x2 x3 x4) (chain29 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 29 (by decide) (arg10.view.readCov (kernelRun0_A.sl.H9_30 (F := Ideal) c arg1 harg1 arg2 harg2 arg3 harg3 arg4 harg4 arg5 harg5 arg10 x0 x1 x2 x3 x4) (rG 29 (by decide)).toLoadRect) _ _
      (upto_back arg10.view _ _ 29 (by decide) _ (chain29 c arg1 harg1 arg2 harg2 arg3 harg3 arg4 harg4 arg5 harg5 arg10 x0 x1 x2 x3 x4 q p hq hp)) rfl)

include hq hp in
theorem chain31 : Upto 1 (256 * 31) (dg x0 q x2 x3 p (fun _ => 0)) (fun _ => 0) (kernelRun0_A.sl.H9_32 (F := Ideal) c arg1 harg1 arg2 harg2 arg3 harg3 arg4 harg4 arg5 harg5 arg10 x0 x1 x2 x3 x4) :=
  upto_step (dg x0 q x2 x3 p (fun _ => 0)) _ 30 (by decide) (kernelRun0_A.sl.H9_31 (F := Ideal) c arg1 harg1 arg2 harg2 arg3 harg3 arg4 harg4 arg5 harg5 arg10 x0 x1 x2 x3 x4) (chain30 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 30 (by decide) (arg10.view.readCov (kernelRun0_A.sl.H9_31 (F := Ideal) c arg1 harg1 arg2 harg2 arg3 harg3 arg4 harg4 arg5 harg5 arg10 x0 x1 x2 x3 x4) (rG 30 (by decide)).toLoadRect) _ _
      (upto_back arg10.view _ _ 30 (by decide) _ (chain30 c arg1 harg1 arg2 harg2 arg3 harg3 arg4 harg4 arg5 harg5 arg10 x0 x1 x2 x3 x4 q p hq hp)) rfl)

include hq hp in
theorem chain32 : Upto 1 (256 * 32) (dg x0 q x2 x3 p (fun _ => 0)) (fun _ => 0) (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).2.2.1 :=
  upto_step (dg x0 q x2 x3 p (fun _ => 0)) _ 31 (by decide) (kernelRun0_A.sl.H9_32 (F := Ideal) c arg1 harg1 arg2 harg2 arg3 harg3 arg4 harg4 arg5 harg5 arg10 x0 x1 x2 x3 x4) (chain31 c arg1 harg1 arg2 harg2 arg3 harg3 arg4 harg4 arg5 harg5 arg10 x0 x1 x2 x3 x4 q p hq hp) _
    (dg_piece arg1 harg1 arg2 harg2 arg3 harg3 arg4 harg4 arg5 harg5 x0 x1 x2 x3 x4 q p hq hp 31 (by decide) (arg10.view.readCov (kernelRun0_A.sl.H9_32 (F := Ideal) c arg1 harg1 arg2 harg2 arg3 harg3 arg4 harg4 arg5 harg5 arg10 x0 x1 x2 x3 x4) (rG 31 (by decide)).toLoadRect) _ _
      (upto_back arg10.view _ _ 31 (by decide) _ (chain31 c arg1 harg1 arg2 harg2 arg3 harg3 arg4 harg4 arg5 harg5 arg10 x0 x1 x2 x3 x4 q p hq hp)) rfl)

include hq hp in
theorem out7 : out0_A_7 c i arg1 harg1 arg2 harg2 arg3 harg3 arg4 harg4 arg5 harg5 arg6 harg6 arg7 harg7 arg8 harg8 arg9 harg9 arg10 harg10 arg11 harg11 hc0 x0 x1 x2 x3 x4 x5 x6 = dx x0 q x2 x3 p x5 x6 :=
  funext fun y => Parts.read VO0_7 VO0_7.junk
    (dx x0 q x2 x3 p x5 x6) (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).1 (parts7 c i arg1 harg1 arg2 harg2 arg3 harg3 arg4 harg4 arg5 harg5 arg6 harg6 arg7 harg7 arg8 harg8 arg9 harg9 arg10 harg10 arg11 harg11 hc0 x0 x1 x2 x3 x4 x5 x6 q p hq hp) y (cover0_A_7 c i arg1 harg1 arg2 harg2 arg3 harg3 arg4 harg4 arg5 harg5 arg6 harg6 arg7 harg7 arg8 harg8 arg9 harg9 arg10 harg10 arg11 harg11 hc0 x0 x1 x2 x3 x4 x5 x6 y)

include hq hp in
theorem out8 : out0_A_8 c i arg1 harg1 arg2 harg2 arg3 harg3 arg4 harg4 arg5 harg5 arg6 harg6 arg7 harg7 arg8 harg8 arg9 harg9 arg10 harg10 arg11 harg11 hc0 x0 x1 x2 x3 x4 x5 x6 = fun y : S128x128.Idx => co x0 q x2 x3 p x5 (y 0) :=
  funext fun y => Parts.read VO0_8 VO0_8.junk
    (fun y : S128x128.Idx => co x0 q x2 x3 p x5 (y 0)) (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).2.1 (parts8 c i arg1 harg1 arg2 harg2 arg3 harg3 arg4 harg4 arg5 harg5 arg6 harg6 arg7 harg7 arg8 harg8 arg9 harg9 arg10 harg10 arg11 harg11 hc0 x0 x1 x2 x3 x4 x5 x6 q p hq hp) y (cover0_A_8 c i arg1 harg1 arg2 harg2 arg3 harg3 arg4 harg4 arg5 harg5 arg6 harg6 arg7 harg7 arg8 harg8 arg9 harg9 arg10 harg10 arg11 harg11 hc0 x0 x1 x2 x3 x4 x5 x6 y)

include hq hp in
theorem out9 : out0_A_9 c i arg1 harg1 arg2 harg2 arg3 harg3 arg4 harg4 arg5 harg5 arg6 harg6 arg7 harg7 arg8 harg8 arg9 harg9 arg10 harg10 arg11 harg11 hc0 x0 x1 x2 x3 x4 x5 x6 = dg x0 q x2 x3 p (fun _ => 0) :=
  funext fun y => by
    have h := chain32 c i arg1 harg1 arg2 harg2 arg3 harg3 arg4 harg4 arg5 harg5 arg6 harg6 arg7 harg7 arg8 harg8 arg9 harg9 arg10 harg10 arg11 harg11 hc0 x0 x1 x2 x3 x4 x5 x6 q p hq hp
    exact (View.read_writes_apply_eq_canon VO0_9 VO0_9.junk y
      (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5 x6).2.2.1 (h.1 y)).trans ((h.2 y).trans (if_pos (y 1).isLt))

end CaseA

end Cert.Norm1Ideal.Hand

end
-- ==== Proof.Norm1RunB.lean ====
/-
  What a later grid point of `norm1` stores: the result, the coefficient, and the gain's gradient
  added to what the block held.
-/
module

public import proofs.«01_k».proof.Proof.Norm1Point
public import proofs.«01_k».proof.Proof.Gen.Norm1Ideal.Frame

@[expose] public section

noncomputable section

open Idealize.ShloMosaic Idealize.ShloMosaic.TcCoe

namespace Cert.Norm1Ideal.Hand

open Cert.Norm1Ideal Cert.Norm1Ideal.Gen Cert.Hand

namespace CaseB

variable (c : Dev nD) (i : grid0.Coords)

  (arg1 : Memref sig .tc .vmem S128x2560 .fp8e5m2) (harg1 : arg1.IsWhole)
  (arg2 : Memref sig .tc .vmem S128x128 .f32) (harg2 : arg2.IsWhole)
  (arg3 : Memref sig .tc .vmem S8192x2560 .fp8e4m3) (harg3 : arg3.IsWhole)
  (arg4 : Memref sig .tc .vmem S128x8192 .bf16) (harg4 : arg4.IsWhole)
  (arg5 : Memref sig .tc .vmem S128x128 .f32) (harg5 : arg5.IsWhole)
  (arg6 : Memref sig .tc .vmem S1x8192 .f32) (harg6 : arg6.IsWhole)
  (arg7 : Memref sig .tc .vmem S128x8192 .f32) (harg7 : arg7.IsWhole)
  (arg8 : Memref sig .tc .vmem S128x8192 .bf16) (harg8 : arg8.IsWhole)
  (arg9 : Memref sig .tc .vmem S128x128 .f32) (harg9 : arg9.IsWhole)
  (arg10 : Memref sig .tc .vmem S1x8192 .f32) (harg10 : arg10.IsWhole)
  (arg11 : Memref sig .tc .vmem S128x8192 .f32) (harg11 : arg11.IsWhole)
  (hc0 : ¬cond0_0 i)
  (x0 : Vec Ideal S128x2560 .fp8e5m2)
  (x1 : Vec Ideal S128x128 .f32)
  (x2 : Vec Ideal S8192x2560 .fp8e4m3)
  (x3 : Vec Ideal S128x8192 .bf16)
  (x4 : Vec Ideal S128x128 .f32)
  (x5 : Vec Ideal S1x8192 .f32)
  (x6 : Vec Ideal S128x8192 .f32)
  (xo9 : Vec Ideal S1x8192 .f32)
  (q p : Fin 128 → EReal) (hq : ∀ r l, x1 (ix2 r l) = q r) (hp : ∀ r l, x4 (ix2 r l) = p r)

include hq in
/-- The scratch holds the scaled product. -/
theorem scratch : Parts (fun y : S128x8192.Idx => dn x0 q x2 (y 0) (y 1)) (kernelRun0_B.sl.HS0_32 (F := Ideal) c arg1 harg1 arg2 harg2 arg3 harg3 x0 x1 x2) := by
  refine Parts.cons (rA 31 (by decide)) _ _ (dn_piece arg1 harg1 arg2 harg2 arg3 harg3 x0 x1 x2 q hq 31 (by decide) _ rfl) ?_
  refine Parts.cons (rA 30 (by decide)) _ _ (dn_piece arg1 harg1 arg2 harg2 arg3 harg3 x0 x1 x2 q hq 30 (by decide) _ rfl) ?_
  refine Parts.cons (rA 29 (by decide)) _ _ (dn_piece arg1 harg1 arg2 harg2 arg3 harg3 x0 x1 x2 q hq 29 (by decide) _ rfl) ?_
  refine Parts.cons (rA 28 (by decide)) _ _ (dn_piece arg1 harg1 arg2 harg2 arg3 harg3 x0 x1 x2 q hq 28 (by decide) _ rfl) ?_
  refine Parts.cons (rA 27 (by decide)) _ _ (dn_piece arg1 harg1 arg2 harg2 arg3 harg3 x0 x1 x2 q hq 27 (by decide) _ rfl) ?_
  refine Parts.cons (rA 26 (by decide)) _ _ (dn_piece arg1 harg1 arg2 harg2 arg3 harg3 x0 x1 x2 q hq 26 (by decide) _ rfl) ?_
  refine Parts.cons (rA 25 (by decide)) _ _ (dn_piece arg1 harg1 arg2 harg2 arg3 harg3 x0 x1 x2 q hq 25 (by decide) _ rfl) ?_
  refine Parts.cons (rA 24 (by decide)) _ _ (dn_piece arg1 harg1 arg2 harg2 arg3 harg3 x0 x1 x2 q hq 24 (by decide) _ rfl) ?_
  refine Parts.cons (rA 23 (by decide)) _ _ (dn_piece arg1 harg1 arg2 harg2 arg3 harg3 x0 x1 x2 q hq 23 (by decide) _ rfl) ?_
  refine Parts.cons (rA 22 (by decide)) _ _ (dn_piece arg1 harg1 arg2 harg2 arg3 harg3 x0 x1 x2 q hq 22 (by decide) _ rfl) ?_
  refine Parts.cons (rA 21 (by decide)) _ _ (dn_piece arg1 harg1 arg2 harg2 arg3 harg3 x0 x1 x2 q hq 21 (by decide) _ rfl) ?_
  refine Parts.cons (rA 20 (by decide)) _ _ (dn_piece arg1 harg1 arg2 harg2 arg3 harg3 x0 x1 x2 q hq 20 (by decide) _ rfl) ?_
  refine Parts.cons (rA 19 (by decide)) _ _ (dn_piece arg1 harg1 arg2 harg2 arg3 harg3 x0 x1 x2 q hq 19 (by decide) _ rfl) ?_
  refine Parts.cons (rA 18 (by decide)) _ _ (dn_piece arg1 harg1 arg2 harg2 arg3 harg3 x0 x1 x2 q hq 18 (by decide) _ rfl) ?_
  refine Parts.cons (rA 17 (by decide)) _ _ (dn_piece arg1 harg1 arg2 harg2 arg3 harg3 x0 x1 x2 q hq 17 (by decide) _ rfl) ?_
  refine Parts.cons (rA 16 (by decide)) _ _ (dn_piece arg1 harg1 arg2 harg2 arg3 harg3 x0 x1 x2 q hq 16 (by decide) _ rfl) ?_
  refine Parts.cons (rA 15 (by decide)) _ _ (dn_piece arg1 harg1 arg2 harg2 arg3 harg3 x0 x1 x2 q hq 15 (by decide) _ rfl) ?_
  refine Parts.cons (rA 14 (by decide)) _ _ (dn_piece arg1 harg1 arg2 harg2 arg3 harg3 x0 x1 x2 q hq 14 (by decide) _ rfl) ?_
  refine Parts.cons (rA 13 (by decide)) _ _ (dn_piece arg1 harg1 arg2 harg2 arg3 harg3 x0 x1 x2 q hq 13 (by decide) _ rfl) ?_
  refine Parts.cons (rA 12 (by decide)) _ _ (dn_piece arg1 harg1 arg2 harg2 arg3 harg3 x0 x1 x2 q hq 12 (by decide) _ rfl) ?_
  refine Parts.cons (rA 11 (by decide)) _ _ (dn_piece arg1 harg1 arg2 harg2 arg3 harg3 x0 x1 x2 q hq 11 (by decide) _ rfl) ?_
  refine Parts.cons (rA 10 (by decide)) _ _ (dn_piece arg1 harg1 arg2 harg2 arg3 harg3 x0 x1 x2 q hq 10 (by decide) _ rfl) ?_
  refine Parts.cons (rA 9 (by decide)) _ _ (dn_piece arg1 harg1 arg2 harg2 arg3 harg3 x0 x1 x2 q hq 9 (by decide) _ rfl) ?_
  refine Parts.cons (rA 8 (by decide)) _ _ (dn_piece arg1 harg1 arg2 harg2 arg3 harg3 x0 x1 x2 q hq 8 (by decide) _ rfl) ?_
  refine Parts.cons (rA 7 (by decide)) _ _ (dn_piece arg1 harg1 arg2 harg2 arg3 harg3 x0 x1 x2 q hq 7 (by decide) _ rfl) ?_
  refine Parts.cons (rA 6 (by decide)) _ _ (dn_piece arg1 harg1 arg2 harg2 arg3 harg3 x0 x1 x2 q hq 6 (by decide) _ rfl) ?_
  refine Parts.cons (rA 5 (by decide)) _ _ (dn_piece arg1 harg1 arg2 harg2 arg3 harg3 x0 x1 x2 q hq 5 (by decide) _ rfl) ?_
  refine Parts.cons (rA 4 (by decide)) _ _ (dn_piece arg1 harg1 arg2 harg2 arg3 harg3 x0 x1 x2 q hq 4 (by decide) _ rfl) ?_
  refine Parts.cons (rA 3 (by decide)) _ _ (dn_piece arg1 harg1 arg2 harg2 arg3 harg3 x0 x1 x2 q hq 3 (by decide) _ rfl) ?_
  refine Parts.cons (rA 2 (by decide)) _ _ (dn_piece arg1 harg1 arg2 harg2 arg3 harg3 x0 x1 x2 q hq 2 (by decide) _ rfl) ?_
  refine Parts.cons (rA 1 (by decide)) _ _ (dn_piece arg1 harg1 arg2 harg2 arg3 harg3 x0 x1 x2 q hq 1 (by decide) _ rfl) ?_
  refine Parts.cons (rA 0 (by decide)) _ _ (dn_piece arg1 harg1 arg2 harg2 arg3 harg3 x0 x1 x2 q hq 0 (by decide) _ rfl) ?_
  exact Parts.nil

include hq in
theorem back (n : Nat) (h : n < 32) (y : S128x256.Idx) :
    arg11.view.readCov (kernelRun0_B.sl.HS0_32 (F := Ideal) c arg1 harg1 arg2 harg2 arg3 harg3 x0 x1 x2) (rA n h).toLoadRect y = (fun y : S128x8192.Idx => dn x0 q x2 (y 0) (y 1)) ((rA n h).emb y) :=
  back_apply arg11.view _ _ (scratch c arg1 harg1 arg2 harg2 arg3 harg3 x0 x1 x2 q hq) (fun y => View.cover_of_tiledL (kernelRun0_B.sl.HS0_32 (F := Ideal) c arg1 harg1 arg2 harg2 arg3 harg3 x0 x1 x2) S128x256.size (by sl_kernel_rfl) y) (rA n h) y

/-- The coefficient register is the folded row sum's. -/
theorem coef_eq : (kernelRun0_B.sl.r_59 (F := Ideal) c arg1 harg1 arg2 harg2 arg3 harg3 arg4 harg4 arg5 harg5 arg6 harg6 x0 x1 x2 x3 x4 x5)
    = (cv arg1 harg1 arg2 harg2 arg3 harg3 arg4 harg4 arg5 harg5 arg6 harg6 x0 x1 x2 x3 x4 x5) := rfl

include hq hp in
theorem parts7 : Parts (dx x0 q x2 x3 p x5 x6) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo9).1 := by
  refine Parts.cons (rA 31 (by decide)) _ _ (dx_piece arg1 harg1 arg2 harg2 arg3 harg3 arg4 harg4 arg5 harg5 arg6 harg6 arg7 harg7
    x0 x1 x2 x3 x4 x5 x6 q p hq hp 31 (by decide) _ (arg11.view.readCov (kernelRun0_B.sl.HS0_32 (F := Ideal) c arg1 harg1 arg2 harg2 arg3 harg3 x0 x1 x2) (rA 31 (by decide)).toLoadRect)
    (back c arg1 harg1 arg2 harg2 arg3 harg3 arg11 x0 x1 x2 q hq 31 (by decide)) rfl) ?_
  refine Parts.cons (rA 30 (by decide)) _ _ (dx_piece arg1 harg1 arg2 harg2 arg3 harg3 arg4 harg4 arg5 harg5 arg6 harg6 arg7 harg7
    x0 x1 x2 x3 x4 x5 x6 q p hq hp 30 (by decide) _ (arg11.view.readCov (kernelRun0_B.sl.HS0_32 (F := Ideal) c arg1 harg1 arg2 harg2 arg3 harg3 x0 x1 x2) (rA 30 (by decide)).toLoadRect)
    (back c arg1 harg1 arg2 harg2 arg3 harg3 arg11 x0 x1 x2 q hq 30 (by decide)) rfl) ?_
  refine Parts.cons (rA 29 (by decide)) _ _ (dx_piece arg1 harg1 arg2 harg2 arg3 harg3 arg4 harg4 arg5 harg5 arg6 harg6 arg7 harg7
    x0 x1 x2 x3 x4 x5 x6 q p hq hp 29 (by decide) _ (arg11.view.readCov (kernelRun0_B.sl.HS0_32 (F := Ideal) c arg1 harg1 arg2 harg2 arg3 harg3 x0 x1 x2) (rA 29 (by decide)).toLoadRect)
    (back c arg1 harg1 arg2 harg2 arg3 harg3 arg11 x0 x1 x2 q hq 29 (by decide)) rfl) ?_
  refine Parts.cons (rA 28 (by decide)) _ _ (dx_piece arg1 harg1 arg2 harg2 arg3 harg3 arg4 harg4 arg5 harg5 arg6 harg6 arg7 harg7
    x0 x1 x2 x3 x4 x5 x6 q p hq hp 28 (by decide) _ (arg11.view.readCov (kernelRun0_B.sl.HS0_32 (F := Ideal) c arg1 harg1 arg2 harg2 arg3 harg3 x0 x1 x2) (rA 28 (by decide)).toLoadRect)
    (back c arg1 harg1 arg2 harg2 arg3 harg3 arg11 x0 x1 x2 q hq 28 (by decide)) rfl) ?_
  refine Parts.cons (rA 27 (by decide)) _ _ (dx_piece arg1 harg1 arg2 harg2 arg3 harg3 arg4 harg4 arg5 harg5 arg6 harg6 arg7 harg7
    x0 x1 x2 x3 x4 x5 x6 q p hq hp 27 (by decide) _ (arg11.view.readCov (kernelRun0_B.sl.HS0_32 (F := Ideal) c arg1 harg1 arg2 harg2 arg3 harg3 x0 x1 x2) (rA 27 (by decide)).toLoadRect)
    (back c arg1 harg1 arg2 harg2 arg3 harg3 arg11 x0 x1 x2 q hq 27 (by decide)) rfl) ?_
  refine Parts.cons (rA 26 (by decide)) _ _ (dx_piece arg1 harg1 arg2 harg2 arg3 harg3 arg4 harg4 arg5 harg5 arg6 harg6 arg7 harg7
    x0 x1 x2 x3 x4 x5 x6 q p hq hp 26 (by decide) _ (arg11.view.readCov (kernelRun0_B.sl.HS0_32 (F := Ideal) c arg1 harg1 arg2 harg2 arg3 harg3 x0 x1 x2) (rA 26 (by decide)).toLoadRect)
    (back c arg1 harg1 arg2 harg2 arg3 harg3 arg11 x0 x1 x2 q hq 26 (by decide)) rfl) ?_
  refine Parts.cons (rA 25 (by decide)) _ _ (dx_piece arg1 harg1 arg2 harg2 arg3 harg3 arg4 harg4 arg5 harg5 arg6 harg6 arg7 harg7
    x0 x1 x2 x3 x4 x5 x6 q p hq hp 25 (by decide) _ (arg11.view.readCov (kernelRun0_B.sl.HS0_32 (F := Ideal) c arg1 harg1 arg2 harg2 arg3 harg3 x0 x1 x2) (rA 25 (by decide)).toLoadRect)
    (back c arg1 harg1 arg2 harg2 arg3 harg3 arg11 x0 x1 x2 q hq 25 (by decide)) rfl) ?_
  refine Parts.cons (rA 24 (by decide)) _ _ (dx_piece arg1 harg1 arg2 harg2 arg3 harg3 arg4 harg4 arg5 harg5 arg6 harg6 arg7 harg7
    x0 x1 x2 x3 x4 x5 x6 q p hq hp 24 (by decide) _ (arg11.view.readCov (kernelRun0_B.sl.HS0_32 (F := Ideal) c arg1 harg1 arg2 harg2 arg3 harg3 x0 x1 x2) (rA 24 (by decide)).toLoadRect)
    (back c arg1 harg1 arg2 harg2 arg3 harg3 arg11 x0 x1 x2 q hq 24 (by decide)) rfl) ?_
  refine Parts.cons (rA 23 (by decide)) _ _ (dx_piece arg1 harg1 arg2 harg2 arg3 harg3 arg4 harg4 arg5 harg5 arg6 harg6 arg7 harg7
    x0 x1 x2 x3 x4 x5 x6 q p hq hp 23 (by decide) _ (arg11.view.readCov (kernelRun0_B.sl.HS0_32 (F := Ideal) c arg1 harg1 arg2 harg2 arg3 harg3 x0 x1 x2) (rA 23 (by decide)).toLoadRect)
    (back c arg1 harg1 arg2 harg2 arg3 harg3 arg11 x0 x1 x2 q hq 23 (by decide)) rfl) ?_
  refine Parts.cons (rA 22 (by decide)) _ _ (dx_piece arg1 harg1 arg2 harg2 arg3 harg3 arg4 harg4 arg5 harg5 arg6 harg6 arg7 harg7
    x0 x1 x2 x3 x4 x5 x6 q p hq hp 22 (by decide) _ (arg11.view.readCov (kernelRun0_B.sl.HS0_32 (F := Ideal) c arg1 harg1 arg2 harg2 arg3 harg3 x0 x1 x2) (rA 22 (by decide)).toLoadRect)
    (back c arg1 harg1 arg2 harg2 arg3 harg3 arg11 x0 x1 x2 q hq 22 (by decide)) rfl) ?_
  refine Parts.cons (rA 21 (by decide)) _ _ (dx_piece arg1 harg1 arg2 harg2 arg3 harg3 arg4 harg4 arg5 harg5 arg6 harg6 arg7 harg7
    x0 x1 x2 x3 x4 x5 x6 q p hq hp 21 (by decide) _ (arg11.view.readCov (kernelRun0_B.sl.HS0_32 (F := Ideal) c arg1 harg1 arg2 harg2 arg3 harg3 x0 x1 x2) (rA 21 (by decide)).toLoadRect)
    (back c arg1 harg1 arg2 harg2 arg3 harg3 arg11 x0 x1 x2 q hq 21 (by decide)) rfl) ?_
  refine Parts.cons (rA 20 (by decide)) _ _ (dx_piece arg1 harg1 arg2 harg2 arg3 harg3 arg4 harg4 arg5 harg5 arg6 harg6 arg7 harg7
    x0 x1 x2 x3 x4 x5 x6 q p hq hp 20 (by decide) _ (arg11.view.readCov (kernelRun0_B.sl.HS0_32 (F := Ideal) c arg1 harg1 arg2 harg2 arg3 harg3 x0 x1 x2) (rA 20 (by decide)).toLoadRect)
    (back c arg1 harg1 arg2 harg2 arg3 harg3 arg11 x0 x1 x2 q hq 20 (by decide)) rfl) ?_
  refine Parts.cons (rA 19 (by decide)) _ _ (dx_piece arg1 harg1 arg2 harg2 arg3 harg3 arg4 harg4 arg5 harg5 arg6 harg6 arg7 harg7
    x0 x1 x2 x3 x4 x5 x6 q p hq hp 19 (by decide) _ (arg11.view.readCov (kernelRun0_B.sl.HS0_32 (F := Ideal) c arg1 harg1 arg2 harg2 arg3 harg3 x0 x1 x2) (rA 19 (by decide)).toLoadRect)
    (back c arg1 harg1 arg2 harg2 arg3 harg3 arg11 x0 x1 x2 q hq 19 (by decide)) rfl) ?_
  refine Parts.cons (rA 18 (by decide)) _ _ (dx_piece arg1 harg1 arg2 harg2 arg3 harg3 arg4 harg4 arg5 harg5 arg6 harg6 arg7 harg7
    x0 x1 x2 x3 x4 x5 x6 q p hq hp 18 (by decide) _ (arg11.view.readCov (kernelRun0_B.sl.HS0_32 (F := Ideal) c arg1 harg1 arg2 harg2 arg3 harg3 x0 x1 x2) (rA 18 (by decide)).toLoadRect)
    (back c arg1 harg1 arg2 harg2 arg3 harg3 arg11 x0 x1 x2 q hq 18 (by decide)) rfl) ?_
  refine Parts.cons (rA 17 (by decide)) _ _ (dx_piece arg1 harg1 arg2 harg2 arg3 harg3 arg4 harg4 arg5 harg5 arg6 harg6 arg7 harg7
    x0 x1 x2 x3 x4 x5 x6 q p hq hp 17 (by decide) _ (arg11.view.readCov (kernelRun0_B.sl.HS0_32 (F := Ideal) c arg1 harg1 arg2 harg2 arg3 harg3 x0 x1 x2) (rA 17 (by decide)).toLoadRect)
    (back c arg1 harg1 arg2 harg2 arg3 harg3 arg11 x0 x1 x2 q hq 17 (by decide)) rfl) ?_
  refine Parts.cons (rA 16 (by decide)) _ _ (dx_piece arg1 harg1 arg2 harg2 arg3 harg3 arg4 harg4 arg5 harg5 arg6 harg6 arg7 harg7
    x0 x1 x2 x3 x4 x5 x6 q p hq hp 16 (by decide) _ (arg11.view.readCov (kernelRun0_B.sl.HS0_32 (F := Ideal) c arg1 harg1 arg2 harg2 arg3 harg3 x0 x1 x2) (rA 16 (by decide)).toLoadRect)
    (back c arg1 harg1 arg2 harg2 arg3 harg3 arg11 x0 x1 x2 q hq 16 (by decide)) rfl) ?_
  refine Parts.cons (rA 15 (by decide)) _ _ (dx_piece arg1 harg1 arg2 harg2 arg3 harg3 arg4 harg4 arg5 harg5 arg6 harg6 arg7 harg7
    x0 x1 x2 x3 x4 x5 x6 q p hq hp 15 (by decide) _ (arg11.view.readCov (kernelRun0_B.sl.HS0_32 (F := Ideal) c arg1 harg1 arg2 harg2 arg3 harg3 x0 x1 x2) (rA 15 (by decide)).toLoadRect)
    (back c arg1 harg1 arg2 harg2 arg3 harg3 arg11 x0 x1 x2 q hq 15 (by decide)) rfl) ?_
  refine Parts.cons (rA 14 (by decide)) _ _ (dx_piece arg1 harg1 arg2 harg2 arg3 harg3 arg4 harg4 arg5 harg5 arg6 harg6 arg7 harg7
    x0 x1 x2 x3 x4 x5 x6 q p hq hp 14 (by decide) _ (arg11.view.readCov (kernelRun0_B.sl.HS0_32 (F := Ideal) c arg1 harg1 arg2 harg2 arg3 harg3 x0 x1 x2) (rA 14 (by decide)).toLoadRect)
    (back c arg1 harg1 arg2 harg2 arg3 harg3 arg11 x0 x1 x2 q hq 14 (by decide)) rfl) ?_
  refine Parts.cons (rA 13 (by decide)) _ _ (dx_piece arg1 harg1 arg2 harg2 arg3 harg3 arg4 harg4 arg5 harg5 arg6 harg6 arg7 harg7
    x0 x1 x2 x3 x4 x5 x6 q p hq hp 13 (by decide) _ (arg11.view.readCov (kernelRun0_B.sl.HS0_32 (F := Ideal) c arg1 harg1 arg2 harg2 arg3 harg3 x0 x1 x2) (rA 13 (by decide)).toLoadRect)
    (back c arg1 harg1 arg2 harg2 arg3 harg3 arg11 x0 x1 x2 q hq 13 (by decide)) rfl) ?_
  refine Parts.cons (rA 12 (by decide)) _ _ (dx_piece arg1 harg1 arg2 harg2 arg3 harg3 arg4 harg4 arg5 harg5 arg6 harg6 arg7 harg7
    x0 x1 x2 x3 x4 x5 x6 q p hq hp 12 (by decide) _ (arg11.view.readCov (kernelRun0_B.sl.HS0_32 (F := Ideal) c arg1 harg1 arg2 harg2 arg3 harg3 x0 x1 x2) (rA 12 (by decide)).toLoadRect)
    (back c arg1 harg1 arg2 harg2 arg3 harg3 arg11 x0 x1 x2 q hq 12 (by decide)) rfl) ?_
  refine Parts.cons (rA 11 (by decide)) _ _ (dx_piece arg1 harg1 arg2 harg2 arg3 harg3 arg4 harg4 arg5 harg5 arg6 harg6 arg7 harg7
    x0 x1 x2 x3 x4 x5 x6 q p hq hp 11 (by decide) _ (arg11.view.readCov (kernelRun0_B.sl.HS0_32 (F := Ideal) c arg1 harg1 arg2 harg2 arg3 harg3 x0 x1 x2) (rA 11 (by decide)).toLoadRect)
    (back c arg1 harg1 arg2 harg2 arg3 harg3 arg11 x0 x1 x2 q hq 11 (by decide)) rfl) ?_
  refine Parts.cons (rA 10 (by decide)) _ _ (dx_piece arg1 harg1 arg2 harg2 arg3 harg3 arg4 harg4 arg5 harg5 arg6 harg6 arg7 harg7
    x0 x1 x2 x3 x4 x5 x6 q p hq hp 10 (by decide) _ (arg11.view.readCov (kernelRun0_B.sl.HS0_32 (F := Ideal) c arg1 harg1 arg2 harg2 arg3 harg3 x0 x1 x2) (rA 10 (by decide)).toLoadRect)
    (back c arg1 harg1 arg2 harg2 arg3 harg3 arg11 x0 x1 x2 q hq 10 (by decide)) rfl) ?_
  refine Parts.cons (rA 9 (by decide)) _ _ (dx_piece arg1 harg1 arg2 harg2 arg3 harg3 arg4 harg4 arg5 harg5 arg6 harg6 arg7 harg7
    x0 x1 x2 x3 x4 x5 x6 q p hq hp 9 (by decide) _ (arg11.view.readCov (kernelRun0_B.sl.HS0_32 (F := Ideal) c arg1 harg1 arg2 harg2 arg3 harg3 x0 x1 x2) (rA 9 (by decide)).toLoadRect)
    (back c arg1 harg1 arg2 harg2 arg3 harg3 arg11 x0 x1 x2 q hq 9 (by decide)) rfl) ?_
  refine Parts.cons (rA 8 (by decide)) _ _ (dx_piece arg1 harg1 arg2 harg2 arg3 harg3 arg4 harg4 arg5 harg5 arg6 harg6 arg7 harg7
    x0 x1 x2 x3 x4 x5 x6 q p hq hp 8 (by decide) _ (arg11.view.readCov (kernelRun0_B.sl.HS0_32 (F := Ideal) c arg1 harg1 arg2 harg2 arg3 harg3 x0 x1 x2) (rA 8 (by decide)).toLoadRect)
    (back c arg1 harg1 arg2 harg2 arg3 harg3 arg11 x0 x1 x2 q hq 8 (by decide)) rfl) ?_
  refine Parts.cons (rA 7 (by decide)) _ _ (dx_piece arg1 harg1 arg2 harg2 arg3 harg3 arg4 harg4 arg5 harg5 arg6 harg6 arg7 harg7
    x0 x1 x2 x3 x4 x5 x6 q p hq hp 7 (by decide) _ (arg11.view.readCov (kernelRun0_B.sl.HS0_32 (F := Ideal) c arg1 harg1 arg2 harg2 arg3 harg3 x0 x1 x2) (rA 7 (by decide)).toLoadRect)
    (back c arg1 harg1 arg2 harg2 arg3 harg3 arg11 x0 x1 x2 q hq 7 (by decide)) rfl) ?_
  refine Parts.cons (rA 6 (by decide)) _ _ (dx_piece arg1 harg1 arg2 harg2 arg3 harg3 arg4 harg4 arg5 harg5 arg6 harg6 arg7 harg7
    x0 x1 x2 x3 x4 x5 x6 q p hq hp 6 (by decide) _ (arg11.view.readCov (kernelRun0_B.sl.HS0_32 (F := Ideal) c arg1 harg1 arg2 harg2 arg3 harg3 x0 x1 x2) (rA 6 (by decide)).toLoadRect)
    (back c arg1 harg1 arg2 harg2 arg3 harg3 arg11 x0 x1 x2 q hq 6 (by decide)) rfl) ?_
  refine Parts.cons (rA 5 (by decide)) _ _ (dx_piece arg1 harg1 arg2 harg2 arg3 harg3 arg4 harg4 arg5 harg5 arg6 harg6 arg7 harg7
    x0 x1 x2 x3 x4 x5 x6 q p hq hp 5 (by decide) _ (arg11.view.readCov (kernelRun0_B.sl.HS0_32 (F := Ideal) c arg1 harg1 arg2 harg2 arg3 harg3 x0 x1 x2) (rA 5 (by decide)).toLoadRect)
    (back c arg1 harg1 arg2 harg2 arg3 harg3 arg11 x0 x1 x2 q hq 5 (by decide)) rfl) ?_
  refine Parts.cons (rA 4 (by decide)) _ _ (dx_piece arg1 harg1 arg2 harg2 arg3 harg3 arg4 harg4 arg5 harg5 arg6 harg6 arg7 harg7
    x0 x1 x2 x3 x4 x5 x6 q p hq hp 4 (by decide) _ (arg11.view.readCov (kernelRun0_B.sl.HS0_32 (F := Ideal) c arg1 harg1 arg2 harg2 arg3 harg3 x0 x1 x2) (rA 4 (by decide)).toLoadRect)
    (back c arg1 harg1 arg2 harg2 arg3 harg3 arg11 x0 x1 x2 q hq 4 (by decide)) rfl) ?_
  refine Parts.cons (rA 3 (by decide)) _ _ (dx_piece arg1 harg1 arg2 harg2 arg3 harg3 arg4 harg4 arg5 harg5 arg6 harg6 arg7 harg7
    x0 x1 x2 x3 x4 x5 x6 q p hq hp 3 (by decide) _ (arg11.view.readCov (kernelRun0_B.sl.HS0_32 (F := Ideal) c arg1 harg1 arg2 harg2 arg3 harg3 x0 x1 x2) (rA 3 (by decide)).toLoadRect)
    (back c arg1 harg1 arg2 harg2 arg3 harg3 arg11 x0 x1 x2 q hq 3 (by decide)) rfl) ?_
  refine Parts.cons (rA 2 (by decide)) _ _ (dx_piece arg1 harg1 arg2 harg2 arg3 harg3 arg4 harg4 arg5 harg5 arg6 harg6 arg7 harg7
    x0 x1 x2 x3 x4 x5 x6 q p hq hp 2 (by decide) _ (arg11.view.readCov (kernelRun0_B.sl.HS0_32 (F := Ideal) c arg1 harg1 arg2 harg2 arg3 harg3 x0 x1 x2) (rA 2 (by decide)).toLoadRect)
    (back c arg1 harg1 arg2 harg2 arg3 harg3 arg11 x0 x1 x2 q hq 2 (by decide)) rfl) ?_
  refine Parts.cons (rA 1 (by decide)) _ _ (dx_piece arg1 harg1 arg2 harg2 arg3 harg3 arg4 harg4 arg5 harg5 arg6 harg6 arg7 harg7
    x0 x1 x2 x3 x4 x5 x6 q p hq hp 1 (by decide) _ (arg11.view.readCov (kernelRun0_B.sl.HS0_32 (F := Ideal) c arg1 harg1 arg2 harg2 arg3 harg3 x0 x1 x2) (rA 1 (by decide)).toLoadRect)
    (back c arg1 harg1 arg2 harg2 arg3 harg3 arg11 x0 x1 x2 q hq 1 (by decide)) rfl) ?_
  refine Parts.cons (rA 0 (by decide)) _ _ (dx_piece arg1 harg1 arg2 harg2 arg3 harg3 arg4 harg4 arg5 harg5 arg6 harg6 arg7 harg7
    x0 x1 x2 x3 x4 x5 x6 q p hq hp 0 (by decide) _ (arg11.view.readCov (kernelRun0_B.sl.HS0_32 (F := Ideal) c arg1 harg1 arg2 harg2 arg3 harg3 x0 x1 x2) (rA 0 (by decide)).toLoadRect)
    (back c arg1 harg1 arg2 harg2 arg3 harg3 arg11 x0 x1 x2 q hq 0 (by decide)) rfl) ?_
  exact Parts.nil

include hq hp in
theorem parts8 : Parts (e := .f32) (fun y : S128x128.Idx => co x0 q x2 x3 p x5 (y 0)) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo9).2.1 := by
  refine Parts.cons (Rect.unit ![0, 0] S128x128.size inb_S128x128_S128x128_0_0) _ _ (fun y => ?_) Parts.nil
  rw [Rect.emb_unit_full (s := S128x128) inb_S128x128_S128x128_0_0 y, eq_ix2 y]
  exact cv_apply arg1 harg1 arg2 harg2 arg3 harg3 arg4 harg4 arg5 harg5 arg6 harg6 x0 x1 x2 x3 x4 x5 q p hq hp (y 0) (y 1)

include hq hp in
theorem parts9 : Parts (dg x0 q x2 x3 p xo9) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo9).2.2.1 := by
  refine Parts.cons (rG 31 (by decide)) _ _ (dg_piece arg1 harg1 arg2 harg2 arg3 harg3 arg4 harg4 arg5 harg5 x0 x1 x2 x3 x4 q p hq hp 31 (by decide)
    (View.readAt (Elt Ideal) arg10.view (rG 31 (by decide)).toLoadRect (harg10.unread xo9)) _ xo9 (load_apply harg10 xo9 (rG 31 (by decide))) rfl) ?_
  refine Parts.cons (rG 30 (by decide)) _ _ (dg_piece arg1 harg1 arg2 harg2 arg3 harg3 arg4 harg4 arg5 harg5 x0 x1 x2 x3 x4 q p hq hp 30 (by decide)
    (View.readAt (Elt Ideal) arg10.view (rG 30 (by decide)).toLoadRect (harg10.unread xo9)) _ xo9 (load_apply harg10 xo9 (rG 30 (by decide))) rfl) ?_
  refine Parts.cons (rG 29 (by decide)) _ _ (dg_piece arg1 harg1 arg2 harg2 arg3 harg3 arg4 harg4 arg5 harg5 x0 x1 x2 x3 x4 q p hq hp 29 (by decide)
    (View.readAt (Elt Ideal) arg10.view (rG 29 (by decide)).toLoadRect (harg10.unread xo9)) _ xo9 (load_apply harg10 xo9 (rG 29 (by decide))) rfl) ?_
  refine Parts.cons (rG 28 (by decide)) _ _ (dg_piece arg1 harg1 arg2 harg2 arg3 harg3 arg4 harg4 arg5 harg5 x0 x1 x2 x3 x4 q p hq hp 28 (by decide)
    (View.readAt (Elt Ideal) arg10.view (rG 28 (by decide)).toLoadRect (harg10.unread xo9)) _ xo9 (load_apply harg10 xo9 (rG 28 (by decide))) rfl) ?_
  refine Parts.cons (rG 27 (by decide)) _ _ (dg_piece arg1 harg1 arg2 harg2 arg3 harg3 arg4 harg4 arg5 harg5 x0 x1 x2 x3 x4 q p hq hp 27 (by decide)
    (View.readAt (Elt Ideal) arg10.view (rG 27 (by decide)).toLoadRect (harg10.unread xo9)) _ xo9 (load_apply harg10 xo9 (rG 27 (by decide))) rfl) ?_
  refine Parts.cons (rG 26 (by decide)) _ _ (dg_piece arg1 harg1 arg2 harg2 arg3 harg3 arg4 harg4 arg5 harg5 x0 x1 x2 x3 x4 q p hq hp 26 (by decide)
    (View.readAt (Elt Ideal) arg10.view (rG 26 (by decide)).toLoadRect (harg10.unread xo9)) _ xo9 (load_apply harg10 xo9 (rG 26 (by decide))) rfl) ?_
  refine Parts.cons (rG 25 (by decide)) _ _ (dg_piece arg1 harg1 arg2 harg2 arg3 harg3 arg4 harg4 arg5 harg5 x0 x1 x2 x3 x4 q p hq hp 25 (by decide)
    (View.readAt (Elt Ideal) arg10.view (rG 25 (by decide)).toLoadRect (harg10.unread xo9)) _ xo9 (load_apply harg10 xo9 (rG 25 (by decide))) rfl) ?_
  refine Parts.cons (rG 24 (by decide)) _ _ (dg_piece arg1 harg1 arg2 harg2 arg3 harg3 arg4 harg4 arg5 harg5 x0 x1 x2 x3 x4 q p hq hp 24 (by decide)
    (View.readAt (Elt Ideal) arg10.view (rG 24 (by decide)).toLoadRect (harg10.unread xo9)) _ xo9 (load_apply harg10 xo9 (rG 24 (by decide))) rfl) ?_
  refine Parts.cons (rG 23 (by decide)) _ _ (dg_piece arg1 harg1 arg2 harg2 arg3 harg3 arg4 harg4 arg5 harg5 x0 x1 x2 x3 x4 q p hq hp 23 (by decide)
    (View.readAt (Elt Ideal) arg10.view (rG 23 (by decide)).toLoadRect (harg10.unread xo9)) _ xo9 (load_apply harg10 xo9 (rG 23 (by decide))) rfl) ?_
  refine Parts.cons (rG 22 (by decide)) _ _ (dg_piece arg1 harg1 arg2 harg2 arg3 harg3 arg4 harg4 arg5 harg5 x0 x1 x2 x3 x4 q p hq hp 22 (by decide)
    (View.readAt (Elt Ideal) arg10.view (rG 22 (by decide)).toLoadRect (harg10.unread xo9)) _ xo9 (load_apply harg10 xo9 (rG 22 (by decide))) rfl) ?_
  refine Parts.cons (rG 21 (by decide)) _ _ (dg_piece arg1 harg1 arg2 harg2 arg3 harg3 arg4 harg4 arg5 harg5 x0 x1 x2 x3 x4 q p hq hp 21 (by decide)
    (View.readAt (Elt Ideal) arg10.view (rG 21 (by decide)).toLoadRect (harg10.unread xo9)) _ xo9 (load_apply harg10 xo9 (rG 21 (by decide))) rfl) ?_
  refine Parts.cons (rG 20 (by decide)) _ _ (dg_piece arg1 harg1 arg2 harg2 arg3 harg3 arg4 harg4 arg5 harg5 x0 x1 x2 x3 x4 q p hq hp 20 (by decide)
    (View.readAt (Elt Ideal) arg10.view (rG 20 (by decide)).toLoadRect (harg10.unread xo9)) _ xo9 (load_apply harg10 xo9 (rG 20 (by decide))) rfl) ?_
  refine Parts.cons (rG 19 (by decide)) _ _ (dg_piece arg1 harg1 arg2 harg2 arg3 harg3 arg4 harg4 arg5 harg5 x0 x1 x2 x3 x4 q p hq hp 19 (by decide)
    (View.readAt (Elt Ideal) arg10.view (rG 19 (by decide)).toLoadRect (harg10.unread xo9)) _ xo9 (load_apply harg10 xo9 (rG 19 (by decide))) rfl) ?_
  refine Parts.cons (rG 18 (by decide)) _ _ (dg_piece arg1 harg1 arg2 harg2 arg3 harg3 arg4 harg4 arg5 harg5 x0 x1 x2 x3 x4 q p hq hp 18 (by decide)
    (View.readAt (Elt Ideal) arg10.view (rG 18 (by decide)).toLoadRect (harg10.unread xo9)) _ xo9 (load_apply harg10 xo9 (rG 18 (by decide))) rfl) ?_
  refine Parts.cons (rG 17 (by decide)) _ _ (dg_piece arg1 harg1 arg2 harg2 arg3 harg3 arg4 harg4 arg5 harg5 x0 x1 x2 x3 x4 q p hq hp 17 (by decide)
    (View.readAt (Elt Ideal) arg10.view (rG 17 (by decide)).toLoadRect (harg10.unread xo9)) _ xo9 (load_apply harg10 xo9 (rG 17 (by decide))) rfl) ?_
  refine Parts.cons (rG 16 (by decide)) _ _ (dg_piece arg1 harg1 arg2 harg2 arg3 harg3 arg4 harg4 arg5 harg5 x0 x1 x2 x3 x4 q p hq hp 16 (by decide)
    (View.readAt (Elt Ideal) arg10.view (rG 16 (by decide)).toLoadRect (harg10.unread xo9)) _ xo9 (load_apply harg10 xo9 (rG 16 (by decide))) rfl) ?_
  refine Parts.cons (rG 15 (by decide)) _ _ (dg_piece arg1 harg1 arg2 harg2 arg3 harg3 arg4 harg4 arg5 harg5 x0 x1 x2 x3 x4 q p hq hp 15 (by decide)
    (View.readAt (Elt Ideal) arg10.view (rG 15 (by decide)).toLoadRect (harg10.unread xo9)) _ xo9 (load_apply harg10 xo9 (rG 15 (by decide))) rfl) ?_
  refine Parts.cons (rG 14 (by decide)) _ _ (dg_piece arg1 harg1 arg2 harg2 arg3 harg3 arg4 harg4 arg5 harg5 x0 x1 x2 x3 x4 q p hq hp 14 (by decide)
    (View.readAt (Elt Ideal) arg10.view (rG 14 (by decide)).toLoadRect (harg10.unread xo9)) _ xo9 (load_apply harg10 xo9 (rG 14 (by decide))) rfl) ?_
  refine Parts.cons (rG 13 (by decide)) _ _ (dg_piece arg1 harg1 arg2 harg2 arg3 harg3 arg4 harg4 arg5 harg5 x0 x1 x2 x3 x4 q p hq hp 13 (by decide)
    (View.readAt (Elt Ideal) arg10.view (rG 13 (by decide)).toLoadRect (harg10.unread xo9)) _ xo9 (load_apply harg10 xo9 (rG 13 (by decide))) rfl) ?_
  refine Parts.cons (rG 12 (by decide)) _ _ (dg_piece arg1 harg1 arg2 harg2 arg3 harg3 arg4 harg4 arg5 harg5 x0 x1 x2 x3 x4 q p hq hp 12 (by decide)
    (View.readAt (Elt Ideal) arg10.view (rG 12 (by decide)).toLoadRect (harg10.unread xo9)) _ xo9 (load_apply harg10 xo9 (rG 12 (by decide))) rfl) ?_
  refine Parts.cons (rG 11 (by decide)) _ _ (dg_piece arg1 harg1 arg2 harg2 arg3 harg3 arg4 harg4 arg5 harg5 x0 x1 x2 x3 x4 q p hq hp 11 (by decide)
    (View.readAt (Elt Ideal) arg10.view (rG 11 (by decide)).toLoadRect (harg10.unread xo9)) _ xo9 (load_apply harg10 xo9 (rG 11 (by decide))) rfl) ?_
  refine Parts.cons (rG 10 (by decide)) _ _ (dg_piece arg1 harg1 arg2 harg2 arg3 harg3 arg4 harg4 arg5 harg5 x0 x1 x2 x3 x4 q p hq hp 10 (by decide)
    (View.readAt (Elt Ideal) arg10.view (rG 10 (by decide)).toLoadRect (harg10.unread xo9)) _ xo9 (load_apply harg10 xo9 (rG 10 (by decide))) rfl) ?_
  refine Parts.cons (rG 9 (by decide)) _ _ (dg_piece arg1 harg1 arg2 harg2 arg3 harg3 arg4 harg4 arg5 harg5 x0 x1 x2 x3 x4 q p hq hp 9 (by decide)
    (View.readAt (Elt Ideal) arg10.view (rG 9 (by decide)).toLoadRect (harg10.unread xo9)) _ xo9 (load_apply harg10 xo9 (rG 9 (by decide))) rfl) ?_
  refine Parts.cons (rG 8 (by decide)) _ _ (dg_piece arg1 harg1 arg2 harg2 arg3 harg3 arg4 harg4 arg5 harg5 x0 x1 x2 x3 x4 q p hq hp 8 (by decide)
    (View.readAt (Elt Ideal) arg10.view (rG 8 (by decide)).toLoadRect (harg10.unread xo9)) _ xo9 (load_apply harg10 xo9 (rG 8 (by decide))) rfl) ?_
  refine Parts.cons (rG 7 (by decide)) _ _ (dg_piece arg1 harg1 arg2 harg2 arg3 harg3 arg4 harg4 arg5 harg5 x0 x1 x2 x3 x4 q p hq hp 7 (by decide)
    (View.readAt (Elt Ideal) arg10.view (rG 7 (by decide)).toLoadRect (harg10.unread xo9)) _ xo9 (load_apply harg10 xo9 (rG 7 (by decide))) rfl) ?_
  refine Parts.cons (rG 6 (by decide)) _ _ (dg_piece arg1 harg1 arg2 harg2 arg3 harg3 arg4 harg4 arg5 harg5 x0 x1 x2 x3 x4 q p hq hp 6 (by decide)
    (View.readAt (Elt Ideal) arg10.view (rG 6 (by decide)).toLoadRect (harg10.unread xo9)) _ xo9 (load_apply harg10 xo9 (rG 6 (by decide))) rfl) ?_
  refine Parts.cons (rG 5 (by decide)) _ _ (dg_piece arg1 harg1 arg2 harg2 arg3 harg3 arg4 harg4 arg5 harg5 x0 x1 x2 x3 x4 q p hq hp 5 (by decide)
    (View.readAt (Elt Ideal) arg10.view (rG 5 (by decide)).toLoadRect (harg10.unread xo9)) _ xo9 (load_apply harg10 xo9 (rG 5 (by decide))) rfl) ?_
  refine Parts.cons (rG 4 (by decide)) _ _ (dg_piece arg1 harg1 arg2 harg2 arg3 harg3 arg4 harg4 arg5 harg5 x0 x1 x2 x3 x4 q p hq hp 4 (by decide)
    (View.readAt (Elt Ideal) arg10.view (rG 4 (by decide)).toLoadRect (harg10.unread xo9)) _ xo9 (load_apply harg10 xo9 (rG 4 (by decide))) rfl) ?_
  refine Parts.cons (rG 3 (by decide)) _ _ (dg_piece arg1 harg1 arg2 harg2 arg3 harg3 arg4 harg4 arg5 harg5 x0 x1 x2 x3 x4 q p hq hp 3 (by decide)
    (View.readAt (Elt Ideal) arg10.view (rG 3 (by decide)).toLoadRect (harg10.unread xo9)) _ xo9 (load_apply harg10 xo9 (rG 3 (by decide))) rfl) ?_
  refine Parts.cons (rG 2 (by decide)) _ _ (dg_piece arg1 harg1 arg2 harg2 arg3 harg3 arg4 harg4 arg5 harg5 x0 x1 x2 x3 x4 q p hq hp 2 (by decide)
    (View.readAt (Elt Ideal) arg10.view (rG 2 (by decide)).toLoadRect (harg10.unread xo9)) _ xo9 (load_apply harg10 xo9 (rG 2 (by decide))) rfl) ?_
  refine Parts.cons (rG 1 (by decide)) _ _ (dg_piece arg1 harg1 arg2 harg2 arg3 harg3 arg4 harg4 arg5 harg5 x0 x1 x2 x3 x4 q p hq hp 1 (by decide)
    (View.readAt (Elt Ideal) arg10.view (rG 1 (by decide)).toLoadRect (harg10.unread xo9)) _ xo9 (load_apply harg10 xo9 (rG 1 (by decide))) rfl) ?_
  refine Parts.cons (rG 0 (by decide)) _ _ (dg_piece arg1 harg1 arg2 harg2 arg3 harg3 arg4 harg4 arg5 harg5 x0 x1 x2 x3 x4 q p hq hp 0 (by decide)
    (View.readAt (Elt Ideal) arg10.view (rG 0 (by decide)).toLoadRect (harg10.unread xo9)) _ xo9 (load_apply harg10 xo9 (rG 0 (by decide))) rfl) ?_
  exact Parts.nil

include hq hp in
theorem out7 : out0_B_7 c i arg1 harg1 arg2 harg2 arg3 harg3 arg4 harg4 arg5 harg5 arg6 harg6 arg7 harg7 arg8 harg8 arg9 harg9 arg10 harg10 arg11 harg11 hc0 x0 x1 x2 x3 x4 x5 x6 xo9 = dx x0 q x2 x3 p x5 x6 :=
  funext fun y => Parts.read VO0_7 VO0_7.junk
    (dx x0 q x2 x3 p x5 x6) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo9).1 (parts7 c i arg1 harg1 arg2 harg2 arg3 harg3 arg4 harg4 arg5 harg5 arg6 harg6 arg7 harg7 arg8 harg8 arg9 harg9 arg10 harg10 arg11 harg11 hc0 x0 x1 x2 x3 x4 x5 x6 xo9 q p hq hp) y (cover0_B_7 c i arg1 harg1 arg2 harg2 arg3 harg3 arg4 harg4 arg5 harg5 arg6 harg6 arg7 harg7 arg8 harg8 arg9 harg9 arg10 harg10 arg11 harg11 hc0 x0 x1 x2 x3 x4 x5 x6 xo9 y)

include hq hp in
theorem out8 : out0_B_8 c i arg1 harg1 arg2 harg2 arg3 harg3 arg4 harg4 arg5 harg5 arg6 harg6 arg7 harg7 arg8 harg8 arg9 harg9 arg10 harg10 arg11 harg11 hc0 x0 x1 x2 x3 x4 x5 x6 xo9 = fun y : S128x128.Idx => co x0 q x2 x3 p x5 (y 0) :=
  funext fun y => Parts.read VO0_8 VO0_8.junk
    (fun y : S128x128.Idx => co x0 q x2 x3 p x5 (y 0)) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo9).2.1 (parts8 c i arg1 harg1 arg2 harg2 arg3 harg3 arg4 harg4 arg5 harg5 arg6 harg6 arg7 harg7 arg8 harg8 arg9 harg9 arg10 harg10 arg11 harg11 hc0 x0 x1 x2 x3 x4 x5 x6 xo9 q p hq hp) y (cover0_B_8 c i arg1 harg1 arg2 harg2 arg3 harg3 arg4 harg4 arg5 harg5 arg6 harg6 arg7 harg7 arg8 harg8 arg9 harg9 arg10 harg10 arg11 harg11 hc0 x0 x1 x2 x3 x4 x5 x6 xo9 y)

include hq hp in
theorem out9 : out0_B_9 c i arg1 harg1 arg2 harg2 arg3 harg3 arg4 harg4 arg5 harg5 arg6 harg6 arg7 harg7 arg8 harg8 arg9 harg9 arg10 harg10 arg11 harg11 hc0 x0 x1 x2 x3 x4 x5 x6 xo9 = dg x0 q x2 x3 p xo9 :=
  funext fun y => Parts.read VO0_9 VO0_9.junk
    (dg x0 q x2 x3 p xo9) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo9).2.2.1 (parts9 c i arg1 harg1 arg2 harg2 arg3 harg3 arg4 harg4 arg5 harg5 arg6 harg6 arg7 harg7 arg8 harg8 arg9 harg9 arg10 harg10 arg11 harg11 hc0 x0 x1 x2 x3 x4 x5 x6 xo9 q p hq hp) y (cover0_B_9 c i arg1 harg1 arg2 harg2 arg3 harg3 arg4 harg4 arg5 harg5 arg6 harg6 arg7 harg7 arg8 harg8 arg9 harg9 arg10 harg10 arg11 harg11 hc0 x0 x1 x2 x3 x4 x5 x6 xo9 y)

end CaseB

end Cert.Norm1Ideal.Hand

end
-- ==== Proof.RmsBack.lean ====
/-
  The backward pass of an RMS normalisation as a function of its arguments, over rows and 8192 columns: the coefficient
  of the mean, the gradient of the input and the gradient of the gain.
-/
module

public import Idealize.ShloMosaic.Lib.Pointwise

@[expose] public section

noncomputable section

open Idealize.ShloMosaic

namespace Cert.Hand

variable {R : Nat} (gam : Fin 8192 → EReal) (D X H : Fin R → Fin 8192 → EReal) (p : Fin R → EReal)

/-- `r · mean(γ · d · x)` along a row. -/
def backCo (r : Fin R) : EReal :=
  p r * ((∑ j : Fin 8192, gam j * D r j * X r j) * Ideal.ofBits .f32 0x39000000#32)

/-- `h' + r · (γ · d) - x · r² · c`. -/
def backDx (r : Fin R) (j : Fin 8192) : EReal :=
  H r j + p r * (gam j * D r j) - X r j * (p r * p r) * backCo gam D X p r

/-- `Σ_rows d · x · r`. -/
def backDg (j : Fin 8192) : EReal := ∑ i : Fin R, D i j * X i j * p i

end Cert.Hand

end
-- ==== Proof.Norm1Value.lean ====
/-
  The value of `norm1` at the ideal instance: point `t` holds rows `128 t` to `128 t + 127`; its blocks are the blocks of
  the layer's input gradient and coefficient, and the gain's gradient gathers its rows point after point.
-/
module

public import proofs.«01_k».proof.Defs
public import proofs.«01_k».proof.Proof.Gen.Norm1Ideal.Value
public import proofs.«01_k».proof.Proof.Norm1RunA
public import proofs.«01_k».proof.Proof.Norm1RunB
public import proofs.«01_k».proof.Proof.RmsBack
public import proofs.«01_k».proof.Proof.Product
public import proofs.«01_k».proof.Proof.Linear

@[expose] public section

noncomputable section

open Idealize.ShloMosaic Idealize.ShloMosaic.TcCoe Idealize.SL.Sem
open Idealize.ShloMosaic.Pipeline (Dat)

namespace Cert.Norm1Ideal.Hand

open Cert.Norm1Ideal Cert.Norm1Ideal.Gen Cert.Hand

variable (m : (ℓ : Loc nD τ sig) → Buf (Elt Ideal) ℓ) (ρ : Dev nD → PrngReg)

/-- The gradient codes, the weight codes, the input and the residual gradient; the row scale, the reciprocal root and the
    gain, as the arguments hold them. -/
abbrev A (c : Dev nD) : S1920x2560.Idx → EReal := V (F := Ideal) m c main_arg0
abbrev W (c : Dev nD) : S8192x2560.Idx → EReal := V (F := Ideal) m c main_arg2
abbrev X (c : Dev nD) : S1920x8192.Idx → EReal := V (F := Ideal) m c main_arg3
abbrev H (c : Dev nD) : S1920x8192.Idx → EReal := V (F := Ideal) m c main_arg6
def q (c : Dev nD) (r : Fin 1920) : EReal := (m ((c : Thread nD τ).loc main_arg1) : S3x640.Idx → EReal) (bs r)
def p (c : Dev nD) (r : Fin 1920) : EReal := (m ((c : Thread nD τ).loc main_arg4) : S3x640.Idx → EReal) (bs r)
def gam (c : Dev nD) (j : Fin 8192) : EReal := (m ((c : Thread nD τ).loc main_arg5) : S8192.Idx → EReal) (ix1 j)

/-- The input gradient of the projection. -/
def D (c : Dev nD) (r : Fin 1920) (j : Fin 8192) : EReal :=
  (∑ k : Fin 2560, A m c (ix2 r k) * W m c (ix2 j k)) * q m c r

/-- The three results. -/
def G7 (c : Dev nD) : Buf (Elt Ideal) ((c : Thread nD τ).loc main_v5_0) :=
  (fun i => backDx (gam m c) (D m c) (fun r j => X m c (ix2 r j)) (fun r j => H m c (ix2 r j)) (p m c) (i 0) (i 1) : S1920x8192.Idx → EReal)
def G8 (c : Dev nD) : Buf (Elt Ideal) ((c : Thread nD τ).loc main_v5_1) :=
  (fun i => backCo (gam m c) (D m c) (fun r j => X m c (ix2 r j)) (p m c) (i 0) : S1920x128.Idx → EReal)
def G9 (c : Dev nD) : Buf (Elt Ideal) ((c : Thread nD τ).loc main_v5_2) :=
  (fun i => backDg (D m c) (fun r j => X m c (ix2 r j)) (p m c) (i 1) : S1x8192.Idx → EReal)

theorem lanes_apply (x : S3x640.Idx → EReal) (r : Fin 1920) (l : Fin 128) :
    broadcastInDim S1920x128 ![0, 1] bcast_S1920x1_S1920x128_0_1 (shapeCast S1920x1 x shapeCasts_S3x640_S1920x1) (ix2 r l) = x (bs r) := by
  have hr := r.isLt
  rw [broadcastInDim_apply _ _ _ _ (ix2 r 0 : S1920x1.Idx) (fun a => by fin_cases a <;> rfl)]
  exact shapeCast_apply (s := S3x640) (t := S1920x1) _ _ _ _ (by
    rw [Shape.rowMajor_val_two, Shape.rowMajor_val_two]
    show r.val / 640 * 640 + r.val % 640 = r.val * 1 + 0
    omega)

theorem v1_apply (c : Dev nD) (r : Fin 1920) (l : Fin 128) : (V (F := Ideal) m c main_v1 : S1920x128.Idx → EReal) (ix2 r l) = q m c r := by
  have h : (V (F := Ideal) m c main_v1 : S1920x128.Idx → EReal) = broadcastInDim S1920x128 ![0, 1] bcast_S1920x1_S1920x128_0_1
      (shapeCast S1920x1 (m ((c : Thread nD τ).loc main_arg1) : S3x640.Idx → EReal) shapeCasts_S3x640_S1920x1) := by
    unfold V hostOps0
    after_results <;> rfl
  rw [h]
  exact lanes_apply _ r l

theorem v3_apply (c : Dev nD) (r : Fin 1920) (l : Fin 128) : (V (F := Ideal) m c main_v3 : S1920x128.Idx → EReal) (ix2 r l) = p m c r := by
  have h : (V (F := Ideal) m c main_v3 : S1920x128.Idx → EReal) = broadcastInDim S1920x128 ![0, 1] bcast_S1920x1_S1920x128_0_1
      (shapeCast S1920x1 (m ((c : Thread nD τ).loc main_arg4) : S3x640.Idx → EReal) shapeCasts_S3x640_S1920x1) := by
    unfold V hostOps0
    after_results <;> rfl
  rw [h]
  exact lanes_apply _ r l

theorem v4_apply (c : Dev nD) (j : Fin 8192) : (V (F := Ideal) m c main_v4 : S1x8192.Idx → EReal) (ix2 0 j) = gam m c j := by
  have h : (V (F := Ideal) m c main_v4 : S1x8192.Idx → EReal)
      = shapeCast S1x8192 (m ((c : Thread nD τ).loc main_arg5) : S8192.Idx → EReal) shapeCasts_S8192_S1x8192 := by
    unfold V hostOps0
    after_results <;> rfl
  rw [h]
  unfold gam
  exact shapeCast_apply (s := S8192) (t := S1x8192) _ _ _ _ (by
    rw [Shape.rowMajor_val_one, Shape.rowMajor_val_two]
    show j.val = 0 * 8192 + j.val
    omega)

theorem N_eq : cfg0.N = 15 := (by decide +kernel : grid0.N = 15)

/-- Where the blocks lie, at every grid point. -/
theorem idx_facts : ∀ t : Fin cfg0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 ∧ win0_5.index t 0 = 0 ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = 0 ∧ win0_9.index t 1 = 0 :=
  (by decide +kernel : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 ∧ win0_5.index t 0 = 0 ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = 0 ∧ win0_9.index t 1 = 0)

/-- Row `r` of point `t`'s block. -/
def row (t : Fin cfg0.N) (r : Fin 128) : Fin 1920 := ⟨128 * t.val + r.val, by have := t.isLt; have := N_eq; have := r.isLt; omega⟩

theorem iblk0_apply (c : Dev nD) (t : Fin cfg0.N) (r : Fin 128) (k : Fin 2560) :
    iblk m c 0 t (ix2 r k) = A m c (ix2 (row t r) k) := by
  obtain ⟨h0, h1, -⟩ := idx_facts t
  unfold iblk
  rw [View.read_apply]
  show V m c main_arg0 _ = V m c main_arg0 _
  congr 1
  funext a
  apply Fin.ext
  match a with
  | ⟨0, _⟩ => show win0_0.index t 0 * 128 + 1 * r.val = 128 * t.val + r.val; rw [h0]; omega
  | ⟨1, _⟩ => show win0_0.index t 1 * 2560 + 1 * k.val = k.val; rw [h1]; omega

theorem iblk1_apply (c : Dev nD) (t : Fin cfg0.N) (r : Fin 128) (l : Fin 128) :
    iblk m c 1 t (ix2 r l) = q m c (row t r) := by
  obtain ⟨-, -, h0, h1, -⟩ := idx_facts t
  refine Eq.trans ?_ (v1_apply m c (row t r) l)
  unfold iblk
  rw [View.read_apply]
  show V m c main_v1 _ = V m c main_v1 _
  congr 1
  funext a
  apply Fin.ext
  match a with
  | ⟨0, _⟩ => show win0_1.index t 0 * 128 + 1 * r.val = 128 * t.val + r.val; rw [h0]; omega
  | ⟨1, _⟩ => show win0_1.index t 1 * 128 + 1 * l.val = l.val; rw [h1]; omega

theorem iblk2_apply (c : Dev nD) (t : Fin cfg0.N) (j : Fin 8192) (k : Fin 2560) :
    iblk m c 2 t (ix2 j k) = W m c (ix2 j k) := by
  obtain ⟨-, -, -, -, h0, h1, -⟩ := idx_facts t
  unfold iblk
  rw [View.read_apply]
  show V m c main_arg2 _ = V m c main_arg2 _
  congr 1
  funext a
  apply Fin.ext
  match a with
  | ⟨0, _⟩ => show win0_2.index t 0 * 8192 + 1 * j.val = j.val; rw [h0]; omega
  | ⟨1, _⟩ => show win0_2.index t 1 * 2560 + 1 * k.val = k.val; rw [h1]; omega

theorem iblk3_apply (c : Dev nD) (t : Fin cfg0.N) (r : Fin 128) (j : Fin 8192) :
    iblk m c 3 t (ix2 r j) = X m c (ix2 (row t r) j) := by
  obtain ⟨-, -, -, -, -, -, h0, h1, -⟩ := idx_facts t
  unfold iblk
  rw [View.read_apply]
  show V m c main_arg3 _ = V m c main_arg3 _
  congr 1
  funext a
  apply Fin.ext
  match a with
  | ⟨0, _⟩ => show win0_3.index t 0 * 128 + 1 * r.val = 128 * t.val + r.val; rw [h0]; omega
  | ⟨1, _⟩ => show win0_3.index t 1 * 8192 + 1 * j.val = j.val; rw [h1]; omega

theorem iblk4_apply (c : Dev nD) (t : Fin cfg0.N) (r : Fin 128) (l : Fin 128) :
    iblk m c 4 t (ix2 r l) = p m c (row t r) := by
  obtain ⟨-, -, -, -, -, -, -, -, h0, h1, -⟩ := idx_facts t
  refine Eq.trans ?_ (v3_apply m c (row t r) l)
  unfold iblk
  rw [View.read_apply]
  show V m c main_v3 _ = V m c main_v3 _
  congr 1
  funext a
  apply Fin.ext
  match a with
  | ⟨0, _⟩ => show win0_4.index t 0 * 128 + 1 * r.val = 128 * t.val + r.val; rw [h0]; omega
  | ⟨1, _⟩ => show win0_4.index t 1 * 128 + 1 * l.val = l.val; rw [h1]; omega

theorem iblk5_apply (c : Dev nD) (t : Fin cfg0.N) (j : Fin 8192) :
    iblk m c 5 t (ix2 0 j) = gam m c j := by
  obtain ⟨-, -, -, -, -, -, -, -, -, -, h0, h1, -⟩ := idx_facts t
  refine Eq.trans ?_ (v4_apply m c j)
  unfold iblk
  rw [View.read_apply]
  show V m c main_v4 _ = V m c main_v4 _
  congr 1
  funext a
  apply Fin.ext
  match a with
  | ⟨0, _⟩ => show win0_5.index t 0 * 1 + 1 * 0 = 0; rw [h0]
  | ⟨1, _⟩ => show win0_5.index t 1 * 8192 + 1 * j.val = j.val; rw [h1]; omega

theorem iblk6_apply (c : Dev nD) (t : Fin cfg0.N) (r : Fin 128) (j : Fin 8192) :
    iblk m c 6 t (ix2 r j) = H m c (ix2 (row t r) j) := by
  obtain ⟨-, -, -, -, -, -, -, -, -, -, -, -, h0, h1, -⟩ := idx_facts t
  unfold iblk
  rw [View.read_apply]
  show V m c main_arg6 _ = V m c main_arg6 _
  congr 1
  funext a
  apply Fin.ext
  match a with
  | ⟨0, _⟩ => show win0_6.index t 0 * 128 + 1 * r.val = 128 * t.val + r.val; rw [h0]; omega
  | ⟨1, _⟩ => show win0_6.index t 1 * 8192 + 1 * j.val = j.val; rw [h1]; omega

/-- A point's product, coefficient, result and gain terms are the layer's at its rows. -/
theorem dn_eq (c : Dev nD) (t : Fin cfg0.N) (r : Fin 128) (j : Fin 8192) :
    dn (iblk m c 0 t) (fun r => q m c (row t r)) (iblk m c 2 t) r j = D m c (row t r) j := by
  unfold dn D
  refine congrArg (fun z : EReal => z * _) (Finset.sum_congr rfl fun k _ => ?_)
  exact congrArg₂ (HMul.hMul (α := EReal) (β := EReal)) (iblk0_apply m c t r k) (iblk2_apply m c t j k)

theorem co_eq (c : Dev nD) (t : Fin cfg0.N) (r : Fin 128) :
    co (iblk m c 0 t) (fun r => q m c (row t r)) (iblk m c 2 t) (iblk m c 3 t) (fun r => p m c (row t r)) (iblk m c 5 t) r
      = backCo (gam m c) (D m c) (fun r j => X m c (ix2 r j)) (p m c) (row t r) := by
  unfold co rowSum backCo
  refine congrArg (fun z : EReal => p m c (row t r) * (z * Ideal.ofBits .f32 0x39000000#32)) (Finset.sum_congr rfl fun j _ => ?_)
  rw [dn_eq]
  exact congrArg₂ (HMul.hMul (α := EReal) (β := EReal)) (congrArg (fun z : EReal => z * D m c (row t r) j) (iblk5_apply m c t j))
    (iblk3_apply m c t r j)

theorem dx_eq (c : Dev nD) (t : Fin cfg0.N) (r : Fin 128) (j : Fin 8192) :
    dx (iblk m c 0 t) (fun r => q m c (row t r)) (iblk m c 2 t) (iblk m c 3 t) (fun r => p m c (row t r)) (iblk m c 5 t) (iblk m c 6 t) (ix2 r j)
      = backDx (gam m c) (D m c) (fun r j => X m c (ix2 r j)) (fun r j => H m c (ix2 r j)) (p m c) (row t r) j := by
  have h := co_eq m c t r
  have h' := dn_eq m c t r j
  have h5 := iblk5_apply m c t j
  unfold dx backDx
  refine congrArg₂ (HSub.hSub (α := EReal) (β := EReal)) (congrArg₂ (HAdd.hAdd (α := EReal) (β := EReal)) (iblk6_apply m c t r j) ?_)
    (congrArg₂ (HMul.hMul (α := EReal) (β := EReal)) (congrArg₂ (HMul.hMul (α := EReal) (β := EReal)) (iblk3_apply m c t r j) rfl) h)
  exact congrArg (fun z : EReal => p m c (row t r) * z) (congrArg₂ (HMul.hMul (α := EReal) (β := EReal)) h5 h')

theorem dg_eq (c : Dev nD) (t : Fin cfg0.N) (Z : S1x8192.Idx → EReal) (j : Fin 8192) :
    dg (iblk m c 0 t) (fun r => q m c (row t r)) (iblk m c 2 t) (iblk m c 3 t) (fun r => p m c (row t r)) Z (ix2 0 j)
      = Z (ix2 0 j) + ∑ i : Fin 128, D m c (row t i) j * X m c (ix2 (row t i) j) * p m c (row t i) := by
  unfold dg
  have e1 : (ix2 0 j : S1x8192.Idx) 1 = j := rfl
  refine congrArg (fun z : EReal => _ + z) (Finset.sum_congr rfl fun i _ => ?_)
  rw [e1, dn_eq]
  exact congrArg (fun b : EReal => _ * b * _) (iblk3_apply m c t i j)

/-- What the three buffers hold after point `t`. -/
theorem outs7 (c : Dev nD) (t : Fin cfg0.N) (r : Fin 128) (j : Fin 8192) : (outsAt0 m c t.val t.isLt).1 (ix2 r j)
    = backDx (gam m c) (D m c) (fun r j => X m c (ix2 r j)) (fun r j => H m c (ix2 r j)) (p m c) (row t r) j := by
  refine Eq.trans ?_ (dx_eq m c t r j)
  by_cases h0 : t.val % 15 = 0
  · rw [outsAt0_A m c t h0]
    dsimp only
    rw [CaseA.out7 (q := fun r => q m c (row t r)) (p := fun r => p m c (row t r)) (hq := iblk1_apply m c t) (hp := iblk4_apply m c t)]
  · rw [outsAt0_B m c t h0]
    dsimp only
    rw [CaseB.out7 (q := fun r => q m c (row t r)) (p := fun r => p m c (row t r)) (hq := iblk1_apply m c t) (hp := iblk4_apply m c t)]

theorem outs8 (c : Dev nD) (t : Fin cfg0.N) (r : Fin 128) (l : Fin 128) : (outsAt0 m c t.val t.isLt).2.1 (ix2 r l)
    = backCo (gam m c) (D m c) (fun r j => X m c (ix2 r j)) (p m c) (row t r) := by
  refine Eq.trans ?_ (co_eq m c t r)
  by_cases h0 : t.val % 15 = 0
  · rw [outsAt0_A m c t h0]
    dsimp only
    rw [CaseA.out8 (q := fun r => q m c (row t r)) (p := fun r => p m c (row t r)) (hq := iblk1_apply m c t) (hp := iblk4_apply m c t)]
    exact rfl
  · rw [outsAt0_B m c t h0]
    dsimp only
    rw [CaseB.out8 (q := fun r => q m c (row t r)) (p := fun r => p m c (row t r)) (hq := iblk1_apply m c t) (hp := iblk4_apply m c t)]
    exact rfl

/-- A row's term of the gain's gradient, nothing past the last row. -/
def rowTerm (c : Dev nD) (j : Fin 8192) (i : Nat) : EReal :=
  if h : i < 1920 then D m c ⟨i, h⟩ j * X m c (ix2 ⟨i, h⟩ j) * p m c ⟨i, h⟩ else 0

theorem rowTerm_val (c : Dev nD) (j : Fin 8192) (r : Fin 1920) : rowTerm m c j r.val = D m c r j * X m c (ix2 r j) * p m c r :=
  dif_pos r.isLt

theorem rowTerm_row (c : Dev nD) (j : Fin 8192) (t : Fin cfg0.N) :
    ∑ i : Fin 128, D m c (row t i) j * X m c (ix2 (row t i) j) * p m c (row t i)
      = ∑ i ∈ Finset.range 128, rowTerm m c j (128 * t.val + i) := by
  rw [Finset.sum_range]
  exact Finset.sum_congr rfl fun i _ => (rowTerm_val m c j (row t i)).symm

theorem outs9 (c : Dev nD) (j : Fin 8192) : ∀ (n : Nat) (h : n < cfg0.N), (outsAt0 m c n h).2.2 (ix2 0 j)
    = ∑ i ∈ Finset.range (128 * (n + 1)), rowTerm m c j i
  | 0, h => by
    rw [outsAt0_A m c ⟨0, h⟩ (Nat.zero_mod _)]
    dsimp only
    rw [CaseA.out9 (q := fun r => q m c (row ⟨0, h⟩ r)) (p := fun r => p m c (row ⟨0, h⟩ r)) (hq := iblk1_apply m c ⟨0, h⟩) (hp := iblk4_apply m c ⟨0, h⟩),
      dg_eq, rowTerm_row, zero_add]
    refine Finset.sum_congr rfl fun i _ => ?_
    show rowTerm m c j (128 * 0 + i) = _
    rw [Nat.mul_zero, Nat.zero_add]
  | n + 1, h => by
    have hN := N_eq
    have h0 : ¬ (n + 1) % 15 = 0 := by omega
    rw [outsAt0_B m c ⟨n + 1, h⟩ h0]
    dsimp only
    rw [CaseB.out9 (q := fun r => q m c (row ⟨n + 1, h⟩ r)) (p := fun r => p m c (row ⟨n + 1, h⟩ r)) (hq := iblk1_apply m c ⟨n + 1, h⟩) (hp := iblk4_apply m c ⟨n + 1, h⟩),
      dg_eq, rowTerm_row, Nat.mul_succ 128 (n + 1), Finset.sum_range_add]
    exact congrArg (fun z : EReal => z + _) (outs9 c j n (by omega))

theorem flushed7_eq (c : Dev nD) (t : Fin cfg0.N) :
    (dats m 0 c).flushed 7 t = (win0_7.blk t).view.read (Elt Ideal) (G7 m c) := by
  refine (Value.flushed7 m c t).trans ?_
  obtain ⟨-, -, -, -, -, -, -, -, -, -, -, -, -, -, h0, h1, -⟩ := idx_facts t
  funext y
  obtain ⟨r, j, rfl⟩ : ∃ (r : Fin 128) (j : Fin 8192), y = ix2 r j := ⟨y 0, y 1, eq_ix2 y⟩
  have he : (win0_7.rect t).emb (ix2 r j) = (ix2 (row t r) j : S1920x8192.Idx) := by
    funext a
    apply Fin.ext
    match a with
    | ⟨0, _⟩ => show win0_7.index t 0 * 128 + 1 * r.val = 128 * t.val + r.val; rw [h0]; omega
    | ⟨1, _⟩ => show win0_7.index t 1 * 8192 + 1 * j.val = j.val; rw [h1]; omega
  refine (outs7 m c t r j).trans ?_
  rw [View.read_apply]
  show _ = G7 m c ((win0_7.rect t).emb (ix2 r j))
  rw [he]
  rfl

theorem flushed8_eq (c : Dev nD) (t : Fin cfg0.N) :
    (dats m 0 c).flushed 8 t = (win0_8.blk t).view.read (Elt Ideal) (G8 m c) := by
  refine (Value.flushed8 m c t).trans ?_
  obtain ⟨-, -, -, -, -, -, -, -, -, -, -, -, -, -, -, -, h0, h1, -⟩ := idx_facts t
  funext y
  obtain ⟨r, j, rfl⟩ : ∃ (r : Fin 128) (j : Fin 128), y = ix2 r j := ⟨y 0, y 1, eq_ix2 y⟩
  have he : (win0_8.rect t).emb (ix2 r j) = (ix2 (row t r) j : S1920x128.Idx) := by
    funext a
    apply Fin.ext
    match a with
    | ⟨0, _⟩ => show win0_8.index t 0 * 128 + 1 * r.val = 128 * t.val + r.val; rw [h0]; omega
    | ⟨1, _⟩ => show win0_8.index t 1 * 128 + 1 * j.val = j.val; rw [h1]; omega
  refine (outs8 m c t r j).trans ?_
  rw [View.read_apply]
  show _ = G8 m c ((win0_8.rect t).emb (ix2 r j))
  rw [he]
  rfl

theorem rowTerm_sum (c : Dev nD) (j : Fin 8192) :
    ∑ i ∈ Finset.range (128 * (14 + 1)), rowTerm m c j i = backDg (D m c) (fun r j => X m c (ix2 r j)) (p m c) j := by
  have e : 128 * (14 + 1) = 1920 := by norm_num
  rw [e, Finset.sum_range]
  unfold backDg rowTerm
  exact Finset.sum_congr rfl fun i _ => dif_pos i.isLt

theorem flushed9_eq (c : Dev nD) (t : Fin cfg0.N) (hf : (cfg0.win 9).flush t = true) :
    (dats m 0 c).flushed 9 t = (win0_9.blk t).view.read (Elt Ideal) (G9 m c) := by
  refine (Value.flushed9 m c t).trans ?_
  obtain ⟨-, -, -, -, -, -, -, -, -, -, -, -, -, -, -, -, -, -, h0, h1⟩ := idx_facts t
  have ht : t.val = 14 := by have := (flush0_9 t).mp hf; have := t.isLt; have := N_eq; omega
  funext y
  obtain ⟨j, rfl⟩ : ∃ j : Fin 8192, y = ix2 0 j := ⟨y 1, by rw [eq_ix2 y]; congr 1; exact Subsingleton.elim (α := Fin 1) _ _⟩
  have he : (win0_9.rect t).emb (ix2 0 j) = (ix2 0 j : S1x8192.Idx) := by
    funext a
    apply Fin.ext
    match a with
    | ⟨0, _⟩ => show win0_9.index t 0 * 1 + 1 * 0 = 0; rw [h0]
    | ⟨1, _⟩ => show win0_9.index t 1 * 8192 + 1 * j.val = j.val; rw [h1]; omega
  refine (outs9 m c j t.val t.isLt).trans ?_
  rw [View.read_apply]
  show _ = G9 m c ((win0_9.rect t).emb (ix2 0 j))
  rw [he, ht]
  exact rowTerm_sum m c j

theorem final7 (c : Dev nD) : (dats m 0 c).arrAt 7 cfg0.N = G7 m c :=
  (dats m 0 c).arrAt_eq_of_cover 7 (G7 m c) (fun t _ => flushed7_eq m c t) fun i => by
    have b0 : (i 0 : Nat) < 1920 := (i 0).isLt
    have b1 : (i 1 : Nat) < 8192 := (i 1).isLt
    have hN := N_eq
    obtain ⟨t, ht⟩ : ∃ t : Fin cfg0.N, t.val = (i 0 : Nat) / 128 := ⟨⟨_, by omega⟩, rfl⟩
    obtain ⟨-, -, -, -, -, -, -, -, -, -, -, -, -, -, h0, h1, -⟩ := idx_facts t
    refine ⟨t, flush0_7 t, ?_⟩
    show i ∈ ((View.whole main_v5_0).slice (win0_7.rect t)).set
    rw [View.set_slice_whole, Rect.mem_set_unit]
    intro a
    match a with
    | ⟨0, _⟩ => show win0_7.index t 0 * 128 ≤ (i 0 : Nat) ∧ (i 0 : Nat) < win0_7.index t 0 * 128 + 128
                rw [h0]; omega
    | ⟨1, _⟩ => show win0_7.index t 1 * 8192 ≤ (i 1 : Nat) ∧ (i 1 : Nat) < win0_7.index t 1 * 8192 + 8192
                rw [h1]; omega

theorem final8 (c : Dev nD) : (dats m 0 c).arrAt 8 cfg0.N = G8 m c :=
  (dats m 0 c).arrAt_eq_of_cover 8 (G8 m c) (fun t _ => flushed8_eq m c t) fun i => by
    have b0 : (i 0 : Nat) < 1920 := (i 0).isLt
    have b1 : (i 1 : Nat) < 128 := (i 1).isLt
    have hN := N_eq
    obtain ⟨t, ht⟩ : ∃ t : Fin cfg0.N, t.val = (i 0 : Nat) / 128 := ⟨⟨_, by omega⟩, rfl⟩
    obtain ⟨-, -, -, -, -, -, -, -, -, -, -, -, -, -, -, -, h0, h1, -⟩ := idx_facts t
    refine ⟨t, flush0_8 t, ?_⟩
    show i ∈ ((View.whole main_v5_1).slice (win0_8.rect t)).set
    rw [View.set_slice_whole, Rect.mem_set_unit]
    intro a
    match a with
    | ⟨0, _⟩ => show win0_8.index t 0 * 128 ≤ (i 0 : Nat) ∧ (i 0 : Nat) < win0_8.index t 0 * 128 + 128
                rw [h0]; omega
    | ⟨1, _⟩ => show win0_8.index t 1 * 128 ≤ (i 1 : Nat) ∧ (i 1 : Nat) < win0_8.index t 1 * 128 + 128
                rw [h1]; omega

theorem final9 (c : Dev nD) : (dats m 0 c).arrAt 9 cfg0.N = G9 m c :=
  (dats m 0 c).arrAt_eq_of_cover 9 (G9 m c) (fun t hf => flushed9_eq m c t hf) fun i => by
    have b0 : (i 0 : Nat) < 1 := (i 0).isLt
    have b1 : (i 1 : Nat) < 8192 := (i 1).isLt
    have hN := N_eq
    obtain ⟨t, ht⟩ : ∃ t : Fin cfg0.N, t.val = 14 := ⟨⟨14, by omega⟩, rfl⟩
    obtain ⟨-, -, -, -, -, -, -, -, -, -, -, -, -, -, -, -, -, -, h0, h1⟩ := idx_facts t
    refine ⟨t, (flush0_9 t).mpr (by rw [ht]), ?_⟩
    show i ∈ ((View.whole main_v5_2).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1
                rw [h0]; omega
    | ⟨1, _⟩ => show win0_9.index t 1 * 8192 ≤ (i 1 : Nat) ∧ (i 1 : Nat) < win0_9.index t 1 * 8192 + 8192
                rw [h1]; omega

/-- The run, read: the three result arrays, the arguments unchanged. -/
theorem run : θ_run defs (onTc (τ := τ) (main (F := Ideal))) ⟨m, fun _ => 0, ρ⟩ fun r => ∀ c : Dev nD,
      r.2.mem ((c : Thread nD τ).loc main_v5_0) = G7 m c
      ∧ r.2.mem ((c : Thread nD τ).loc main_v5_1) = G8 m c
      ∧ r.2.mem ((c : Thread nD τ).loc main_v5_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c), (h c).2.2.2⟩)
    (Value.run_blocks m ρ)

end Cert.Norm1Ideal.Hand

end
-- ==== Proof.PowerBits.lean ====
/-
  The 32-bit words that hold an exponent field and nothing else, read as numbers: zero, the powers of two, infinity.
-/
module

public import Idealize.ShloMosaic.Lib.Pointwise

@[expose] public section

noncomputable section

open Idealize.ShloMosaic

namespace Cert.Hand

/-- The number whose exponent field is `n` and whose other bits are zero. -/
def T (n : Nat) : EReal := if n = 0 then 0 else if n = 255 then ⊤ else (((2 : ℝ) ^ ((n : ℤ) - 127) : ℝ) : EReal)

theorem ofBits_field (b : BitVec 32) (n : Nat) (hn : n < 256) (hb : b.toNat = n * 2 ^ 23) : Ideal.ofBits .f32 b = T n := by
  have h1 : (BitVec.extractLsb' (8 + 23) 1 b == 1#1) = false := by
    rw [beq_eq_false_iff_ne]
    intro h
    have := congrArg BitVec.toNat h
    rw [BitVec.extractLsb'_toNat, hb, Nat.shiftRight_eq_div_pow] at this
    simp at this
    omega
  have h2 : (BitVec.extractLsb' 23 8 b).toNat = n := by
    rw [BitVec.extractLsb'_toNat, hb, Nat.shiftRight_eq_div_pow, Nat.mul_div_cancel _ (by positivity)]
    omega
  have h3 : (BitVec.extractLsb' 0 23 b).toNat = 0 := by
    rw [BitVec.extractLsb'_toNat, hb]
    simp
  rw [Ideal.ofBits.eq_1, Ideal.ieee.eq_1]
  rw [h1, h2, h3]
  unfold T
  by_cases h255 : n = 255
  · subst h255
    norm_num
  · by_cases h0 : n = 0
    · subst h0
      norm_num
    · rw [if_neg (by norm_num; exact h255), if_neg h0, if_neg h0, if_neg h255]
      congr 1
      norm_num
      rw [show (8388608 : ℝ) = 2 ^ (23 : ℤ) by norm_num, ← zpow_add₀ (by norm_num)]
      congr 1
      omega

theorem bits8192 : Ideal.ofBits .f32 0x46000000#32 = ((8192 : ℝ) : EReal) := by
  rw [ofBits_field _ 140 (by decide) (by decide)]
  norm_num [T]

theorem bitsInv : Ideal.ofBits .f32 0x39000000#32 = ((1 / 8192 : ℝ) : EReal) := by
  rw [ofBits_field _ 114 (by decide) (by decide)]
  norm_num [T]

/-- Dividing by 8192 is multiplying by its inverse. -/
theorem div_8192 (x : EReal) : Ideal.div x (Ideal.ofBits .f32 0x46000000#32) = x * Ideal.ofBits .f32 0x39000000#32 := by
  rw [bits8192, bitsInv, Ideal.div_coe (by norm_num)]

end Cert.Hand

end
-- ==== Proof.Norm1Ref.lean ====
/-
  The value of `norm1`'s reference at the ideal instance, and the claim: kernel and reference are the same backward pass.
-/
module

public import proofs.«01_k».proof.Defs
public import proofs.«01_k».proof.Proof.Gen.Norm1RefIdeal.Value
public import proofs.«01_k».proof.Proof.Norm1Value
public import proofs.«01_k».proof.Proof.PowerBits
public import Idealize.ShloMosaic.Lib.Pipeline.Value

@[expose] public section

noncomputable section

open Idealize.ShloMosaic Idealize.ShloMosaic.TcCoe Idealize.SL.Sem
open Idealize.ShloMosaic.Pipeline (Dat)

namespace Cert.Norm1RefIdeal.Hand

open Cert.Norm1RefIdeal Cert.Norm1RefIdeal.Gen Cert.Hand

variable (m : (ℓ : Loc nD τ sig) → Buf (Elt Ideal) ℓ) (ρ : Dev nD → PrngReg)

section Payload

variable (v0 : Vec Ideal S1920x2560 .fp8e5m2) (v1 : Vec Ideal S8192x2560 .fp8e4m3) (v3 : Vec Ideal S1920x1 .f32)
  (v7 : Vec Ideal S1920x8192 .bf16) (v9 : Vec Ideal S1920x1 .f32) (v11 : Vec Ideal S1x8192 .f32) (v13 : Vec Ideal S1920x8192 .f32)

/-- The projection's input gradient, from the whole arrays. -/
def dnR (r : Fin 1920) (j : Fin 8192) : EReal := (∑ k : Fin 2560, v0 (ix2 r k) * v1 (ix2 j k)) * v3 (ix2 r 0)

theorem pay2_apply (r : Fin 1920) (j : Fin 8192) : k0_pay2 v0 v1 v3 (ix2 r j) = dnR v0 v1 v3 r j := by
  unfold dnR k0_pay2
  pointwise [dot_S1920x2560_S8192x2560_S1920x8192_1_1_0_0_n_n]

theorem pay7_apply (r : Fin 1920) : k0_pay7 v0 v1 v3 v7 v9 v11 (ix2 r 0)
    = backCo (fun j => v11 (ix2 0 j)) (dnR v0 v1 v3) (fun r j => v7 (ix2 r j)) (fun r => v9 (ix2 r 0)) r := by
  have h := pay2_apply v0 v1 v3
  unfold backCo k0_pay7 k0_pay6 k0_pay3 k0_pay4
  generalize k0_pay2 v0 v1 v3 = d at h ⊢
  rw [← div_8192]
  pointwise [h]

theorem pay8_apply (r : Fin 1920) (j : Fin 8192) : k0_pay8 v0 v1 v3 v7 v9 v11 v13 (ix2 r j)
    = backDx (fun j => v11 (ix2 0 j)) (dnR v0 v1 v3) (fun r j => v7 (ix2 r j)) (fun r j => v13 (ix2 r j)) (fun r => v9 (ix2 r 0)) r j := by
  have h := pay2_apply v0 v1 v3
  have h7 := pay7_apply v0 v1 v3 v7 v9 v11
  unfold backDx k0_pay8 k0_pay6 k0_pay3 k0_pay4
  generalize k0_pay7 v0 v1 v3 v7 v9 v11 = e at h7 ⊢
  generalize k0_pay2 v0 v1 v3 = d at h ⊢
  pointwise [h, h7]

theorem pay9_apply (r : Fin 1920) (l : Fin 128) : k0_pay1 (k0_pay9 v0 v1 v3 v7 v9 v11) (ix2 r l)
    = backCo (fun j => v11 (ix2 0 j)) (dnR v0 v1 v3) (fun r j => v7 (ix2 r j)) (fun r => v9 (ix2 r 0)) r := by
  have h7 := pay7_apply v0 v1 v3 v7 v9 v11
  unfold k0_pay1 k0_pay9
  generalize k0_pay7 v0 v1 v3 v7 v9 v11 = e at h7 ⊢
  pointwise [h7]

theorem pay5_apply (j : Fin 8192) : k0_pay5 v0 v1 v3 v7 v9 (ix2 0 j)
    = backDg (dnR v0 v1 v3) (fun r j => v7 (ix2 r j)) (fun r => v9 (ix2 r 0)) j := by
  have h := pay2_apply v0 v1 v3
  unfold backDg k0_pay5 k0_pay3 k0_pay4
  generalize k0_pay2 v0 v1 v3 = d at h ⊢
  pointwise [h]

end Payload

/-- The arguments as the region finds them. -/
abbrev A (c : Dev nD) : S1920x2560.Idx → EReal := V (F := Ideal) m c main_arg0
abbrev S (c : Dev nD) : S1920x1.Idx → EReal := V (F := Ideal) m c main_v0
abbrev W (c : Dev nD) : S8192x2560.Idx → EReal := V (F := Ideal) m c main_arg2
abbrev X (c : Dev nD) : S1920x8192.Idx → EReal := V (F := Ideal) m c main_arg3
abbrev P (c : Dev nD) : S1920x1.Idx → EReal := V (F := Ideal) m c main_v1
abbrev Gm (c : Dev nD) : S1x8192.Idx → EReal := V (F := Ideal) m c main_v2
abbrev H (c : Dev nD) : S1920x8192.Idx → EReal := V (F := Ideal) m c main_arg6
def q (c : Dev nD) (r : Fin 1920) : EReal := (m ((c : Thread nD τ).loc main_arg1) : S3x640.Idx → EReal) (bs r)
def p (c : Dev nD) (r : Fin 1920) : EReal := (m ((c : Thread nD τ).loc main_arg4) : S3x640.Idx → EReal) (bs r)
def gam (c : Dev nD) (j : Fin 8192) : EReal := (m ((c : Thread nD τ).loc main_arg5) : S8192.Idx → EReal) (ix1 j)

def D (c : Dev nD) (r : Fin 1920) (j : Fin 8192) : EReal :=
  (∑ k : Fin 2560, A m c (ix2 r k) * W m c (ix2 j k)) * q m c r

/-- The three results. -/
def G7 (c : Dev nD) : Buf (Elt Ideal) ((c : Thread nD τ).loc main_v3_0) :=
  (fun i => backDx (gam m c) (D m c) (fun r j => X m c (ix2 r j)) (fun r j => H m c (ix2 r j)) (p m c) (i 0) (i 1) : S1920x8192.Idx → EReal)
def G8 (c : Dev nD) : Buf (Elt Ideal) ((c : Thread nD τ).loc main_v3_1) :=
  (fun i => backCo (gam m c) (D m c) (fun r j => X m c (ix2 r j)) (p m c) (i 0) : S1920x128.Idx → EReal)
def G9 (c : Dev nD) : Buf (Elt Ideal) ((c : Thread nD τ).loc main_v3_2) :=
  (fun i => backDg (D m c) (fun r j => X m c (ix2 r j)) (p m c) (i 1) : S1x8192.Idx → EReal)

theorem column_apply (x : S3x640.Idx → EReal) (r : Fin 1920) : shapeCast S1920x1 x shapeCasts_S3x640_S1920x1 (ix2 r 0) = x (bs r) := by
  have hr := r.isLt
  exact shapeCast_apply (s := S3x640) (t := S1920x1) _ _ _ _ (by
    rw [Shape.rowMajor_val_two, Shape.rowMajor_val_two]
    show r.val / 640 * 640 + r.val % 640 = r.val * 1 + 0
    omega)

theorem S_eq (c : Dev nD) : (fun r => S m c (ix2 r 0)) = q m c := by
  have h : S m c = shapeCast S1920x1 (m ((c : Thread nD τ).loc main_arg1) : S3x640.Idx → EReal) shapeCasts_S3x640_S1920x1 := by
    unfold S V hostOps0
    after_results <;> rfl
  rw [h]
  exact funext fun r => column_apply _ r

theorem P_eq (c : Dev nD) : (fun r => P m c (ix2 r 0)) = p m c := by
  have h : P m c = shapeCast S1920x1 (m ((c : Thread nD τ).loc main_arg4) : S3x640.Idx → EReal) shapeCasts_S3x640_S1920x1 := by
    unfold P V hostOps0
    after_results <;> rfl
  rw [h]
  exact funext fun r => column_apply _ r

theorem Gm_eq (c : Dev nD) : (fun j => Gm m c (ix2 0 j)) = gam m c := by
  have h : Gm m c = shapeCast S1x8192 (m ((c : Thread nD τ).loc main_arg5) : S8192.Idx → EReal) shapeCasts_S8192_S1x8192 := by
    unfold Gm V hostOps0
    after_results <;> rfl
  rw [h]
  funext j
  unfold gam
  exact shapeCast_apply (s := S8192) (t := S1x8192) _ _ _ _ (by
    rw [Shape.rowMajor_val_one, Shape.rowMajor_val_two]
    show j.val = 0 * 8192 + j.val
    omega)

theorem D_eq (c : Dev nD) : dnR (A m c) (W m c) (S m c) = D m c := by
  funext r j
  unfold dnR D
  exact congrArg (fun z : EReal => _ * z) (congrFun (S_eq m c) r)

theorem iblk0_eq (c : Dev nD) (t : Fin cfg0.N) : iblk m c 0 t = A m c := by
  unfold iblk
  funext y
  rw [View.read_apply]
  show V m c main_arg0 _ = V m c main_arg0 _
  congr 1
  funext a
  apply Fin.ext
  match a with
  | ⟨0, _⟩ => show 0 * 1920 + 1 * (y 0).val = (y 0).val; omega
  | ⟨1, _⟩ => show 0 * 2560 + 1 * (y 1).val = (y 1).val; omega

theorem iblk1_eq (c : Dev nD) (t : Fin cfg0.N) : iblk m c 1 t = S m c := by
  unfold iblk
  funext y
  rw [View.read_apply]
  show V m c main_v0 _ = V m c main_v0 _
  congr 1
  funext a
  apply Fin.ext
  match a with
  | ⟨0, _⟩ => show 0 * 1920 + 1 * (y 0).val = (y 0).val; omega
  | ⟨1, _⟩ => show 0 * 1 + 1 * (y 1).val = (y 1).val; omega

theorem iblk2_eq (c : Dev nD) (t : Fin cfg0.N) : iblk m c 2 t = W m c := by
  unfold iblk
  funext y
  rw [View.read_apply]
  show V m c main_arg2 _ = V m c main_arg2 _
  congr 1
  funext a
  apply Fin.ext
  match a with
  | ⟨0, _⟩ => show 0 * 8192 + 1 * (y 0).val = (y 0).val; omega
  | ⟨1, _⟩ => show 0 * 2560 + 1 * (y 1).val = (y 1).val; omega

theorem iblk3_eq (c : Dev nD) (t : Fin cfg0.N) : iblk m c 3 t = X m c := by
  unfold iblk
  funext y
  rw [View.read_apply]
  show V m c main_arg3 _ = V m c main_arg3 _
  congr 1
  funext a
  apply Fin.ext
  match a with
  | ⟨0, _⟩ => show 0 * 1920 + 1 * (y 0).val = (y 0).val; omega
  | ⟨1, _⟩ => show 0 * 8192 + 1 * (y 1).val = (y 1).val; omega

theorem iblk4_eq (c : Dev nD) (t : Fin cfg0.N) : iblk m c 4 t = P m c := by
  unfold iblk
  funext y
  rw [View.read_apply]
  show V m c main_v1 _ = V m c main_v1 _
  congr 1
  funext a
  apply Fin.ext
  match a with
  | ⟨0, _⟩ => show 0 * 1920 + 1 * (y 0).val = (y 0).val; omega
  | ⟨1, _⟩ => show 0 * 1 + 1 * (y 1).val = (y 1).val; omega

theorem iblk5_eq (c : Dev nD) (t : Fin cfg0.N) : iblk m c 5 t = Gm m c := by
  unfold iblk
  funext y
  rw [View.read_apply]
  show V m c main_v2 _ = V m c main_v2 _
  congr 1
  funext a
  apply Fin.ext
  match a with
  | ⟨0, _⟩ => show 0 * 1 + 1 * (y 0).val = (y 0).val; omega
  | ⟨1, _⟩ => show 0 * 8192 + 1 * (y 1).val = (y 1).val; omega

theorem iblk6_eq (c : Dev nD) (t : Fin cfg0.N) : iblk m c 6 t = H m c := by
  unfold iblk
  funext y
  rw [View.read_apply]
  show V m c main_arg6 _ = V m c main_arg6 _
  congr 1
  funext a
  apply Fin.ext
  match a with
  | ⟨0, _⟩ => show 0 * 1920 + 1 * (y 0).val = (y 0).val; omega
  | ⟨1, _⟩ => show 0 * 8192 + 1 * (y 1).val = (y 1).val; omega

theorem flushed7_eq (c : Dev nD) (t : Fin cfg0.N) :
    (dats m 0 c).flushed 7 t = (win0_7.blk t).view.read (Elt Ideal) (G7 m c) := by
  refine (Value.flushed7 m c t).trans ?_
  unfold out0_7
  rw [View.canon_unit_zero hz2, View.ld_unit_zero (S := S1920x2560) hz2, View.ld_unit_zero (S := S8192x2560) hz2, View.ld_unit_zero (S := S1920x1) hz2,
    View.ld_unit_zero (S := S1920x8192) hz2, View.ld_unit_zero (S := S1920x1) hz2, View.ld_unit_zero (S := S1x8192) hz2, View.ld_unit_zero (S := S1920x8192) hz2,
    iblk0_eq, iblk1_eq, iblk2_eq, iblk3_eq, iblk4_eq, iblk5_eq, iblk6_eq]
  funext y
  rw [View.read_apply]
  obtain ⟨r, j, rfl⟩ : ∃ (r : Fin 1920) (j : Fin 8192), y = ix2 r j := ⟨y 0, y 1, eq_ix2 y⟩
  refine (pay8_apply _ _ _ _ _ _ _ r j).trans ?_
  rw [D_eq, Gm_eq, P_eq]
  have he : (win0_7.rect t).emb (ix2 r j) = (ix2 r j : S1920x8192.Idx) := by
    funext a
    apply Fin.ext
    match a with
    | ⟨0, _⟩ => show 0 * 1920 + 1 * r.val = r.val; omega
    | ⟨1, _⟩ => show 0 * 8192 + 1 * j.val = j.val; omega
  show _ = G7 m c ((win0_7.rect t).emb (ix2 r j))
  rw [he]
  rfl

theorem final7 (c : Dev nD) : (dats m 0 c).arrAt 7 cfg0.N = G7 m c :=
  (dats m 0 c).arrAt_eq_of_cover 7 (G7 m c) (fun t _ => flushed7_eq m c t) fun i => by
    have b0 : (i 0 : Nat) < 1920 := (i 0).isLt
    have b1 : (i 1 : Nat) < 8192 := (i 1).isLt
    have hN : cfg0.N = 1 := N_0
    obtain ⟨t⟩ : Nonempty (Fin cfg0.N) := ⟨⟨0, by omega⟩⟩
    refine ⟨t, flush0_7 t, ?_⟩
    show i ∈ ((View.whole main_v3_0).slice (win0_7.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 8192 ≤ (i 1 : Nat) ∧ (i 1 : Nat) < 0 * 8192 + 8192; omega

theorem flushed8_eq (c : Dev nD) (t : Fin cfg0.N) :
    (dats m 0 c).flushed 8 t = (win0_8.blk t).view.read (Elt Ideal) (G8 m c) := by
  refine (Value.flushed8 m c t).trans ?_
  unfold out0_8
  rw [View.canon_unit_zero hz2, View.ld_unit_zero (S := S1920x2560) hz2, View.ld_unit_zero (S := S8192x2560) hz2, View.ld_unit_zero (S := S1920x1) hz2,
    View.ld_unit_zero (S := S1920x8192) hz2, View.ld_unit_zero (S := S1920x1) hz2, View.ld_unit_zero (S := S1x8192) hz2,
    iblk0_eq, iblk1_eq, iblk2_eq, iblk3_eq, iblk4_eq, iblk5_eq]
  funext y
  rw [View.read_apply]
  obtain ⟨r, j, rfl⟩ : ∃ (r : Fin 1920) (j : Fin 128), y = ix2 r j := ⟨y 0, y 1, eq_ix2 y⟩
  refine (pay9_apply _ _ _ _ _ _ r j).trans ?_
  rw [D_eq, Gm_eq, P_eq]
  have he : (win0_8.rect t).emb (ix2 r j) = (ix2 r j : S1920x128.Idx) := by
    funext a
    apply Fin.ext
    match a with
    | ⟨0, _⟩ => show 0 * 1920 + 1 * r.val = r.val; omega
    | ⟨1, _⟩ => show 0 * 128 + 1 * j.val = j.val; omega
  show _ = G8 m c ((win0_8.rect t).emb (ix2 r j))
  rw [he]
  rfl

theorem final8 (c : Dev nD) : (dats m 0 c).arrAt 8 cfg0.N = G8 m c :=
  (dats m 0 c).arrAt_eq_of_cover 8 (G8 m c) (fun t _ => flushed8_eq m c t) fun i => by
    have b0 : (i 0 : Nat) < 1920 := (i 0).isLt
    have b1 : (i 1 : Nat) < 128 := (i 1).isLt
    have hN : cfg0.N = 1 := N_0
    obtain ⟨t⟩ : Nonempty (Fin cfg0.N) := ⟨⟨0, by omega⟩⟩
    refine ⟨t, flush0_8 t, ?_⟩
    show i ∈ ((View.whole main_v3_1).slice (win0_8.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 128 ≤ (i 1 : Nat) ∧ (i 1 : Nat) < 0 * 128 + 128; omega

theorem flushed9_eq (c : Dev nD) (t : Fin cfg0.N) :
    (dats m 0 c).flushed 9 t = (win0_9.blk t).view.read (Elt Ideal) (G9 m c) := by
  refine (Value.flushed9 m c t).trans ?_
  unfold out0_9
  rw [View.canon_unit_zero hz2, View.ld_unit_zero (S := S1920x2560) hz2, View.ld_unit_zero (S := S8192x2560) hz2, View.ld_unit_zero (S := S1920x1) hz2,
    View.ld_unit_zero (S := S1920x8192) hz2, View.ld_unit_zero (S := S1920x1) hz2,
    iblk0_eq, iblk1_eq, iblk2_eq, iblk3_eq, iblk4_eq]
  funext y
  rw [View.read_apply]
  obtain ⟨j, rfl⟩ : ∃ j : Fin 8192, y = ix2 0 j := ⟨y 1, by rw [eq_ix2 y]; congr 1; exact Subsingleton.elim (α := Fin 1) _ _⟩
  refine (pay5_apply _ _ _ _ _ j).trans ?_
  rw [D_eq, P_eq]
  have he : (win0_9.rect t).emb (ix2 0 j) = (ix2 0 j : S1x8192.Idx) := by
    funext a
    apply Fin.ext
    match a with
    | ⟨0, _⟩ => show 0 * 1 + 1 * 0 = 0; rfl
    | ⟨1, _⟩ => show 0 * 8192 + 1 * j.val = j.val; omega
  show _ = G9 m c ((win0_9.rect t).emb (ix2 0 j))
  rw [he]
  rfl

theorem final9 (c : Dev nD) : (dats m 0 c).arrAt 9 cfg0.N = G9 m c :=
  (dats m 0 c).arrAt_eq_of_cover 9 (G9 m c) (fun t _ => flushed9_eq m c t) fun i => by
    have b0 : (i 0 : Nat) < 1 := (i 0).isLt
    have b1 : (i 1 : Nat) < 8192 := (i 1).isLt
    have hN : cfg0.N = 1 := N_0
    obtain ⟨t⟩ : Nonempty (Fin cfg0.N) := ⟨⟨0, by omega⟩⟩
    refine ⟨t, flush0_9 t, ?_⟩
    show i ∈ ((View.whole main_v3_2).slice (win0_9.rect t)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 8192 ≤ (i 1 : Nat) ∧ (i 1 : Nat) < 0 * 8192 + 8192; omega

/-- The reference's run, read. -/
theorem run : θ_run defs (onTc (τ := τ) (main (F := Ideal))) ⟨m, fun _ => 0, ρ⟩ fun r => ∀ c : Dev nD,
      r.2.mem ((c : Thread nD τ).loc main_v3_0) = G7 m c
      ∧ r.2.mem ((c : Thread nD τ).loc main_v3_1) = G8 m c
      ∧ r.2.mem ((c : Thread nD τ).loc main_v3_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2.1.trans (final9 m c), (h c).2.2.2⟩)
    (Value.run_blocks m ρ)

end Cert.Norm1RefIdeal.Hand

namespace Cert.Proof.Norm1Claims

/-- `norm1` at the ideal instance computes the reference's input gradient, coefficient and gain gradient. -/
theorem algebraic : Cert.algebraic_Norm1Ideal_Norm1RefIdeal := by
  intro m g m' g' _ hagree
  refine ⟨fun c => Cert.Norm1Ideal.Hand.G7 m c, fun c => Cert.Norm1Ideal.Hand.G8 m c, fun c => Cert.Norm1Ideal.Hand.G9 m c,
    Cert.Norm1Ideal.Hand.run m g, ?_⟩
  refine (θ_run Cert.Norm1RefIdeal.defs _ _).mono (fun _ h c => ?_) (Cert.Norm1RefIdeal.Hand.run m' g')
  obtain ⟨a0, a1, a2, a3, a4, a5, a6⟩ := hagree c
  have hA : Cert.Norm1RefIdeal.Hand.A m' c = Cert.Norm1Ideal.Hand.A m c :=
    (Cert.Norm1RefIdeal.Gen.V_main_arg0 m' c).trans (a0.trans (Cert.Norm1Ideal.Gen.V_main_arg0 m c).symm)
  have hW : Cert.Norm1RefIdeal.Hand.W m' c = Cert.Norm1Ideal.Hand.W m c :=
    (Cert.Norm1RefIdeal.Gen.V_main_arg2 m' c).trans (a2.trans (Cert.Norm1Ideal.Gen.V_main_arg2 m c).symm)
  have hX : Cert.Norm1RefIdeal.Hand.X m' c = Cert.Norm1Ideal.Hand.X m c :=
    (Cert.Norm1RefIdeal.Gen.V_main_arg3 m' c).trans (a3.trans (Cert.Norm1Ideal.Gen.V_main_arg3 m c).symm)
  have hH : Cert.Norm1RefIdeal.Hand.H m' c = Cert.Norm1Ideal.Hand.H m c :=
    (Cert.Norm1RefIdeal.Gen.V_main_arg6 m' c).trans (a6.trans (Cert.Norm1Ideal.Gen.V_main_arg6 m c).symm)
  have hq : Cert.Norm1RefIdeal.Hand.q m' c = Cert.Norm1Ideal.Hand.q m c := funext fun _ => congrFun a1 _
  have hp : Cert.Norm1RefIdeal.Hand.p m' c = Cert.Norm1Ideal.Hand.p m c := funext fun _ => congrFun a4 _
  have hgam : Cert.Norm1RefIdeal.Hand.gam m' c = Cert.Norm1Ideal.Hand.gam m c := funext fun _ => congrFun a5 _
  have hD : Cert.Norm1RefIdeal.Hand.D m' c = Cert.Norm1Ideal.Hand.D m c := by
    unfold Cert.Norm1RefIdeal.Hand.D
    rw [hA, hW, hq]
    rfl
  refine ⟨(h c).1.trans ?_, (h c).2.1.trans ?_, (h c).2.2.1.trans ?_, (h c).2.2.2⟩
  · unfold Cert.Norm1RefIdeal.Hand.G7
    rw [hD, hX, hH, hp, hgam]
    rfl
  · unfold Cert.Norm1RefIdeal.Hand.G8
    rw [hD, hX, hp, hgam]
    rfl
  · unfold Cert.Norm1RefIdeal.Hand.G9
    rw [hD, hX, hp]
    rfl

end Cert.Proof.Norm1Claims

end
-- ==== Proof.Exponent.lean ====
/-
  The exponent of the largest power of two not above a number: by the kernel's search over the exponent's bits and by the
  reference's count over a table of powers; the scale and the inverse scale of the row quantiser from it.
-/
module

public import Idealize.ShloMosaic.Lib.Pointwise
public import Idealize.ShloMosaic.Lib.Pointwise.Select
public import proofs.«01_k».proof.Proof.PowerBits

@[expose] public section

noncomputable section

open Idealize.ShloMosaic

namespace Cert.Hand

/-- The powers of two rise with the exponent field. -/
theorem T_mono {a b : Nat} (h : a ≤ b) (hb : b ≤ 255) : T a ≤ T b := by
  unfold T
  by_cases a0 : a = 0
  · rw [if_pos a0]
    by_cases b0 : b = 0
    · rw [if_pos b0]
    · rw [if_neg b0]
      by_cases b5 : b = 255
      · rw [if_pos b5]
        exact le_top
      · rw [if_neg b5]
        exact_mod_cast (by positivity : (0 : ℝ) ≤ (2 : ℝ) ^ ((b : ℤ) - 127))
  · have b0 : b ≠ 0 := by omega
    rw [if_neg a0, if_neg b0]
    by_cases b5 : b = 255
    · rw [if_pos b5]
      exact le_top
    · have a5 : a ≠ 255 := by omega
      rw [if_neg a5, if_neg b5]
      exact_mod_cast zpow_le_zpow_right₀ (by norm_num : (1 : ℝ) ≤ 2) (by omega : (a : ℤ) - 127 ≤ (b : ℤ) - 127)

/-- How many of the powers of two with fields 1 to 255 do not exceed `x`. -/
def level (x : EReal) : Nat := ((Finset.univ : Finset (Fin 255)).filter fun k => T (k.val + 1) ≤ x).card

theorem level_le (x : EReal) : level x ≤ 255 :=
  (Finset.card_filter_le _ _).trans (by simp)

theorem le_level_iff (x : EReal) (k : Nat) (h1 : 1 ≤ k) (h2 : k ≤ 255) : T k ≤ x ↔ k ≤ level x := by
  constructor
  · intro h
    have hs : (Finset.univ : Finset (Fin k)).map ⟨fun i : Fin k => (⟨i.val, by omega⟩ : Fin 255), fun a b e => Fin.ext (Fin.mk.inj_iff.mp e)⟩
        ⊆ (Finset.univ : Finset (Fin 255)).filter fun k => T (k.val + 1) ≤ x := by
      intro j hj
      obtain ⟨i, -, rfl⟩ := Finset.mem_map.mp hj
      exact Finset.mem_filter.mpr ⟨Finset.mem_univ _, (T_mono (by show i.val + 1 ≤ k; omega) h2).trans h⟩
    have := Finset.card_le_card hs
    rw [Finset.card_map, Finset.card_univ, Fintype.card_fin] at this
    exact this
  · intro h
    by_contra hn
    have hs : ((Finset.univ : Finset (Fin 255)).filter fun k => T (k.val + 1) ≤ x)
        ⊆ (Finset.univ : Finset (Fin (k - 1))).map ⟨fun i : Fin (k - 1) => (⟨i.val, by omega⟩ : Fin 255), fun a b e => Fin.ext (Fin.mk.inj_iff.mp e)⟩ := by
      intro j hj
      have hx := (Finset.mem_filter.mp hj).2
      have hlt : j.val < k - 1 := by
        by_contra hge
        exact hn ((T_mono (by omega : k ≤ j.val + 1) (by omega)).trans hx)
      exact Finset.mem_map.mpr ⟨⟨j.val, hlt⟩, Finset.mem_univ _, rfl⟩
    have := Finset.card_le_card hs
    rw [Finset.card_map, Finset.card_univ, Fintype.card_fin] at this
    unfold level at h
    omega

/-- The exponent field the quantiser works from: 126 for a number below every normal power. -/
def field (x : EReal) : BitVec 32 := if level x = 0 then 126#32 else BitVec.ofNat 32 (level x)

/-- The scale and the inverse scale. -/
def scale (x : EReal) : EReal := Ideal.ofBits .f32 ((field x + 1#32) <<< (23#32))
def inv (x : EReal) : EReal := Ideal.ofBits .f32 ((253#32 - field x) <<< (23#32))

/-! The kernel's search. -/

section Search

variable {s : Shape} (x : FVec Ideal s .f32)

def stepV (b : IVec s 32) (bit : BitVec 32) : IVec s 32 :=
  select (cmpf .oge x (bitcastToFloat .f32 (shli (ori b (broadcast s bit)) (broadcast s 23#32)))) (ori b (broadcast s bit)) b

def fieldV : IVec s 32 :=
  stepV x (stepV x (stepV x (stepV x (stepV x (stepV x (stepV x (stepV x (broadcast s 0#32) 128#32) 64#32) 32#32) 16#32) 8#32) 4#32) 2#32) 1#32

def fixV (b : IVec s 32) : IVec s 32 := select (cmpi .eq b (broadcast s 0#32)) (broadcast s 126#32) b

def scaleV : FVec Ideal s .f32 := bitcastToFloat .f32 (shli (addi (fixV (fieldV x)) (broadcast s 1#32)) (broadcast s 23#32))
def invV : FVec Ideal s .f32 := bitcastToFloat .f32 (shli (subi (broadcast s 253#32) (fixV (fieldV x))) (broadcast s 23#32))

/-- A step of the search on numbers. -/
def stepN (n b bit : Nat) : Nat := if b ||| bit ≤ n then b ||| bit else b

theorem stepV_apply (b : IVec s 32) (bit : BitVec 32) (i : s.Idx) (n : Nat) (hn : n < 256) (hb : b i = BitVec.ofNat 32 n)
    (k : Nat) (hk : 1 ≤ k) (hk' : k < 256) (hbit : bit = BitVec.ofNat 32 k) :
    stepV x b bit i = BitVec.ofNat 32 (stepN (level (x i)) n k) ∧ stepN (level (x i)) n k < 256 := by
  have hor : n ||| k < 2 ^ 8 := Nat.or_lt_two_pow hn hk'
  have h1 : 1 ≤ n ||| k := hk.trans Nat.right_le_or
  have e : b i ||| bit = BitVec.ofNat 32 (n ||| k) := by rw [hb, hbit, ← BitVec.ofNat_or]
  have hT : Ideal.ofBits .f32 ((b i ||| bit) <<< (23#32)) = T (n ||| k) := by
    refine ofBits_field _ _ hor ?_
    rw [e]
    simp only [BitVec.shiftLeft_eq', BitVec.toNat_shiftLeft, BitVec.toNat_ofNat, Nat.shiftLeft_eq]
    norm_num
    omega
  have hs : stepV x b bit i = if T (n ||| k) ≤ x i then BitVec.ofNat 32 (n ||| k) else BitVec.ofNat 32 n := by
    have : stepV x b bit i = Scalar.select (Ideal.cmp .oge (x i) (Ideal.ofBits .f32 ((b i ||| bit) <<< (23#32)))) (b i ||| bit) (b i) := rfl
    rw [this, hT, e, hb]
    by_cases h : T (n ||| k) ≤ x i
    · rw [if_pos h, Scalar.select_of_eq_one ((Ideal.cmp_oge_eq_one _ _).mpr h)]
    · rw [if_neg h, Scalar.select_of_ne_one (fun h' => h ((Ideal.cmp_oge_eq_one _ _).mp h'))]
  rw [hs]
  unfold stepN
  by_cases h : T (n ||| k) ≤ x i
  · rw [if_pos h, if_pos ((le_level_iff _ _ h1 (by omega)).mp h)]
    exact ⟨rfl, hor⟩
  · rw [if_neg h, if_neg (fun h' => h ((le_level_iff _ _ h1 (by omega)).mpr h'))]
    exact ⟨rfl, hn⟩

/-- The search over the eight bits ends at the number itself. -/
theorem search : ∀ n : Fin 256, stepN n (stepN n (stepN n (stepN n (stepN n (stepN n (stepN n (stepN n 0 128) 64) 32) 16) 8) 4) 2) 1 = n.val := by
  decide +kernel

theorem fieldV_apply (i : s.Idx) : fieldV x i = BitVec.ofNat 32 (level (x i)) := by
  have hl := level_le (x i)
  obtain ⟨e1, l1⟩ := stepV_apply x (broadcast s 0#32) 128#32 i 0 (by omega) rfl 128 (by omega) (by omega) rfl
  obtain ⟨e2, l2⟩ := stepV_apply x _ 64#32 i _ l1 e1 64 (by omega) (by omega) rfl
  obtain ⟨e3, l3⟩ := stepV_apply x _ 32#32 i _ l2 e2 32 (by omega) (by omega) rfl
  obtain ⟨e4, l4⟩ := stepV_apply x _ 16#32 i _ l3 e3 16 (by omega) (by omega) rfl
  obtain ⟨e5, l5⟩ := stepV_apply x _ 8#32 i _ l4 e4 8 (by omega) (by omega) rfl
  obtain ⟨e6, l6⟩ := stepV_apply x _ 4#32 i _ l5 e5 4 (by omega) (by omega) rfl
  obtain ⟨e7, l7⟩ := stepV_apply x _ 2#32 i _ l6 e6 2 (by omega) (by omega) rfl
  obtain ⟨e8, -⟩ := stepV_apply x _ 1#32 i _ l7 e7 1 (by omega) (by omega) rfl
  exact e8.trans (congrArg (BitVec.ofNat 32) (search ⟨level (x i), by omega⟩))

theorem fixV_apply (i : s.Idx) : fixV (fieldV x) i = field (x i) := by
  have hl := level_le (x i)
  have : fixV (fieldV x) i = Scalar.select (IntOp.cmpi .eq (fieldV x i) 0#32) 126#32 (fieldV x i) := rfl
  rw [this, fieldV_apply]
  unfold field
  by_cases h : level (x i) = 0
  · rw [if_pos h, h]
    rfl
  · rw [if_neg h]
    refine Scalar.select_of_ne_one (fun h' => h ?_) _ _
    have e : BitVec.ofNat 32 (level (x i)) = 0#32 := by
      by_contra hne
      have : IntOp.cmpi .eq (BitVec.ofNat 32 (level (x i))) 0#32 = BitVec.ofBool (BitVec.ofNat 32 (level (x i)) == 0#32) := rfl
      rw [this, beq_eq_false_iff_ne.mpr hne] at h'
      exact absurd h' (by decide)
    have := congrArg BitVec.toNat e
    rw [BitVec.toNat_ofNat, Nat.mod_eq_of_lt (by omega)] at this
    exact this

theorem scaleV_apply (i : s.Idx) : scaleV x i = scale (x i) := by
  have : scaleV x i = Ideal.ofBits .f32 ((fixV (fieldV x) i + 1#32) <<< (23#32)) := rfl
  rw [this, fixV_apply]
  rfl

theorem invV_apply (i : s.Idx) : invV x i = inv (x i) := by
  have : invV x i = Ideal.ofBits .f32 ((253#32 - fixV (fieldV x) i) <<< (23#32)) := rfl
  rw [this, fixV_apply]
  rfl

end Search

/-! The reference's count. -/

theorem fold_count {n : Nat} (p : Fin n → Prop) [DecidablePred p] (f : Fin n → BitVec 32)
    (hf : ∀ k, f k = if p k then 1#32 else 0#32) :
    Finset.univ.fold IntOp.addi 0#32 f = BitVec.ofNat 32 (Finset.univ.filter p).card := by
  have key : ∀ t : Finset (Fin n), t.fold IntOp.addi 0#32 f = BitVec.ofNat 32 (t.filter p).card := by
    intro t
    induction t using Finset.induction_on with
    | empty => rfl
    | insert a t ha ih =>
      rw [Finset.fold_insert ha, ih, Finset.filter_insert, hf]
      show (if p a then 1#32 else 0#32) + _ = _
      by_cases h : p a
      · rw [if_pos h, if_pos h, Finset.card_insert_of_notMem (fun h' => ha (Finset.mem_filter.mp h').1), Nat.add_comm]
        exact (BitVec.ofNat_add 1 _).symm
      · rw [if_neg h, if_neg h, BitVec.zero_add]
  exact key _

/-- An entry of the table. -/
theorem table_bits : ∀ k : Fin 255, (((BitVec.ofNat 32 k.val - 126#32) + 127#32) <<< (23#32)).toNat = (k.val + 1) * 2 ^ 23 := by
  decide +kernel

theorem table_entry (k : Fin 255) : Ideal.ofBits .f32 (((BitVec.ofNat 32 k.val - 126#32) + 127#32) <<< (23#32)) = T (k.val + 1) :=
  ofBits_field _ _ (by omega) (table_bits k)

/-- The reference's exponent, as it writes it. -/
def expo (x : EReal) : BitVec 32 := if level x = 0 then 0#32 else BitVec.ofNat 32 (level x) - 126#32

theorem expo_eq (x : EReal) : expo x = field x - 126#32 := by
  unfold expo field
  split <;> rfl

theorem expo_scale (x : EReal) : Ideal.ofBits .f32 ((expo x + 127#32) <<< (23#32)) = scale x := by
  unfold scale
  rw [expo_eq]
  congr 2
  generalize field x = b
  bv_omega

theorem expo_inv (x : EReal) : Ideal.ofBits .f32 ((0#32 - expo x + 127#32) <<< (23#32)) = inv x := by
  unfold inv
  rw [expo_eq]
  congr 2
  generalize field x = b
  bv_omega

end Cert.Hand

end
-- ==== Proof.RmsQuant.lean ====
/-
  The RMS normalisation of rows of 8192 columns and the row quantiser, as functions of their arguments; and the largest
  magnitude of a row found lane by lane.
-/
module

public import Idealize.ShloMosaic.Lib.Pointwise
public import proofs.«01_k».proof.Proof.Exponent

@[expose] public section

noncomputable section

open Idealize.ShloMosaic

namespace Cert.Hand

/-- The word a largest value starts from. -/
theorem bitsBot : Ideal.ofBits .f32 0xFF800000#32 = ⊥ := by
  rw [Ideal.ofBits.eq_1, Ideal.ieee.eq_1]
  norm_num
  rw [if_pos (by decide), if_pos (by decide)]

/-- A magnitude. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

/-- A row's largest magnitude. -/
def rowTop {R : Nat} (v : Fin R → Fin 8192 → EReal) (r : Fin R) : EReal := Finset.univ.sup fun j : Fin 8192 => mag (v r j)

/-- A number held between two. -/
def clip (lo hi x : EReal) : EReal := min hi (max lo x)

/-- The reciprocal root of a row's mean square, and the normalised row times the gain. -/
def rootOf {R : Nat} (H : Fin R → Fin 8192 → EReal) (r : Fin R) : EReal :=
  Ideal.div (Ideal.ofBits .f32 0x3F800000#32)
    (Ideal.sqrt ((∑ j : Fin 8192, H r j * H r j) * Ideal.ofBits .f32 0x39000000#32 + Ideal.ofBits .f32 0x3727C5AC#32))

def normed {R : Nat} (H : Fin R → Fin 8192 → EReal) (gam : Fin 8192 → EReal) (r : Fin R) (j : Fin 8192) : EReal :=
  H r j * rootOf H r * gam j

/-- The largest magnitude over the lanes of what each lane gathered over the blocks, from zero, is that of the columns. -/
theorem sup_lanes (f : Nat → EReal) (hf : ∀ j, 0 ≤ f j) (n : Nat) (hn : 0 < n) :
    ((Finset.range 128).sup fun l => max 0 ((Finset.range n).sup fun b => max (f (256 * b + l)) (f (256 * b + (128 + l)))))
      = (Finset.range (256 * n)).sup f := by
  apply le_antisymm
  · refine Finset.sup_le fun l hl => max_le ?_ (Finset.sup_le fun b hb => max_le ?_ ?_)
    · exact (hf 0).trans (Finset.le_sup (Finset.mem_range.mpr (by omega)))
    · have := Finset.mem_range.mp hl
      have := Finset.mem_range.mp hb
      exact Finset.le_sup (f := f) (Finset.mem_range.mpr (by omega))
    · have := Finset.mem_range.mp hl
      have := Finset.mem_range.mp hb
      exact Finset.le_sup (f := f) (Finset.mem_range.mpr (by omega))
  · refine Finset.sup_le fun j hj => ?_
    have hj := Finset.mem_range.mp hj
    have hb : j / 256 ∈ Finset.range n := Finset.mem_range.mpr (by omega)
    have key : ∀ l, l < 128 → (f j ≤ max (f (256 * (j / 256) + l)) (f (256 * (j / 256) + (128 + l)))) →
        f j ≤ (Finset.range 128).sup fun l => max 0 ((Finset.range n).sup fun b => max (f (256 * b + l)) (f (256 * b + (128 + l)))) := by
      intro l hl h
      refine h.trans ((Finset.le_sup (f := fun b => max (f (256 * b + l)) (f (256 * b + (128 + l)))) hb).trans
        ((le_max_right 0 _).trans (Finset.le_sup
          (f := fun l => max 0 ((Finset.range n).sup fun b => max (f (256 * b + l)) (f (256 * b + (128 + l))))) (Finset.mem_range.mpr hl))))
    by_cases h : j % 256 < 128
    · refine key (j % 256) h (le_max_of_le_left ?_)
      rw [show 256 * (j / 256) + j % 256 = j by omega]
    · refine key (j % 256 - 128) (by omega) (le_max_of_le_right ?_)
      rw [show 256 * (j / 256) + (128 + (j % 256 - 128)) = j by omega]

theorem max_step (a b c : EReal) : max a (b ⊔ c) = max (max a c) b := by
  show max a (max b c) = _
  rw [max_comm b c, max_assoc]

/-- A largest value over all of `Fin n` is one over the numbers below `n`. -/
theorem sup_fin {n : Nat} (f : Nat → EReal) : (Finset.univ.sup fun j : Fin n => f j.val) = (Finset.range n).sup f := by
  apply le_antisymm
  · exact Finset.sup_le fun j _ => Finset.le_sup (Finset.mem_range.mpr j.isLt)
  · exact Finset.sup_le fun j hj => Finset.le_sup (f := fun j : Fin n => f j.val) (Finset.mem_univ ⟨j, Finset.mem_range.mp hj⟩)

end Cert.Hand

end
-- ==== Proof.OprojBlock.lean ====
/-
  What one block of 256 columns of `oproj` computes at the ideal instance: the output projection added to the layer's
  input, its part of the row's sum of squares, the normalised block, its part of the row's largest magnitude, its codes.
-/
module

public import proofs.«01_k».proof.Proof.Gen.OprojIdeal.Frame.Runs
public import proofs.«01_k».proof.Proof.Product
public import proofs.«01_k».proof.Proof.RmsQuant
public import Idealize.ShloMosaic.Lib.Pointwise

@[expose] public section

noncomputable section

open Idealize.ShloMosaic Idealize.ShloMosaic.TcCoe

namespace Cert.OprojIdeal.Hand

open Cert.OprojIdeal Cert.OprojIdeal.Gen Cert.Hand

/-- A register of 128 lanes laid twice side by side. -/
def wideV (v : FVec Ideal S128x128 .f32) : FVec Ideal S128x256 .f32 :=
  concatenate S128x256 1 [⟨S128x128, v⟩, ⟨S128x128, v⟩] concatenates_S128x128_S128x128_S128x256_d1

/-- A block of the sum: the product with 256 columns of the weight, scaled by row and by column, added to the input. -/
def hV (s : FVec Ideal S128x256 .f32) (xb : Vec Ideal S128x256 .bf16) (oc : Vec Ideal S128x2048 .fp8e4m3)
    (w : Vec Ideal S2048x256 .fp8e4m3) (ws : Vec Ideal S1x256 .f32) : FVec Ideal S128x256 .f32 :=
  addf (extf .f32 (φ := .bf16) xb bitsLt_bf16_f32) (mulf (mulf (matmul (φ₁ := .fp8e4m3) (φ₂ := .fp8e4m3)
    dot_S128x2048_S2048x256_S128x256_1_0_0_1_n_n none oc w (constant S128x256 .f32 0x00000000#32)) s)
    (broadcastTo S128x256 (shapeCast S1x256 ws shapeCasts_S1x256_S1x256) broadcasts_S1x256_S128x256))

/-- The sum of squares of the lanes, with the block's columns added. -/
def sqV (acc : FVec Ideal S128x128 .f32) (h : FVec Ideal S128x256 .f32) : FVec Ideal S128x128 .f32 :=
  addf acc (addf (extractStridedSlice S128x128 ![0, 0] (mulf h h) slices_S128x256_o0_0_S128x128)
    (extractStridedSlice S128x128 ![0, 128] (mulf h h) slices_S128x256_o0_128_S128x128))

/-- The reciprocal root, in every lane. -/
def rV (acc : FVec Ideal S128x128 .f32) : FVec Ideal S128x128 .f32 :=
  divf (broadcast S128x128 (Scalar.ofBits .f32 0x3F800000#32)) (sqrt (addf (mulf (broadcastTo S128x128 (shapeCast S128x1
    (shapeCast S128x1 (multiReduction .add [1] S128 acc 0x00000000#32 reduces_S128x128_S128 (.inl rfl) rfl) shapeCasts_S128_S128x1)
    shapeCasts_S128x1_S128x1) broadcasts_S128x1_S128x128) (broadcast S128x128 (Scalar.ofBits .f32 0x39000000#32)))
    (broadcast S128x128 (Scalar.ofBits .f32 0x3727C5AC#32))))

/-- A normalised block. -/
def vV (r : FVec Ideal S128x256 .f32) (h : Vec Ideal S128x256 .f32) (g : Vec Ideal S1x256 .f32) : FVec Ideal S128x256 .f32 :=
  mulf (mulf (shapeCast S128x256 h shapeCasts_S128x256_S128x256) r)
    (broadcastTo S128x256 (shapeCast S1x256 g shapeCasts_S1x256_S1x256) broadcasts_S1x256_S128x256)

/-- The largest magnitude of the lanes, with the block's columns taken in. -/
def mxV (acc : FVec Ideal S128x128 .f32) (v : FVec Ideal S128x256 .f32) : FVec Ideal S128x128 .f32 :=
  maximumf acc (maximumf (extractStridedSlice S128x128 ![0, 0] (absf v) slices_S128x256_o0_0_S128x128)
    (extractStridedSlice S128x128 ![0, 128] (absf v) slices_S128x256_o0_128_S128x128))

/-- The row's largest magnitude over the largest code, in every lane. -/
def topV (acc : FVec Ideal S128x128 .f32) : FVec Ideal S128x128 .f32 :=
  mulf (broadcastTo S128x128 (shapeCast S128x1 (shapeCast S128x1
    (multiReduction .maximumf [1] S128 acc 0xFF800000#32 reduces_S128x128_S128 (.inl rfl) rfl) shapeCasts_S128_S128x1)
    shapeCasts_S128x1_S128x1) broadcasts_S128x1_S128x128) (broadcast S128x128 (Scalar.ofBits .f32 0x3B124925#32))

/-- A block of codes. -/
def cV (r iv : FVec Ideal S128x256 .f32) (h : Vec Ideal S128x256 .f32) (g : Vec Ideal S1x256 .f32) : FVec Ideal S128x256 .fp8e4m3 :=
  truncf .fp8e4m3 (minimumf (broadcast S128x256 (Scalar.ofBits .f32 0x43E00000#32))
    (maximumf (broadcast S128x256 (Scalar.ofBits .f32 0xC3E00000#32)) (mulf (vV r h g) iv))) bitsLt_fp8e4m3_f32

/-- A register whose lanes all hold `q r` in row `r`, laid twice. -/
theorem wideV_apply (v : FVec Ideal S128x128 .f32) (q : Fin 128 → EReal) (h : ∀ r l, v (ix2 r l) = q r) (r : Fin 128)
    (o : Fin 256) : wideV v (ix2 r o) = q r := by
  unfold wideV
  pointwise [h]
  simp only [dite_eq_ite, ite_self]

theorem hV_apply (s : FVec Ideal S128x256 .f32) (xb : Vec Ideal S128x256 .bf16) (oc : Vec Ideal S128x2048 .fp8e4m3)
    (w : Vec Ideal S2048x256 .fp8e4m3) (ws : Vec Ideal S1x256 .f32) (q : Fin 128 → EReal) (hs : ∀ r o, s (ix2 r o) = q r)
    (r : Fin 128) (o : Fin 256) :
    hV s xb oc w ws (ix2 r o) = xb (ix2 r o) + (∑ k : Fin 2048, oc (ix2 r k) * w (ix2 k o)) * q r * ws (ix2 0 o) := by
  unfold hV
  pointwise [dot_S128x2048_S2048x256_S128x256_1_0_0_1_n_n, hs]

theorem sqV_apply (acc : FVec Ideal S128x128 .f32) (h : FVec Ideal S128x256 .f32) (r l : Fin 128) :
    sqV acc h (ix2 r l) = acc (ix2 r l) + (h (ix2 r ⟨l.val, by omega⟩) * h (ix2 r ⟨l.val, by omega⟩)
      + h (ix2 r ⟨128 + l.val, by omega⟩) * h (ix2 r ⟨128 + l.val, by omega⟩)) := by
  unfold sqV
  pointwise []

theorem rV_apply (acc : FVec Ideal S128x128 .f32) (i l : Fin 128) :
    rV acc (ix2 i l) = Ideal.div (Ideal.ofBits .f32 0x3F800000#32) (Ideal.sqrt ((∑ k : Fin 128, acc (ix2 i k))
      * Ideal.ofBits .f32 0x39000000#32 + Ideal.ofBits .f32 0x3727C5AC#32)) := by
  unfold rV
  pointwise []

theorem vV_apply (r : FVec Ideal S128x256 .f32) (h : Vec Ideal S128x256 .f32) (g : Vec Ideal S1x256 .f32) (i : Fin 128) (o : Fin 256) :
    vV r h g (ix2 i o) = h (ix2 i o) * r (ix2 i o) * g (ix2 0 o) := by
  unfold vV
  pointwise []

theorem mxV_apply (acc : FVec Ideal S128x128 .f32) (v : FVec Ideal S128x256 .f32) (r l : Fin 128) :
    mxV acc v (ix2 r l) = max (acc (ix2 r l)) (max (mag (v (ix2 r ⟨l.val, by omega⟩))) (mag (v (ix2 r ⟨128 + l.val, by omega⟩)))) := by
  unfold mxV mag
  pointwise []
  rfl

theorem topV_apply (acc : FVec Ideal S128x128 .f32) (i l : Fin 128) :
    topV acc (ix2 i l) = (Finset.univ.sup fun k : Fin 128 => acc (ix2 i k)) * Ideal.ofBits .f32 0x3B124925#32 := by
  unfold topV Finset.sup
  pointwise []
  rw [bitsBot]

theorem cV_apply (r iv : FVec Ideal S128x256 .f32) (h : Vec Ideal S128x256 .f32) (g : Vec Ideal S1x256 .f32) (i : Fin 128) (o : Fin 256) :
    cV r iv h g (ix2 i o) = clip (Ideal.ofBits .f32 0xC3E00000#32) (Ideal.ofBits .f32 0x43E00000#32) (vV r h g (ix2 i o) * iv (ix2 i o)) := by
  unfold cV clip
  generalize vV r h g = v
  pointwise []

end Cert.OprojIdeal.Hand

end
-- ==== Proof.OprojPoint.lean ====
/-
  What one grid point of `oproj` computes, as functions of the blocks its buffers hold: the loads by block, the sum of
  squares and the largest magnitude folded over the blocks, and one stored block of each result.
-/
module

public import proofs.«01_k».proof.Proof.OprojBlock
public import proofs.«01_k».proof.Proof.Pieces
public import Idealize.ShloMosaic.Lib.VecWindow

@[expose] public section

noncomputable section

open Idealize.ShloMosaic Idealize.ShloMosaic.TcCoe

namespace Cert.OprojIdeal.Hand

open Cert.OprojIdeal Cert.OprojIdeal.Gen Cert.Hand

/-- The block of 256 columns. -/
theorem inbC {R : Nat} (n : Nat) (h : n < 32) : ∀ a, (![0, 256 * n] : Fin 2 → Nat) a + (![R, 256] : Fin 2 → Nat) a
    ≤ (![R, 8192] : Fin 2 → Nat) a := by
  intro a
  match a with
  | ⟨0, _⟩ => show 0 + R ≤ R; omega
  | ⟨1, _⟩ => show 256 * n + 256 ≤ 8192; omega

def rA (n : Nat) (h : n < 32) : Rect S128x8192 := Rect.unit ![0, 256 * n] S128x256.size (inbC n h)
def rG (n : Nat) (h : n < 32) : Rect S1x8192 := Rect.unit ![0, 256 * n] S1x256.size (inbC n h)
def rW (n : Nat) (h : n < 32) : Rect S2048x8192 := Rect.unit ![0, 256 * n] S2048x256.size (inbC n h)

theorem rA_emb (n : Nat) (h : n < 32) (r : Fin 128) (o : Fin 256) :
    (rA n h).emb (ix2 r o) = (ix2 r ⟨256 * n + o.val, by omega⟩ : S128x8192.Idx) := by
  funext a
  apply Fin.ext
  match a with
  | ⟨0, _⟩ => show 0 + 1 * r.val = r.val; omega
  | ⟨1, _⟩ => show 256 * n + 1 * o.val = 256 * n + o.val; omega

theorem rG_emb (n : Nat) (h : n < 32) (o : Fin 256) :
    (rG n h).emb (ix2 0 o) = (ix2 0 ⟨256 * n + o.val, by omega⟩ : S1x8192.Idx) := by
  funext a
  apply Fin.ext
  match a with
  | ⟨0, _⟩ => show 0 + 1 * 0 = 0; omega
  | ⟨1, _⟩ => show 256 * n + 1 * o.val = 256 * n + o.val; omega

theorem rW_emb (n : Nat) (h : n < 32) (k : Fin 2048) (o : Fin 256) :
    (rW n h).emb (ix2 k o) = (ix2 k ⟨256 * n + o.val, by omega⟩ : S2048x8192.Idx) := by
  funext a
  apply Fin.ext
  match a with
  | ⟨0, _⟩ => show 0 + 1 * k.val = k.val; omega
  | ⟨1, _⟩ => show 256 * n + 1 * o.val = 256 * n + o.val; omega

/-- The point's rows of the sum. -/
def hP (x0 : S128x2048.Idx → EReal) (q : Fin 128 → EReal) (x2 : S2048x8192.Idx → EReal) (x3 : S1x8192.Idx → EReal)
    (x4 : S128x8192.Idx → EReal) (r : Fin 128) (j : Fin 8192) : EReal :=
  x4 (ix2 r j) + (∑ k : Fin 2048, x0 (ix2 r k) * x2 (ix2 k j)) * q r * x3 (ix2 0 j)

/-- The codes' scale argument, the normalised rows and the codes, from the rows of the sum. -/
def ratio {R : Nat} (H : Fin R → Fin 8192 → EReal) (gam : Fin 8192 → EReal) (r : Fin R) : EReal :=
  rowTop (normed H gam) r * Ideal.ofBits .f32 0x3B124925#32

def code {R : Nat} (H : Fin R → Fin 8192 → EReal) (gam : Fin 8192 → EReal) (r : Fin R) (j : Fin 8192) : EReal :=
  clip (Ideal.ofBits .f32 0xC3E00000#32) (Ideal.ofBits .f32 0x43E00000#32) (normed H gam r j * inv (ratio H gam r))

section Loads

variable (arg1 : Memref sig .tc .vmem S128x2048 .fp8e4m3) (harg1 : arg1.IsWhole) (arg2 : Memref sig .tc .vmem S128x128 .f32) (harg2 : arg2.IsWhole) (arg3 : Memref sig .tc .vmem S2048x8192 .fp8e4m3) (harg3 : arg3.IsWhole) (arg4 : Memref sig .tc .vmem S1x8192 .f32) (harg4 : arg4.IsWhole) (arg5 : Memref sig .tc .vmem S128x8192 .bf16) (harg5 : arg5.IsWhole)
  (x0 : Vec Ideal S128x2048 .fp8e4m3) (x1 : Vec Ideal S128x128 .f32) (x2 : Vec Ideal S2048x8192 .fp8e4m3) (x3 : Vec Ideal S1x8192 .f32) (x4 : Vec Ideal S128x8192 .bf16)

/-- The whole of a buffer of codes or scales, loaded. -/
def ldC : Vec Ideal S128x2048 .fp8e4m3 :=
  View.readAt (Elt Ideal) arg1.view (Rect.unit ![0, 0] S128x2048.size inb_S128x2048_S128x2048_0_0).toLoadRect (harg1.unread x0)
def ldS (x : Vec Ideal S128x128 .f32) : Vec Ideal S128x128 .f32 :=
  View.readAt (Elt Ideal) arg2.view (Rect.unit ![0, 0] S128x128.size inb_S128x128_S128x128_0_0).toLoadRect (harg2.unread x)
/-- The blocks, loaded. -/
def ldW (n : Nat) (h : n < 32) : Vec Ideal S2048x256 .fp8e4m3 :=
  View.readAt (Elt Ideal) arg3.view (rW n h).toLoadRect (harg3.unread x2)
def ldG (n : Nat) (h : n < 32) : Vec Ideal S1x256 .f32 :=
  View.readAt (Elt Ideal) arg4.view (rG n h).toLoadRect (harg4.unread x3)
def ldX (n : Nat) (h : n < 32) : Vec Ideal S128x256 .bf16 :=
  View.readAt (Elt Ideal) arg5.view (rA n h).toLoadRect (harg5.unread x4)

theorem ldC_apply (y : S128x2048.Idx) : ldC arg1 harg1 x0 y = x0 y :=
  (load_apply harg1 x0 (Rect.unit ![0, 0] S128x2048.size inb_S128x2048_S128x2048_0_0) y).trans
    (congrArg x0 (Rect.emb_unit_full (s := S128x2048) inb_S128x2048_S128x2048_0_0 y))

theorem ldS_apply (y : S128x128.Idx) : ldS arg2 harg2 x1 y = x1 y :=
  (load_apply harg2 x1 (Rect.unit ![0, 0] S128x128.size inb_S128x128_S128x128_0_0) y).trans
    (congrArg x1 (Rect.emb_unit_full (s := S128x128) inb_S128x128_S128x128_0_0 y))

theorem ldW_apply (n : Nat) (h : n < 32) (k : Fin 2048) (o : Fin 256) :
    ldW arg3 harg3 x2 n h (ix2 k o) = x2 (ix2 k ⟨256 * n + o.val, by omega⟩) :=
  (load_apply harg3 x2 _ _).trans (congrArg x2 (rW_emb n h k o))

theorem ldG_apply (n : Nat) (h : n < 32) (o : Fin 256) :
    ldG arg4 harg4 x3 n h (ix2 0 o) = x3 (ix2 0 ⟨256 * n + o.val, by omega⟩) :=
  (load_apply harg4 x3 _ _).trans (congrArg x3 (rG_emb n h o))

theorem ldX_apply (n : Nat) (h : n < 32) (r : Fin 128) (o : Fin 256) :
    ldX arg5 harg5 x4 n h (ix2 r o) = x4 (ix2 r ⟨256 * n + o.val, by omega⟩) :=
  (load_apply harg5 x4 _ _).trans (congrArg x4 (rA_emb n h r o))

/-- The row scale, laid twice. -/
def sv : FVec Ideal S128x256 .f32 := wideV (shapeCast S128x128 (ldS arg2 harg2 x1) shapeCasts_S128x128_S128x128)

theorem sv_apply (q : Fin 128 → EReal) (hq : ∀ r l, x1 (ix2 r l) = q r) (r : Fin 128) (o : Fin 256) :
    sv arg2 harg2 x1 (ix2 r o) = q r := by
  refine wideV_apply _ q (fun r l => ?_) r o
  pointwise [ldS_apply, hq]

/-- A block of the sum. -/
def hB (n : Nat) (h : n < 32) : FVec Ideal S128x256 .f32 :=
  hV (sv arg2 harg2 x1) (ldX arg5 harg5 x4 n h) (ldC arg1 harg1 x0) (ldW arg3 harg3 x2 n h) (ldG arg4 harg4 x3 n h)

theorem hB_apply (q : Fin 128 → EReal) (hq : ∀ r l, x1 (ix2 r l) = q r) (n : Nat) (h : n < 32) (r : Fin 128) (o : Fin 256) :
    hB arg1 harg1 arg2 harg2 arg3 harg3 arg4 harg4 arg5 harg5 x0 x1 x2 x3 x4 n h (ix2 r o)
      = hP x0 q x2 x3 x4 r ⟨256 * n + o.val, by omega⟩ := by
  unfold hB
  rw [hV_apply _ _ _ _ _ q (sv_apply arg2 harg2 x1 q hq), ldX_apply, ldG_apply]
  unfold hP
  refine congrArg (fun z : EReal => x4 _ + z * q r * x3 _) (Finset.sum_congr rfl fun k _ => ?_)
  exact congrArg₂ (HMul.hMul (α := EReal) (β := EReal)) (ldC_apply arg1 harg1 x0 _) (ldW_apply arg3 harg3 x2 n h k o)

/-- The lanes of the sum of squares after `n` blocks. -/
def sqSeq : (n : Nat) → n ≤ 32 → FVec Ideal S128x128 .f32
  | 0, _ => broadcast S128x128 (Scalar.ofBits .f32 0)
  | n + 1, h => sqV (sqSeq n (Nat.le_of_succ_le h)) (hB arg1 harg1 arg2 harg2 arg3 harg3 arg4 harg4 arg5 harg5 x0 x1 x2 x3 x4 n h)

end Loads

/-- A column's square, nothing past the last column. -/
def sqTerm {R : Nat} (H : Fin R → Fin 8192 → EReal) (r : Fin R) (j : Nat) : EReal :=
  if h : j < 8192 then H r ⟨j, h⟩ * H r ⟨j, h⟩ else 0

/-- A column's magnitude, zero past the last column. -/
def topTerm {R : Nat} (v : Fin R → Fin 8192 → EReal) (r : Fin R) (j : Nat) : EReal :=
  if h : j < 8192 then mag (v r ⟨j, h⟩) else 0

theorem topTerm_nonneg {R : Nat} (v : Fin R → Fin 8192 → EReal) (r : Fin R) (j : Nat) : 0 ≤ topTerm v r j := by
  unfold topTerm
  split
  · exact mag_nonneg _
  · exact le_refl _

section Loads2

variable (arg1 : Memref sig .tc .vmem S128x2048 .fp8e4m3) (harg1 : arg1.IsWhole) (arg2 : Memref sig .tc .vmem S128x128 .f32) (harg2 : arg2.IsWhole) (arg3 : Memref sig .tc .vmem S2048x8192 .fp8e4m3) (harg3 : arg3.IsWhole) (arg4 : Memref sig .tc .vmem S1x8192 .f32) (harg4 : arg4.IsWhole) (arg5 : Memref sig .tc .vmem S128x8192 .bf16) (harg5 : arg5.IsWhole)
  (arg6 : Memref sig .tc .vmem S1x8192 .f32) (harg6 : arg6.IsWhole)
  (x0 : Vec Ideal S128x2048 .fp8e4m3) (x1 : Vec Ideal S128x128 .f32) (x2 : Vec Ideal S2048x8192 .fp8e4m3) (x3 : Vec Ideal S1x8192 .f32) (x4 : Vec Ideal S128x8192 .bf16) (x5 : Vec Ideal S1x8192 .f32)
  (q : Fin 128 → EReal) (hq : ∀ r l, x1 (ix2 r l) = q r)

include hq in
theorem sqSeq_apply (r l : Fin 128) : ∀ (n : Nat) (h : n ≤ 32),
    sqSeq arg1 harg1 arg2 harg2 arg3 harg3 arg4 harg4 arg5 harg5 x0 x1 x2 x3 x4 n h (ix2 r l)
      = ∑ b ∈ Finset.range n, (sqTerm (hP x0 q x2 x3 x4) r (256 * b + l.val) + sqTerm (hP x0 q x2 x3 x4) r (256 * b + (128 + l.val)))
  | 0, _ => by
    show Ideal.ofBits .f32 0 = _
    rw [Finset.range_zero, Finset.sum_empty]
    exact Ideal.ofBits_zero_f32
  | n + 1, h => by
    have hl := l.isLt
    have t1 : sqTerm (hP x0 q x2 x3 x4) r (256 * n + l.val) = hP x0 q x2 x3 x4 r ⟨256 * n + l.val, by omega⟩
        * hP x0 q x2 x3 x4 r ⟨256 * n + l.val, by omega⟩ := dif_pos (by omega)
    have t2 : sqTerm (hP x0 q x2 x3 x4) r (256 * n + (128 + l.val)) = hP x0 q x2 x3 x4 r ⟨256 * n + (128 + l.val), by omega⟩
        * hP x0 q x2 x3 x4 r ⟨256 * n + (128 + l.val), by omega⟩ := dif_pos (by omega)
    rw [Finset.sum_range_succ, ← sqSeq_apply r l n (Nat.le_of_succ_le h), t1, t2]
    show sqV _ _ _ = _
    rw [sqV_apply, hB_apply _ _ _ _ _ _ _ _ _ _ _ _ _ _ _ q hq, hB_apply _ _ _ _ _ _ _ _ _ _ _ _ _ _ _ q hq]

/-- The reciprocal root's register. -/
def rootV : FVec Ideal S128x128 .f32 :=
  rV (sqSeq arg1 harg1 arg2 harg2 arg3 harg3 arg4 harg4 arg5 harg5 x0 x1 x2 x3 x4 32 (Nat.le_refl _))

include hq in
theorem rootV_apply (r l : Fin 128) :
    rootV arg1 harg1 arg2 harg2 arg3 harg3 arg4 harg4 arg5 harg5 x0 x1 x2 x3 x4 (ix2 r l) = rootOf (hP x0 q x2 x3 x4) r := by
  unfold rootV rootOf
  rw [rV_apply]
  refine congrArg (fun z : EReal => Ideal.div (Ideal.ofBits .f32 0x3F800000#32)
    (Ideal.sqrt (z * Ideal.ofBits .f32 0x39000000#32 + Ideal.ofBits .f32 0x3727C5AC#32))) ?_
  have e : (fun k : Fin 128 => sqSeq arg1 harg1 arg2 harg2 arg3 harg3 arg4 harg4 arg5 harg5 x0 x1 x2 x3 x4 32 (Nat.le_refl _) (ix2 r k))
      = fun k : Fin 128 => ∑ b ∈ Finset.range 32, (sqTerm (hP x0 q x2 x3 x4) r (256 * b + k.val) + sqTerm (hP x0 q x2 x3 x4) r (256 * b + (128 + k.val))) :=
    funext fun k => sqSeq_apply arg1 harg1 arg2 harg2 arg3 harg3 arg4 harg4 arg5 harg5 x0 x1 x2 x3 x4 q hq r k 32 _
  show ∑ k : Fin 128, (fun k : Fin 128 => sqSeq arg1 harg1 arg2 harg2 arg3 harg3 arg4 harg4 arg5 harg5 x0 x1 x2 x3 x4 32 (Nat.le_refl _) (ix2 r k)) k = _
  rw [e]
  refine (Finset.sum_range (fun l => ∑ b ∈ Finset.range 32, (sqTerm (hP x0 q x2 x3 x4) r (256 * b + l) + sqTerm (hP x0 q x2 x3 x4) r (256 * b + (128 + l))))).symm.trans ?_
  rw [sum_lanes, Finset.sum_range]
  exact Finset.sum_congr rfl fun j _ => dif_pos j.isLt

/-- One stored block of the sum. -/
theorem h_piece (n : Nat) (h : n < 32) (P : FVec Ideal S128x256 .f32)
    (hq : ∀ r l, x1 (ix2 r l) = q r)
    (hP' : P = hB arg1 harg1 arg2 harg2 arg3 harg3 arg4 harg4 arg5 harg5 x0 x1 x2 x3 x4 n h)
    (y : S128x256.Idx) : P y = (fun y : S128x8192.Idx => hP x0 q x2 x3 x4 (y 0) (y 1)) ((rA n h).emb y) := by
  obtain ⟨r, o, rfl⟩ : ∃ (r : Fin 128) (o : Fin 256), y = ix2 r o := ⟨y 0, y 1, eq_ix2 y⟩
  rw [hP', rA_emb]
  exact hB_apply arg1 harg1 arg2 harg2 arg3 harg3 arg4 harg4 arg5 harg5 x0 x1 x2 x3 x4 q hq n h r o

end Loads2

section Norm

variable (arg6 : Memref sig .tc .vmem S1x8192 .f32) (harg6 : arg6.IsWhole) (x5 : Vec Ideal S1x8192 .f32)
  (H : Fin 128 → Fin 8192 → EReal) (hb : (n : Nat) → n < 32 → FVec Ideal S128x256 .f32)
  (hhb : ∀ n h y, hb n h y = (fun y : S128x8192.Idx => H (y 0) (y 1)) ((rA n h).emb y))
  (rw iv : FVec Ideal S128x256 .f32) (hrw : ∀ r o, rw (ix2 r o) = rootOf H r)
  (hiv : ∀ r o, iv (ix2 r o) = inv (ratio H (fun j => x5 (ix2 0 j)) r))

include hhb hrw in
/-- A normalised block. -/
theorem v_apply (n : Nat) (h : n < 32) (r : Fin 128) (o : Fin 256) :
    vV rw (hb n h) (ldG arg6 harg6 x5 n h) (ix2 r o) = normed H (fun j => x5 (ix2 0 j)) r ⟨256 * n + o.val, by omega⟩ := by
  rw [vV_apply, hhb, rA_emb, hrw, ldG_apply]
  rfl

/-- The lanes of the largest magnitude after `n` blocks. -/
def mxSeq : (n : Nat) → n ≤ 32 → FVec Ideal S128x128 .f32
  | 0, _ => broadcast S128x128 (Scalar.ofBits .f32 0)
  | n + 1, h => mxV (mxSeq n (Nat.le_of_succ_le h)) (vV rw (hb n h) (ldG arg6 harg6 x5 n h))

include hhb hrw in
theorem mxSeq_apply (r l : Fin 128) : ∀ (n : Nat) (h : n ≤ 32),
    mxSeq arg6 harg6 x5 hb rw n h (ix2 r l) = max 0 ((Finset.range n).sup fun b =>
      max (topTerm (normed H (fun j => x5 (ix2 0 j))) r (256 * b + l.val)) (topTerm (normed H (fun j => x5 (ix2 0 j))) r (256 * b + (128 + l.val))))
  | 0, _ => by
    show Ideal.ofBits .f32 0 = _
    rw [Finset.range_zero, Finset.sup_empty, max_eq_left bot_le]
    exact Ideal.ofBits_zero_f32
  | n + 1, h => by
    have hl := l.isLt
    have t1 : topTerm (normed H (fun j => x5 (ix2 0 j))) r (256 * n + l.val)
        = mag (normed H (fun j => x5 (ix2 0 j)) r ⟨256 * n + l.val, by omega⟩) := dif_pos (by omega)
    have t2 : topTerm (normed H (fun j => x5 (ix2 0 j))) r (256 * n + (128 + l.val))
        = mag (normed H (fun j => x5 (ix2 0 j)) r ⟨256 * n + (128 + l.val), by omega⟩) := dif_pos (by omega)
    rw [Finset.range_add_one, Finset.sup_insert, max_step, ← mxSeq_apply r l n (Nat.le_of_succ_le h), t1, t2]
    show mxV _ _ _ = _
    rw [mxV_apply, v_apply arg6 harg6 x5 H hb hhb rw hrw, v_apply arg6 harg6 x5 H hb hhb rw hrw]

/-- The register of the scale's argument. -/
def ratioV : FVec Ideal S128x128 .f32 := topV (mxSeq arg6 harg6 x5 hb rw 32 (Nat.le_refl _))

include hhb hrw in
theorem ratioV_apply (r l : Fin 128) : ratioV arg6 harg6 x5 hb rw (ix2 r l) = ratio H (fun j => x5 (ix2 0 j)) r := by
  unfold ratioV ratio
  rw [topV_apply]
  refine congrArg (fun z : EReal => z * Ideal.ofBits .f32 0x3B124925#32) ?_
  have e : (fun k : Fin 128 => mxSeq arg6 harg6 x5 hb rw 32 (Nat.le_refl _) (ix2 r k)) = fun k : Fin 128 =>
      (fun l : Nat => max 0 ((Finset.range 32).sup fun b => max (topTerm (normed H (fun j => x5 (ix2 0 j))) r (256 * b + l))
        (topTerm (normed H (fun j => x5 (ix2 0 j))) r (256 * b + (128 + l))))) k.val :=
    funext fun k => mxSeq_apply arg6 harg6 x5 H hb hhb rw hrw r k 32 _
  rw [e]
  refine (sup_fin (fun l : Nat => max 0 ((Finset.range 32).sup fun b => max (topTerm (normed H (fun j => x5 (ix2 0 j))) r (256 * b + l))
    (topTerm (normed H (fun j => x5 (ix2 0 j))) r (256 * b + (128 + l)))))).trans ?_
  rw [sup_lanes _ (topTerm_nonneg _ _) 32 (by decide), ← sup_fin]
  unfold rowTop
  exact congrArg (Finset.univ.sup) (funext fun j : Fin 8192 => dif_pos j.isLt)

/-- The scale's register, and the inverse scale's, laid twice. -/
theorem scale_apply (r l : Fin 128) (P : FVec Ideal S128x128 .f32) (x : FVec Ideal S128x128 .f32)
    (hx : x (ix2 r l) = ratio H (fun j => x5 (ix2 0 j)) r) (hP' : P = scaleV x) :
    P (ix2 r l) = scale (ratio H (fun j => x5 (ix2 0 j)) r) := by
  rw [hP', scaleV_apply, hx]

theorem inv_apply (P : FVec Ideal S128x256 .f32) (x : FVec Ideal S128x128 .f32)
    (hx : ∀ r l, x (ix2 r l) = ratio H (fun j => x5 (ix2 0 j)) r) (hP' : P = wideV (invV x)) (r : Fin 128) (o : Fin 256) :
    P (ix2 r o) = inv (ratio H (fun j => x5 (ix2 0 j)) r) := by
  rw [hP']
  exact wideV_apply _ (fun r => inv (ratio H (fun j => x5 (ix2 0 j)) r)) (fun r l => by rw [invV_apply, hx]) r o

include hhb hrw in
/-- One stored block of the normalised rows. -/
theorem x_piece (n : Nat) (h : n < 32) (P : FVec Ideal S128x256 .bf16)
    (hP' : P = truncf .bf16 (vV rw (hb n h) (ldG arg6 harg6 x5 n h)) bitsLt_bf16_f32)
    (y : S128x256.Idx) : P y = (fun y : S128x8192.Idx => normed H (fun j => x5 (ix2 0 j)) (y 0) (y 1)) ((rA n h).emb y) := by
  obtain ⟨r, o, rfl⟩ : ∃ (r : Fin 128) (o : Fin 256), y = ix2 r o := ⟨y 0, y 1, eq_ix2 y⟩
  rw [hP', rA_emb]
  exact v_apply arg6 harg6 x5 H hb hhb rw hrw n h r o

include hhb hrw hiv in
/-- One stored block of the codes. -/
theorem c_piece (n : Nat) (h : n < 32) (P : FVec Ideal S128x256 .fp8e4m3)
    (hP' : P = cV rw iv (hb n h) (ldG arg6 harg6 x5 n h))
    (y : S128x256.Idx) : P y = (fun y : S128x8192.Idx => code H (fun j => x5 (ix2 0 j)) (y 0) (y 1)) ((rA n h).emb y) := by
  obtain ⟨r, o, rfl⟩ : ∃ (r : Fin 128) (o : Fin 256), y = ix2 r o := ⟨y 0, y 1, eq_ix2 y⟩
  rw [hP', rA_emb, cV_apply, v_apply arg6 harg6 x5 H hb hhb rw hrw, hiv]
  rfl

end Norm

end Cert.OprojIdeal.Hand

end
-- ==== Proof.RefExponent.lean ====
/-
  The exponent of a row's scale as the references compute it at the ideal instance: how many powers of two of a table do
  not pass the row's largest magnitude over the format's largest value.
-/
module

public import proofs.«01_k».proof.Proof.Gen.OprojRefIdeal.Skeleton
public import proofs.«01_k».proof.Proof.Exponent
public import proofs.«01_k».proof.Proof.RmsQuant
public import Idealize.ShloMosaic.Lib.Pointwise

@[expose] public section

noncomputable section

open Idealize.ShloMosaic Idealize.ShloMosaic.TcCoe

namespace Cert.OprojRefIdeal.Hand

open Cert.OprojRefIdeal Cert.OprojRefIdeal.Gen Cert.Hand

/-- A row's largest entry. -/
def topR (v : FVec Ideal S1920x8192 .f32) : FVec Ideal S1920x1 .f32 :=
  shapeCast S1920x1 (multiReduction .maximumf [1] S1920 v 0xFF800000#32 reduces_S1920x8192_S1920 (.inl rfl) rfl) shapeCasts_S1920_S1920x1

/-- The table's powers of two. -/
def tableV : FVec Ideal S1x255 .f32 :=
  bitcastToFloat .f32 (shli (addi (subi (iota .tc S1x255 32 [1] iota_S1x255_d1_w32) (broadcast S1x255 126#32)) (broadcast S1x255 127#32))
    (broadcast S1x255 23#32))

/-- Which of the table's entries do not pass a row's number. -/
def belowV (t : FVec Ideal S1x255 .f32) (x : FVec Ideal S1920x1 .f32) : IVec S1920x255 32 :=
  extui 32 (cmpf .ole (broadcastTo S1920x255 t broadcasts_S1x255_S1920x255) (broadcastTo S1920x255 x broadcasts_S1920x1_S1920x255)) natLt_1_32

/-- How many they are. -/
def countV (b : IVec S1920x255 32) : IVec S1920x1 32 :=
  shapeCast S1920x1 (multiReductionI .add [1] S1920 b 0#32 reduces_S1920x255_S1920 rfl) shapeCasts_S1920_S1920x1

/-- The exponent that count gives. -/
def expoV (n : IVec S1920x1 32) : IVec S1920x1 32 :=
  select (cmpi .eq n (broadcast S1920x1 0#32)) (broadcast S1920x1 0#32) (subi n (broadcast S1920x1 126#32))

theorem topR_apply (v : FVec Ideal S1920x8192 .f32) (f : Fin 1920 → Fin 8192 → EReal) (h : ∀ r j, v (ix2 r j) = mag (f r j)) (r : Fin 1920) :
    topR v (ix2 r 0) = rowTop f r := by
  unfold topR rowTop
  pointwise [h]
  rw [bitsBot]
  rfl

theorem tableV_apply (k : Fin 255) : tableV (ix2 0 k) = Cert.Hand.T (k.val + 1) := by
  refine Eq.trans ?_ (table_entry k)
  unfold tableV
  pointwise []
  rfl

theorem belowV_apply (t : FVec Ideal S1x255 .f32) (x : FVec Ideal S1920x1 .f32) (r : Fin 1920) (k : Fin 255) :
    belowV t x (ix2 r k) = if t (ix2 0 k) ≤ x (ix2 r 0) then 1#32 else 0#32 := by
  have e : belowV t x (ix2 r k) = BitVec.setWidth 32 (BitVec.ofBool (decide (t (ix2 0 k) ≤ x (ix2 r 0)))) := by
    unfold belowV
    pointwise []
  rw [e]
  by_cases h : t (ix2 0 k) ≤ x (ix2 r 0)
  · rw [if_pos h, decide_eq_true h]
    rfl
  · rw [if_neg h, decide_eq_false h]
    rfl

theorem countV_apply (b : IVec S1920x255 32) (r : Fin 1920) :
    countV b (ix2 r 0) = Finset.univ.fold IntOp.addi 0#32 fun k : Fin 255 => b (ix2 r k) := by
  unfold countV
  pointwise []

theorem expoV_apply (n : IVec S1920x1 32) (x : EReal) (r : Fin 1920) (h : n (ix2 r 0) = BitVec.ofNat 32 (level x)) :
    expoV n (ix2 r 0) = expo x := by
  have hl := level_le x
  have e : expoV n (ix2 r 0) = Scalar.select (BitVec.ofBool (n (ix2 r 0) == 0#32)) 0#32 (n (ix2 r 0) - 126#32) := rfl
  rw [e, h]
  unfold expo
  by_cases h0 : level x = 0
  · rw [if_pos h0, h0]
    rfl
  · rw [if_neg h0]
    have hne : BitVec.ofNat 32 (level x) ≠ 0#32 := by
      intro h'
      have := congrArg BitVec.toNat h'
      rw [BitVec.toNat_ofNat, Nat.mod_eq_of_lt (by omega)] at this
      exact h0 this
    rw [beq_eq_false_iff_ne.mpr hne]
    rfl

/-- The exponent, whole. -/
theorem exponent_apply (x : FVec Ideal S1920x1 .f32) (r : Fin 1920) :
    expoV (countV (belowV tableV x)) (ix2 r 0) = expo (x (ix2 r 0)) := by
  refine expoV_apply _ _ r ?_
  rw [countV_apply]
  refine fold_count (fun k : Fin 255 => Cert.Hand.T (k.val + 1) ≤ x (ix2 r 0)) _ fun k => ?_
  rw [belowV_apply, tableV_apply]

end Cert.OprojRefIdeal.Hand

end
-- ==== Proof.OprojRefPay.lean ====
/-
  What `oproj`'s reference computes at the ideal instance, entry by entry, from the whole arrays: the sum, the reciprocal
  root, the normalised rows, the exponent of a row's scale, the codes and the scale.
-/
module

public import proofs.«01_k».proof.Proof.Gen.OprojRefIdeal.Frame
public import proofs.«01_k».proof.Proof.OprojPoint
public import proofs.«01_k».proof.Proof.PowerBits
public import proofs.«01_k».proof.Proof.RefExponent

@[expose] public section

noncomputable section

open Idealize.ShloMosaic Idealize.ShloMosaic.TcCoe

namespace Cert.OprojRefIdeal.Hand

open Cert.OprojRefIdeal Cert.OprojRefIdeal.Gen Cert.Hand
open Cert.OprojIdeal.Hand (ratio code)

variable (v0 : Vec Ideal S1920x8192 .bf16) (v2 : Vec Ideal S1920x2048 .fp8e4m3) (v3 : Vec Ideal S1920x1 .f32)
  (v5 : Vec Ideal S2048x8192 .fp8e4m3) (v6 : Vec Ideal S1x8192 .f32) (v14 : Vec Ideal S1x8192 .f32)

/-- The layer's input with the output projection added, from the whole arrays. -/
def hR (r : Fin 1920) (j : Fin 8192) : EReal :=
  v0 (ix2 r j) + (∑ k : Fin 2048, v2 (ix2 r k) * v5 (ix2 k j)) * v3 (ix2 r 0) * v6 (ix2 0 j)

theorem pay2_apply (r : Fin 1920) (j : Fin 8192) : k0_pay2 v0 v2 v3 v5 v6 (ix2 r j) = hR v0 v2 v3 v5 v6 r j := by
  unfold hR k0_pay2
  pointwise [dot_S1920x2048_S2048x8192_S1920x8192_1_0_0_1_n_n]

theorem pay3_apply (r : Fin 1920) : k0_pay3 v0 v2 v3 v5 v6 (ix2 r 0) = rootOf (hR v0 v2 v3 v5 v6) r := by
  have h := pay2_apply v0 v2 v3 v5 v6
  unfold rootOf k0_pay3
  generalize k0_pay2 v0 v2 v3 v5 v6 = d at h ⊢
  rw [← div_8192]
  pointwise [h]

theorem pay4_apply (r : Fin 1920) (j : Fin 8192) :
    k0_pay4 v0 v2 v3 v5 v6 v14 (ix2 r j) = normed (hR v0 v2 v3 v5 v6) (fun j => v14 (ix2 0 j)) r j := by
  have h := pay2_apply v0 v2 v3 v5 v6
  have h3 := pay3_apply v0 v2 v3 v5 v6
  unfold normed k0_pay4
  generalize k0_pay2 v0 v2 v3 v5 v6 = d at h ⊢
  generalize k0_pay3 v0 v2 v3 v5 v6 = e at h3 ⊢
  pointwise [h, h3]

theorem pay5_apply (r : Fin 1920) (l : Fin 128) : k0_pay5 v0 v2 v3 v5 v6 (ix2 r l) = rootOf (hR v0 v2 v3 v5 v6) r := by
  have h3 := pay3_apply v0 v2 v3 v5 v6
  unfold k0_pay5
  generalize k0_pay3 v0 v2 v3 v5 v6 = e at h3 ⊢
  pointwise [h3]

theorem pay6_apply (r : Fin 1920) (j : Fin 8192) :
    k0_pay6 v0 v2 v3 v5 v6 v14 (ix2 r j) = normed (hR v0 v2 v3 v5 v6) (fun j => v14 (ix2 0 j)) r j := by
  have h := pay4_apply v0 v2 v3 v5 v6 v14
  unfold k0_pay6
  generalize k0_pay4 v0 v2 v3 v5 v6 v14 = d at h ⊢
  pointwise [h]

theorem pay7_apply (r : Fin 1920) (j : Fin 8192) :
    k0_pay7 v0 v2 v3 v5 v6 v14 (ix2 r j) = mag (normed (hR v0 v2 v3 v5 v6) (fun j => v14 (ix2 0 j)) r j) := by
  have h := pay4_apply v0 v2 v3 v5 v6 v14
  unfold k0_pay7
  generalize k0_pay4 v0 v2 v3 v5 v6 v14 = d at h ⊢
  rw [← h]
  rfl

section Quantiser

variable (v : Fin 1920 → Fin 8192 → EReal) (v29 v35 : FVec Ideal S1920x8192 .f32)
  (h29 : ∀ r j, v29 (ix2 r j) = v r j) (h35 : ∀ r j, v35 (ix2 r j) = mag (v r j))

theorem pay8_eq (v35 : FVec Ideal S1920x8192 .f32) :
    k0_pay8 v35 = expoV (countV (belowV tableV (mulf (topR v35) (broadcast S1920x1 (Scalar.ofBits (F := Ideal) .f32 0x3B124925#32))))) := by
  unfold k0_pay8 expoV countV belowV tableV topR
  rfl

theorem scaled_apply (t : FVec Ideal S1920x1 .f32) (w : BitVec 32) (r : Fin 1920) (x : EReal) (h : t (ix2 r 0) = x) :
    mulf t (broadcast S1920x1 (Scalar.ofBits (F := Ideal) .f32 w)) (ix2 r 0) = x * Ideal.ofBits .f32 w := by
  subst h
  rfl

include h35 in
theorem pay8_apply (r : Fin 1920) : k0_pay8 v35 (ix2 r 0) = expo (rowTop v r * Ideal.ofBits .f32 0x3B124925#32) :=
  (congrFun (pay8_eq v35) (ix2 r 0)).trans ((exponent_apply _ r).trans (congrArg expo (scaled_apply _ _ r _ (topR_apply v35 v h35 r))))

include h29 h35 in
theorem pay9_apply (r : Fin 1920) (j : Fin 8192) : k0_pay9 v29 v35 (ix2 r j)
    = clip (Ideal.ofBits .f32 0xC3E00000#32) (Ideal.ofBits .f32 0x43E00000#32)
        (v r j * inv (rowTop v r * Ideal.ofBits .f32 0x3B124925#32)) := by
  have h := pay8_apply v v35 h35 r
  unfold k0_pay9 clip
  generalize k0_pay8 v35 = e at h ⊢
  rw [← expo_inv, ← h]
  pointwise [h29]
  rfl

include h35 in
theorem pay10_apply (r : Fin 1920) (l : Fin 128) : k0_pay1 (k0_pay10 v35) (ix2 r l)
    = scale (rowTop v r * Ideal.ofBits .f32 0x3B124925#32) := by
  have h := pay8_apply v v35 h35 r
  unfold k0_pay1 k0_pay10
  generalize k0_pay8 v35 = e at h ⊢
  rw [← expo_scale, ← h]
  pointwise []
  rfl

end Quantiser

end Cert.OprojRefIdeal.Hand

end
-- ==== Proof.OprojRefRun.lean ====
/-
  The run of `oproj`'s reference: what its one grid point writes back, and its run with each result array named.
-/
module

public import proofs.«01_k».proof.Proof.Gen.OprojRefIdeal.Frame
public import Idealize.ShloMosaic.Lib.Pipeline.Value

@[expose] public section

noncomputable section

namespace Cert.OprojRefIdeal.Hand.Blocks

open Cert.OprojRefIdeal Cert.OprojRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v3_4) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_v3_2) = (dats m 0 c).arrAt 8 cfg0.N
      ∧ r.2.mem ((c : Thread nD τ).loc main_v3_3) = (dats m 0 c).arrAt 9 cfg0.N
      ∧ r.2.mem ((c : Thread nD τ).loc main_v3_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.OprojRefIdeal.Hand.Blocks

end
-- ==== Proof.OprojRun.lean ====
/-
  What a grid point of `oproj` stores: the sum, the codes, their scale, the reciprocal root and the normalised rows.
-/
module

public import proofs.«01_k».proof.Proof.OprojPoint
public import proofs.«01_k».proof.Proof.Gen.OprojIdeal.Frame

@[expose] public section

noncomputable section

open Idealize.ShloMosaic Idealize.ShloMosaic.TcCoe

namespace Cert.OprojIdeal.Hand

open Cert.OprojIdeal Cert.OprojIdeal.Gen Cert.Hand

variable (c : Dev nD) (i : grid0.Coords)

  (arg1 : Memref sig .tc .vmem S128x2048 .fp8e4m3) (harg1 : arg1.IsWhole)
  (arg2 : Memref sig .tc .vmem S128x128 .f32) (harg2 : arg2.IsWhole)
  (arg3 : Memref sig .tc .vmem S2048x8192 .fp8e4m3) (harg3 : arg3.IsWhole)
  (arg4 : Memref sig .tc .vmem S1x8192 .f32) (harg4 : arg4.IsWhole)
  (arg5 : Memref sig .tc .vmem S128x8192 .bf16) (harg5 : arg5.IsWhole)
  (arg6 : Memref sig .tc .vmem S1x8192 .f32) (harg6 : arg6.IsWhole)
  (arg7 : Memref sig .tc .vmem S128x8192 .f32) (harg7 : arg7.IsWhole)
  (arg8 : Memref sig .tc .vmem S128x8192 .fp8e4m3) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x8192 .bf16) (harg11 : arg11.IsWhole)
  (x0 : Vec Ideal S128x2048 .fp8e4m3)
  (x1 : Vec Ideal S128x128 .f32)
  (x2 : Vec Ideal S2048x8192 .fp8e4m3)
  (x3 : Vec Ideal S1x8192 .f32)
  (x4 : Vec Ideal S128x8192 .bf16)
  (x5 : Vec Ideal S1x8192 .f32)
  (q : Fin 128 → EReal) (hq : ∀ r l, x1 (ix2 r l) = q r)

include hq in
/-- The buffer of the sum holds it. -/
theorem partsH : Parts (fun y : S128x8192.Idx => hP x0 q x2 x3 x4 (y 0) (y 1)) (kernelRun0_A.sl.H6_32 (F := Ideal) c arg1 harg1 arg2 harg2 arg3 harg3 arg4 harg4 arg5 harg5 x0 x1 x2 x3 x4) := by
  refine Parts.cons (rA 31 (by decide)) _ _ (h_piece arg1 harg1 arg2 harg2 arg3 harg3 arg4 harg4 arg5 harg5 x0 x1 x2 x3 x4 q 31 (by decide) _ hq rfl) ?_
  refine Parts.cons (rA 30 (by decide)) _ _ (h_piece arg1 harg1 arg2 harg2 arg3 harg3 arg4 harg4 arg5 harg5 x0 x1 x2 x3 x4 q 30 (by decide) _ hq rfl) ?_
  refine Parts.cons (rA 29 (by decide)) _ _ (h_piece arg1 harg1 arg2 harg2 arg3 harg3 arg4 harg4 arg5 harg5 x0 x1 x2 x3 x4 q 29 (by decide) _ hq rfl) ?_
  refine Parts.cons (rA 28 (by decide)) _ _ (h_piece arg1 harg1 arg2 harg2 arg3 harg3 arg4 harg4 arg5 harg5 x0 x1 x2 x3 x4 q 28 (by decide) _ hq rfl) ?_
  refine Parts.cons (rA 27 (by decide)) _ _ (h_piece arg1 harg1 arg2 harg2 arg3 harg3 arg4 harg4 arg5 harg5 x0 x1 x2 x3 x4 q 27 (by decide) _ hq rfl) ?_
  refine Parts.cons (rA 26 (by decide)) _ _ (h_piece arg1 harg1 arg2 harg2 arg3 harg3 arg4 harg4 arg5 harg5 x0 x1 x2 x3 x4 q 26 (by decide) _ hq rfl) ?_
  refine Parts.cons (rA 25 (by decide)) _ _ (h_piece arg1 harg1 arg2 harg2 arg3 harg3 arg4 harg4 arg5 harg5 x0 x1 x2 x3 x4 q 25 (by decide) _ hq rfl) ?_
  refine Parts.cons (rA 24 (by decide)) _ _ (h_piece arg1 harg1 arg2 harg2 arg3 harg3 arg4 harg4 arg5 harg5 x0 x1 x2 x3 x4 q 24 (by decide) _ hq rfl) ?_
  refine Parts.cons (rA 23 (by decide)) _ _ (h_piece arg1 harg1 arg2 harg2 arg3 harg3 arg4 harg4 arg5 harg5 x0 x1 x2 x3 x4 q 23 (by decide) _ hq rfl) ?_
  refine Parts.cons (rA 22 (by decide)) _ _ (h_piece arg1 harg1 arg2 harg2 arg3 harg3 arg4 harg4 arg5 harg5 x0 x1 x2 x3 x4 q 22 (by decide) _ hq rfl) ?_
  refine Parts.cons (rA 21 (by decide)) _ _ (h_piece arg1 harg1 arg2 harg2 arg3 harg3 arg4 harg4 arg5 harg5 x0 x1 x2 x3 x4 q 21 (by decide) _ hq rfl) ?_
  refine Parts.cons (rA 20 (by decide)) _ _ (h_piece arg1 harg1 arg2 harg2 arg3 harg3 arg4 harg4 arg5 harg5 x0 x1 x2 x3 x4 q 20 (by decide) _ hq rfl) ?_
  refine Parts.cons (rA 19 (by decide)) _ _ (h_piece arg1 harg1 arg2 harg2 arg3 harg3 arg4 harg4 arg5 harg5 x0 x1 x2 x3 x4 q 19 (by decide) _ hq rfl) ?_
  refine Parts.cons (rA 18 (by decide)) _ _ (h_piece arg1 harg1 arg2 harg2 arg3 harg3 arg4 harg4 arg5 harg5 x0 x1 x2 x3 x4 q 18 (by decide) _ hq rfl) ?_
  refine Parts.cons (rA 17 (by decide)) _ _ (h_piece arg1 harg1 arg2 harg2 arg3 harg3 arg4 harg4 arg5 harg5 x0 x1 x2 x3 x4 q 17 (by decide) _ hq rfl) ?_
  refine Parts.cons (rA 16 (by decide)) _ _ (h_piece arg1 harg1 arg2 harg2 arg3 harg3 arg4 harg4 arg5 harg5 x0 x1 x2 x3 x4 q 16 (by decide) _ hq rfl) ?_
  refine Parts.cons (rA 15 (by decide)) _ _ (h_piece arg1 harg1 arg2 harg2 arg3 harg3 arg4 harg4 arg5 harg5 x0 x1 x2 x3 x4 q 15 (by decide) _ hq rfl) ?_
  refine Parts.cons (rA 14 (by decide)) _ _ (h_piece arg1 harg1 arg2 harg2 arg3 harg3 arg4 harg4 arg5 harg5 x0 x1 x2 x3 x4 q 14 (by decide) _ hq rfl) ?_
  refine Parts.cons (rA 13 (by decide)) _ _ (h_piece arg1 harg1 arg2 harg2 arg3 harg3 arg4 harg4 arg5 harg5 x0 x1 x2 x3 x4 q 13 (by decide) _ hq rfl) ?_
  refine Parts.cons (rA 12 (by decide)) _ _ (h_piece arg1 harg1 arg2 harg2 arg3 harg3 arg4 harg4 arg5 harg5 x0 x1 x2 x3 x4 q 12 (by decide) _ hq rfl) ?_
  refine Parts.cons (rA 11 (by decide)) _ _ (h_piece arg1 harg1 arg2 harg2 arg3 harg3 arg4 harg4 arg5 harg5 x0 x1 x2 x3 x4 q 11 (by decide) _ hq rfl) ?_
  refine Parts.cons (rA 10 (by decide)) _ _ (h_piece arg1 harg1 arg2 harg2 arg3 harg3 arg4 harg4 arg5 harg5 x0 x1 x2 x3 x4 q 10 (by decide) _ hq rfl) ?_
  refine Parts.cons (rA 9 (by decide)) _ _ (h_piece arg1 harg1 arg2 harg2 arg3 harg3 arg4 harg4 arg5 harg5 x0 x1 x2 x3 x4 q 9 (by decide) _ hq rfl) ?_
  refine Parts.cons (rA 8 (by decide)) _ _ (h_piece arg1 harg1 arg2 harg2 arg3 harg3 arg4 harg4 arg5 harg5 x0 x1 x2 x3 x4 q 8 (by decide) _ hq rfl) ?_
  refine Parts.cons (rA 7 (by decide)) _ _ (h_piece arg1 harg1 arg2 harg2 arg3 harg3 arg4 harg4 arg5 harg5 x0 x1 x2 x3 x4 q 7 (by decide) _ hq rfl) ?_
  refine Parts.cons (rA 6 (by decide)) _ _ (h_piece arg1 harg1 arg2 harg2 arg3 harg3 arg4 harg4 arg5 harg5 x0 x1 x2 x3 x4 q 6 (by decide) _ hq rfl) ?_
  refine Parts.cons (rA 5 (by decide)) _ _ (h_piece arg1 harg1 arg2 harg2 arg3 harg3 arg4 harg4 arg5 harg5 x0 x1 x2 x3 x4 q 5 (by decide) _ hq rfl) ?_
  refine Parts.cons (rA 4 (by decide)) _ _ (h_piece arg1 harg1 arg2 harg2 arg3 harg3 arg4 harg4 arg5 harg5 x0 x1 x2 x3 x4 q 4 (by decide) _ hq rfl) ?_
  refine Parts.cons (rA 3 (by decide)) _ _ (h_piece arg1 harg1 arg2 harg2 arg3 harg3 arg4 harg4 arg5 harg5 x0 x1 x2 x3 x4 q 3 (by decide) _ hq rfl) ?_
  refine Parts.cons (rA 2 (by decide)) _ _ (h_piece arg1 harg1 arg2 harg2 arg3 harg3 arg4 harg4 arg5 harg5 x0 x1 x2 x3 x4 q 2 (by decide) _ hq rfl) ?_
  refine Parts.cons (rA 1 (by decide)) _ _ (h_piece arg1 harg1 arg2 harg2 arg3 harg3 arg4 harg4 arg5 harg5 x0 x1 x2 x3 x4 q 1 (by decide) _ hq rfl) ?_
  refine Parts.cons (rA 0 (by decide)) _ _ (h_piece arg1 harg1 arg2 harg2 arg3 harg3 arg4 harg4 arg5 harg5 x0 x1 x2 x3 x4 q 0 (by decide) _ hq rfl) ?_
  exact Parts.nil

/-- A block of the sum, loaded back. -/
def hb (n : Nat) (h : n < 32) : FVec Ideal S128x256 .f32 :=
  arg7.view.readCov (kernelRun0_A.sl.H6_32 (F := Ideal) c arg1 harg1 arg2 harg2 arg3 harg3 arg4 harg4 arg5 harg5 x0 x1 x2 x3 x4) (rA n h).toLoadRect

include i arg6 harg6 harg7 arg8 harg8 arg9 harg9 arg10 harg10 arg11 harg11 x5 hq in
theorem hb_apply (n : Nat) (h : n < 32) (y : S128x256.Idx) :
    (hb c arg1 harg1 arg2 harg2 arg3 harg3 arg4 harg4 arg5 harg5 arg7 x0 x1 x2 x3 x4) n h y = (fun y : S128x8192.Idx => (hP x0 q x2 x3 x4) (y 0) (y 1)) ((rA n h).emb y) :=
  back_apply arg7.view _ _ (partsH c arg1 harg1 arg2 harg2 arg3 harg3 arg4 harg4 arg5 harg5 x0 x1 x2 x3 x4 q hq) (cover0_A_6 c i arg1 harg1 arg2 harg2 arg3 harg3 arg4 harg4 arg5 harg5 arg6 harg6 arg7 harg7 arg8 harg8 arg9 harg9 arg10 harg10 arg11 harg11 x0 x1 x2 x3 x4 x5) (rA n h) y

include hq in
/-- The reciprocal root, laid twice. -/
theorem root_apply (r : Fin 128) (o : Fin 256) :
    kernelRun0_A.sl.r_38 (F := Ideal) c arg1 harg1 arg2 harg2 arg3 harg3 arg4 harg4 arg5 harg5 x0 x1 x2 x3 x4 (ix2 r o) = rootOf (hP x0 q x2 x3 x4) r := by
  have e : kernelRun0_A.sl.r_38 (F := Ideal) c arg1 harg1 arg2 harg2 arg3 harg3 arg4 harg4 arg5 harg5 x0 x1 x2 x3 x4 = wideV (rootV arg1 harg1 arg2 harg2 arg3 harg3 arg4 harg4 arg5 harg5 x0 x1 x2 x3 x4) := rfl
  rw [e]
  exact wideV_apply _ _ (rootV_apply arg1 harg1 arg2 harg2 arg3 harg3 arg4 harg4 arg5 harg5 x0 x1 x2 x3 x4 q hq) r o

include i arg6 harg6 harg7 arg8 harg8 arg9 harg9 arg10 harg10 arg11 harg11 x5 hq in
/-- The scale's argument. -/
theorem ratio_apply (r l : Fin 128) :
    kernelRun0_A.sl.r_63 (F := Ideal) c arg1 harg1 arg2 harg2 arg3 harg3 arg4 harg4 arg5 harg5 arg6 harg6 arg7 x0 x1 x2 x3 x4 x5 (ix2 r l) = ratio (hP x0 q x2 x3 x4) (fun j => x5 (ix2 0 j)) r := by
  have e : kernelRun0_A.sl.r_63 (F := Ideal) c arg1 harg1 arg2 harg2 arg3 harg3 arg4 harg4 arg5 harg5 arg6 harg6 arg7 x0 x1 x2 x3 x4 x5 = ratioV arg6 harg6 x5 (hb c arg1 harg1 arg2 harg2 arg3 harg3 arg4 harg4 arg5 harg5 arg7 x0 x1 x2 x3 x4) (kernelRun0_A.sl.r_38 (F := Ideal) c arg1 harg1 arg2 harg2 arg3 harg3 arg4 harg4 arg5 harg5 x0 x1 x2 x3 x4) := rfl
  rw [e]
  exact ratioV_apply arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) _ (root_apply c arg1 harg1 arg2 harg2 arg3 harg3 arg4 harg4 arg5 harg5 x0 x1 x2 x3 x4 q hq) r l

include i arg6 harg6 harg7 arg8 harg8 arg9 harg9 arg10 harg10 arg11 harg11 x5 hq in
/-- The inverse scale, laid twice. -/
theorem iv_apply (r : Fin 128) (o : Fin 256) :
    kernelRun0_A.sl.r_66 (F := Ideal) c arg1 harg1 arg2 harg2 arg3 harg3 arg4 harg4 arg5 harg5 arg6 harg6 arg7 x0 x1 x2 x3 x4 x5 (ix2 r o) = inv (ratio (hP x0 q x2 x3 x4) (fun j => x5 (ix2 0 j)) r) :=
  inv_apply x5 (hP x0 q x2 x3 x4) (kernelRun0_A.sl.r_66 (F := Ideal) c arg1 harg1 arg2 harg2 arg3 harg3 arg4 harg4 arg5 harg5 arg6 harg6 arg7 x0 x1 x2 x3 x4 x5) (kernelRun0_A.sl.r_63 (F := Ideal) c arg1 harg1 arg2 harg2 arg3 harg3 arg4 harg4 arg5 harg5 arg6 harg6 arg7 x0 x1 x2 x3 x4 x5) (ratio_apply c i arg1 harg1 arg2 harg2 arg3 harg3 arg4 harg4 arg5 harg5 arg6 harg6 arg7 harg7 arg8 harg8 arg9 harg9 arg10 harg10 arg11 harg11 x0 x1 x2 x3 x4 x5 q hq) rfl r o

include hq in
/-- The codes. -/
theorem parts7 : Parts (fun y : S128x8192.Idx => code (hP x0 q x2 x3 x4) (fun j => x5 (ix2 0 j)) (y 0) (y 1)) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.1 := by
  refine Parts.cons (rA 31 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 31 (by decide) _ rfl) ?_
  refine Parts.cons (rA 30 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 30 (by decide) _ rfl) ?_
  refine Parts.cons (rA 29 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 29 (by decide) _ rfl) ?_
  refine Parts.cons (rA 28 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 28 (by decide) _ rfl) ?_
  refine Parts.cons (rA 27 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 27 (by decide) _ rfl) ?_
  refine Parts.cons (rA 26 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 26 (by decide) _ rfl) ?_
  refine Parts.cons (rA 25 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 25 (by decide) _ rfl) ?_
  refine Parts.cons (rA 24 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 24 (by decide) _ rfl) ?_
  refine Parts.cons (rA 23 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 23 (by decide) _ rfl) ?_
  refine Parts.cons (rA 22 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 22 (by decide) _ rfl) ?_
  refine Parts.cons (rA 21 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 21 (by decide) _ rfl) ?_
  refine Parts.cons (rA 20 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 20 (by decide) _ rfl) ?_
  refine Parts.cons (rA 19 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 19 (by decide) _ rfl) ?_
  refine Parts.cons (rA 18 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 18 (by decide) _ rfl) ?_
  refine Parts.cons (rA 17 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 17 (by decide) _ rfl) ?_
  refine Parts.cons (rA 16 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 16 (by decide) _ rfl) ?_
  refine Parts.cons (rA 15 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 15 (by decide) _ rfl) ?_
  refine Parts.cons (rA 14 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 14 (by decide) _ rfl) ?_
  refine Parts.cons (rA 13 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 13 (by decide) _ rfl) ?_
  refine Parts.cons (rA 12 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 12 (by decide) _ rfl) ?_
  refine Parts.cons (rA 11 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 11 (by decide) _ rfl) ?_
  refine Parts.cons (rA 10 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 10 (by decide) _ rfl) ?_
  refine Parts.cons (rA 9 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 9 (by decide) _ rfl) ?_
  refine Parts.cons (rA 8 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 8 (by decide) _ rfl) ?_
  refine Parts.cons (rA 7 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 7 (by decide) _ rfl) ?_
  refine Parts.cons (rA 6 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 6 (by decide) _ rfl) ?_
  refine Parts.cons (rA 5 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 5 (by decide) _ rfl) ?_
  refine Parts.cons (rA 4 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 4 (by decide) _ rfl) ?_
  refine Parts.cons (rA 3 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 3 (by decide) _ rfl) ?_
  refine Parts.cons (rA 2 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 2 (by decide) _ rfl) ?_
  refine Parts.cons (rA 1 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 1 (by decide) _ rfl) ?_
  refine Parts.cons (rA 0 (by decide)) _ _ (c_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (kernelRun0_A.sl.r_66 (F := Ideal) c arg1 harg1 arg2 harg2 arg3 harg3 arg4 harg4 arg5 harg5 arg6 harg6 arg7 x0 x1 x2 x3 x4 x5) (root_apply c arg1 harg1 arg2 harg2 arg3 harg3 arg4 harg4 arg5 harg5 x0 x1 x2 x3 x4 q hq) (iv_apply c i arg1 harg1 arg2 harg2 arg3 harg3 arg4 harg4 arg5 harg5 arg6 harg6 arg7 harg7 arg8 harg8 arg9 harg9 arg10 harg10 arg11 harg11 x0 x1 x2 x3 x4 x5 q hq) 0 (by decide) _ rfl) ?_
  exact Parts.nil

include hq in
/-- The normalised rows. -/
theorem parts10 : Parts (fun y : S128x8192.Idx => normed (hP x0 q x2 x3 x4) (fun j => x5 (ix2 0 j)) (y 0) (y 1)) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.2.2.2.1 := by
  refine Parts.cons (rA 31 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 31 (by decide) _ rfl) ?_
  refine Parts.cons (rA 30 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 30 (by decide) _ rfl) ?_
  refine Parts.cons (rA 29 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 29 (by decide) _ rfl) ?_
  refine Parts.cons (rA 28 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 28 (by decide) _ rfl) ?_
  refine Parts.cons (rA 27 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 27 (by decide) _ rfl) ?_
  refine Parts.cons (rA 26 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 26 (by decide) _ rfl) ?_
  refine Parts.cons (rA 25 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 25 (by decide) _ rfl) ?_
  refine Parts.cons (rA 24 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 24 (by decide) _ rfl) ?_
  refine Parts.cons (rA 23 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 23 (by decide) _ rfl) ?_
  refine Parts.cons (rA 22 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 22 (by decide) _ rfl) ?_
  refine Parts.cons (rA 21 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 21 (by decide) _ rfl) ?_
  refine Parts.cons (rA 20 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 20 (by decide) _ rfl) ?_
  refine Parts.cons (rA 19 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 19 (by decide) _ rfl) ?_
  refine Parts.cons (rA 18 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 18 (by decide) _ rfl) ?_
  refine Parts.cons (rA 17 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 17 (by decide) _ rfl) ?_
  refine Parts.cons (rA 16 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 16 (by decide) _ rfl) ?_
  refine Parts.cons (rA 15 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 15 (by decide) _ rfl) ?_
  refine Parts.cons (rA 14 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 14 (by decide) _ rfl) ?_
  refine Parts.cons (rA 13 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 13 (by decide) _ rfl) ?_
  refine Parts.cons (rA 12 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 12 (by decide) _ rfl) ?_
  refine Parts.cons (rA 11 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 11 (by decide) _ rfl) ?_
  refine Parts.cons (rA 10 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 10 (by decide) _ rfl) ?_
  refine Parts.cons (rA 9 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 9 (by decide) _ rfl) ?_
  refine Parts.cons (rA 8 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 8 (by decide) _ rfl) ?_
  refine Parts.cons (rA 7 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 7 (by decide) _ rfl) ?_
  refine Parts.cons (rA 6 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 6 (by decide) _ rfl) ?_
  refine Parts.cons (rA 5 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 5 (by decide) _ rfl) ?_
  refine Parts.cons (rA 4 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 4 (by decide) _ rfl) ?_
  refine Parts.cons (rA 3 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 3 (by decide) _ rfl) ?_
  refine Parts.cons (rA 2 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 2 (by decide) _ rfl) ?_
  refine Parts.cons (rA 1 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 1 (by decide) _ rfl) ?_
  refine Parts.cons (rA 0 (by decide)) _ _ (x_piece arg6 harg6 x5 (hP x0 q x2 x3 x4) (hb c arg1 harg1 arg2 harg2 arg3 harg3 arg4 harg4 arg5 harg5 arg7 x0 x1 x2 x3 x4) (hb_apply c i arg1 harg1 arg2 harg2 arg3 harg3 arg4 harg4 arg5 harg5 arg6 harg6 arg7 harg7 arg8 harg8 arg9 harg9 arg10 harg10 arg11 harg11 x0 x1 x2 x3 x4 x5 q hq) (kernelRun0_A.sl.r_38 (F := Ideal) c arg1 harg1 arg2 harg2 arg3 harg3 arg4 harg4 arg5 harg5 x0 x1 x2 x3 x4) (root_apply c arg1 harg1 arg2 harg2 arg3 harg3 arg4 harg4 arg5 harg5 x0 x1 x2 x3 x4 q hq) 0 (by decide) _ rfl) ?_
  exact Parts.nil

/-- The whole of a register buffer. -/
def rS : Rect S128x128 := Rect.unit ![0, 0] S128x128.size inb_S128x128_S128x128_0_0

theorem rS_emb (y : S128x128.Idx) : rS.emb y = y := Rect.emb_unit_full (s := S128x128) inb_S128x128_S128x128_0_0 y

include hq in
/-- The scale. -/
theorem parts8 : Parts (fun y : S128x128.Idx => scale (ratio (hP x0 q x2 x3 x4) (fun j => x5 (ix2 0 j)) (y 0))) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.2.1 := by
  refine Parts.cons rS _ _ (fun y => ?_) Parts.nil
  obtain ⟨r, l, rfl⟩ : ∃ (r l : Fin 128), y = ix2 r l := ⟨y 0, y 1, eq_ix2 y⟩
  rw [rS_emb]
  exact scale_apply x5 (hP x0 q x2 x3 x4) r l _ (kernelRun0_A.sl.r_63 (F := Ideal) c arg1 harg1 arg2 harg2 arg3 harg3 arg4 harg4 arg5 harg5 arg6 harg6 arg7 x0 x1 x2 x3 x4 x5) (ratio_apply c i arg1 harg1 arg2 harg2 arg3 harg3 arg4 harg4 arg5 harg5 arg6 harg6 arg7 harg7 arg8 harg8 arg9 harg9 arg10 harg10 arg11 harg11 x0 x1 x2 x3 x4 x5 q hq r l) rfl

include hq in
/-- The reciprocal root. -/
theorem parts9 : Parts (fun y : S128x128.Idx => rootOf (hP x0 q x2 x3 x4) (y 0)) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.2.2.1 := by
  refine Parts.cons rS _ _ (fun y => ?_) Parts.nil
  obtain ⟨r, l, rfl⟩ : ∃ (r l : Fin 128), y = ix2 r l := ⟨y 0, y 1, eq_ix2 y⟩
  rw [rS_emb]
  exact rootV_apply arg1 harg1 arg2 harg2 arg3 harg3 arg4 harg4 arg5 harg5 x0 x1 x2 x3 x4 q hq r l

include hq in
theorem out6 : out0_A_6 c i arg1 harg1 arg2 harg2 arg3 harg3 arg4 harg4 arg5 harg5 arg6 harg6 arg7 harg7 arg8 harg8 arg9 harg9 arg10 harg10 arg11 harg11 x0 x1 x2 x3 x4 x5 = (fun y : S128x8192.Idx => (hP x0 q x2 x3 x4) (y 0) (y 1)) :=
  funext fun y => Parts.read VO0_6 VO0_6.junk (fun y : S128x8192.Idx => (hP x0 q x2 x3 x4) (y 0) (y 1)) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).1 (partsH c arg1 harg1 arg2 harg2 arg3 harg3 arg4 harg4 arg5 harg5 x0 x1 x2 x3 x4 q hq) y
    (cover0_A_6 c i arg1 harg1 arg2 harg2 arg3 harg3 arg4 harg4 arg5 harg5 arg6 harg6 arg7 harg7 arg8 harg8 arg9 harg9 arg10 harg10 arg11 harg11 x0 x1 x2 x3 x4 x5 y)

include hq in
theorem out7 : out0_A_7 c i arg1 harg1 arg2 harg2 arg3 harg3 arg4 harg4 arg5 harg5 arg6 harg6 arg7 harg7 arg8 harg8 arg9 harg9 arg10 harg10 arg11 harg11 x0 x1 x2 x3 x4 x5 = (fun y : S128x8192.Idx => code (hP x0 q x2 x3 x4) (fun j => x5 (ix2 0 j)) (y 0) (y 1)) :=
  funext fun y => Parts.read VO0_7 VO0_7.junk (fun y : S128x8192.Idx => code (hP x0 q x2 x3 x4) (fun j => x5 (ix2 0 j)) (y 0) (y 1)) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.1 (parts7 c i arg1 harg1 arg2 harg2 arg3 harg3 arg4 harg4 arg5 harg5 arg6 harg6 arg7 harg7 arg8 harg8 arg9 harg9 arg10 harg10 arg11 harg11 x0 x1 x2 x3 x4 x5 q hq) y
    (cover0_A_7 c i arg1 harg1 arg2 harg2 arg3 harg3 arg4 harg4 arg5 harg5 arg6 harg6 arg7 harg7 arg8 harg8 arg9 harg9 arg10 harg10 arg11 harg11 x0 x1 x2 x3 x4 x5 y)

include hq in
theorem out8 : out0_A_8 c i arg1 harg1 arg2 harg2 arg3 harg3 arg4 harg4 arg5 harg5 arg6 harg6 arg7 harg7 arg8 harg8 arg9 harg9 arg10 harg10 arg11 harg11 x0 x1 x2 x3 x4 x5 = (fun y : S128x128.Idx => scale (ratio (hP x0 q x2 x3 x4) (fun j => x5 (ix2 0 j)) (y 0))) :=
  funext fun y => Parts.read VO0_8 VO0_8.junk (fun y : S128x128.Idx => scale (ratio (hP x0 q x2 x3 x4) (fun j => x5 (ix2 0 j)) (y 0))) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.2.1 (parts8 c i arg1 harg1 arg2 harg2 arg3 harg3 arg4 harg4 arg5 harg5 arg6 harg6 arg7 harg7 arg8 harg8 arg9 harg9 arg10 harg10 arg11 harg11 x0 x1 x2 x3 x4 x5 q hq) y
    (cover0_A_8 c i arg1 harg1 arg2 harg2 arg3 harg3 arg4 harg4 arg5 harg5 arg6 harg6 arg7 harg7 arg8 harg8 arg9 harg9 arg10 harg10 arg11 harg11 x0 x1 x2 x3 x4 x5 y)

include hq in
theorem out9 : out0_A_9 c i arg1 harg1 arg2 harg2 arg3 harg3 arg4 harg4 arg5 harg5 arg6 harg6 arg7 harg7 arg8 harg8 arg9 harg9 arg10 harg10 arg11 harg11 x0 x1 x2 x3 x4 x5 = (fun y : S128x128.Idx => rootOf (hP x0 q x2 x3 x4) (y 0)) :=
  funext fun y => Parts.read VO0_9 VO0_9.junk (fun y : S128x128.Idx => rootOf (hP x0 q x2 x3 x4) (y 0)) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.2.2.1 (parts9 c i arg1 harg1 arg2 harg2 arg3 harg3 arg4 harg4 arg5 harg5 arg6 harg6 arg7 harg7 arg8 harg8 arg9 harg9 arg10 harg10 arg11 harg11 x0 x1 x2 x3 x4 x5 q hq) y
    (cover0_A_9 c i arg1 harg1 arg2 harg2 arg3 harg3 arg4 harg4 arg5 harg5 arg6 harg6 arg7 harg7 arg8 harg8 arg9 harg9 arg10 harg10 arg11 harg11 x0 x1 x2 x3 x4 x5 y)

include hq in
theorem out10 : out0_A_10 c i arg1 harg1 arg2 harg2 arg3 harg3 arg4 harg4 arg5 harg5 arg6 harg6 arg7 harg7 arg8 harg8 arg9 harg9 arg10 harg10 arg11 harg11 x0 x1 x2 x3 x4 x5 = (fun y : S128x8192.Idx => normed (hP x0 q x2 x3 x4) (fun j => x5 (ix2 0 j)) (y 0) (y 1)) :=
  funext fun y => Parts.read VO0_10 VO0_10.junk (fun y : S128x8192.Idx => normed (hP x0 q x2 x3 x4) (fun j => x5 (ix2 0 j)) (y 0) (y 1)) (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.2.2.2.1 (parts10 c i arg1 harg1 arg2 harg2 arg3 harg3 arg4 harg4 arg5 harg5 arg6 harg6 arg7 harg7 arg8 harg8 arg9 harg9 arg10 harg10 arg11 harg11 x0 x1 x2 x3 x4 x5 q hq) y
    (cover0_A_10 c i arg1 harg1 arg2 harg2 arg3 harg3 arg4 harg4 arg5 harg5 arg6 harg6 arg7 harg7 arg8 harg8 arg9 harg9 arg10 harg10 arg11 harg11 x0 x1 x2 x3 x4 x5 y)

end Cert.OprojIdeal.Hand

end
-- ==== Proof.OprojValue.lean ====
/-
  The value of `oproj` at the ideal instance: point `t` holds rows `128 t` to `128 t + 127`; what it stores are the rows of
  the layer's sum, of its codes and their scale, of the reciprocal root and of the normalised input.
-/
module

public import proofs.«01_k».proof.Defs
public import proofs.«01_k».proof.Proof.Gen.OprojIdeal.Value
public import proofs.«01_k».proof.Proof.OprojRun
public import proofs.«01_k».proof.Proof.Product
public import proofs.«01_k».proof.Proof.Linear

@[expose] public section

noncomputable section

open Idealize.ShloMosaic Idealize.ShloMosaic.TcCoe Idealize.SL.Sem
open Idealize.ShloMosaic.Pipeline (Dat)

namespace Cert.OprojIdeal.Hand

open Cert.OprojIdeal Cert.OprojIdeal.Gen Cert.Hand

variable (m : (ℓ : Loc nD τ sig) → Buf (Elt Ideal) ℓ) (ρ : Dev nD → PrngReg)

/-- The attention codes, the weight codes and the layer's input; the two scales and the gain, as the arguments hold them. -/
abbrev A (c : Dev nD) : S1920x2048.Idx → EReal := V (F := Ideal) m c main_arg0
abbrev W (c : Dev nD) : S2048x8192.Idx → EReal := V (F := Ideal) m c main_arg2
abbrev X (c : Dev nD) : S1920x8192.Idx → EReal := V (F := Ideal) m c main_arg4
def q (c : Dev nD) (r : Fin 1920) : EReal := (m ((c : Thread nD τ).loc main_arg1) : S3x640.Idx → EReal) (bs r)
def ws (c : Dev nD) (j : Fin 8192) : EReal := (m ((c : Thread nD τ).loc main_arg3) : S8192.Idx → EReal) (ix1 j)
def gam (c : Dev nD) (j : Fin 8192) : EReal := (m ((c : Thread nD τ).loc main_arg5) : S8192.Idx → EReal) (ix1 j)

/-- The layer's input with the output projection added. -/
def D (c : Dev nD) (r : Fin 1920) (j : Fin 8192) : EReal :=
  X m c (ix2 r j) + (∑ k : Fin 2048, A m c (ix2 r k) * W m c (ix2 k j)) * q m c r * ws m c j

/-- The five results. -/
def G6 (c : Dev nD) : Buf (Elt Ideal) ((c : Thread nD τ).loc main_v4_0) :=
  (fun i => D m c (i 0) (i 1) : S1920x8192.Idx → EReal)
def G7 (c : Dev nD) : Buf (Elt Ideal) ((c : Thread nD τ).loc main_v4_1) :=
  (fun i => code (D m c) (gam m c) (i 0) (i 1) : S1920x8192.Idx → EReal)
def G8 (c : Dev nD) : Buf (Elt Ideal) ((c : Thread nD τ).loc main_v4_2) :=
  (fun i => scale (ratio (D m c) (gam m c) (i 0)) : S1920x128.Idx → EReal)
def G9 (c : Dev nD) : Buf (Elt Ideal) ((c : Thread nD τ).loc main_v4_3) :=
  (fun i => rootOf (D m c) (i 0) : S1920x128.Idx → EReal)
def G10 (c : Dev nD) : Buf (Elt Ideal) ((c : Thread nD τ).loc main_v4_4) :=
  (fun i => normed (D m c) (gam m c) (i 0) (i 1) : S1920x8192.Idx → EReal)

theorem v1_apply (c : Dev nD) (r : Fin 1920) (l : Fin 128) : (V (F := Ideal) m c main_v1 : S1920x128.Idx → EReal) (ix2 r l) = q m c r := by
  have hr := r.isLt
  have h : (V (F := Ideal) m c main_v1 : S1920x128.Idx → EReal) = broadcastInDim S1920x128 ![0, 1] bcast_S1920x1_S1920x128_0_1
      (shapeCast S1920x1 (m ((c : Thread nD τ).loc main_arg1) : S3x640.Idx → EReal) shapeCasts_S3x640_S1920x1) := by
    unfold V hostOps0
    after_results <;> rfl
  rw [h, broadcastInDim_apply _ _ _ _ (ix2 r 0 : S1920x1.Idx) (fun a => by fin_cases a <;> rfl)]
  exact shapeCast_apply (s := S3x640) (t := S1920x1) _ _ _ _ (by
    rw [Shape.rowMajor_val_two, Shape.rowMajor_val_two]
    show r.val / 640 * 640 + r.val % 640 = r.val * 1 + 0
    omega)

theorem v2_apply (c : Dev nD) (j : Fin 8192) : (V (F := Ideal) m c main_v2 : S1x8192.Idx → EReal) (ix2 0 j) = ws m c j := by
  have h : (V (F := Ideal) m c main_v2 : S1x8192.Idx → EReal)
      = shapeCast S1x8192 (m ((c : Thread nD τ).loc main_arg3) : S8192.Idx → EReal) shapeCasts_S8192_S1x8192 := by
    unfold V hostOps0
    after_results <;> rfl
  rw [h]
  unfold ws
  exact shapeCast_apply (s := S8192) (t := S1x8192) _ _ _ _ (by
    rw [Shape.rowMajor_val_one, Shape.rowMajor_val_two]
    show j.val = 0 * 8192 + j.val
    omega)

theorem v3_apply (c : Dev nD) (j : Fin 8192) : (V (F := Ideal) m c main_v3 : S1x8192.Idx → EReal) (ix2 0 j) = gam m c j := by
  have h : (V (F := Ideal) m c main_v3 : S1x8192.Idx → EReal)
      = shapeCast S1x8192 (m ((c : Thread nD τ).loc main_arg5) : S8192.Idx → EReal) shapeCasts_S8192_S1x8192 := by
    unfold V hostOps0
    after_results <;> rfl
  rw [h]
  unfold gam
  exact shapeCast_apply (s := S8192) (t := S1x8192) _ _ _ _ (by
    rw [Shape.rowMajor_val_one, Shape.rowMajor_val_two]
    show j.val = 0 * 8192 + j.val
    omega)

theorem N_eq : cfg0.N = 15 := (by decide +kernel : grid0.N = 15)

/-- Where the blocks lie, at every grid point. -/
theorem idx_facts : ∀ t : Fin cfg0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = t.val ∧ win0_4.index t 1 = 0 ∧ win0_5.index t 0 = 0 ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = t.val ∧ win0_9.index t 1 = 0 ∧ win0_10.index t 0 = t.val ∧ win0_10.index t 1 = 0 :=
  (by decide +kernel : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = t.val ∧ win0_4.index t 1 = 0 ∧ win0_5.index t 0 = 0 ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_9.index t 0 = t.val ∧ win0_9.index t 1 = 0 ∧ win0_10.index t 0 = t.val ∧ win0_10.index t 1 = 0)

/-- Row `r` of point `t`'s block. -/
def row (t : Fin cfg0.N) (r : Fin 128) : Fin 1920 := ⟨128 * t.val + r.val, by have := t.isLt; have := N_eq; have := r.isLt; omega⟩

theorem iblk0_apply (c : Dev nD) (t : Fin cfg0.N) (r : Fin 128) (j : Fin 2048) : iblk m c 0 t (ix2 r j) = A m c (ix2 (row t r) j) := by
  obtain ⟨h0, h1, -⟩ := idx_facts t
  unfold iblk
  rw [View.read_apply]
  show V m c main_arg0 _ = V m c main_arg0 _
  congr 1
  funext a
  apply Fin.ext
  match a with
  | ⟨0, _⟩ => show win0_0.index t 0 * 128 + 1 * r.val = 128 * t.val + r.val; rw [h0]; omega
  | ⟨1, _⟩ => show win0_0.index t 1 * 2048 + 1 * j.val = j.val; rw [h1]; omega

theorem iblk1_apply (c : Dev nD) (t : Fin cfg0.N) (r : Fin 128) (l : Fin 128) : iblk m c 1 t (ix2 r l) = q m c (row t r) := by
  obtain ⟨-, -, h0, h1, -⟩ := idx_facts t
  refine Eq.trans ?_ (v1_apply m c (row t r) l)
  unfold iblk
  rw [View.read_apply]
  show V m c main_v1 _ = V m c main_v1 _
  congr 1
  funext a
  apply Fin.ext
  match a with
  | ⟨0, _⟩ => show win0_1.index t 0 * 128 + 1 * r.val = 128 * t.val + r.val; rw [h0]; omega
  | ⟨1, _⟩ => show win0_1.index t 1 * 128 + 1 * l.val = l.val; rw [h1]; omega

theorem iblk2_apply (c : Dev nD) (t : Fin cfg0.N) (k : Fin 2048) (j : Fin 8192) : iblk m c 2 t (ix2 k j) = W m c (ix2 k j) := by
  obtain ⟨-, -, -, -, h0, h1, -⟩ := idx_facts t
  unfold iblk
  rw [View.read_apply]
  show V m c main_arg2 _ = V m c main_arg2 _
  congr 1
  funext a
  apply Fin.ext
  match a with
  | ⟨0, _⟩ => show win0_2.index t 0 * 2048 + 1 * k.val = k.val; rw [h0]; omega
  | ⟨1, _⟩ => show win0_2.index t 1 * 8192 + 1 * j.val = j.val; rw [h1]; omega

theorem iblk3_apply (c : Dev nD) (t : Fin cfg0.N) (j : Fin 8192) : iblk m c 3 t (ix2 0 j) = ws m c j := by
  obtain ⟨-, -, -, -, -, -, h0, h1, -⟩ := idx_facts t
  refine Eq.trans ?_ (v2_apply m c j)
  unfold iblk
  rw [View.read_apply]
  show V m c main_v2 _ = V m c main_v2 _
  congr 1
  funext a
  apply Fin.ext
  match a with
  | ⟨0, _⟩ => show win0_3.index t 0 * 1 + 1 * 0 = 0; rw [h0]
  | ⟨1, _⟩ => show win0_3.index t 1 * 8192 + 1 * j.val = j.val; rw [h1]; omega

theorem iblk4_apply (c : Dev nD) (t : Fin cfg0.N) (r : Fin 128) (j : Fin 8192) : iblk m c 4 t (ix2 r j) = X m c (ix2 (row t r) j) := by
  obtain ⟨-, -, -, -, -, -, -, -, h0, h1, -⟩ := idx_facts t
  unfold iblk
  rw [View.read_apply]
  show V m c main_arg4 _ = V m c main_arg4 _
  congr 1
  funext a
  apply Fin.ext
  match a with
  | ⟨0, _⟩ => show win0_4.index t 0 * 128 + 1 * r.val = 128 * t.val + r.val; rw [h0]; omega
  | ⟨1, _⟩ => show win0_4.index t 1 * 8192 + 1 * j.val = j.val; rw [h1]; omega

theorem iblk5_apply (c : Dev nD) (t : Fin cfg0.N) (j : Fin 8192) : iblk m c 5 t (ix2 0 j) = gam m c j := by
  obtain ⟨-, -, -, -, -, -, -, -, -, -, h0, h1, -⟩ := idx_facts t
  refine Eq.trans ?_ (v3_apply m c j)
  unfold iblk
  rw [View.read_apply]
  show V m c main_v3 _ = V m c main_v3 _
  congr 1
  funext a
  apply Fin.ext
  match a with
  | ⟨0, _⟩ => show win0_5.index t 0 * 1 + 1 * 0 = 0; rw [h0]
  | ⟨1, _⟩ => show win0_5.index t 1 * 8192 + 1 * j.val = j.val; rw [h1]; omega

theorem rootOf_row {R : Nat} (H : Fin 1920 → Fin 8192 → EReal) (f : Fin R → Fin 1920) (r : Fin R) :
    rootOf (fun r j => H (f r) j) r = rootOf H (f r) := by
  unfold rootOf
  rfl

/-- The sum at one entry, from what its operands hold. -/
theorem hP_of (x0 : S128x2048.Idx → EReal) (q : Fin 128 → EReal) (x2 : S2048x8192.Idx → EReal) (x3 : S1x8192.Idx → EReal)
    (x4 : S128x8192.Idx → EReal) (r : Fin 128) (j : Fin 8192) (a w : Fin 2048 → EReal) (x s : EReal)
    (h0 : ∀ k, x0 (ix2 r k) = a k) (h2 : ∀ k, x2 (ix2 k j) = w k) (h3 : x3 (ix2 0 j) = s) (h4 : x4 (ix2 r j) = x) :
    hP x0 q x2 x3 x4 r j = x + (∑ k : Fin 2048, a k * w k) * q r * s := by
  unfold hP
  rw [h3, h4]
  simp only [h0, h2]

/-- A point's rows of the sum, and its gain, are the layer's. -/
theorem hP_eq (c : Dev nD) (t : Fin cfg0.N) :
    hP (iblk m c 0 t) (fun r => q m c (row t r)) (iblk m c 2 t) (iblk m c 3 t) (iblk m c 4 t) = fun r j => D m c (row t r) j :=
  funext fun r => funext fun j => hP_of _ _ _ _ _ r j _ _ _ _ (fun k => iblk0_apply m c t r k) (fun k => iblk2_apply m c t k j)
    (iblk3_apply m c t j) (iblk4_apply m c t r j)

theorem gam_eq (c : Dev nD) (t : Fin cfg0.N) : (fun j => (iblk m c 5 t : S1x8192.Idx → EReal) (ix2 0 j)) = gam m c :=
  funext fun j => iblk5_apply m c t j

theorem flushed6_eq (c : Dev nD) (t : Fin cfg0.N) :
    (dats m 0 c).flushed 6 t = (win0_6.blk t).view.read (Elt Ideal) (G6 m c) := by
  refine (Value.flushed6_A m c t).trans ?_
  rw [out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun r => q m c (row t r)) (iblk1_apply m c t), hP_eq]
  obtain ⟨-, -, -, -, -, -, -, -, -, -, -, -, h0, h1, -⟩ := idx_facts t
  funext y
  obtain ⟨r, j, rfl⟩ : ∃ (r : Fin 128) (j : Fin 8192), y = ix2 r j := ⟨y 0, y 1, eq_ix2 y⟩
  have he : (win0_6.rect t).emb (ix2 r j) = (ix2 (row t r) j : S1920x8192.Idx) := by
    funext a
    apply Fin.ext
    match a with
    | ⟨0, _⟩ => show win0_6.index t 0 * 128 + 1 * r.val = 128 * t.val + r.val; rw [h0]; omega
    | ⟨1, _⟩ => show win0_6.index t 1 * 8192 + 1 * j.val = j.val; rw [h1]; omega
  rw [View.read_apply]
  show _ = G6 m c ((win0_6.rect t).emb (ix2 r j))
  rw [he]
  rfl

theorem final6 (c : Dev nD) : (dats m 0 c).arrAt 6 cfg0.N = G6 m c :=
  (dats m 0 c).arrAt_eq_of_cover 6 (G6 m c) (fun t _ => flushed6_eq m c t) fun i => by
    have b0 : (i 0 : Nat) < 1920 := (i 0).isLt
    have b1 : (i 1 : Nat) < 8192 := (i 1).isLt
    have hN := N_eq
    obtain ⟨t, ht⟩ : ∃ t : Fin cfg0.N, t.val = (i 0 : Nat) / 128 := ⟨⟨(i 0 : Nat) / 128, by omega⟩, rfl⟩
    obtain ⟨-, -, -, -, -, -, -, -, -, -, -, -, h0, h1, -⟩ := idx_facts t
    refine ⟨t, flush0_6 t, ?_⟩
    show i ∈ ((View.whole main_v4_0).slice (win0_6.rect t)).set
    rw [View.set_slice_whole, Rect.mem_set_unit]
    intro a
    match a with
    | ⟨0, _⟩ => show win0_6.index t 0 * 128 ≤ (i 0 : Nat) ∧ (i 0 : Nat) < win0_6.index t 0 * 128 + 128; rw [h0]; omega
    | ⟨1, _⟩ => show win0_6.index t 1 * 8192 ≤ (i 1 : Nat) ∧ (i 1 : Nat) < win0_6.index t 1 * 8192 + 8192; rw [h1]; omega

theorem flushed7_eq (c : Dev nD) (t : Fin cfg0.N) :
    (dats m 0 c).flushed 7 t = (win0_7.blk t).view.read (Elt Ideal) (G7 m c) := by
  refine (Value.flushed7_A m c t).trans ?_
  rw [out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun r => q m c (row t r)) (iblk1_apply m c t), hP_eq, gam_eq]
  obtain ⟨-, -, -, -, -, -, -, -, -, -, -, -, -, -, h0, h1, -⟩ := idx_facts t
  funext y
  obtain ⟨r, j, rfl⟩ : ∃ (r : Fin 128) (j : Fin 8192), y = ix2 r j := ⟨y 0, y 1, eq_ix2 y⟩
  have he : (win0_7.rect t).emb (ix2 r j) = (ix2 (row t r) j : S1920x8192.Idx) := by
    funext a
    apply Fin.ext
    match a with
    | ⟨0, _⟩ => show win0_7.index t 0 * 128 + 1 * r.val = 128 * t.val + r.val; rw [h0]; omega
    | ⟨1, _⟩ => show win0_7.index t 1 * 8192 + 1 * j.val = j.val; rw [h1]; omega
  rw [View.read_apply]
  show _ = G7 m c ((win0_7.rect t).emb (ix2 r j))
  rw [he]
  rfl

theorem final7 (c : Dev nD) : (dats m 0 c).arrAt 7 cfg0.N = G7 m c :=
  (dats m 0 c).arrAt_eq_of_cover 7 (G7 m c) (fun t _ => flushed7_eq m c t) fun i => by
    have b0 : (i 0 : Nat) < 1920 := (i 0).isLt
    have b1 : (i 1 : Nat) < 8192 := (i 1).isLt
    have hN := N_eq
    obtain ⟨t, ht⟩ : ∃ t : Fin cfg0.N, t.val = (i 0 : Nat) / 128 := ⟨⟨(i 0 : Nat) / 128, by omega⟩, rfl⟩
    obtain ⟨-, -, -, -, -, -, -, -, -, -, -, -, -, -, h0, h1, -⟩ := idx_facts t
    refine ⟨t, flush0_7 t, ?_⟩
    show i ∈ ((View.whole main_v4_1).slice (win0_7.rect t)).set
    rw [View.set_slice_whole, Rect.mem_set_unit]
    intro a
    match a with
    | ⟨0, _⟩ => show win0_7.index t 0 * 128 ≤ (i 0 : Nat) ∧ (i 0 : Nat) < win0_7.index t 0 * 128 + 128; rw [h0]; omega
    | ⟨1, _⟩ => show win0_7.index t 1 * 8192 ≤ (i 1 : Nat) ∧ (i 1 : Nat) < win0_7.index t 1 * 8192 + 8192; rw [h1]; omega

theorem flushed8_eq (c : Dev nD) (t : Fin cfg0.N) :
    (dats m 0 c).flushed 8 t = (win0_8.blk t).view.read (Elt Ideal) (G8 m c) := by
  refine (Value.flushed8_A m c t).trans ?_
  rw [out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun r => q m c (row t r)) (iblk1_apply m c t), hP_eq, gam_eq]
  obtain ⟨-, -, -, -, -, -, -, -, -, -, -, -, -, -, -, -, h0, h1, -⟩ := idx_facts t
  funext y
  obtain ⟨r, j, rfl⟩ : ∃ (r : Fin 128) (j : Fin 128), y = ix2 r j := ⟨y 0, y 1, eq_ix2 y⟩
  have he : (win0_8.rect t).emb (ix2 r j) = (ix2 (row t r) j : S1920x128.Idx) := by
    funext a
    apply Fin.ext
    match a with
    | ⟨0, _⟩ => show win0_8.index t 0 * 128 + 1 * r.val = 128 * t.val + r.val; rw [h0]; omega
    | ⟨1, _⟩ => show win0_8.index t 1 * 128 + 1 * j.val = j.val; rw [h1]; omega
  rw [View.read_apply]
  show _ = G8 m c ((win0_8.rect t).emb (ix2 r j))
  rw [he]
  rfl

theorem final8 (c : Dev nD) : (dats m 0 c).arrAt 8 cfg0.N = G8 m c :=
  (dats m 0 c).arrAt_eq_of_cover 8 (G8 m c) (fun t _ => flushed8_eq m c t) fun i => by
    have b0 : (i 0 : Nat) < 1920 := (i 0).isLt
    have b1 : (i 1 : Nat) < 128 := (i 1).isLt
    have hN := N_eq
    obtain ⟨t, ht⟩ : ∃ t : Fin cfg0.N, t.val = (i 0 : Nat) / 128 := ⟨⟨(i 0 : Nat) / 128, by omega⟩, rfl⟩
    obtain ⟨-, -, -, -, -, -, -, -, -, -, -, -, -, -, -, -, h0, h1, -⟩ := idx_facts t
    refine ⟨t, flush0_8 t, ?_⟩
    show i ∈ ((View.whole main_v4_2).slice (win0_8.rect t)).set
    rw [View.set_slice_whole, Rect.mem_set_unit]
    intro a
    match a with
    | ⟨0, _⟩ => show win0_8.index t 0 * 128 ≤ (i 0 : Nat) ∧ (i 0 : Nat) < win0_8.index t 0 * 128 + 128; rw [h0]; omega
    | ⟨1, _⟩ => show win0_8.index t 1 * 128 ≤ (i 1 : Nat) ∧ (i 1 : Nat) < win0_8.index t 1 * 128 + 128; rw [h1]; omega

attribute [local irreducible] rootOf in
theorem flushed9_eq (c : Dev nD) (t : Fin cfg0.N) :
    (dats m 0 c).flushed 9 t = (win0_9.blk t).view.read (Elt Ideal) (G9 m c) := by
  refine (Value.flushed9_A m c t).trans ?_
  rw [out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun r => q m c (row t r)) (iblk1_apply m c t), hP_eq]
  obtain ⟨-, -, -, -, -, -, -, -, -, -, -, -, -, -, -, -, -, -, h0, h1, -⟩ := idx_facts t
  funext y
  obtain ⟨r, j, rfl⟩ : ∃ (r : Fin 128) (j : Fin 128), y = ix2 r j := ⟨y 0, y 1, eq_ix2 y⟩
  have he : (win0_9.rect t).emb (ix2 r j) = (ix2 (row t r) j : S1920x128.Idx) := by
    funext a
    apply Fin.ext
    match a with
    | ⟨0, _⟩ => show win0_9.index t 0 * 128 + 1 * r.val = 128 * t.val + r.val; rw [h0]; omega
    | ⟨1, _⟩ => show win0_9.index t 1 * 128 + 1 * j.val = j.val; rw [h1]; omega
  rw [View.read_apply]
  show _ = G9 m c ((win0_9.rect t).emb (ix2 r j))
  rw [he]
  have e : G9 m c (ix2 (row t r) j) = rootOf (D m c) (row t r) := rfl
  rw [e, ← rootOf_row]
  rfl

theorem final9 (c : Dev nD) : (dats m 0 c).arrAt 9 cfg0.N = G9 m c :=
  (dats m 0 c).arrAt_eq_of_cover 9 (G9 m c) (fun t _ => flushed9_eq m c t) fun i => by
    have b0 : (i 0 : Nat) < 1920 := (i 0).isLt
    have b1 : (i 1 : Nat) < 128 := (i 1).isLt
    have hN := N_eq
    obtain ⟨t, ht⟩ : ∃ t : Fin cfg0.N, t.val = (i 0 : Nat) / 128 := ⟨⟨(i 0 : Nat) / 128, by omega⟩, rfl⟩
    obtain ⟨-, -, -, -, -, -, -, -, -, -, -, -, -, -, -, -, -, -, h0, h1, -⟩ := idx_facts t
    refine ⟨t, flush0_9 t, ?_⟩
    show i ∈ ((View.whole main_v4_3).slice (win0_9.rect t)).set
    rw [View.set_slice_whole, Rect.mem_set_unit]
    intro a
    match a with
    | ⟨0, _⟩ => show win0_9.index t 0 * 128 ≤ (i 0 : Nat) ∧ (i 0 : Nat) < win0_9.index t 0 * 128 + 128; rw [h0]; omega
    | ⟨1, _⟩ => show win0_9.index t 1 * 128 ≤ (i 1 : Nat) ∧ (i 1 : Nat) < win0_9.index t 1 * 128 + 128; rw [h1]; omega

theorem flushed10_eq (c : Dev nD) (t : Fin cfg0.N) :
    (dats m 0 c).flushed 10 t = (win0_10.blk t).view.read (Elt Ideal) (G10 m c) := by
  refine (Value.flushed10_A m c t).trans ?_
  rw [out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun r => q m c (row t r)) (iblk1_apply m c t), hP_eq, gam_eq]
  obtain ⟨-, -, -, -, -, -, -, -, -, -, -, -, -, -, -, -, -, -, -, -, h0, h1⟩ := idx_facts t
  funext y
  obtain ⟨r, j, rfl⟩ : ∃ (r : Fin 128) (j : Fin 8192), y = ix2 r j := ⟨y 0, y 1, eq_ix2 y⟩
  have he : (win0_10.rect t).emb (ix2 r j) = (ix2 (row t r) j : S1920x8192.Idx) := by
    funext a
    apply Fin.ext
    match a with
    | ⟨0, _⟩ => show win0_10.index t 0 * 128 + 1 * r.val = 128 * t.val + r.val; rw [h0]; omega
    | ⟨1, _⟩ => show win0_10.index t 1 * 8192 + 1 * j.val = j.val; rw [h1]; omega
  rw [View.read_apply]
  show _ = G10 m c ((win0_10.rect t).emb (ix2 r j))
  rw [he]
  rfl

theorem final10 (c : Dev nD) : (dats m 0 c).arrAt 10 cfg0.N = G10 m c :=
  (dats m 0 c).arrAt_eq_of_cover 10 (G10 m c) (fun t _ => flushed10_eq m c t) fun i => by
    have b0 : (i 0 : Nat) < 1920 := (i 0).isLt
    have b1 : (i 1 : Nat) < 8192 := (i 1).isLt
    have hN := N_eq
    obtain ⟨t, ht⟩ : ∃ t : Fin cfg0.N, t.val = (i 0 : Nat) / 128 := ⟨⟨(i 0 : Nat) / 128, by omega⟩, rfl⟩
    obtain ⟨-, -, -, -, -, -, -, -, -, -, -, -, -, -, -, -, -, -, -, -, h0, h1⟩ := idx_facts t
    refine ⟨t, flush0_10 t, ?_⟩
    show i ∈ ((View.whole main_v4_4).slice (win0_10.rect t)).set
    rw [View.set_slice_whole, Rect.mem_set_unit]
    intro a
    match a with
    | ⟨0, _⟩ => show win0_10.index t 0 * 128 ≤ (i 0 : Nat) ∧ (i 0 : Nat) < win0_10.index t 0 * 128 + 128; rw [h0]; omega
    | ⟨1, _⟩ => show win0_10.index t 1 * 8192 ≤ (i 1 : Nat) ∧ (i 1 : Nat) < win0_10.index t 1 * 8192 + 8192; rw [h1]; omega

/-- The kernel's run, read. -/
theorem run : θ_run defs (onTc (τ := τ) (main (F := Ideal))) ⟨m, fun _ => 0, ρ⟩ fun r => ∀ c : Dev nD,
      r.2.mem ((c : Thread nD τ).loc main_v4_0) = G6 m c
      ∧ r.2.mem ((c : Thread nD τ).loc main_v4_1) = G7 m c
      ∧ r.2.mem ((c : Thread nD τ).loc main_v4_2) = G8 m c
      ∧ r.2.mem ((c : Thread nD τ).loc main_v4_3) = G9 m c
      ∧ r.2.mem ((c : Thread nD τ).loc main_v4_4) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩)
    (Value.run_blocks m ρ)

end Cert.OprojIdeal.Hand

end
-- ==== Proof.OprojRef.lean ====
/-
  The value of `oproj`'s reference at the ideal instance, and the claim: kernel and reference compute the same sum, codes,
  scale, reciprocal root and normalised rows.
-/
module

public import proofs.«01_k».proof.Defs
public import proofs.«01_k».proof.Proof.OprojRefPay
public import proofs.«01_k».proof.Proof.OprojRefRun
public import proofs.«01_k».proof.Proof.OprojValue

@[expose] public section

noncomputable section

open Idealize.ShloMosaic Idealize.ShloMosaic.TcCoe Idealize.SL.Sem
open Idealize.ShloMosaic.Pipeline (Dat)

namespace Cert.OprojRefIdeal.Hand

open Cert.OprojRefIdeal Cert.OprojRefIdeal.Gen Cert.Hand
open Cert.OprojIdeal.Hand (ratio code)

variable (m : (ℓ : Loc nD τ sig) → Buf (Elt Ideal) ℓ) (ρ : Dev nD → PrngReg)

/-- The arguments as the region finds them. -/
abbrev A (c : Dev nD) : S1920x2048.Idx → EReal := V (F := Ideal) m c main_arg0
abbrev S (c : Dev nD) : S1920x1.Idx → EReal := V (F := Ideal) m c main_v0
abbrev W (c : Dev nD) : S2048x8192.Idx → EReal := V (F := Ideal) m c main_arg2
abbrev Ws (c : Dev nD) : S1x8192.Idx → EReal := V (F := Ideal) m c main_v1
abbrev X (c : Dev nD) : S1920x8192.Idx → EReal := V (F := Ideal) m c main_arg4
abbrev Gm (c : Dev nD) : S1x8192.Idx → EReal := V (F := Ideal) m c main_v2
def q (c : Dev nD) (r : Fin 1920) : EReal := (m ((c : Thread nD τ).loc main_arg1) : S3x640.Idx → EReal) (bs r)
def ws (c : Dev nD) (j : Fin 8192) : EReal := (m ((c : Thread nD τ).loc main_arg3) : S8192.Idx → EReal) (ix1 j)
def gam (c : Dev nD) (j : Fin 8192) : EReal := (m ((c : Thread nD τ).loc main_arg5) : S8192.Idx → EReal) (ix1 j)

/-- The layer's input with the output projection added. -/
def D (c : Dev nD) (r : Fin 1920) (j : Fin 8192) : EReal :=
  X m c (ix2 r j) + (∑ k : Fin 2048, A m c (ix2 r k) * W m c (ix2 k j)) * q m c r * ws m c j

/-- The five results. -/
def G6 (c : Dev nD) : Buf (Elt Ideal) ((c : Thread nD τ).loc main_v3_0) :=
  (fun i => D m c (i 0) (i 1) : S1920x8192.Idx → EReal)
def G7 (c : Dev nD) : Buf (Elt Ideal) ((c : Thread nD τ).loc main_v3_1) :=
  (fun i => code (D m c) (gam m c) (i 0) (i 1) : S1920x8192.Idx → EReal)
def G8 (c : Dev nD) : Buf (Elt Ideal) ((c : Thread nD τ).loc main_v3_2) :=
  (fun i => scale (ratio (D m c) (gam m c) (i 0)) : S1920x128.Idx → EReal)
def G9 (c : Dev nD) : Buf (Elt Ideal) ((c : Thread nD τ).loc main_v3_3) :=
  (fun i => rootOf (D m c) (i 0) : S1920x128.Idx → EReal)
def G10 (c : Dev nD) : Buf (Elt Ideal) ((c : Thread nD τ).loc main_v3_4) :=
  (fun i => normed (D m c) (gam m c) (i 0) (i 1) : S1920x8192.Idx → EReal)

theorem S_eq (c : Dev nD) (r : Fin 1920) : S m c (ix2 r 0) = q m c r := by
  have hr := r.isLt
  have h : S m c = shapeCast S1920x1 (m ((c : Thread nD τ).loc main_arg1) : S3x640.Idx → EReal) shapeCasts_S3x640_S1920x1 := by
    unfold S V hostOps0
    after_results <;> rfl
  rw [h]
  exact shapeCast_apply (s := S3x640) (t := S1920x1) _ _ _ _ (by
    rw [Shape.rowMajor_val_two, Shape.rowMajor_val_two]
    show r.val / 640 * 640 + r.val % 640 = r.val * 1 + 0
    omega)

theorem Ws_eq (c : Dev nD) (j : Fin 8192) : Ws m c (ix2 0 j) = ws m c j := by
  have h : Ws m c = shapeCast S1x8192 (m ((c : Thread nD τ).loc main_arg3) : S8192.Idx → EReal) shapeCasts_S8192_S1x8192 := by
    unfold Ws V hostOps0
    after_results <;> rfl
  rw [h]
  unfold ws
  exact shapeCast_apply (s := S8192) (t := S1x8192) _ _ _ _ (by
    rw [Shape.rowMajor_val_one, Shape.rowMajor_val_two]
    show j.val = 0 * 8192 + j.val
    omega)

theorem Gm_eq (c : Dev nD) (j : Fin 8192) : Gm m c (ix2 0 j) = gam m c j := by
  have h : Gm m c = shapeCast S1x8192 (m ((c : Thread nD τ).loc main_arg5) : S8192.Idx → EReal) shapeCasts_S8192_S1x8192 := by
    unfold Gm V hostOps0
    after_results <;> rfl
  rw [h]
  unfold gam
  exact shapeCast_apply (s := S8192) (t := S1x8192) _ _ _ _ (by
    rw [Shape.rowMajor_val_one, Shape.rowMajor_val_two]
    show j.val = 0 * 8192 + j.val
    omega)

theorem gam_eq (c : Dev nD) : (fun j => Gm m c (ix2 0 j)) = gam m c := funext fun j => Gm_eq m c j

theorem D_eq (c : Dev nD) : hR (X m c) (A m c) (S m c) (W m c) (Ws m c) = D m c := by
  funext r j
  unfold hR D
  rw [S_eq, Ws_eq]

theorem iblk0_eq (c : Dev nD) (t : Fin cfg0.N) : iblk m c 0 t = A m c := by
  unfold iblk
  funext y
  rw [View.read_apply]
  show V m c main_arg0 _ = V m c main_arg0 _
  congr 1
  funext a
  apply Fin.ext
  match a with
  | ⟨0, _⟩ => show 0 * 1920 + 1 * (y 0).val = (y 0).val; omega
  | ⟨1, _⟩ => show 0 * 2048 + 1 * (y 1).val = (y 1).val; omega

theorem iblk1_eq (c : Dev nD) (t : Fin cfg0.N) : iblk m c 1 t = S m c := by
  unfold iblk
  funext y
  rw [View.read_apply]
  show V m c main_v0 _ = V m c main_v0 _
  congr 1
  funext a
  apply Fin.ext
  match a with
  | ⟨0, _⟩ => show 0 * 1920 + 1 * (y 0).val = (y 0).val; omega
  | ⟨1, _⟩ => show 0 * 1 + 1 * (y 1).val = (y 1).val; omega

theorem iblk2_eq (c : Dev nD) (t : Fin cfg0.N) : iblk m c 2 t = W m c := by
  unfold iblk
  funext y
  rw [View.read_apply]
  show V m c main_arg2 _ = V m c main_arg2 _
  congr 1
  funext a
  apply Fin.ext
  match a with
  | ⟨0, _⟩ => show 0 * 2048 + 1 * (y 0).val = (y 0).val; omega
  | ⟨1, _⟩ => show 0 * 8192 + 1 * (y 1).val = (y 1).val; omega

theorem iblk3_eq (c : Dev nD) (t : Fin cfg0.N) : iblk m c 3 t = Ws m c := by
  unfold iblk
  funext y
  rw [View.read_apply]
  show V m c main_v1 _ = V m c main_v1 _
  congr 1
  funext a
  apply Fin.ext
  match a with
  | ⟨0, _⟩ => show 0 * 1 + 1 * (y 0).val = (y 0).val; omega
  | ⟨1, _⟩ => show 0 * 8192 + 1 * (y 1).val = (y 1).val; omega

theorem iblk4_eq (c : Dev nD) (t : Fin cfg0.N) : iblk m c 4 t = X m c := by
  unfold iblk
  funext y
  rw [View.read_apply]
  show V m c main_arg4 _ = V m c main_arg4 _
  congr 1
  funext a
  apply Fin.ext
  match a with
  | ⟨0, _⟩ => show 0 * 1920 + 1 * (y 0).val = (y 0).val; omega
  | ⟨1, _⟩ => show 0 * 8192 + 1 * (y 1).val = (y 1).val; omega

theorem iblk5_eq (c : Dev nD) (t : Fin cfg0.N) : iblk m c 5 t = Gm m c := by
  unfold iblk
  funext y
  rw [View.read_apply]
  show V m c main_v2 _ = V m c main_v2 _
  congr 1
  funext a
  apply Fin.ext
  match a with
  | ⟨0, _⟩ => show 0 * 1 + 1 * (y 0).val = (y 0).val; omega
  | ⟨1, _⟩ => show 0 * 8192 + 1 * (y 1).val = (y 1).val; omega

section Stored

variable (x0 : Vec Ideal S1920x2048 .fp8e4m3) (x1 : Vec Ideal S1920x1 .f32) (x2 : Vec Ideal S2048x8192 .fp8e4m3)
  (x3 : Vec Ideal S1x8192 .f32) (x4 : Vec Ideal S1920x8192 .bf16) (x5 : Vec Ideal S1x8192 .f32)

theorem out6_apply (r : Fin 1920) (j : Fin 8192) : out0_6 x0 x1 x2 x3 x4 x5 (ix2 r j) = hR x4 x0 x1 x2 x3 r j := by
  unfold out0_6
  rw [View.canon_unit_zero hz2]
  simp only [View.ld_unit_zero (S := S1920x8192) hz2, View.ld_unit_zero (S := S1920x2048) hz2, View.ld_unit_zero (S := S1920x1) hz2, View.ld_unit_zero (S := S2048x8192) hz2, View.ld_unit_zero (S := S1x8192) hz2]
  exact pay2_apply _ _ _ _ _ r j

theorem out7_apply (r : Fin 1920) (j : Fin 8192) : out0_7 x0 x1 x2 x3 x4 x5 (ix2 r j) = code (hR x4 x0 x1 x2 x3) (fun j => x5 (ix2 0 j)) r j := by
  unfold out0_7 k0_pay11
  rw [View.canon_unit_zero hz2]
  simp only [View.ld_unit_zero (S := S1920x8192) hz2, View.ld_unit_zero (S := S1920x2048) hz2, View.ld_unit_zero (S := S1920x1) hz2, View.ld_unit_zero (S := S2048x8192) hz2, View.ld_unit_zero (S := S1x8192) hz2]
  exact pay9_apply _ _ _ (pay4_apply _ _ _ _ _ _) (pay7_apply _ _ _ _ _ _) r j

theorem out8_apply (r : Fin 1920) (j : Fin 128) : out0_8 x0 x1 x2 x3 x4 x5 (ix2 r j) = scale (ratio (hR x4 x0 x1 x2 x3) (fun j => x5 (ix2 0 j)) r) := by
  unfold out0_8 k0_pay11
  rw [View.canon_unit_zero hz2]
  simp only [View.ld_unit_zero (S := S1920x8192) hz2, View.ld_unit_zero (S := S1920x2048) hz2, View.ld_unit_zero (S := S1920x1) hz2, View.ld_unit_zero (S := S2048x8192) hz2, View.ld_unit_zero (S := S1x8192) hz2]
  exact pay10_apply _ _ (pay7_apply _ _ _ _ _ _) r j

theorem out9_apply (r : Fin 1920) (j : Fin 128) : out0_9 x0 x1 x2 x3 x4 x5 (ix2 r j) = rootOf (hR x4 x0 x1 x2 x3) r := by
  unfold out0_9
  rw [View.canon_unit_zero hz2]
  simp only [View.ld_unit_zero (S := S1920x8192) hz2, View.ld_unit_zero (S := S1920x2048) hz2, View.ld_unit_zero (S := S1920x1) hz2, View.ld_unit_zero (S := S2048x8192) hz2, View.ld_unit_zero (S := S1x8192) hz2]
  exact pay5_apply _ _ _ _ _ r j

theorem out10_apply (r : Fin 1920) (j : Fin 8192) : out0_10 x0 x1 x2 x3 x4 x5 (ix2 r j) = normed (hR x4 x0 x1 x2 x3) (fun j => x5 (ix2 0 j)) r j := by
  unfold out0_10
  rw [View.canon_unit_zero hz2]
  simp only [View.ld_unit_zero (S := S1920x8192) hz2, View.ld_unit_zero (S := S1920x2048) hz2, View.ld_unit_zero (S := S1920x1) hz2, View.ld_unit_zero (S := S2048x8192) hz2, View.ld_unit_zero (S := S1x8192) hz2]
  exact pay6_apply _ _ _ _ _ _ r j

end Stored

theorem flushed6_eq (c : Dev nD) (t : Fin cfg0.N) :
    (dats m 0 c).flushed 6 t = (win0_6.blk t).view.read (Elt Ideal) (G6 m c) := by
  refine (Blocks.flushed6 m c t).trans ?_
  rw [iblk0_eq, iblk1_eq, iblk2_eq, iblk3_eq, iblk4_eq, iblk5_eq]
  funext y
  rw [View.read_apply]
  obtain ⟨r, j, rfl⟩ : ∃ (r : Fin 1920) (j : Fin 8192), y = ix2 r j := ⟨y 0, y 1, eq_ix2 y⟩
  refine (out6_apply _ _ _ _ _ _ r j).trans ?_
  rw [D_eq]
  have he : (win0_6.rect t).emb (ix2 r j) = (ix2 r j : S1920x8192.Idx) := by
    funext a
    apply Fin.ext
    match a with
    | ⟨0, _⟩ => show 0 * 1920 + 1 * r.val = r.val; omega
    | ⟨1, _⟩ => show 0 * 8192 + 1 * j.val = j.val; omega
  show _ = G6 m c ((win0_6.rect t).emb (ix2 r j))
  rw [he]
  rfl

theorem final6 (c : Dev nD) : (dats m 0 c).arrAt 6 cfg0.N = G6 m c :=
  (dats m 0 c).arrAt_eq_of_cover 6 (G6 m c) (fun t _ => flushed6_eq m c t) fun i => by
    have b0 : (i 0 : Nat) < 1920 := (i 0).isLt
    have b1 : (i 1 : Nat) < 8192 := (i 1).isLt
    have hN : cfg0.N = 1 := N_0
    obtain ⟨t⟩ : Nonempty (Fin cfg0.N) := ⟨⟨0, by omega⟩⟩
    refine ⟨t, flush0_6 t, ?_⟩
    show i ∈ ((View.whole main_v3_0).slice (win0_6.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 8192 ≤ (i 1 : Nat) ∧ (i 1 : Nat) < 0 * 8192 + 8192; omega

theorem flushed7_eq (c : Dev nD) (t : Fin cfg0.N) :
    (dats m 0 c).flushed 7 t = (win0_7.blk t).view.read (Elt Ideal) (G7 m c) := by
  refine (Blocks.flushed7 m c t).trans ?_
  rw [iblk0_eq, iblk1_eq, iblk2_eq, iblk3_eq, iblk4_eq, iblk5_eq]
  funext y
  rw [View.read_apply]
  obtain ⟨r, j, rfl⟩ : ∃ (r : Fin 1920) (j : Fin 8192), y = ix2 r j := ⟨y 0, y 1, eq_ix2 y⟩
  refine (out7_apply _ _ _ _ _ _ r j).trans ?_
  rw [D_eq, gam_eq]
  have he : (win0_7.rect t).emb (ix2 r j) = (ix2 r j : S1920x8192.Idx) := by
    funext a
    apply Fin.ext
    match a with
    | ⟨0, _⟩ => show 0 * 1920 + 1 * r.val = r.val; omega
    | ⟨1, _⟩ => show 0 * 8192 + 1 * j.val = j.val; omega
  show _ = G7 m c ((win0_7.rect t).emb (ix2 r j))
  rw [he]
  rfl

theorem final7 (c : Dev nD) : (dats m 0 c).arrAt 7 cfg0.N = G7 m c :=
  (dats m 0 c).arrAt_eq_of_cover 7 (G7 m c) (fun t _ => flushed7_eq m c t) fun i => by
    have b0 : (i 0 : Nat) < 1920 := (i 0).isLt
    have b1 : (i 1 : Nat) < 8192 := (i 1).isLt
    have hN : cfg0.N = 1 := N_0
    obtain ⟨t⟩ : Nonempty (Fin cfg0.N) := ⟨⟨0, by omega⟩⟩
    refine ⟨t, flush0_7 t, ?_⟩
    show i ∈ ((View.whole main_v3_1).slice (win0_7.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 8192 ≤ (i 1 : Nat) ∧ (i 1 : Nat) < 0 * 8192 + 8192; omega

theorem flushed8_eq (c : Dev nD) (t : Fin cfg0.N) :
    (dats m 0 c).flushed 8 t = (win0_8.blk t).view.read (Elt Ideal) (G8 m c) := by
  refine (Blocks.flushed8 m c t).trans ?_
  rw [iblk0_eq, iblk1_eq, iblk2_eq, iblk3_eq, iblk4_eq, iblk5_eq]
  funext y
  rw [View.read_apply]
  obtain ⟨r, j, rfl⟩ : ∃ (r : Fin 1920) (j : Fin 128), y = ix2 r j := ⟨y 0, y 1, eq_ix2 y⟩
  refine (out8_apply _ _ _ _ _ _ r j).trans ?_
  rw [D_eq, gam_eq]
  have he : (win0_8.rect t).emb (ix2 r j) = (ix2 r j : S1920x128.Idx) := by
    funext a
    apply Fin.ext
    match a with
    | ⟨0, _⟩ => show 0 * 1920 + 1 * r.val = r.val; omega
    | ⟨1, _⟩ => show 0 * 128 + 1 * j.val = j.val; omega
  show _ = G8 m c ((win0_8.rect t).emb (ix2 r j))
  rw [he]
  rfl

theorem final8 (c : Dev nD) : (dats m 0 c).arrAt 8 cfg0.N = G8 m c :=
  (dats m 0 c).arrAt_eq_of_cover 8 (G8 m c) (fun t _ => flushed8_eq m c t) fun i => by
    have b0 : (i 0 : Nat) < 1920 := (i 0).isLt
    have b1 : (i 1 : Nat) < 128 := (i 1).isLt
    have hN : cfg0.N = 1 := N_0
    obtain ⟨t⟩ : Nonempty (Fin cfg0.N) := ⟨⟨0, by omega⟩⟩
    refine ⟨t, flush0_8 t, ?_⟩
    show i ∈ ((View.whole main_v3_2).slice (win0_8.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 128 ≤ (i 1 : Nat) ∧ (i 1 : Nat) < 0 * 128 + 128; omega

attribute [local irreducible] rootOf in
theorem flushed9_eq (c : Dev nD) (t : Fin cfg0.N) :
    (dats m 0 c).flushed 9 t = (win0_9.blk t).view.read (Elt Ideal) (G9 m c) := by
  refine (Blocks.flushed9 m c t).trans ?_
  rw [iblk0_eq, iblk1_eq, iblk2_eq, iblk3_eq, iblk4_eq, iblk5_eq]
  funext y
  rw [View.read_apply]
  obtain ⟨r, j, rfl⟩ : ∃ (r : Fin 1920) (j : Fin 128), y = ix2 r j := ⟨y 0, y 1, eq_ix2 y⟩
  refine (out9_apply _ _ _ _ _ _ r j).trans ?_
  rw [D_eq]
  have he : (win0_9.rect t).emb (ix2 r j) = (ix2 r j : S1920x128.Idx) := by
    funext a
    apply Fin.ext
    match a with
    | ⟨0, _⟩ => show 0 * 1920 + 1 * r.val = r.val; omega
    | ⟨1, _⟩ => show 0 * 128 + 1 * j.val = j.val; omega
  show _ = G9 m c ((win0_9.rect t).emb (ix2 r j))
  rw [he]
  rfl

theorem final9 (c : Dev nD) : (dats m 0 c).arrAt 9 cfg0.N = G9 m c :=
  (dats m 0 c).arrAt_eq_of_cover 9 (G9 m c) (fun t _ => flushed9_eq m c t) fun i => by
    have b0 : (i 0 : Nat) < 1920 := (i 0).isLt
    have b1 : (i 1 : Nat) < 128 := (i 1).isLt
    have hN : cfg0.N = 1 := N_0
    obtain ⟨t⟩ : Nonempty (Fin cfg0.N) := ⟨⟨0, by omega⟩⟩
    refine ⟨t, flush0_9 t, ?_⟩
    show i ∈ ((View.whole main_v3_3).slice (win0_9.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 128 ≤ (i 1 : Nat) ∧ (i 1 : Nat) < 0 * 128 + 128; omega

theorem flushed10_eq (c : Dev nD) (t : Fin cfg0.N) :
    (dats m 0 c).flushed 10 t = (win0_10.blk t).view.read (Elt Ideal) (G10 m c) := by
  refine (Blocks.flushed10 m c t).trans ?_
  rw [iblk0_eq, iblk1_eq, iblk2_eq, iblk3_eq, iblk4_eq, iblk5_eq]
  funext y
  rw [View.read_apply]
  obtain ⟨r, j, rfl⟩ : ∃ (r : Fin 1920) (j : Fin 8192), y = ix2 r j := ⟨y 0, y 1, eq_ix2 y⟩
  refine (out10_apply _ _ _ _ _ _ r j).trans ?_
  rw [D_eq, gam_eq]
  have he : (win0_10.rect t).emb (ix2 r j) = (ix2 r j : S1920x8192.Idx) := by
    funext a
    apply Fin.ext
    match a with
    | ⟨0, _⟩ => show 0 * 1920 + 1 * r.val = r.val; omega
    | ⟨1, _⟩ => show 0 * 8192 + 1 * j.val = j.val; omega
  show _ = G10 m c ((win0_10.rect t).emb (ix2 r j))
  rw [he]
  rfl

theorem final10 (c : Dev nD) : (dats m 0 c).arrAt 10 cfg0.N = G10 m c :=
  (dats m 0 c).arrAt_eq_of_cover 10 (G10 m c) (fun t _ => flushed10_eq m c t) fun i => by
    have b0 : (i 0 : Nat) < 1920 := (i 0).isLt
    have b1 : (i 1 : Nat) < 8192 := (i 1).isLt
    have hN : cfg0.N = 1 := N_0
    obtain ⟨t⟩ : Nonempty (Fin cfg0.N) := ⟨⟨0, by omega⟩⟩
    refine ⟨t, flush0_10 t, ?_⟩
    show i ∈ ((View.whole main_v3_4).slice (win0_10.rect t)).set
    rw [View.set_slice_whole, Rect.mem_set_unit]
    intro a
    match a with
    | ⟨0, _⟩ => show 0 * 1920 ≤ (i 0 : Nat) ∧ (i 0 : Nat) < 0 * 1920 + 1920; omega
    | ⟨1, _⟩ => show 0 * 8192 ≤ (i 1 : Nat) ∧ (i 1 : Nat) < 0 * 8192 + 8192; omega

/-- The reference's run, read. -/
theorem run : θ_run defs (onTc (τ := τ) (main (F := Ideal))) ⟨m, fun _ => 0, ρ⟩ fun r => ∀ c : Dev nD,
      r.2.mem ((c : Thread nD τ).loc main_v3_0) = G6 m c
      ∧ r.2.mem ((c : Thread nD τ).loc main_v3_1) = G7 m c
      ∧ r.2.mem ((c : Thread nD τ).loc main_v3_2) = G8 m c
      ∧ r.2.mem ((c : Thread nD τ).loc main_v3_3) = G9 m c
      ∧ r.2.mem ((c : Thread nD τ).loc main_v3_4) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩)
    (Blocks.run_blocks m ρ)

end Cert.OprojRefIdeal.Hand

namespace Cert.Proof.OprojClaims

/-- `oproj` at the ideal instance computes the reference's sum, codes, scale, reciprocal root and normalised rows. -/
theorem algebraic : Cert.algebraic_OprojIdeal_OprojRefIdeal := by
  intro m g m' g' _ hagree
  refine ⟨fun c => Cert.OprojIdeal.Hand.G6 m c, fun c => Cert.OprojIdeal.Hand.G7 m c, fun c => Cert.OprojIdeal.Hand.G8 m c,
    fun c => Cert.OprojIdeal.Hand.G9 m c, fun c => Cert.OprojIdeal.Hand.G10 m c, Cert.OprojIdeal.Hand.run m g, ?_⟩
  refine (θ_run Cert.OprojRefIdeal.defs _ _).mono (fun _ h c => ?_) (Cert.OprojRefIdeal.Hand.run m' g')
  obtain ⟨a0, a1, a2, a3, a4, a5⟩ := hagree c
  have hA : Cert.OprojRefIdeal.Hand.A m' c = Cert.OprojIdeal.Hand.A m c :=
    (Cert.OprojRefIdeal.Gen.V_main_arg0 m' c).trans (a0.trans (Cert.OprojIdeal.Gen.V_main_arg0 m c).symm)
  have hW : Cert.OprojRefIdeal.Hand.W m' c = Cert.OprojIdeal.Hand.W m c :=
    (Cert.OprojRefIdeal.Gen.V_main_arg2 m' c).trans (a2.trans (Cert.OprojIdeal.Gen.V_main_arg2 m c).symm)
  have hX : Cert.OprojRefIdeal.Hand.X m' c = Cert.OprojIdeal.Hand.X m c :=
    (Cert.OprojRefIdeal.Gen.V_main_arg4 m' c).trans (a4.trans (Cert.OprojIdeal.Gen.V_main_arg4 m c).symm)
  have hq : Cert.OprojRefIdeal.Hand.q m' c = Cert.OprojIdeal.Hand.q m c := funext fun _ => congrFun a1 _
  have hws : Cert.OprojRefIdeal.Hand.ws m' c = Cert.OprojIdeal.Hand.ws m c := funext fun _ => congrFun a3 _
  have hgam : Cert.OprojRefIdeal.Hand.gam m' c = Cert.OprojIdeal.Hand.gam m c := funext fun _ => congrFun a5 _
  have hD : Cert.OprojRefIdeal.Hand.D m' c = Cert.OprojIdeal.Hand.D m c := by
    unfold Cert.OprojRefIdeal.Hand.D
    rw [hA, hW, hX, hq, hws]
    rfl
  refine ⟨(h c).1.trans ?_, (h c).2.1.trans ?_, (h c).2.2.1.trans ?_, (h c).2.2.2.1.trans ?_, (h c).2.2.2.2.1.trans ?_,
    (h c).2.2.2.2.2⟩
  · unfold Cert.OprojRefIdeal.Hand.G6
    rw [hD]
    rfl
  · unfold Cert.OprojRefIdeal.Hand.G7
    rw [hD, hgam]
    rfl
  · unfold Cert.OprojRefIdeal.Hand.G8
    rw [hD, hgam]
    rfl
  · unfold Cert.OprojRefIdeal.Hand.G9
    rw [hD]
    rfl
  · unfold Cert.OprojRefIdeal.Hand.G10
    rw [hD, hgam]
    rfl

end Cert.Proof.OprojClaims

end
-- ==== Proof.lean ====
module

public import proofs.«01_k».proof.Defs
public import proofs.«01_k».proof.Proof.Gen.Dw13
public import proofs.«01_k».proof.Proof.Gen.Dw13.Skeleton
public import proofs.«01_k».proof.Proof.Gen.Dw13.Launch
public import proofs.«01_k».proof.Proof.Gen.Dw13.Points
public import proofs.«01_k».proof.Proof.Gen.Dw13.Frame
public import proofs.«01_k».proof.Proof.Gen.Dw13Ideal
public import proofs.«01_k».proof.Proof.Gen.Dw13Ideal.Skeleton
public import proofs.«01_k».proof.Proof.Gen.Dw13Ideal.Launch
public import proofs.«01_k».proof.Proof.Gen.Dw13Ideal.Points
public import proofs.«01_k».proof.Proof.Gen.Dw13Ideal.Frame
public import proofs.«01_k».proof.Proof.Gen.Dw13RefIdeal
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2RefIdeal
public import proofs.«01_k».proof.Proof.Gen.Dwo
public import proofs.«01_k».proof.Proof.Gen.Dwo.Skeleton
public import proofs.«01_k».proof.Proof.Gen.Dwo.Launch
public import proofs.«01_k».proof.Proof.Gen.Dwo.Points
public import proofs.«01_k».proof.Proof.Gen.Dwo.Frame
public import proofs.«01_k».proof.Proof.Gen.DwoIdeal
public import proofs.«01_k».proof.Proof.Gen.DwoIdeal.Skeleton
public import proofs.«01_k».proof.Proof.Gen.DwoIdeal.Launch
public import proofs.«01_k».proof.Proof.Gen.DwoIdeal.Points
public import proofs.«01_k».proof.Proof.Gen.DwoIdeal.Frame
public import proofs.«01_k».proof.Proof.Gen.DwoRefIdeal
public import proofs.«01_k».proof.Proof.Gen.Dwqkv
public import proofs.«01_k».proof.Proof.Gen.Dwqkv.Skeleton
public import proofs.«01_k».proof.Proof.Gen.Dwqkv.Launch
public import proofs.«01_k».proof.Proof.Gen.Dwqkv.Points
public import proofs.«01_k».proof.Proof.Gen.Dwqkv.Frame
public import proofs.«01_k».proof.Proof.Gen.DwqkvIdeal
public import proofs.«01_k».proof.Proof.Gen.DwqkvIdeal.Skeleton
public import proofs.«01_k».proof.Proof.Gen.DwqkvIdeal.Launch
public import proofs.«01_k».proof.Proof.Gen.DwqkvIdeal.Points
public import proofs.«01_k».proof.Proof.Gen.DwqkvIdeal.Frame
public import proofs.«01_k».proof.Proof.Gen.DwqkvRefIdeal
public import proofs.«01_k».proof.Proof.Gen.Dxn2
public import proofs.«01_k».proof.Proof.Gen.Dxn2.Skeleton
public import proofs.«01_k».proof.Proof.Gen.Dxn2.Launch
public import proofs.«01_k».proof.Proof.Gen.Dxn2.Points
public import proofs.«01_k».proof.Proof.Gen.Dxn2.Frame
public import proofs.«01_k».proof.Proof.Gen.Dxn2Ideal
public import proofs.«01_k».proof.Proof.Gen.Dxn2Ideal.Skeleton
public import proofs.«01_k».proof.Proof.Gen.Dxn2Ideal.Launch
public import proofs.«01_k».proof.Proof.Gen.Dxn2Ideal.Points
public import proofs.«01_k».proof.Proof.Gen.Dxn2Ideal.Frame
public import proofs.«01_k».proof.Proof.Gen.Dxn2RefIdeal
public import proofs.«01_k».proof.Proof.Gen.Dxn2RefIdeal.Skeleton
public import proofs.«01_k».proof.Proof.Gen.Dxn2RefIdeal.Launch
public import proofs.«01_k».proof.Proof.Gen.Dxn2RefIdeal.Points
public import proofs.«01_k».proof.Proof.Gen.Dxn2RefIdeal.Frame
public import Idealize.ShloMosaic.Adequacy
public import Idealize.ShloMosaic.Init
public import proofs.«01_k».proof.Proof.Gen.Dw13Ideal.Value
public import proofs.«01_k».proof.Proof.Gen.Dw13RefIdeal.Run
public import proofs.«01_k».proof.Proof.Gen.Dw13RefIdeal.Read
public import proofs.«01_k».proof.Proof.Gen.Dw2Ideal.Value
public import proofs.«01_k».proof.Proof.Gen.Dw2RefIdeal.Run
public import proofs.«01_k».proof.Proof.Gen.Dw2RefIdeal.Read
public import proofs.«01_k».proof.Proof.Gen.DwoIdeal.Value
public import proofs.«01_k».proof.Proof.Gen.DwoRefIdeal.Run
public import proofs.«01_k».proof.Proof.Gen.DwoRefIdeal.Read
public import proofs.«01_k».proof.Proof.Gen.DwqkvIdeal.Value
public import proofs.«01_k».proof.Proof.Gen.DwqkvRefIdeal.Run
public import proofs.«01_k».proof.Proof.Gen.DwqkvRefIdeal.Read
public import proofs.«01_k».proof.Proof.Gen.Dxn2Ideal.Value
public import proofs.«01_k».proof.Proof.Gen.Dxn2RefIdeal.Value
public import proofs.«01_k».proof.Proof.Dw13Value
public import proofs.«01_k».proof.Proof.Dw2Value
public import proofs.«01_k».proof.Proof.DwoValue
public import proofs.«01_k».proof.Proof.DwqkvValue
public import proofs.«01_k».proof.Proof.Dxn2Ref
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Frame
public import proofs.«01_k».proof.Proof.QkvRef
public import proofs.«01_k».proof.Proof.Gen.Norm1.Frame
public import proofs.«01_k».proof.Proof.Gen.Norm1Ideal.Frame
public import proofs.«01_k».proof.Proof.Gen.Norm1Ideal.Value
public import proofs.«01_k».proof.Proof.Gen.Norm1RefIdeal.Frame
public import proofs.«01_k».proof.Proof.Norm1Ref
public import proofs.«01_k».proof.Proof.Gen.Oproj.Frame
public import proofs.«01_k».proof.Proof.Gen.OprojIdeal.Frame
public import proofs.«01_k».proof.Proof.Gen.OprojIdeal.Value
public import proofs.«01_k».proof.Proof.Gen.OprojRefIdeal.Frame
public import proofs.«01_k».proof.Proof.OprojRef
public import Idealize.ShloMosaic.Lib.Quiescent

@[expose] public section

noncomputable section

namespace Cert.Proof

open Idealize.ShloMosaic Idealize.SL.Sem Cert.Dw13

/-! The references written on the host leave their arguments and declare no semaphore. -/

namespace HostFrames

theorem dw13 : Cert.quiescent_Dw13RefIdeal := fun m ρ _ =>
  (θ_run Cert.Dw13RefIdeal.defs _ _).mono (fun r h => ⟨fun c => ⟨(h c).2.1, (h c).2.2⟩,
      Idealize.ShloMosaic.sem_eq_zero_of_no_sems (by decide) r.2⟩)
    (Cert.Dw13RefIdeal.Value.run (F := Ideal) m ρ)

theorem dw2 : Cert.quiescent_Dw2RefIdeal := fun m ρ _ =>
  (θ_run Cert.Dw2RefIdeal.defs _ _).mono (fun r h => ⟨fun c => ⟨(h c).2.1, (h c).2.2⟩,
      Idealize.ShloMosaic.sem_eq_zero_of_no_sems (by decide) r.2⟩)
    (Cert.Dw2RefIdeal.Value.run (F := Ideal) m ρ)

theorem dwo : Cert.quiescent_DwoRefIdeal := fun m ρ _ =>
  (θ_run Cert.DwoRefIdeal.defs _ _).mono (fun r h => ⟨fun c => ⟨(h c).2.1, (h c).2.2⟩,
      Idealize.ShloMosaic.sem_eq_zero_of_no_sems (by decide) r.2⟩)
    (Cert.DwoRefIdeal.Value.run (F := Ideal) m ρ)

theorem dwqkv : Cert.quiescent_DwqkvRefIdeal := fun m ρ _ =>
  (θ_run Cert.DwqkvRefIdeal.defs _ _).mono (fun r h => ⟨fun c => ⟨(h c).2.1, (h c).2.2⟩,
      Idealize.ShloMosaic.sem_eq_zero_of_no_sems (by decide) r.2⟩)
    (Cert.DwqkvRefIdeal.Value.run (F := Ideal) m ρ)

end HostFrames

theorem claim : Cert.Claim := ⟨Cert.Dw13.Gen.facts, Cert.Dw13Ideal.Gen.facts, Cert.Dw13RefIdeal.Gen.facts, Cert.Dw2.Gen.facts, Cert.Dw2Ideal.Gen.facts, Cert.Dw2RefIdeal.Gen.facts, Cert.Dwo.Gen.facts, Cert.DwoIdeal.Gen.facts, Cert.DwoRefIdeal.Gen.facts, Cert.Dwqkv.Gen.facts, Cert.DwqkvIdeal.Gen.facts, Cert.DwqkvRefIdeal.Gen.facts, Cert.Dxn2.Gen.facts, Cert.Dxn2Ideal.Gen.facts, Cert.Dxn2RefIdeal.Gen.facts, Cert.Qkv.Gen.facts, Cert.QkvIdeal.Gen.facts, Cert.QkvRefIdeal.Gen.facts, Cert.Norm1.Gen.facts, Cert.Norm1Ideal.Gen.facts, Cert.Norm1RefIdeal.Gen.facts, Cert.Oproj.Gen.facts, Cert.OprojIdeal.Gen.facts, Cert.OprojRefIdeal.Gen.facts,
  fun m ρ _ => Cert.Dw13.Gen.frame m ρ,
  fun m ρ _ => Cert.Dw13Ideal.Gen.frame m ρ,
  HostFrames.dw13,
  fun m ρ _ => Cert.Dw2.Gen.frame m ρ,
  fun m ρ _ => Cert.Dw2Ideal.Gen.frame m ρ,
  HostFrames.dw2,
  fun m ρ _ => Cert.Dwo.Gen.frame m ρ,
  fun m ρ _ => Cert.DwoIdeal.Gen.frame m ρ,
  HostFrames.dwo,
  fun m ρ _ => Cert.Dwqkv.Gen.frame m ρ,
  fun m ρ _ => Cert.DwqkvIdeal.Gen.frame m ρ,
  HostFrames.dwqkv,
  fun m ρ _ => Cert.Dxn2.Gen.frame m ρ,
  fun m ρ _ => Cert.Dxn2Ideal.Gen.frame m ρ,
  fun m ρ _ => Cert.Dxn2RefIdeal.Gen.frame m ρ,
  fun m ρ _ => Cert.Qkv.Gen.frame m ρ,
  fun m ρ _ => Cert.QkvIdeal.Gen.frame m ρ,
  fun m ρ _ => Cert.QkvRefIdeal.Gen.frame m ρ,
  fun m ρ _ => Cert.Norm1.Gen.frame m ρ,
  fun m ρ _ => Cert.Norm1Ideal.Gen.frame m ρ,
  fun m ρ _ => Cert.Norm1RefIdeal.Gen.frame m ρ,
  fun m ρ _ => Cert.Oproj.Gen.frame m ρ,
  fun m ρ _ => Cert.OprojIdeal.Gen.frame m ρ,
  fun m ρ _ => Cert.OprojRefIdeal.Gen.frame m ρ,
  trivial,
  Dw13Claims.algebraic,
  trivial,
  Dw2Claims.algebraic,
  trivial,
  DwoClaims.algebraic,
  trivial,
  DwqkvClaims.algebraic,
  trivial,
  Dxn2Claims.algebraic,
  trivial,
  QkvClaims.algebraic,
  trivial,
  Norm1Claims.algebraic,
  trivial,
  OprojClaims.algebraic⟩

end Cert.Proof

end
